-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Dwn (m : (ℓ : Loc Cert.Dwn.nD Cert.Dwn.τ Cert.Dwn.sig) → Buf (Elt Bits) ℓ) : Prop :=
  True

def Pre_DwnIdeal (m : (ℓ : Loc Cert.DwnIdeal.nD Cert.DwnIdeal.τ Cert.DwnIdeal.sig) → Buf (Elt Ideal) ℓ) : Prop :=
  True

def Pre_DwnRefIdeal (m : (ℓ : Loc Cert.DwnRefIdeal.nD Cert.DwnRefIdeal.τ Cert.DwnRefIdeal.sig) → Buf (Elt Ideal) ℓ) : Prop :=
  True

def Pre_Ing (m : (ℓ : Loc Cert.Ing.nD Cert.Ing.τ Cert.Ing.sig) → Buf (Elt Bits) ℓ) : Prop :=
  True

def Pre_IngIdeal (m : (ℓ : Loc Cert.IngIdeal.nD Cert.IngIdeal.τ Cert.IngIdeal.sig) → Buf (Elt Ideal) ℓ) : Prop :=
  True

def Pre_IngRefIdeal (m : (ℓ : Loc Cert.IngRefIdeal.nD Cert.IngRefIdeal.τ Cert.IngRefIdeal.sig) → Buf (Elt Ideal) ℓ) : Prop :=
  True

def Pre_Ins (m : (ℓ : Loc Cert.Ins.nD Cert.Ins.τ Cert.Ins.sig) → Buf (Elt Bits) ℓ) : Prop :=
  True

def Pre_InsIdeal (m : (ℓ : Loc Cert.InsIdeal.nD Cert.InsIdeal.τ Cert.InsIdeal.sig) → Buf (Elt Ideal) ℓ) : Prop :=
  True

def Pre_InsRefIdeal (m : (ℓ : Loc Cert.InsRefIdeal.nD Cert.InsRefIdeal.τ Cert.InsRefIdeal.sig) → Buf (Elt Ideal) ℓ) : Prop :=
  True

def Pre_Ina (m : (ℓ : Loc Cert.Ina.nD Cert.Ina.τ Cert.Ina.sig) → Buf (Elt Bits) ℓ) : Prop :=
  True

def Pre_InaIdeal (m : (ℓ : Loc Cert.InaIdeal.nD Cert.InaIdeal.τ Cert.InaIdeal.sig) → Buf (Elt Ideal) ℓ) : Prop :=
  True

def Pre_InaRefIdeal (m : (ℓ : Loc Cert.InaRefIdeal.nD Cert.InaRefIdeal.τ Cert.InaRefIdeal.sig) → Buf (Elt Ideal) ℓ) : Prop :=
  True

def Pre_Mrg (m : (ℓ : Loc Cert.Mrg.nD Cert.Mrg.τ Cert.Mrg.sig) → Buf (Elt Bits) ℓ) : Prop :=
  True

def Pre_MrgIdeal (m : (ℓ : Loc Cert.MrgIdeal.nD Cert.MrgIdeal.τ Cert.MrgIdeal.sig) → Buf (Elt Ideal) ℓ) : Prop :=
  True

def Pre_MrgRefIdeal (m : (ℓ : Loc Cert.MrgRefIdeal.nD Cert.MrgRefIdeal.τ Cert.MrgRefIdeal.sig) → Buf (Elt Ideal) ℓ) : Prop :=
  True

def Pre_Opr (m : (ℓ : Loc Cert.Opr.nD Cert.Opr.τ Cert.Opr.sig) → Buf (Elt Bits) ℓ) : Prop :=
  True

def Pre_OprIdeal (m : (ℓ : Loc Cert.OprIdeal.nD Cert.OprIdeal.τ Cert.OprIdeal.sig) → Buf (Elt Ideal) ℓ) : Prop :=
  True

def Pre_OprRefIdeal (m : (ℓ : Loc Cert.OprRefIdeal.nD Cert.OprRefIdeal.τ Cert.OprRefIdeal.sig) → Buf (Elt Ideal) ℓ) : Prop :=
  True

def Pre_Nrm (m : (ℓ : Loc Cert.Nrm.nD Cert.Nrm.τ Cert.Nrm.sig) → Buf (Elt Bits) ℓ) : Prop :=
  True

def Pre_NrmIdeal (m : (ℓ : Loc Cert.NrmIdeal.nD Cert.NrmIdeal.τ Cert.NrmIdeal.sig) → Buf (Elt Ideal) ℓ) : Prop :=
  True

def Pre_NrmRefIdeal (m : (ℓ : Loc Cert.NrmRefIdeal.nD Cert.NrmRefIdeal.τ Cert.NrmRefIdeal.sig) → Buf (Elt Ideal) ℓ) : Prop :=
  True

def Pre_Fnp (m : (ℓ : Loc Cert.Fnp.nD Cert.Fnp.τ Cert.Fnp.sig) → Buf (Elt Bits) ℓ) : Prop :=
  True

def Pre_FnpIdeal (m : (ℓ : Loc Cert.FnpIdeal.nD Cert.FnpIdeal.τ Cert.FnpIdeal.sig) → Buf (Elt Ideal) ℓ) : Prop :=
  True

def Pre_FnpRefIdeal (m : (ℓ : Loc Cert.FnpRefIdeal.nD Cert.FnpRefIdeal.τ Cert.FnpRefIdeal.sig) → Buf (Elt Ideal) ℓ) : Prop :=
  True

def Pre_Fns (m : (ℓ : Loc Cert.Fns.nD Cert.Fns.τ Cert.Fns.sig) → Buf (Elt Bits) ℓ) : Prop :=
  True

def Pre_FnsIdeal (m : (ℓ : Loc Cert.FnsIdeal.nD Cert.FnsIdeal.τ Cert.FnsIdeal.sig) → Buf (Elt Ideal) ℓ) : Prop :=
  True

def Pre_FnsRefIdeal (m : (ℓ : Loc Cert.FnsRefIdeal.nD Cert.FnsRefIdeal.τ Cert.FnsRefIdeal.sig) → Buf (Elt Ideal) ℓ) : Prop :=
  True

def Pre_Rop (m : (ℓ : Loc Cert.Rop.nD Cert.Rop.τ Cert.Rop.sig) → Buf (Elt Bits) ℓ) : Prop :=
  True

def Pre_RopIdeal (m : (ℓ : Loc Cert.RopIdeal.nD Cert.RopIdeal.τ Cert.RopIdeal.sig) → Buf (Elt Ideal) ℓ) : Prop :=
  True

def Pre_RopRefIdeal (m : (ℓ : Loc Cert.RopRefIdeal.nD Cert.RopRefIdeal.τ Cert.RopRefIdeal.sig) → Buf (Elt Ideal) ℓ) : Prop :=
  True

def Pre_Ros (m : (ℓ : Loc Cert.Ros.nD Cert.Ros.τ Cert.Ros.sig) → Buf (Elt Bits) ℓ) : Prop :=
  True

def Pre_RosIdeal (m : (ℓ : Loc Cert.RosIdeal.nD Cert.RosIdeal.τ Cert.RosIdeal.sig) → Buf (Elt Ideal) ℓ) : Prop :=
  True

def Pre_RosRefIdeal (m : (ℓ : Loc Cert.RosRefIdeal.nD Cert.RosRefIdeal.τ Cert.RosRefIdeal.sig) → Buf (Elt Ideal) ℓ) : Prop :=
  True

def Pre_Spr (m : (ℓ : Loc Cert.Spr.nD Cert.Spr.τ Cert.Spr.sig) → Buf (Elt Bits) ℓ) : Prop :=
  True

def Pre_SprIdeal (m : (ℓ : Loc Cert.SprIdeal.nD Cert.SprIdeal.τ Cert.SprIdeal.sig) → Buf (Elt Ideal) ℓ) : Prop :=
  True

def Pre_SprRefIdeal (m : (ℓ : Loc Cert.SprRefIdeal.nD Cert.SprRefIdeal.τ Cert.SprRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Dwn [hDwn : Cert.Dwn.Facts] : Prop :=
  ∀ (m : (ℓ : Loc Cert.Dwn.nD Cert.Dwn.τ Cert.Dwn.sig) → Buf (Elt Bits) ℓ) (g : Dev Cert.Dwn.nD → PrngReg), Pre_Dwn m →
    θ_run (Cert.Dwn.defs (F := Bits)) (onTc (τ := Cert.Dwn.τ) (Cert.Dwn.main (F := Bits))) ⟨m, fun _ => 0, g⟩ (fun r => (∀ c : Dev Cert.Dwn.nD,
      r.2.mem ((c.tc : Thread Cert.Dwn.nD Cert.Dwn.τ).loc Cert.Dwn.main_arg0) = m ((c.tc : Thread Cert.Dwn.nD Cert.Dwn.τ).loc Cert.Dwn.main_arg0)
      ∧ r.2.mem ((c.tc : Thread Cert.Dwn.nD Cert.Dwn.τ).loc Cert.Dwn.main_arg1) = m ((c.tc : Thread Cert.Dwn.nD Cert.Dwn.τ).loc Cert.Dwn.main_arg1)
      ∧ r.2.mem ((c.tc : Thread Cert.Dwn.nD Cert.Dwn.τ).loc Cert.Dwn.main_arg2) = m ((c.tc : Thread Cert.Dwn.nD Cert.Dwn.τ).loc Cert.Dwn.main_arg2)
      ∧ r.2.mem ((c.tc : Thread Cert.Dwn.nD Cert.Dwn.τ).loc Cert.Dwn.main_arg3) = m ((c.tc : Thread Cert.Dwn.nD Cert.Dwn.τ).loc Cert.Dwn.main_arg3))
      ∧ r.2.sem = fun _ => 0)

def quiescent_DwnIdeal [hDwnIdeal : Cert.DwnIdeal.Facts] : Prop :=
  ∀ (m : (ℓ : Loc Cert.DwnIdeal.nD Cert.DwnIdeal.τ Cert.DwnIdeal.sig) → Buf (Elt Ideal) ℓ) (g : Dev Cert.DwnIdeal.nD → PrngReg), Pre_DwnIdeal m →
    θ_run (Cert.DwnIdeal.defs (F := Ideal)) (onTc (τ := Cert.DwnIdeal.τ) (Cert.DwnIdeal.main (F := Ideal))) ⟨m, fun _ => 0, g⟩ (fun r => (∀ c : Dev Cert.DwnIdeal.nD,
      r.2.mem ((c.tc : Thread Cert.DwnIdeal.nD Cert.DwnIdeal.τ).loc Cert.DwnIdeal.main_arg0) = m ((c.tc : Thread Cert.DwnIdeal.nD Cert.DwnIdeal.τ).loc Cert.DwnIdeal.main_arg0)
      ∧ r.2.mem ((c.tc : Thread Cert.DwnIdeal.nD Cert.DwnIdeal.τ).loc Cert.DwnIdeal.main_arg1) = m ((c.tc : Thread Cert.DwnIdeal.nD Cert.DwnIdeal.τ).loc Cert.DwnIdeal.main_arg1)
      ∧ r.2.mem ((c.tc : Thread Cert.DwnIdeal.nD Cert.DwnIdeal.τ).loc Cert.DwnIdeal.main_arg2) = m ((c.tc : Thread Cert.DwnIdeal.nD Cert.DwnIdeal.τ).loc Cert.DwnIdeal.main_arg2)
      ∧ r.2.mem ((c.tc : Thread Cert.DwnIdeal.nD Cert.DwnIdeal.τ).loc Cert.DwnIdeal.main_arg3) = m ((c.tc : Thread Cert.DwnIdeal.nD Cert.DwnIdeal.τ).loc Cert.DwnIdeal.main_arg3))
      ∧ r.2.sem = fun _ => 0)

def quiescent_DwnRefIdeal [hDwnRefIdeal : Cert.DwnRefIdeal.Facts] : Prop :=
  ∀ (m : (ℓ : Loc Cert.DwnRefIdeal.nD Cert.DwnRefIdeal.τ Cert.DwnRefIdeal.sig) → Buf (Elt Ideal) ℓ) (g : Dev Cert.DwnRefIdeal.nD → PrngReg), Pre_DwnRefIdeal m →
    θ_run (Cert.DwnRefIdeal.defs (F := Ideal)) (onTc (τ := Cert.DwnRefIdeal.τ) (Cert.DwnRefIdeal.main (F := Ideal))) ⟨m, fun _ => 0, g⟩ (fun r => (∀ c : Dev Cert.DwnRefIdeal.nD,
      r.2.mem ((c.tc : Thread Cert.DwnRefIdeal.nD Cert.DwnRefIdeal.τ).loc Cert.DwnRefIdeal.main_arg0) = m ((c.tc : Thread Cert.DwnRefIdeal.nD Cert.DwnRefIdeal.τ).loc Cert.DwnRefIdeal.main_arg0)
      ∧ r.2.mem ((c.tc : Thread Cert.DwnRefIdeal.nD Cert.DwnRefIdeal.τ).loc Cert.DwnRefIdeal.main_arg1) = m ((c.tc : Thread Cert.DwnRefIdeal.nD Cert.DwnRefIdeal.τ).loc Cert.DwnRefIdeal.main_arg1)
      ∧ r.2.mem ((c.tc : Thread Cert.DwnRefIdeal.nD Cert.DwnRefIdeal.τ).loc Cert.DwnRefIdeal.main_arg2) = m ((c.tc : Thread Cert.DwnRefIdeal.nD Cert.DwnRefIdeal.τ).loc Cert.DwnRefIdeal.main_arg2)
      ∧ r.2.mem ((c.tc : Thread Cert.DwnRefIdeal.nD Cert.DwnRefIdeal.τ).loc Cert.DwnRefIdeal.main_arg3) = m ((c.tc : Thread Cert.DwnRefIdeal.nD Cert.DwnRefIdeal.τ).loc Cert.DwnRefIdeal.main_arg3))
      ∧ r.2.sem = fun _ => 0)

def quiescent_Ing [hIng : Cert.Ing.Facts] : Prop :=
  ∀ (m : (ℓ : Loc Cert.Ing.nD Cert.Ing.τ Cert.Ing.sig) → Buf (Elt Bits) ℓ) (g : Dev Cert.Ing.nD → PrngReg), Pre_Ing m →
    θ_run (Cert.Ing.defs (F := Bits)) (onTc (τ := Cert.Ing.τ) (Cert.Ing.main (F := Bits))) ⟨m, fun _ => 0, g⟩ (fun r => (∀ c : Dev Cert.Ing.nD,
      r.2.mem ((c.tc : Thread Cert.Ing.nD Cert.Ing.τ).loc Cert.Ing.main_arg0) = m ((c.tc : Thread Cert.Ing.nD Cert.Ing.τ).loc Cert.Ing.main_arg0)
      ∧ r.2.mem ((c.tc : Thread Cert.Ing.nD Cert.Ing.τ).loc Cert.Ing.main_arg1) = m ((c.tc : Thread Cert.Ing.nD Cert.Ing.τ).loc Cert.Ing.main_arg1))
      ∧ r.2.sem = fun _ => 0)

def quiescent_IngIdeal [hIngIdeal : Cert.IngIdeal.Facts] : Prop :=
  ∀ (m : (ℓ : Loc Cert.IngIdeal.nD Cert.IngIdeal.τ Cert.IngIdeal.sig) → Buf (Elt Ideal) ℓ) (g : Dev Cert.IngIdeal.nD → PrngReg), Pre_IngIdeal m →
    θ_run (Cert.IngIdeal.defs (F := Ideal)) (onTc (τ := Cert.IngIdeal.τ) (Cert.IngIdeal.main (F := Ideal))) ⟨m, fun _ => 0, g⟩ (fun r => (∀ c : Dev Cert.IngIdeal.nD,
      r.2.mem ((c.tc : Thread Cert.IngIdeal.nD Cert.IngIdeal.τ).loc Cert.IngIdeal.main_arg0) = m ((c.tc : Thread Cert.IngIdeal.nD Cert.IngIdeal.τ).loc Cert.IngIdeal.main_arg0)
      ∧ r.2.mem ((c.tc : Thread Cert.IngIdeal.nD Cert.IngIdeal.τ).loc Cert.IngIdeal.main_arg1) = m ((c.tc : Thread Cert.IngIdeal.nD Cert.IngIdeal.τ).loc Cert.IngIdeal.main_arg1))
      ∧ r.2.sem = fun _ => 0)

def quiescent_IngRefIdeal [hIngRefIdeal : Cert.IngRefIdeal.Facts] : Prop :=
  ∀ (m : (ℓ : Loc Cert.IngRefIdeal.nD Cert.IngRefIdeal.τ Cert.IngRefIdeal.sig) → Buf (Elt Ideal) ℓ) (g : Dev Cert.IngRefIdeal.nD → PrngReg), Pre_IngRefIdeal m →
    θ_run (Cert.IngRefIdeal.defs (F := Ideal)) (onTc (τ := Cert.IngRefIdeal.τ) (Cert.IngRefIdeal.main (F := Ideal))) ⟨m, fun _ => 0, g⟩ (fun r => (∀ c : Dev Cert.IngRefIdeal.nD,
      r.2.mem ((c.tc : Thread Cert.IngRefIdeal.nD Cert.IngRefIdeal.τ).loc Cert.IngRefIdeal.main_arg0) = m ((c.tc : Thread Cert.IngRefIdeal.nD Cert.IngRefIdeal.τ).loc Cert.IngRefIdeal.main_arg0)
      ∧ r.2.mem ((c.tc : Thread Cert.IngRefIdeal.nD Cert.IngRefIdeal.τ).loc Cert.IngRefIdeal.main_arg1) = m ((c.tc : Thread Cert.IngRefIdeal.nD Cert.IngRefIdeal.τ).loc Cert.IngRefIdeal.main_arg1))
      ∧ r.2.sem = fun _ => 0)

def quiescent_Ins [hIns : Cert.Ins.Facts] : Prop :=
  ∀ (m : (ℓ : Loc Cert.Ins.nD Cert.Ins.τ Cert.Ins.sig) → Buf (Elt Bits) ℓ) (g : Dev Cert.Ins.nD → PrngReg), Pre_Ins m →
    θ_run (Cert.Ins.defs (F := Bits)) (onTc (τ := Cert.Ins.τ) (Cert.Ins.main (F := Bits))) ⟨m, fun _ => 0, g⟩ (fun r => (∀ c : Dev Cert.Ins.nD,
      r.2.mem ((c.tc : Thread Cert.Ins.nD Cert.Ins.τ).loc Cert.Ins.main_arg0) = m ((c.tc : Thread Cert.Ins.nD Cert.Ins.τ).loc Cert.Ins.main_arg0)
      ∧ r.2.mem ((c.tc : Thread Cert.Ins.nD Cert.Ins.τ).loc Cert.Ins.main_arg1) = m ((c.tc : Thread Cert.Ins.nD Cert.Ins.τ).loc Cert.Ins.main_arg1))
      ∧ r.2.sem = fun _ => 0)

def quiescent_InsIdeal [hInsIdeal : Cert.InsIdeal.Facts] : Prop :=
  ∀ (m : (ℓ : Loc Cert.InsIdeal.nD Cert.InsIdeal.τ Cert.InsIdeal.sig) → Buf (Elt Ideal) ℓ) (g : Dev Cert.InsIdeal.nD → PrngReg), Pre_InsIdeal m →
    θ_run (Cert.InsIdeal.defs (F := Ideal)) (onTc (τ := Cert.InsIdeal.τ) (Cert.InsIdeal.main (F := Ideal))) ⟨m, fun _ => 0, g⟩ (fun r => (∀ c : Dev Cert.InsIdeal.nD,
      r.2.mem ((c.tc : Thread Cert.InsIdeal.nD Cert.InsIdeal.τ).loc Cert.InsIdeal.main_arg0) = m ((c.tc : Thread Cert.InsIdeal.nD Cert.InsIdeal.τ).loc Cert.InsIdeal.main_arg0)
      ∧ r.2.mem ((c.tc : Thread Cert.InsIdeal.nD Cert.InsIdeal.τ).loc Cert.InsIdeal.main_arg1) = m ((c.tc : Thread Cert.InsIdeal.nD Cert.InsIdeal.τ).loc Cert.InsIdeal.main_arg1))
      ∧ r.2.sem = fun _ => 0)

def quiescent_InsRefIdeal [hInsRefIdeal : Cert.InsRefIdeal.Facts] : Prop :=
  ∀ (m : (ℓ : Loc Cert.InsRefIdeal.nD Cert.InsRefIdeal.τ Cert.InsRefIdeal.sig) → Buf (Elt Ideal) ℓ) (g : Dev Cert.InsRefIdeal.nD → PrngReg), Pre_InsRefIdeal m →
    θ_run (Cert.InsRefIdeal.defs (F := Ideal)) (onTc (τ := Cert.InsRefIdeal.τ) (Cert.InsRefIdeal.main (F := Ideal))) ⟨m, fun _ => 0, g⟩ (fun r => (∀ c : Dev Cert.InsRefIdeal.nD,
      r.2.mem ((c.tc : Thread Cert.InsRefIdeal.nD Cert.InsRefIdeal.τ).loc Cert.InsRefIdeal.main_arg0) = m ((c.tc : Thread Cert.InsRefIdeal.nD Cert.InsRefIdeal.τ).loc Cert.InsRefIdeal.main_arg0)
      ∧ r.2.mem ((c.tc : Thread Cert.InsRefIdeal.nD Cert.InsRefIdeal.τ).loc Cert.InsRefIdeal.main_arg1) = m ((c.tc : Thread Cert.InsRefIdeal.nD Cert.InsRefIdeal.τ).loc Cert.InsRefIdeal.main_arg1))
      ∧ r.2.sem = fun _ => 0)

def quiescent_Ina [hIna : Cert.Ina.Facts] : Prop :=
  ∀ (m : (ℓ : Loc Cert.Ina.nD Cert.Ina.τ Cert.Ina.sig) → Buf (Elt Bits) ℓ) (g : Dev Cert.Ina.nD → PrngReg), Pre_Ina m →
    θ_run (Cert.Ina.defs (F := Bits)) (onTc (τ := Cert.Ina.τ) (Cert.Ina.main (F := Bits))) ⟨m, fun _ => 0, g⟩ (fun r => (∀ c : Dev Cert.Ina.nD,
      r.2.mem ((c.tc : Thread Cert.Ina.nD Cert.Ina.τ).loc Cert.Ina.main_arg0) = m ((c.tc : Thread Cert.Ina.nD Cert.Ina.τ).loc Cert.Ina.main_arg0)
      ∧ r.2.mem ((c.tc : Thread Cert.Ina.nD Cert.Ina.τ).loc Cert.Ina.main_arg1) = m ((c.tc : Thread Cert.Ina.nD Cert.Ina.τ).loc Cert.Ina.main_arg1))
      ∧ r.2.sem = fun _ => 0)

def quiescent_InaIdeal [hInaIdeal : Cert.InaIdeal.Facts] : Prop :=
  ∀ (m : (ℓ : Loc Cert.InaIdeal.nD Cert.InaIdeal.τ Cert.InaIdeal.sig) → Buf (Elt Ideal) ℓ) (g : Dev Cert.InaIdeal.nD → PrngReg), Pre_InaIdeal m →
    θ_run (Cert.InaIdeal.defs (F := Ideal)) (onTc (τ := Cert.InaIdeal.τ) (Cert.InaIdeal.main (F := Ideal))) ⟨m, fun _ => 0, g⟩ (fun r => (∀ c : Dev Cert.InaIdeal.nD,
      r.2.mem ((c.tc : Thread Cert.InaIdeal.nD Cert.InaIdeal.τ).loc Cert.InaIdeal.main_arg0) = m ((c.tc : Thread Cert.InaIdeal.nD Cert.InaIdeal.τ).loc Cert.InaIdeal.main_arg0)
      ∧ r.2.mem ((c.tc : Thread Cert.InaIdeal.nD Cert.InaIdeal.τ).loc Cert.InaIdeal.main_arg1) = m ((c.tc : Thread Cert.InaIdeal.nD Cert.InaIdeal.τ).loc Cert.InaIdeal.main_arg1))
      ∧ r.2.sem = fun _ => 0)

def quiescent_InaRefIdeal [hInaRefIdeal : Cert.InaRefIdeal.Facts] : Prop :=
  ∀ (m : (ℓ : Loc Cert.InaRefIdeal.nD Cert.InaRefIdeal.τ Cert.InaRefIdeal.sig) → Buf (Elt Ideal) ℓ) (g : Dev Cert.InaRefIdeal.nD → PrngReg), Pre_InaRefIdeal m →
    θ_run (Cert.InaRefIdeal.defs (F := Ideal)) (onTc (τ := Cert.InaRefIdeal.τ) (Cert.InaRefIdeal.main (F := Ideal))) ⟨m, fun _ => 0, g⟩ (fun r => (∀ c : Dev Cert.InaRefIdeal.nD,
      r.2.mem ((c.tc : Thread Cert.InaRefIdeal.nD Cert.InaRefIdeal.τ).loc Cert.InaRefIdeal.main_arg0) = m ((c.tc : Thread Cert.InaRefIdeal.nD Cert.InaRefIdeal.τ).loc Cert.InaRefIdeal.main_arg0)
      ∧ r.2.mem ((c.tc : Thread Cert.InaRefIdeal.nD Cert.InaRefIdeal.τ).loc Cert.InaRefIdeal.main_arg1) = m ((c.tc : Thread Cert.InaRefIdeal.nD Cert.InaRefIdeal.τ).loc Cert.InaRefIdeal.main_arg1))
      ∧ r.2.sem = fun _ => 0)

def quiescent_Mrg [hMrg : Cert.Mrg.Facts] : Prop :=
  ∀ (m : (ℓ : Loc Cert.Mrg.nD Cert.Mrg.τ Cert.Mrg.sig) → Buf (Elt Bits) ℓ) (g : Dev Cert.Mrg.nD → PrngReg), Pre_Mrg m →
    θ_run (Cert.Mrg.defs (F := Bits)) (onTc (τ := Cert.Mrg.τ) (Cert.Mrg.main (F := Bits))) ⟨m, fun _ => 0, g⟩ (fun r => (∀ c : Dev Cert.Mrg.nD,
      r.2.mem ((c.tc : Thread Cert.Mrg.nD Cert.Mrg.τ).loc Cert.Mrg.main_arg0) = m ((c.tc : Thread Cert.Mrg.nD Cert.Mrg.τ).loc Cert.Mrg.main_arg0)
      ∧ r.2.mem ((c.tc : Thread Cert.Mrg.nD Cert.Mrg.τ).loc Cert.Mrg.main_arg1) = m ((c.tc : Thread Cert.Mrg.nD Cert.Mrg.τ).loc Cert.Mrg.main_arg1)
      ∧ r.2.mem ((c.tc : Thread Cert.Mrg.nD Cert.Mrg.τ).loc Cert.Mrg.main_arg2) = m ((c.tc : Thread Cert.Mrg.nD Cert.Mrg.τ).loc Cert.Mrg.main_arg2)
      ∧ r.2.mem ((c.tc : Thread Cert.Mrg.nD Cert.Mrg.τ).loc Cert.Mrg.main_arg3) = m ((c.tc : Thread Cert.Mrg.nD Cert.Mrg.τ).loc Cert.Mrg.main_arg3)
      ∧ r.2.mem ((c.tc : Thread Cert.Mrg.nD Cert.Mrg.τ).loc Cert.Mrg.main_arg4) = m ((c.tc : Thread Cert.Mrg.nD Cert.Mrg.τ).loc Cert.Mrg.main_arg4))
      ∧ r.2.sem = fun _ => 0)

def quiescent_MrgIdeal [hMrgIdeal : Cert.MrgIdeal.Facts] : Prop :=
  ∀ (m : (ℓ : Loc Cert.MrgIdeal.nD Cert.MrgIdeal.τ Cert.MrgIdeal.sig) → Buf (Elt Ideal) ℓ) (g : Dev Cert.MrgIdeal.nD → PrngReg), Pre_MrgIdeal m →
    θ_run (Cert.MrgIdeal.defs (F := Ideal)) (onTc (τ := Cert.MrgIdeal.τ) (Cert.MrgIdeal.main (F := Ideal))) ⟨m, fun _ => 0, g⟩ (fun r => (∀ c : Dev Cert.MrgIdeal.nD,
      r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
      ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
      ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
      ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
      ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4))
      ∧ r.2.sem = fun _ => 0)

def quiescent_MrgRefIdeal [hMrgRefIdeal : Cert.MrgRefIdeal.Facts] : Prop :=
  ∀ (m : (ℓ : Loc Cert.MrgRefIdeal.nD Cert.MrgRefIdeal.τ Cert.MrgRefIdeal.sig) → Buf (Elt Ideal) ℓ) (g : Dev Cert.MrgRefIdeal.nD → PrngReg), Pre_MrgRefIdeal m →
    θ_run (Cert.MrgRefIdeal.defs (F := Ideal)) (onTc (τ := Cert.MrgRefIdeal.τ) (Cert.MrgRefIdeal.main (F := Ideal))) ⟨m, fun _ => 0, g⟩ (fun r => (∀ c : Dev Cert.MrgRefIdeal.nD,
      r.2.mem ((c.tc : Thread Cert.MrgRefIdeal.nD Cert.MrgRefIdeal.τ).loc Cert.MrgRefIdeal.main_arg0) = m ((c.tc : Thread Cert.MrgRefIdeal.nD Cert.MrgRefIdeal.τ).loc Cert.MrgRefIdeal.main_arg0)
      ∧ r.2.mem ((c.tc : Thread Cert.MrgRefIdeal.nD Cert.MrgRefIdeal.τ).loc Cert.MrgRefIdeal.main_arg1) = m ((c.tc : Thread Cert.MrgRefIdeal.nD Cert.MrgRefIdeal.τ).loc Cert.MrgRefIdeal.main_arg1)
      ∧ r.2.mem ((c.tc : Thread Cert.MrgRefIdeal.nD Cert.MrgRefIdeal.τ).loc Cert.MrgRefIdeal.main_arg2) = m ((c.tc : Thread Cert.MrgRefIdeal.nD Cert.MrgRefIdeal.τ).loc Cert.MrgRefIdeal.main_arg2)
      ∧ r.2.mem ((c.tc : Thread Cert.MrgRefIdeal.nD Cert.MrgRefIdeal.τ).loc Cert.MrgRefIdeal.main_arg3) = m ((c.tc : Thread Cert.MrgRefIdeal.nD Cert.MrgRefIdeal.τ).loc Cert.MrgRefIdeal.main_arg3)
      ∧ r.2.mem ((c.tc : Thread Cert.MrgRefIdeal.nD Cert.MrgRefIdeal.τ).loc Cert.MrgRefIdeal.main_arg4) = m ((c.tc : Thread Cert.MrgRefIdeal.nD Cert.MrgRefIdeal.τ).loc Cert.MrgRefIdeal.main_arg4))
      ∧ r.2.sem = fun _ => 0)

def quiescent_Opr [hOpr : Cert.Opr.Facts] : Prop :=
  ∀ (m : (ℓ : Loc Cert.Opr.nD Cert.Opr.τ Cert.Opr.sig) → Buf (Elt Bits) ℓ) (g : Dev Cert.Opr.nD → PrngReg), Pre_Opr m →
    θ_run (Cert.Opr.defs (F := Bits)) (onTc (τ := Cert.Opr.τ) (Cert.Opr.main (F := Bits))) ⟨m, fun _ => 0, g⟩ (fun r => (∀ c : Dev Cert.Opr.nD,
      r.2.mem ((c.tc : Thread Cert.Opr.nD Cert.Opr.τ).loc Cert.Opr.main_arg0) = m ((c.tc : Thread Cert.Opr.nD Cert.Opr.τ).loc Cert.Opr.main_arg0)
      ∧ r.2.mem ((c.tc : Thread Cert.Opr.nD Cert.Opr.τ).loc Cert.Opr.main_arg1) = m ((c.tc : Thread Cert.Opr.nD Cert.Opr.τ).loc Cert.Opr.main_arg1)
      ∧ r.2.mem ((c.tc : Thread Cert.Opr.nD Cert.Opr.τ).loc Cert.Opr.main_arg2) = m ((c.tc : Thread Cert.Opr.nD Cert.Opr.τ).loc Cert.Opr.main_arg2)
      ∧ r.2.mem ((c.tc : Thread Cert.Opr.nD Cert.Opr.τ).loc Cert.Opr.main_arg3) = m ((c.tc : Thread Cert.Opr.nD Cert.Opr.τ).loc Cert.Opr.main_arg3))
      ∧ r.2.sem = fun _ => 0)

def quiescent_OprIdeal [hOprIdeal : Cert.OprIdeal.Facts] : Prop :=
  ∀ (m : (ℓ : Loc Cert.OprIdeal.nD Cert.OprIdeal.τ Cert.OprIdeal.sig) → Buf (Elt Ideal) ℓ) (g : Dev Cert.OprIdeal.nD → PrngReg), Pre_OprIdeal m →
    θ_run (Cert.OprIdeal.defs (F := Ideal)) (onTc (τ := Cert.OprIdeal.τ) (Cert.OprIdeal.main (F := Ideal))) ⟨m, fun _ => 0, g⟩ (fun r => (∀ c : Dev Cert.OprIdeal.nD,
      r.2.mem ((c.tc : Thread Cert.OprIdeal.nD Cert.OprIdeal.τ).loc Cert.OprIdeal.main_arg0) = m ((c.tc : Thread Cert.OprIdeal.nD Cert.OprIdeal.τ).loc Cert.OprIdeal.main_arg0)
      ∧ r.2.mem ((c.tc : Thread Cert.OprIdeal.nD Cert.OprIdeal.τ).loc Cert.OprIdeal.main_arg1) = m ((c.tc : Thread Cert.OprIdeal.nD Cert.OprIdeal.τ).loc Cert.OprIdeal.main_arg1)
      ∧ r.2.mem ((c.tc : Thread Cert.OprIdeal.nD Cert.OprIdeal.τ).loc Cert.OprIdeal.main_arg2) = m ((c.tc : Thread Cert.OprIdeal.nD Cert.OprIdeal.τ).loc Cert.OprIdeal.main_arg2)
      ∧ r.2.mem ((c.tc : Thread Cert.OprIdeal.nD Cert.OprIdeal.τ).loc Cert.OprIdeal.main_arg3) = m ((c.tc : Thread Cert.OprIdeal.nD Cert.OprIdeal.τ).loc Cert.OprIdeal.main_arg3))
      ∧ r.2.sem = fun _ => 0)

def quiescent_OprRefIdeal [hOprRefIdeal : Cert.OprRefIdeal.Facts] : Prop :=
  ∀ (m : (ℓ : Loc Cert.OprRefIdeal.nD Cert.OprRefIdeal.τ Cert.OprRefIdeal.sig) → Buf (Elt Ideal) ℓ) (g : Dev Cert.OprRefIdeal.nD → PrngReg), Pre_OprRefIdeal m →
    θ_run (Cert.OprRefIdeal.defs (F := Ideal)) (onTc (τ := Cert.OprRefIdeal.τ) (Cert.OprRefIdeal.main (F := Ideal))) ⟨m, fun _ => 0, g⟩ (fun r => (∀ c : Dev Cert.OprRefIdeal.nD,
      r.2.mem ((c.tc : Thread Cert.OprRefIdeal.nD Cert.OprRefIdeal.τ).loc Cert.OprRefIdeal.main_arg0) = m ((c.tc : Thread Cert.OprRefIdeal.nD Cert.OprRefIdeal.τ).loc Cert.OprRefIdeal.main_arg0)
      ∧ r.2.mem ((c.tc : Thread Cert.OprRefIdeal.nD Cert.OprRefIdeal.τ).loc Cert.OprRefIdeal.main_arg1) = m ((c.tc : Thread Cert.OprRefIdeal.nD Cert.OprRefIdeal.τ).loc Cert.OprRefIdeal.main_arg1)
      ∧ r.2.mem ((c.tc : Thread Cert.OprRefIdeal.nD Cert.OprRefIdeal.τ).loc Cert.OprRefIdeal.main_arg2) = m ((c.tc : Thread Cert.OprRefIdeal.nD Cert.OprRefIdeal.τ).loc Cert.OprRefIdeal.main_arg2)
      ∧ r.2.mem ((c.tc : Thread Cert.OprRefIdeal.nD Cert.OprRefIdeal.τ).loc Cert.OprRefIdeal.main_arg3) = m ((c.tc : Thread Cert.OprRefIdeal.nD Cert.OprRefIdeal.τ).loc Cert.OprRefIdeal.main_arg3))
      ∧ r.2.sem = fun _ => 0)

def quiescent_Nrm [hNrm : Cert.Nrm.Facts] : Prop :=
  ∀ (m : (ℓ : Loc Cert.Nrm.nD Cert.Nrm.τ Cert.Nrm.sig) → Buf (Elt Bits) ℓ) (g : Dev Cert.Nrm.nD → PrngReg), Pre_Nrm m →
    θ_run (Cert.Nrm.defs (F := Bits)) (onTc (τ := Cert.Nrm.τ) (Cert.Nrm.main (F := Bits))) ⟨m, fun _ => 0, g⟩ (fun r => (∀ c : Dev Cert.Nrm.nD,
      r.2.mem ((c.tc : Thread Cert.Nrm.nD Cert.Nrm.τ).loc Cert.Nrm.main_arg0) = m ((c.tc : Thread Cert.Nrm.nD Cert.Nrm.τ).loc Cert.Nrm.main_arg0)
      ∧ r.2.mem ((c.tc : Thread Cert.Nrm.nD Cert.Nrm.τ).loc Cert.Nrm.main_arg1) = m ((c.tc : Thread Cert.Nrm.nD Cert.Nrm.τ).loc Cert.Nrm.main_arg1)
      ∧ r.2.mem ((c.tc : Thread Cert.Nrm.nD Cert.Nrm.τ).loc Cert.Nrm.main_arg2) = m ((c.tc : Thread Cert.Nrm.nD Cert.Nrm.τ).loc Cert.Nrm.main_arg2))
      ∧ r.2.sem = fun _ => 0)

def quiescent_NrmIdeal [hNrmIdeal : Cert.NrmIdeal.Facts] : Prop :=
  ∀ (m : (ℓ : Loc Cert.NrmIdeal.nD Cert.NrmIdeal.τ Cert.NrmIdeal.sig) → Buf (Elt Ideal) ℓ) (g : Dev Cert.NrmIdeal.nD → PrngReg), Pre_NrmIdeal m →
    θ_run (Cert.NrmIdeal.defs (F := Ideal)) (onTc (τ := Cert.NrmIdeal.τ) (Cert.NrmIdeal.main (F := Ideal))) ⟨m, fun _ => 0, g⟩ (fun r => (∀ c : Dev Cert.NrmIdeal.nD,
      r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
      ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1)
      ∧ r.2.mem ((c.tc : Thread Cert.NrmIdeal.nD Cert.NrmIdeal.τ).loc Cert.NrmIdeal.main_arg2) = m ((c.tc : Thread Cert.NrmIdeal.nD Cert.NrmIdeal.τ).loc Cert.NrmIdeal.main_arg2))
      ∧ r.2.sem = fun _ => 0)

def quiescent_NrmRefIdeal [hNrmRefIdeal : Cert.NrmRefIdeal.Facts] : Prop :=
  ∀ (m : (ℓ : Loc Cert.NrmRefIdeal.nD Cert.NrmRefIdeal.τ Cert.NrmRefIdeal.sig) → Buf (Elt Ideal) ℓ) (g : Dev Cert.NrmRefIdeal.nD → PrngReg), Pre_NrmRefIdeal m →
    θ_run (Cert.NrmRefIdeal.defs (F := Ideal)) (onTc (τ := Cert.NrmRefIdeal.τ) (Cert.NrmRefIdeal.main (F := Ideal))) ⟨m, fun _ => 0, g⟩ (fun r => (∀ c : Dev Cert.NrmRefIdeal.nD,
      r.2.mem ((c.tc : Thread Cert.NrmRefIdeal.nD Cert.NrmRefIdeal.τ).loc Cert.NrmRefIdeal.main_arg0) = m ((c.tc : Thread Cert.NrmRefIdeal.nD Cert.NrmRefIdeal.τ).loc Cert.NrmRefIdeal.main_arg0)
      ∧ r.2.mem ((c.tc : Thread Cert.NrmRefIdeal.nD Cert.NrmRefIdeal.τ).loc Cert.NrmRefIdeal.main_arg1) = m ((c.tc : Thread Cert.NrmRefIdeal.nD Cert.NrmRefIdeal.τ).loc Cert.NrmRefIdeal.main_arg1)
      ∧ r.2.mem ((c.tc : Thread Cert.NrmRefIdeal.nD Cert.NrmRefIdeal.τ).loc Cert.NrmRefIdeal.main_arg2) = m ((c.tc : Thread Cert.NrmRefIdeal.nD Cert.NrmRefIdeal.τ).loc Cert.NrmRefIdeal.main_arg2))
      ∧ r.2.sem = fun _ => 0)

def quiescent_Fnp [hFnp : Cert.Fnp.Facts] : Prop :=
  ∀ (m : (ℓ : Loc Cert.Fnp.nD Cert.Fnp.τ Cert.Fnp.sig) → Buf (Elt Bits) ℓ) (g : Dev Cert.Fnp.nD → PrngReg), Pre_Fnp m →
    θ_run (Cert.Fnp.defs (F := Bits)) (onTc (τ := Cert.Fnp.τ) (Cert.Fnp.main (F := Bits))) ⟨m, fun _ => 0, g⟩ (fun r => (∀ c : Dev Cert.Fnp.nD,
      r.2.mem ((c.tc : Thread Cert.Fnp.nD Cert.Fnp.τ).loc Cert.Fnp.main_arg0) = m ((c.tc : Thread Cert.Fnp.nD Cert.Fnp.τ).loc Cert.Fnp.main_arg0)
      ∧ r.2.mem ((c.tc : Thread Cert.Fnp.nD Cert.Fnp.τ).loc Cert.Fnp.main_arg1) = m ((c.tc : Thread Cert.Fnp.nD Cert.Fnp.τ).loc Cert.Fnp.main_arg1))
      ∧ r.2.sem = fun _ => 0)

def quiescent_FnpIdeal [hFnpIdeal : Cert.FnpIdeal.Facts] : Prop :=
  ∀ (m : (ℓ : Loc Cert.FnpIdeal.nD Cert.FnpIdeal.τ Cert.FnpIdeal.sig) → Buf (Elt Ideal) ℓ) (g : Dev Cert.FnpIdeal.nD → PrngReg), Pre_FnpIdeal m →
    θ_run (Cert.FnpIdeal.defs (F := Ideal)) (onTc (τ := Cert.FnpIdeal.τ) (Cert.FnpIdeal.main (F := Ideal))) ⟨m, fun _ => 0, g⟩ (fun r => (∀ c : Dev Cert.FnpIdeal.nD,
      r.2.mem ((c.tc : Thread Cert.FnpIdeal.nD Cert.FnpIdeal.τ).loc Cert.FnpIdeal.main_arg0) = m ((c.tc : Thread Cert.FnpIdeal.nD Cert.FnpIdeal.τ).loc Cert.FnpIdeal.main_arg0)
      ∧ r.2.mem ((c.tc : Thread Cert.FnpIdeal.nD Cert.FnpIdeal.τ).loc Cert.FnpIdeal.main_arg1) = m ((c.tc : Thread Cert.FnpIdeal.nD Cert.FnpIdeal.τ).loc Cert.FnpIdeal.main_arg1))
      ∧ r.2.sem = fun _ => 0)

def quiescent_FnpRefIdeal [hFnpRefIdeal : Cert.FnpRefIdeal.Facts] : Prop :=
  ∀ (m : (ℓ : Loc Cert.FnpRefIdeal.nD Cert.FnpRefIdeal.τ Cert.FnpRefIdeal.sig) → Buf (Elt Ideal) ℓ) (g : Dev Cert.FnpRefIdeal.nD → PrngReg), Pre_FnpRefIdeal m →
    θ_run (Cert.FnpRefIdeal.defs (F := Ideal)) (onTc (τ := Cert.FnpRefIdeal.τ) (Cert.FnpRefIdeal.main (F := Ideal))) ⟨m, fun _ => 0, g⟩ (fun r => (∀ c : Dev Cert.FnpRefIdeal.nD,
      r.2.mem ((c.tc : Thread Cert.FnpRefIdeal.nD Cert.FnpRefIdeal.τ).loc Cert.FnpRefIdeal.main_arg0) = m ((c.tc : Thread Cert.FnpRefIdeal.nD Cert.FnpRefIdeal.τ).loc Cert.FnpRefIdeal.main_arg0)
      ∧ r.2.mem ((c.tc : Thread Cert.FnpRefIdeal.nD Cert.FnpRefIdeal.τ).loc Cert.FnpRefIdeal.main_arg1) = m ((c.tc : Thread Cert.FnpRefIdeal.nD Cert.FnpRefIdeal.τ).loc Cert.FnpRefIdeal.main_arg1))
      ∧ r.2.sem = fun _ => 0)

def quiescent_Fns [hFns : Cert.Fns.Facts] : Prop :=
  ∀ (m : (ℓ : Loc Cert.Fns.nD Cert.Fns.τ Cert.Fns.sig) → Buf (Elt Bits) ℓ) (g : Dev Cert.Fns.nD → PrngReg), Pre_Fns m →
    θ_run (Cert.Fns.defs (F := Bits)) (onTc (τ := Cert.Fns.τ) (Cert.Fns.main (F := Bits))) ⟨m, fun _ => 0, g⟩ (fun r => (∀ c : Dev Cert.Fns.nD,
      r.2.mem ((c.tc : Thread Cert.Fns.nD Cert.Fns.τ).loc Cert.Fns.main_arg0) = m ((c.tc : Thread Cert.Fns.nD Cert.Fns.τ).loc Cert.Fns.main_arg0)
      ∧ r.2.mem ((c.tc : Thread Cert.Fns.nD Cert.Fns.τ).loc Cert.Fns.main_arg1) = m ((c.tc : Thread Cert.Fns.nD Cert.Fns.τ).loc Cert.Fns.main_arg1))
      ∧ r.2.sem = fun _ => 0)

def quiescent_FnsIdeal [hFnsIdeal : Cert.FnsIdeal.Facts] : Prop :=
  ∀ (m : (ℓ : Loc Cert.FnsIdeal.nD Cert.FnsIdeal.τ Cert.FnsIdeal.sig) → Buf (Elt Ideal) ℓ) (g : Dev Cert.FnsIdeal.nD → PrngReg), Pre_FnsIdeal m →
    θ_run (Cert.FnsIdeal.defs (F := Ideal)) (onTc (τ := Cert.FnsIdeal.τ) (Cert.FnsIdeal.main (F := Ideal))) ⟨m, fun _ => 0, g⟩ (fun r => (∀ c : Dev Cert.FnsIdeal.nD,
      r.2.mem ((c.tc : Thread Cert.FnsIdeal.nD Cert.FnsIdeal.τ).loc Cert.FnsIdeal.main_arg0) = m ((c.tc : Thread Cert.FnsIdeal.nD Cert.FnsIdeal.τ).loc Cert.FnsIdeal.main_arg0)
      ∧ r.2.mem ((c.tc : Thread Cert.FnsIdeal.nD Cert.FnsIdeal.τ).loc Cert.FnsIdeal.main_arg1) = m ((c.tc : Thread Cert.FnsIdeal.nD Cert.FnsIdeal.τ).loc Cert.FnsIdeal.main_arg1))
      ∧ r.2.sem = fun _ => 0)

def quiescent_FnsRefIdeal [hFnsRefIdeal : Cert.FnsRefIdeal.Facts] : Prop :=
  ∀ (m : (ℓ : Loc Cert.FnsRefIdeal.nD Cert.FnsRefIdeal.τ Cert.FnsRefIdeal.sig) → Buf (Elt Ideal) ℓ) (g : Dev Cert.FnsRefIdeal.nD → PrngReg), Pre_FnsRefIdeal m →
    θ_run (Cert.FnsRefIdeal.defs (F := Ideal)) (onTc (τ := Cert.FnsRefIdeal.τ) (Cert.FnsRefIdeal.main (F := Ideal))) ⟨m, fun _ => 0, g⟩ (fun r => (∀ c : Dev Cert.FnsRefIdeal.nD,
      r.2.mem ((c.tc : Thread Cert.FnsRefIdeal.nD Cert.FnsRefIdeal.τ).loc Cert.FnsRefIdeal.main_arg0) = m ((c.tc : Thread Cert.FnsRefIdeal.nD Cert.FnsRefIdeal.τ).loc Cert.FnsRefIdeal.main_arg0)
      ∧ r.2.mem ((c.tc : Thread Cert.FnsRefIdeal.nD Cert.FnsRefIdeal.τ).loc Cert.FnsRefIdeal.main_arg1) = m ((c.tc : Thread Cert.FnsRefIdeal.nD Cert.FnsRefIdeal.τ).loc Cert.FnsRefIdeal.main_arg1))
      ∧ r.2.sem = fun _ => 0)

def quiescent_Rop [hRop : Cert.Rop.Facts] : Prop :=
  ∀ (m : (ℓ : Loc Cert.Rop.nD Cert.Rop.τ Cert.Rop.sig) → Buf (Elt Bits) ℓ) (g : Dev Cert.Rop.nD → PrngReg), Pre_Rop m →
    θ_run (Cert.Rop.defs (F := Bits)) (onTc (τ := Cert.Rop.τ) (Cert.Rop.main (F := Bits))) ⟨m, fun _ => 0, g⟩ (fun r => (∀ c : Dev Cert.Rop.nD,
      r.2.mem ((c.tc : Thread Cert.Rop.nD Cert.Rop.τ).loc Cert.Rop.main_arg0) = m ((c.tc : Thread Cert.Rop.nD Cert.Rop.τ).loc Cert.Rop.main_arg0)
      ∧ r.2.mem ((c.tc : Thread Cert.Rop.nD Cert.Rop.τ).loc Cert.Rop.main_arg1) = m ((c.tc : Thread Cert.Rop.nD Cert.Rop.τ).loc Cert.Rop.main_arg1))
      ∧ r.2.sem = fun _ => 0)

def quiescent_RopIdeal [hRopIdeal : Cert.RopIdeal.Facts] : Prop :=
  ∀ (m : (ℓ : Loc Cert.RopIdeal.nD Cert.RopIdeal.τ Cert.RopIdeal.sig) → Buf (Elt Ideal) ℓ) (g : Dev Cert.RopIdeal.nD → PrngReg), Pre_RopIdeal m →
    θ_run (Cert.RopIdeal.defs (F := Ideal)) (onTc (τ := Cert.RopIdeal.τ) (Cert.RopIdeal.main (F := Ideal))) ⟨m, fun _ => 0, g⟩ (fun r => (∀ c : Dev Cert.RopIdeal.nD,
      r.2.mem ((c.tc : Thread Cert.RopIdeal.nD Cert.RopIdeal.τ).loc Cert.RopIdeal.main_arg0) = m ((c.tc : Thread Cert.RopIdeal.nD Cert.RopIdeal.τ).loc Cert.RopIdeal.main_arg0)
      ∧ r.2.mem ((c.tc : Thread Cert.RopIdeal.nD Cert.RopIdeal.τ).loc Cert.RopIdeal.main_arg1) = m ((c.tc : Thread Cert.RopIdeal.nD Cert.RopIdeal.τ).loc Cert.RopIdeal.main_arg1))
      ∧ r.2.sem = fun _ => 0)

def quiescent_RopRefIdeal [hRopRefIdeal : Cert.RopRefIdeal.Facts] : Prop :=
  ∀ (m : (ℓ : Loc Cert.RopRefIdeal.nD Cert.RopRefIdeal.τ Cert.RopRefIdeal.sig) → Buf (Elt Ideal) ℓ) (g : Dev Cert.RopRefIdeal.nD → PrngReg), Pre_RopRefIdeal m →
    θ_run (Cert.RopRefIdeal.defs (F := Ideal)) (onTc (τ := Cert.RopRefIdeal.τ) (Cert.RopRefIdeal.main (F := Ideal))) ⟨m, fun _ => 0, g⟩ (fun r => (∀ c : Dev Cert.RopRefIdeal.nD,
      r.2.mem ((c.tc : Thread Cert.RopRefIdeal.nD Cert.RopRefIdeal.τ).loc Cert.RopRefIdeal.main_arg0) = m ((c.tc : Thread Cert.RopRefIdeal.nD Cert.RopRefIdeal.τ).loc Cert.RopRefIdeal.main_arg0)
      ∧ r.2.mem ((c.tc : Thread Cert.RopRefIdeal.nD Cert.RopRefIdeal.τ).loc Cert.RopRefIdeal.main_arg1) = m ((c.tc : Thread Cert.RopRefIdeal.nD Cert.RopRefIdeal.τ).loc Cert.RopRefIdeal.main_arg1))
      ∧ r.2.sem = fun _ => 0)

def quiescent_Ros [hRos : Cert.Ros.Facts] : Prop :=
  ∀ (m : (ℓ : Loc Cert.Ros.nD Cert.Ros.τ Cert.Ros.sig) → Buf (Elt Bits) ℓ) (g : Dev Cert.Ros.nD → PrngReg), Pre_Ros m →
    θ_run (Cert.Ros.defs (F := Bits)) (onTc (τ := Cert.Ros.τ) (Cert.Ros.main (F := Bits))) ⟨m, fun _ => 0, g⟩ (fun r => (∀ c : Dev Cert.Ros.nD,
      r.2.mem ((c.tc : Thread Cert.Ros.nD Cert.Ros.τ).loc Cert.Ros.main_arg0) = m ((c.tc : Thread Cert.Ros.nD Cert.Ros.τ).loc Cert.Ros.main_arg0)
      ∧ r.2.mem ((c.tc : Thread Cert.Ros.nD Cert.Ros.τ).loc Cert.Ros.main_arg1) = m ((c.tc : Thread Cert.Ros.nD Cert.Ros.τ).loc Cert.Ros.main_arg1))
      ∧ r.2.sem = fun _ => 0)

def quiescent_RosIdeal [hRosIdeal : Cert.RosIdeal.Facts] : Prop :=
  ∀ (m : (ℓ : Loc Cert.RosIdeal.nD Cert.RosIdeal.τ Cert.RosIdeal.sig) → Buf (Elt Ideal) ℓ) (g : Dev Cert.RosIdeal.nD → PrngReg), Pre_RosIdeal m →
    θ_run (Cert.RosIdeal.defs (F := Ideal)) (onTc (τ := Cert.RosIdeal.τ) (Cert.RosIdeal.main (F := Ideal))) ⟨m, fun _ => 0, g⟩ (fun r => (∀ c : Dev Cert.RosIdeal.nD,
      r.2.mem ((c.tc : Thread Cert.RosIdeal.nD Cert.RosIdeal.τ).loc Cert.RosIdeal.main_arg0) = m ((c.tc : Thread Cert.RosIdeal.nD Cert.RosIdeal.τ).loc Cert.RosIdeal.main_arg0)
      ∧ r.2.mem ((c.tc : Thread Cert.RosIdeal.nD Cert.RosIdeal.τ).loc Cert.RosIdeal.main_arg1) = m ((c.tc : Thread Cert.RosIdeal.nD Cert.RosIdeal.τ).loc Cert.RosIdeal.main_arg1))
      ∧ r.2.sem = fun _ => 0)

def quiescent_RosRefIdeal [hRosRefIdeal : Cert.RosRefIdeal.Facts] : Prop :=
  ∀ (m : (ℓ : Loc Cert.RosRefIdeal.nD Cert.RosRefIdeal.τ Cert.RosRefIdeal.sig) → Buf (Elt Ideal) ℓ) (g : Dev Cert.RosRefIdeal.nD → PrngReg), Pre_RosRefIdeal m →
    θ_run (Cert.RosRefIdeal.defs (F := Ideal)) (onTc (τ := Cert.RosRefIdeal.τ) (Cert.RosRefIdeal.main (F := Ideal))) ⟨m, fun _ => 0, g⟩ (fun r => (∀ c : Dev Cert.RosRefIdeal.nD,
      r.2.mem ((c.tc : Thread Cert.RosRefIdeal.nD Cert.RosRefIdeal.τ).loc Cert.RosRefIdeal.main_arg0) = m ((c.tc : Thread Cert.RosRefIdeal.nD Cert.RosRefIdeal.τ).loc Cert.RosRefIdeal.main_arg0)
      ∧ r.2.mem ((c.tc : Thread Cert.RosRefIdeal.nD Cert.RosRefIdeal.τ).loc Cert.RosRefIdeal.main_arg1) = m ((c.tc : Thread Cert.RosRefIdeal.nD Cert.RosRefIdeal.τ).loc Cert.RosRefIdeal.main_arg1))
      ∧ r.2.sem = fun _ => 0)

def quiescent_Spr [hSpr : Cert.Spr.Facts] : Prop :=
  ∀ (m : (ℓ : Loc Cert.Spr.nD Cert.Spr.τ Cert.Spr.sig) → Buf (Elt Bits) ℓ) (g : Dev Cert.Spr.nD → PrngReg), Pre_Spr m →
    θ_run (Cert.Spr.defs (F := Bits)) (onTc (τ := Cert.Spr.τ) (Cert.Spr.main (F := Bits))) ⟨m, fun _ => 0, g⟩ (fun r => (∀ c : Dev Cert.Spr.nD,
      r.2.mem ((c.tc : Thread Cert.Spr.nD Cert.Spr.τ).loc Cert.Spr.main_arg0) = m ((c.tc : Thread Cert.Spr.nD Cert.Spr.τ).loc Cert.Spr.main_arg0)
      ∧ r.2.mem ((c.tc : Thread Cert.Spr.nD Cert.Spr.τ).loc Cert.Spr.main_arg1) = m ((c.tc : Thread Cert.Spr.nD Cert.Spr.τ).loc Cert.Spr.main_arg1)
      ∧ r.2.mem ((c.tc : Thread Cert.Spr.nD Cert.Spr.τ).loc Cert.Spr.main_arg2) = m ((c.tc : Thread Cert.Spr.nD Cert.Spr.τ).loc Cert.Spr.main_arg2)
      ∧ r.2.mem ((c.tc : Thread Cert.Spr.nD Cert.Spr.τ).loc Cert.Spr.main_arg3) = m ((c.tc : Thread Cert.Spr.nD Cert.Spr.τ).loc Cert.Spr.main_arg3)
      ∧ r.2.mem ((c.tc : Thread Cert.Spr.nD Cert.Spr.τ).loc Cert.Spr.main_arg4) = m ((c.tc : Thread Cert.Spr.nD Cert.Spr.τ).loc Cert.Spr.main_arg4)
      ∧ r.2.mem ((c.tc : Thread Cert.Spr.nD Cert.Spr.τ).loc Cert.Spr.main_arg5) = m ((c.tc : Thread Cert.Spr.nD Cert.Spr.τ).loc Cert.Spr.main_arg5)
      ∧ r.2.mem ((c.tc : Thread Cert.Spr.nD Cert.Spr.τ).loc Cert.Spr.main_arg6) = m ((c.tc : Thread Cert.Spr.nD Cert.Spr.τ).loc Cert.Spr.main_arg6))
      ∧ r.2.sem = fun _ => 0)

def quiescent_SprIdeal [hSprIdeal : Cert.SprIdeal.Facts] : Prop :=
  ∀ (m : (ℓ : Loc Cert.SprIdeal.nD Cert.SprIdeal.τ Cert.SprIdeal.sig) → Buf (Elt Ideal) ℓ) (g : Dev Cert.SprIdeal.nD → PrngReg), Pre_SprIdeal m →
    θ_run (Cert.SprIdeal.defs (F := Ideal)) (onTc (τ := Cert.SprIdeal.τ) (Cert.SprIdeal.main (F := Ideal))) ⟨m, fun _ => 0, g⟩ (fun r => (∀ c : Dev Cert.SprIdeal.nD,
      r.2.mem ((c.tc : Thread Cert.SprIdeal.nD Cert.SprIdeal.τ).loc Cert.SprIdeal.main_arg0) = m ((c.tc : Thread Cert.SprIdeal.nD Cert.SprIdeal.τ).loc Cert.SprIdeal.main_arg0)
      ∧ r.2.mem ((c.tc : Thread Cert.SprIdeal.nD Cert.SprIdeal.τ).loc Cert.SprIdeal.main_arg1) = m ((c.tc : Thread Cert.SprIdeal.nD Cert.SprIdeal.τ).loc Cert.SprIdeal.main_arg1)
      ∧ r.2.mem ((c.tc : Thread Cert.SprIdeal.nD Cert.SprIdeal.τ).loc Cert.SprIdeal.main_arg2) = m ((c.tc : Thread Cert.SprIdeal.nD Cert.SprIdeal.τ).loc Cert.SprIdeal.main_arg2)
      ∧ r.2.mem ((c.tc : Thread Cert.SprIdeal.nD Cert.SprIdeal.τ).loc Cert.SprIdeal.main_arg3) = m ((c.tc : Thread Cert.SprIdeal.nD Cert.SprIdeal.τ).loc Cert.SprIdeal.main_arg3)
      ∧ r.2.mem ((c.tc : Thread Cert.SprIdeal.nD Cert.SprIdeal.τ).loc Cert.SprIdeal.main_arg4) = m ((c.tc : Thread Cert.SprIdeal.nD Cert.SprIdeal.τ).loc Cert.SprIdeal.main_arg4)
      ∧ r.2.mem ((c.tc : Thread Cert.SprIdeal.nD Cert.SprIdeal.τ).loc Cert.SprIdeal.main_arg5) = m ((c.tc : Thread Cert.SprIdeal.nD Cert.SprIdeal.τ).loc Cert.SprIdeal.main_arg5)
      ∧ r.2.mem ((c.tc : Thread Cert.SprIdeal.nD Cert.SprIdeal.τ).loc Cert.SprIdeal.main_arg6) = m ((c.tc : Thread Cert.SprIdeal.nD Cert.SprIdeal.τ).loc Cert.SprIdeal.main_arg6))
      ∧ r.2.sem = fun _ => 0)

def quiescent_SprRefIdeal [hSprRefIdeal : Cert.SprRefIdeal.Facts] : Prop :=
  ∀ (m : (ℓ : Loc Cert.SprRefIdeal.nD Cert.SprRefIdeal.τ Cert.SprRefIdeal.sig) → Buf (Elt Ideal) ℓ) (g : Dev Cert.SprRefIdeal.nD → PrngReg), Pre_SprRefIdeal m →
    θ_run (Cert.SprRefIdeal.defs (F := Ideal)) (onTc (τ := Cert.SprRefIdeal.τ) (Cert.SprRefIdeal.main (F := Ideal))) ⟨m, fun _ => 0, g⟩ (fun r => (∀ c : Dev Cert.SprRefIdeal.nD,
      r.2.mem ((c.tc : Thread Cert.SprRefIdeal.nD Cert.SprRefIdeal.τ).loc Cert.SprRefIdeal.main_arg0) = m ((c.tc : Thread Cert.SprRefIdeal.nD Cert.SprRefIdeal.τ).loc Cert.SprRefIdeal.main_arg0)
      ∧ r.2.mem ((c.tc : Thread Cert.SprRefIdeal.nD Cert.SprRefIdeal.τ).loc Cert.SprRefIdeal.main_arg1) = m ((c.tc : Thread Cert.SprRefIdeal.nD Cert.SprRefIdeal.τ).loc Cert.SprRefIdeal.main_arg1)
      ∧ r.2.mem ((c.tc : Thread Cert.SprRefIdeal.nD Cert.SprRefIdeal.τ).loc Cert.SprRefIdeal.main_arg2) = m ((c.tc : Thread Cert.SprRefIdeal.nD Cert.SprRefIdeal.τ).loc Cert.SprRefIdeal.main_arg2)
      ∧ r.2.mem ((c.tc : Thread Cert.SprRefIdeal.nD Cert.SprRefIdeal.τ).loc Cert.SprRefIdeal.main_arg3) = m ((c.tc : Thread Cert.SprRefIdeal.nD Cert.SprRefIdeal.τ).loc Cert.SprRefIdeal.main_arg3)
      ∧ r.2.mem ((c.tc : Thread Cert.SprRefIdeal.nD Cert.SprRefIdeal.τ).loc Cert.SprRefIdeal.main_arg4) = m ((c.tc : Thread Cert.SprRefIdeal.nD Cert.SprRefIdeal.τ).loc Cert.SprRefIdeal.main_arg4)
      ∧ r.2.mem ((c.tc : Thread Cert.SprRefIdeal.nD Cert.SprRefIdeal.τ).loc Cert.SprRefIdeal.main_arg5) = m ((c.tc : Thread Cert.SprRefIdeal.nD Cert.SprRefIdeal.τ).loc Cert.SprRefIdeal.main_arg5)
      ∧ r.2.mem ((c.tc : Thread Cert.SprRefIdeal.nD Cert.SprRefIdeal.τ).loc Cert.SprRefIdeal.main_arg6) = m ((c.tc : Thread Cert.SprRefIdeal.nD Cert.SprRefIdeal.τ).loc Cert.SprRefIdeal.main_arg6))
      ∧ r.2.sem = fun _ => 0)

def preserves_Ret_RetIdeal : Prop :=
  True

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v5) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Dwn_DwnIdeal : Prop :=
  True

def algebraic_DwnIdeal_DwnRefIdeal [hDwnIdeal : Cert.DwnIdeal.Facts] [hDwnRefIdeal : Cert.DwnRefIdeal.Facts] : Prop :=
  ∀ (m : (ℓ : Loc Cert.DwnIdeal.nD Cert.DwnIdeal.τ Cert.DwnIdeal.sig) → Buf (Elt Ideal) ℓ) (g : Dev Cert.DwnIdeal.nD → PrngReg)
    (m' : (ℓ : Loc Cert.DwnRefIdeal.nD Cert.DwnRefIdeal.τ Cert.DwnRefIdeal.sig) → Buf (Elt Ideal) ℓ) (g' : Dev Cert.DwnRefIdeal.nD → PrngReg), Pre_DwnIdeal m →
    (∀ c : Dev Cert.DwnIdeal.nD,
      m' ((c.tc : Thread Cert.DwnRefIdeal.nD Cert.DwnRefIdeal.τ).loc Cert.DwnRefIdeal.main_arg0) = m ((c.tc : Thread Cert.DwnIdeal.nD Cert.DwnIdeal.τ).loc Cert.DwnIdeal.main_arg0)
      ∧ m' ((c.tc : Thread Cert.DwnRefIdeal.nD Cert.DwnRefIdeal.τ).loc Cert.DwnRefIdeal.main_arg1) = m ((c.tc : Thread Cert.DwnIdeal.nD Cert.DwnIdeal.τ).loc Cert.DwnIdeal.main_arg1)
      ∧ m' ((c.tc : Thread Cert.DwnRefIdeal.nD Cert.DwnRefIdeal.τ).loc Cert.DwnRefIdeal.main_arg2) = m ((c.tc : Thread Cert.DwnIdeal.nD Cert.DwnIdeal.τ).loc Cert.DwnIdeal.main_arg2)
      ∧ m' ((c.tc : Thread Cert.DwnRefIdeal.nD Cert.DwnRefIdeal.τ).loc Cert.DwnRefIdeal.main_arg3) = m ((c.tc : Thread Cert.DwnIdeal.nD Cert.DwnIdeal.τ).loc Cert.DwnIdeal.main_arg3)) →
    ∃ (v0 : (c : Dev Cert.DwnIdeal.nD) → Buf (Elt Ideal) ((c.tc : Thread Cert.DwnIdeal.nD Cert.DwnIdeal.τ).loc Cert.DwnIdeal.main_v3)),
      θ_run (Cert.DwnIdeal.defs (F := Ideal)) (onTc (τ := Cert.DwnIdeal.τ) (Cert.DwnIdeal.main (F := Ideal))) ⟨m, fun _ => 0, g⟩ (fun r => ∀ c : Dev Cert.DwnIdeal.nD,
          r.2.mem ((c.tc : Thread Cert.DwnIdeal.nD Cert.DwnIdeal.τ).loc Cert.DwnIdeal.main_v3) = v0 c
          ∧ r.2.mem ((c.tc : Thread Cert.DwnIdeal.nD Cert.DwnIdeal.τ).loc Cert.DwnIdeal.main_arg0) = m ((c.tc : Thread Cert.DwnIdeal.nD Cert.DwnIdeal.τ).loc Cert.DwnIdeal.main_arg0)
          ∧ r.2.mem ((c.tc : Thread Cert.DwnIdeal.nD Cert.DwnIdeal.τ).loc Cert.DwnIdeal.main_arg1) = m ((c.tc : Thread Cert.DwnIdeal.nD Cert.DwnIdeal.τ).loc Cert.DwnIdeal.main_arg1)
          ∧ r.2.mem ((c.tc : Thread Cert.DwnIdeal.nD Cert.DwnIdeal.τ).loc Cert.DwnIdeal.main_arg2) = m ((c.tc : Thread Cert.DwnIdeal.nD Cert.DwnIdeal.τ).loc Cert.DwnIdeal.main_arg2)
          ∧ r.2.mem ((c.tc : Thread Cert.DwnIdeal.nD Cert.DwnIdeal.τ).loc Cert.DwnIdeal.main_arg3) = m ((c.tc : Thread Cert.DwnIdeal.nD Cert.DwnIdeal.τ).loc Cert.DwnIdeal.main_arg3))
      ∧ θ_run (Cert.DwnRefIdeal.defs (F := Ideal)) (onTc (τ := Cert.DwnRefIdeal.τ) (Cert.DwnRefIdeal.main (F := Ideal))) ⟨m', fun _ => 0, g'⟩ (fun r => ∀ c : Dev Cert.DwnRefIdeal.nD,
          r.2.mem ((c.tc : Thread Cert.DwnRefIdeal.nD Cert.DwnRefIdeal.τ).loc Cert.DwnRefIdeal.main_v26) = v0 c
          ∧ r.2.mem ((c.tc : Thread Cert.DwnRefIdeal.nD Cert.DwnRefIdeal.τ).loc Cert.DwnRefIdeal.main_arg0) = m' ((c.tc : Thread Cert.DwnRefIdeal.nD Cert.DwnRefIdeal.τ).loc Cert.DwnRefIdeal.main_arg0)
          ∧ r.2.mem ((c.tc : Thread Cert.DwnRefIdeal.nD Cert.DwnRefIdeal.τ).loc Cert.DwnRefIdeal.main_arg1) = m' ((c.tc : Thread Cert.DwnRefIdeal.nD Cert.DwnRefIdeal.τ).loc Cert.DwnRefIdeal.main_arg1)
          ∧ r.2.mem ((c.tc : Thread Cert.DwnRefIdeal.nD Cert.DwnRefIdeal.τ).loc Cert.DwnRefIdeal.main_arg2) = m' ((c.tc : Thread Cert.DwnRefIdeal.nD Cert.DwnRefIdeal.τ).loc Cert.DwnRefIdeal.main_arg2)
          ∧ r.2.mem ((c.tc : Thread Cert.DwnRefIdeal.nD Cert.DwnRefIdeal.τ).loc Cert.DwnRefIdeal.main_arg3) = m' ((c.tc : Thread Cert.DwnRefIdeal.nD Cert.DwnRefIdeal.τ).loc Cert.DwnRefIdeal.main_arg3))

def preserves_Ing_IngIdeal : Prop :=
  True

def algebraic_IngIdeal_IngRefIdeal [hIngIdeal : Cert.IngIdeal.Facts] [hIngRefIdeal : Cert.IngRefIdeal.Facts] : Prop :=
  ∀ (m : (ℓ : Loc Cert.IngIdeal.nD Cert.IngIdeal.τ Cert.IngIdeal.sig) → Buf (Elt Ideal) ℓ) (g : Dev Cert.IngIdeal.nD → PrngReg)
    (m' : (ℓ : Loc Cert.IngRefIdeal.nD Cert.IngRefIdeal.τ Cert.IngRefIdeal.sig) → Buf (Elt Ideal) ℓ) (g' : Dev Cert.IngRefIdeal.nD → PrngReg), Pre_IngIdeal m →
    (∀ c : Dev Cert.IngIdeal.nD,
      m' ((c.tc : Thread Cert.IngRefIdeal.nD Cert.IngRefIdeal.τ).loc Cert.IngRefIdeal.main_arg0) = m ((c.tc : Thread Cert.IngIdeal.nD Cert.IngIdeal.τ).loc Cert.IngIdeal.main_arg0)
      ∧ m' ((c.tc : Thread Cert.IngRefIdeal.nD Cert.IngRefIdeal.τ).loc Cert.IngRefIdeal.main_arg1) = m ((c.tc : Thread Cert.IngIdeal.nD Cert.IngIdeal.τ).loc Cert.IngIdeal.main_arg1)) →
    ∃ (v0 : (c : Dev Cert.IngIdeal.nD) → Buf (Elt Ideal) ((c.tc : Thread Cert.IngIdeal.nD Cert.IngIdeal.τ).loc Cert.IngIdeal.main_v0)),
      θ_run (Cert.IngIdeal.defs (F := Ideal)) (onTc (τ := Cert.IngIdeal.τ) (Cert.IngIdeal.main (F := Ideal))) ⟨m, fun _ => 0, g⟩ (fun r => ∀ c : Dev Cert.IngIdeal.nD,
          r.2.mem ((c.tc : Thread Cert.IngIdeal.nD Cert.IngIdeal.τ).loc Cert.IngIdeal.main_v0) = v0 c
          ∧ r.2.mem ((c.tc : Thread Cert.IngIdeal.nD Cert.IngIdeal.τ).loc Cert.IngIdeal.main_arg0) = m ((c.tc : Thread Cert.IngIdeal.nD Cert.IngIdeal.τ).loc Cert.IngIdeal.main_arg0)
          ∧ r.2.mem ((c.tc : Thread Cert.IngIdeal.nD Cert.IngIdeal.τ).loc Cert.IngIdeal.main_arg1) = m ((c.tc : Thread Cert.IngIdeal.nD Cert.IngIdeal.τ).loc Cert.IngIdeal.main_arg1))
      ∧ θ_run (Cert.IngRefIdeal.defs (F := Ideal)) (onTc (τ := Cert.IngRefIdeal.τ) (Cert.IngRefIdeal.main (F := Ideal))) ⟨m', fun _ => 0, g'⟩ (fun r => ∀ c : Dev Cert.IngRefIdeal.nD,
          r.2.mem ((c.tc : Thread Cert.IngRefIdeal.nD Cert.IngRefIdeal.τ).loc Cert.IngRefIdeal.main_v1) = v0 c
          ∧ r.2.mem ((c.tc : Thread Cert.IngRefIdeal.nD Cert.IngRefIdeal.τ).loc Cert.IngRefIdeal.main_arg0) = m' ((c.tc : Thread Cert.IngRefIdeal.nD Cert.IngRefIdeal.τ).loc Cert.IngRefIdeal.main_arg0)
          ∧ r.2.mem ((c.tc : Thread Cert.IngRefIdeal.nD Cert.IngRefIdeal.τ).loc Cert.IngRefIdeal.main_arg1) = m' ((c.tc : Thread Cert.IngRefIdeal.nD Cert.IngRefIdeal.τ).loc Cert.IngRefIdeal.main_arg1))

def preserves_Ins_InsIdeal : Prop :=
  True

def algebraic_InsIdeal_InsRefIdeal [hInsIdeal : Cert.InsIdeal.Facts] [hInsRefIdeal : Cert.InsRefIdeal.Facts] : Prop :=
  ∀ (m : (ℓ : Loc Cert.InsIdeal.nD Cert.InsIdeal.τ Cert.InsIdeal.sig) → Buf (Elt Ideal) ℓ) (g : Dev Cert.InsIdeal.nD → PrngReg)
    (m' : (ℓ : Loc Cert.InsRefIdeal.nD Cert.InsRefIdeal.τ Cert.InsRefIdeal.sig) → Buf (Elt Ideal) ℓ) (g' : Dev Cert.InsRefIdeal.nD → PrngReg), Pre_InsIdeal m →
    (∀ c : Dev Cert.InsIdeal.nD,
      m' ((c.tc : Thread Cert.InsRefIdeal.nD Cert.InsRefIdeal.τ).loc Cert.InsRefIdeal.main_arg0) = m ((c.tc : Thread Cert.InsIdeal.nD Cert.InsIdeal.τ).loc Cert.InsIdeal.main_arg0)
      ∧ m' ((c.tc : Thread Cert.InsRefIdeal.nD Cert.InsRefIdeal.τ).loc Cert.InsRefIdeal.main_arg1) = m ((c.tc : Thread Cert.InsIdeal.nD Cert.InsIdeal.τ).loc Cert.InsIdeal.main_arg1)) →
    ∃ (v0 : (c : Dev Cert.InsIdeal.nD) → Buf (Elt Ideal) ((c.tc : Thread Cert.InsIdeal.nD Cert.InsIdeal.τ).loc Cert.InsIdeal.main_v0)),
      θ_run (Cert.InsIdeal.defs (F := Ideal)) (onTc (τ := Cert.InsIdeal.τ) (Cert.InsIdeal.main (F := Ideal))) ⟨m, fun _ => 0, g⟩ (fun r => ∀ c : Dev Cert.InsIdeal.nD,
          r.2.mem ((c.tc : Thread Cert.InsIdeal.nD Cert.InsIdeal.τ).loc Cert.InsIdeal.main_v0) = v0 c
          ∧ r.2.mem ((c.tc : Thread Cert.InsIdeal.nD Cert.InsIdeal.τ).loc Cert.InsIdeal.main_arg0) = m ((c.tc : Thread Cert.InsIdeal.nD Cert.InsIdeal.τ).loc Cert.InsIdeal.main_arg0)
          ∧ r.2.mem ((c.tc : Thread Cert.InsIdeal.nD Cert.InsIdeal.τ).loc Cert.InsIdeal.main_arg1) = m ((c.tc : Thread Cert.InsIdeal.nD Cert.InsIdeal.τ).loc Cert.InsIdeal.main_arg1))
      ∧ θ_run (Cert.InsRefIdeal.defs (F := Ideal)) (onTc (τ := Cert.InsRefIdeal.τ) (Cert.InsRefIdeal.main (F := Ideal))) ⟨m', fun _ => 0, g'⟩ (fun r => ∀ c : Dev Cert.InsRefIdeal.nD,
          r.2.mem ((c.tc : Thread Cert.InsRefIdeal.nD Cert.InsRefIdeal.τ).loc Cert.InsRefIdeal.main_v1) = v0 c
          ∧ r.2.mem ((c.tc : Thread Cert.InsRefIdeal.nD Cert.InsRefIdeal.τ).loc Cert.InsRefIdeal.main_arg0) = m' ((c.tc : Thread Cert.InsRefIdeal.nD Cert.InsRefIdeal.τ).loc Cert.InsRefIdeal.main_arg0)
          ∧ r.2.mem ((c.tc : Thread Cert.InsRefIdeal.nD Cert.InsRefIdeal.τ).loc Cert.InsRefIdeal.main_arg1) = m' ((c.tc : Thread Cert.InsRefIdeal.nD Cert.InsRefIdeal.τ).loc Cert.InsRefIdeal.main_arg1))

def preserves_Ina_InaIdeal : Prop :=
  True

def algebraic_InaIdeal_InaRefIdeal [hInaIdeal : Cert.InaIdeal.Facts] [hInaRefIdeal : Cert.InaRefIdeal.Facts] : Prop :=
  ∀ (m : (ℓ : Loc Cert.InaIdeal.nD Cert.InaIdeal.τ Cert.InaIdeal.sig) → Buf (Elt Ideal) ℓ) (g : Dev Cert.InaIdeal.nD → PrngReg)
    (m' : (ℓ : Loc Cert.InaRefIdeal.nD Cert.InaRefIdeal.τ Cert.InaRefIdeal.sig) → Buf (Elt Ideal) ℓ) (g' : Dev Cert.InaRefIdeal.nD → PrngReg), Pre_InaIdeal m →
    (∀ c : Dev Cert.InaIdeal.nD,
      m' ((c.tc : Thread Cert.InaRefIdeal.nD Cert.InaRefIdeal.τ).loc Cert.InaRefIdeal.main_arg0) = m ((c.tc : Thread Cert.InaIdeal.nD Cert.InaIdeal.τ).loc Cert.InaIdeal.main_arg0)
      ∧ m' ((c.tc : Thread Cert.InaRefIdeal.nD Cert.InaRefIdeal.τ).loc Cert.InaRefIdeal.main_arg1) = m ((c.tc : Thread Cert.InaIdeal.nD Cert.InaIdeal.τ).loc Cert.InaIdeal.main_arg1)) →
    ∃ (v0 : (c : Dev Cert.InaIdeal.nD) → Buf (Elt Ideal) ((c.tc : Thread Cert.InaIdeal.nD Cert.InaIdeal.τ).loc Cert.InaIdeal.main_v0)),
      θ_run (Cert.InaIdeal.defs (F := Ideal)) (onTc (τ := Cert.InaIdeal.τ) (Cert.InaIdeal.main (F := Ideal))) ⟨m, fun _ => 0, g⟩ (fun r => ∀ c : Dev Cert.InaIdeal.nD,
          r.2.mem ((c.tc : Thread Cert.InaIdeal.nD Cert.InaIdeal.τ).loc Cert.InaIdeal.main_v0) = v0 c
          ∧ r.2.mem ((c.tc : Thread Cert.InaIdeal.nD Cert.InaIdeal.τ).loc Cert.InaIdeal.main_arg0) = m ((c.tc : Thread Cert.InaIdeal.nD Cert.InaIdeal.τ).loc Cert.InaIdeal.main_arg0)
          ∧ r.2.mem ((c.tc : Thread Cert.InaIdeal.nD Cert.InaIdeal.τ).loc Cert.InaIdeal.main_arg1) = m ((c.tc : Thread Cert.InaIdeal.nD Cert.InaIdeal.τ).loc Cert.InaIdeal.main_arg1))
      ∧ θ_run (Cert.InaRefIdeal.defs (F := Ideal)) (onTc (τ := Cert.InaRefIdeal.τ) (Cert.InaRefIdeal.main (F := Ideal))) ⟨m', fun _ => 0, g'⟩ (fun r => ∀ c : Dev Cert.InaRefIdeal.nD,
          r.2.mem ((c.tc : Thread Cert.InaRefIdeal.nD Cert.InaRefIdeal.τ).loc Cert.InaRefIdeal.main_v1) = v0 c
          ∧ r.2.mem ((c.tc : Thread Cert.InaRefIdeal.nD Cert.InaRefIdeal.τ).loc Cert.InaRefIdeal.main_arg0) = m' ((c.tc : Thread Cert.InaRefIdeal.nD Cert.InaRefIdeal.τ).loc Cert.InaRefIdeal.main_arg0)
          ∧ r.2.mem ((c.tc : Thread Cert.InaRefIdeal.nD Cert.InaRefIdeal.τ).loc Cert.InaRefIdeal.main_arg1) = m' ((c.tc : Thread Cert.InaRefIdeal.nD Cert.InaRefIdeal.τ).loc Cert.InaRefIdeal.main_arg1))

def preserves_Mrg_MrgIdeal : Prop :=
  True

def algebraic_MrgIdeal_MrgRefIdeal [hMrgIdeal : Cert.MrgIdeal.Facts] [hMrgRefIdeal : Cert.MrgRefIdeal.Facts] : Prop :=
  ∀ (m : (ℓ : Loc Cert.MrgIdeal.nD Cert.MrgIdeal.τ Cert.MrgIdeal.sig) → Buf (Elt Ideal) ℓ) (g : Dev Cert.MrgIdeal.nD → PrngReg)
    (m' : (ℓ : Loc Cert.MrgRefIdeal.nD Cert.MrgRefIdeal.τ Cert.MrgRefIdeal.sig) → Buf (Elt Ideal) ℓ) (g' : Dev Cert.MrgRefIdeal.nD → PrngReg), Pre_MrgIdeal m →
    (∀ c : Dev Cert.MrgIdeal.nD,
      m' ((c.tc : Thread Cert.MrgRefIdeal.nD Cert.MrgRefIdeal.τ).loc Cert.MrgRefIdeal.main_arg0) = m ((c.tc : Thread Cert.MrgIdeal.nD Cert.MrgIdeal.τ).loc Cert.MrgIdeal.main_arg0)
      ∧ m' ((c.tc : Thread Cert.MrgRefIdeal.nD Cert.MrgRefIdeal.τ).loc Cert.MrgRefIdeal.main_arg1) = m ((c.tc : Thread Cert.MrgIdeal.nD Cert.MrgIdeal.τ).loc Cert.MrgIdeal.main_arg1)
      ∧ m' ((c.tc : Thread Cert.MrgRefIdeal.nD Cert.MrgRefIdeal.τ).loc Cert.MrgRefIdeal.main_arg2) = m ((c.tc : Thread Cert.MrgIdeal.nD Cert.MrgIdeal.τ).loc Cert.MrgIdeal.main_arg2)
      ∧ m' ((c.tc : Thread Cert.MrgRefIdeal.nD Cert.MrgRefIdeal.τ).loc Cert.MrgRefIdeal.main_arg3) = m ((c.tc : Thread Cert.MrgIdeal.nD Cert.MrgIdeal.τ).loc Cert.MrgIdeal.main_arg3)
      ∧ m' ((c.tc : Thread Cert.MrgRefIdeal.nD Cert.MrgRefIdeal.τ).loc Cert.MrgRefIdeal.main_arg4) = m ((c.tc : Thread Cert.MrgIdeal.nD Cert.MrgIdeal.τ).loc Cert.MrgIdeal.main_arg4)) →
    ∃ (v0 : (c : Dev Cert.MrgIdeal.nD) → Buf (Elt Ideal) ((c.tc : Thread Cert.MrgIdeal.nD Cert.MrgIdeal.τ).loc Cert.MrgIdeal.main_v0)),
      θ_run (Cert.MrgIdeal.defs (F := Ideal)) (onTc (τ := Cert.MrgIdeal.τ) (Cert.MrgIdeal.main (F := Ideal))) ⟨m, fun _ => 0, g⟩ (fun r => ∀ c : Dev Cert.MrgIdeal.nD,
          r.2.mem ((c.tc : Thread Cert.MrgIdeal.nD Cert.MrgIdeal.τ).loc Cert.MrgIdeal.main_v0) = v0 c
          ∧ r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
          ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
          ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
          ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
          ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4))
      ∧ θ_run (Cert.MrgRefIdeal.defs (F := Ideal)) (onTc (τ := Cert.MrgRefIdeal.τ) (Cert.MrgRefIdeal.main (F := Ideal))) ⟨m', fun _ => 0, g'⟩ (fun r => ∀ c : Dev Cert.MrgRefIdeal.nD,
          r.2.mem ((c.tc : Thread Cert.MrgRefIdeal.nD Cert.MrgRefIdeal.τ).loc Cert.MrgRefIdeal.main_v18) = v0 c
          ∧ r.2.mem ((c.tc : Thread Cert.MrgRefIdeal.nD Cert.MrgRefIdeal.τ).loc Cert.MrgRefIdeal.main_arg0) = m' ((c.tc : Thread Cert.MrgRefIdeal.nD Cert.MrgRefIdeal.τ).loc Cert.MrgRefIdeal.main_arg0)
          ∧ r.2.mem ((c.tc : Thread Cert.MrgRefIdeal.nD Cert.MrgRefIdeal.τ).loc Cert.MrgRefIdeal.main_arg1) = m' ((c.tc : Thread Cert.MrgRefIdeal.nD Cert.MrgRefIdeal.τ).loc Cert.MrgRefIdeal.main_arg1)
          ∧ r.2.mem ((c.tc : Thread Cert.MrgRefIdeal.nD Cert.MrgRefIdeal.τ).loc Cert.MrgRefIdeal.main_arg2) = m' ((c.tc : Thread Cert.MrgRefIdeal.nD Cert.MrgRefIdeal.τ).loc Cert.MrgRefIdeal.main_arg2)
          ∧ r.2.mem ((c.tc : Thread Cert.MrgRefIdeal.nD Cert.MrgRefIdeal.τ).loc Cert.MrgRefIdeal.main_arg3) = m' ((c.tc : Thread Cert.MrgRefIdeal.nD Cert.MrgRefIdeal.τ).loc Cert.MrgRefIdeal.main_arg3)
          ∧ r.2.mem ((c.tc : Thread Cert.MrgRefIdeal.nD Cert.MrgRefIdeal.τ).loc Cert.MrgRefIdeal.main_arg4) = m' ((c.tc : Thread Cert.MrgRefIdeal.nD Cert.MrgRefIdeal.τ).loc Cert.MrgRefIdeal.main_arg4))

def preserves_Opr_OprIdeal : Prop :=
  True

def algebraic_OprIdeal_OprRefIdeal [hOprIdeal : Cert.OprIdeal.Facts] [hOprRefIdeal : Cert.OprRefIdeal.Facts] : Prop :=
  ∀ (m : (ℓ : Loc Cert.OprIdeal.nD Cert.OprIdeal.τ Cert.OprIdeal.sig) → Buf (Elt Ideal) ℓ) (g : Dev Cert.OprIdeal.nD → PrngReg)
    (m' : (ℓ : Loc Cert.OprRefIdeal.nD Cert.OprRefIdeal.τ Cert.OprRefIdeal.sig) → Buf (Elt Ideal) ℓ) (g' : Dev Cert.OprRefIdeal.nD → PrngReg), Pre_OprIdeal m →
    (∀ c : Dev Cert.OprIdeal.nD,
      m' ((c.tc : Thread Cert.OprRefIdeal.nD Cert.OprRefIdeal.τ).loc Cert.OprRefIdeal.main_arg0) = m ((c.tc : Thread Cert.OprIdeal.nD Cert.OprIdeal.τ).loc Cert.OprIdeal.main_arg0)
      ∧ m' ((c.tc : Thread Cert.OprRefIdeal.nD Cert.OprRefIdeal.τ).loc Cert.OprRefIdeal.main_arg1) = m ((c.tc : Thread Cert.OprIdeal.nD Cert.OprIdeal.τ).loc Cert.OprIdeal.main_arg1)
      ∧ m' ((c.tc : Thread Cert.OprRefIdeal.nD Cert.OprRefIdeal.τ).loc Cert.OprRefIdeal.main_arg2) = m ((c.tc : Thread Cert.OprIdeal.nD Cert.OprIdeal.τ).loc Cert.OprIdeal.main_arg2)
      ∧ m' ((c.tc : Thread Cert.OprRefIdeal.nD Cert.OprRefIdeal.τ).loc Cert.OprRefIdeal.main_arg3) = m ((c.tc : Thread Cert.OprIdeal.nD Cert.OprIdeal.τ).loc Cert.OprIdeal.main_arg3)) →
    ∃ (v0 : (c : Dev Cert.OprIdeal.nD) → Buf (Elt Ideal) ((c.tc : Thread Cert.OprIdeal.nD Cert.OprIdeal.τ).loc Cert.OprIdeal.main_v3)),
      θ_run (Cert.OprIdeal.defs (F := Ideal)) (onTc (τ := Cert.OprIdeal.τ) (Cert.OprIdeal.main (F := Ideal))) ⟨m, fun _ => 0, g⟩ (fun r => ∀ c : Dev Cert.OprIdeal.nD,
          r.2.mem ((c.tc : Thread Cert.OprIdeal.nD Cert.OprIdeal.τ).loc Cert.OprIdeal.main_v3) = v0 c
          ∧ r.2.mem ((c.tc : Thread Cert.OprIdeal.nD Cert.OprIdeal.τ).loc Cert.OprIdeal.main_arg0) = m ((c.tc : Thread Cert.OprIdeal.nD Cert.OprIdeal.τ).loc Cert.OprIdeal.main_arg0)
          ∧ r.2.mem ((c.tc : Thread Cert.OprIdeal.nD Cert.OprIdeal.τ).loc Cert.OprIdeal.main_arg1) = m ((c.tc : Thread Cert.OprIdeal.nD Cert.OprIdeal.τ).loc Cert.OprIdeal.main_arg1)
          ∧ r.2.mem ((c.tc : Thread Cert.OprIdeal.nD Cert.OprIdeal.τ).loc Cert.OprIdeal.main_arg2) = m ((c.tc : Thread Cert.OprIdeal.nD Cert.OprIdeal.τ).loc Cert.OprIdeal.main_arg2)
          ∧ r.2.mem ((c.tc : Thread Cert.OprIdeal.nD Cert.OprIdeal.τ).loc Cert.OprIdeal.main_arg3) = m ((c.tc : Thread Cert.OprIdeal.nD Cert.OprIdeal.τ).loc Cert.OprIdeal.main_arg3))
      ∧ θ_run (Cert.OprRefIdeal.defs (F := Ideal)) (onTc (τ := Cert.OprRefIdeal.τ) (Cert.OprRefIdeal.main (F := Ideal))) ⟨m', fun _ => 0, g'⟩ (fun r => ∀ c : Dev Cert.OprRefIdeal.nD,
          r.2.mem ((c.tc : Thread Cert.OprRefIdeal.nD Cert.OprRefIdeal.τ).loc Cert.OprRefIdeal.main_v24) = v0 c
          ∧ r.2.mem ((c.tc : Thread Cert.OprRefIdeal.nD Cert.OprRefIdeal.τ).loc Cert.OprRefIdeal.main_arg0) = m' ((c.tc : Thread Cert.OprRefIdeal.nD Cert.OprRefIdeal.τ).loc Cert.OprRefIdeal.main_arg0)
          ∧ r.2.mem ((c.tc : Thread Cert.OprRefIdeal.nD Cert.OprRefIdeal.τ).loc Cert.OprRefIdeal.main_arg1) = m' ((c.tc : Thread Cert.OprRefIdeal.nD Cert.OprRefIdeal.τ).loc Cert.OprRefIdeal.main_arg1)
          ∧ r.2.mem ((c.tc : Thread Cert.OprRefIdeal.nD Cert.OprRefIdeal.τ).loc Cert.OprRefIdeal.main_arg2) = m' ((c.tc : Thread Cert.OprRefIdeal.nD Cert.OprRefIdeal.τ).loc Cert.OprRefIdeal.main_arg2)
          ∧ r.2.mem ((c.tc : Thread Cert.OprRefIdeal.nD Cert.OprRefIdeal.τ).loc Cert.OprRefIdeal.main_arg3) = m' ((c.tc : Thread Cert.OprRefIdeal.nD Cert.OprRefIdeal.τ).loc Cert.OprRefIdeal.main_arg3))

def preserves_Nrm_NrmIdeal : Prop :=
  True

def algebraic_NrmIdeal_NrmRefIdeal [hNrmIdeal : Cert.NrmIdeal.Facts] [hNrmRefIdeal : Cert.NrmRefIdeal.Facts] : Prop :=
  ∀ (m : (ℓ : Loc Cert.NrmIdeal.nD Cert.NrmIdeal.τ Cert.NrmIdeal.sig) → Buf (Elt Ideal) ℓ) (g : Dev Cert.NrmIdeal.nD → PrngReg)
    (m' : (ℓ : Loc Cert.NrmRefIdeal.nD Cert.NrmRefIdeal.τ Cert.NrmRefIdeal.sig) → Buf (Elt Ideal) ℓ) (g' : Dev Cert.NrmRefIdeal.nD → PrngReg), Pre_NrmIdeal m →
    (∀ c : Dev Cert.NrmIdeal.nD,
      m' ((c.tc : Thread Cert.NrmRefIdeal.nD Cert.NrmRefIdeal.τ).loc Cert.NrmRefIdeal.main_arg0) = m ((c.tc : Thread Cert.NrmIdeal.nD Cert.NrmIdeal.τ).loc Cert.NrmIdeal.main_arg0)
      ∧ m' ((c.tc : Thread Cert.NrmRefIdeal.nD Cert.NrmRefIdeal.τ).loc Cert.NrmRefIdeal.main_arg1) = m ((c.tc : Thread Cert.NrmIdeal.nD Cert.NrmIdeal.τ).loc Cert.NrmIdeal.main_arg1)
      ∧ m' ((c.tc : Thread Cert.NrmRefIdeal.nD Cert.NrmRefIdeal.τ).loc Cert.NrmRefIdeal.main_arg2) = m ((c.tc : Thread Cert.NrmIdeal.nD Cert.NrmIdeal.τ).loc Cert.NrmIdeal.main_arg2)) →
    ∃ (v0 : (c : Dev Cert.NrmIdeal.nD) → Buf (Elt Ideal) ((c.tc : Thread Cert.NrmIdeal.nD Cert.NrmIdeal.τ).loc Cert.NrmIdeal.main_v5)),
      θ_run (Cert.NrmIdeal.defs (F := Ideal)) (onTc (τ := Cert.NrmIdeal.τ) (Cert.NrmIdeal.main (F := Ideal))) ⟨m, fun _ => 0, g⟩ (fun r => ∀ c : Dev Cert.NrmIdeal.nD,
          r.2.mem ((c.tc : Thread Cert.NrmIdeal.nD Cert.NrmIdeal.τ).loc Cert.NrmIdeal.main_v5) = v0 c
          ∧ r.2.mem ((c.tc : Thread Cert.NrmIdeal.nD Cert.NrmIdeal.τ).loc Cert.NrmIdeal.main_arg0) = m ((c.tc : Thread Cert.NrmIdeal.nD Cert.NrmIdeal.τ).loc Cert.NrmIdeal.main_arg0)
          ∧ r.2.mem ((c.tc : Thread Cert.NrmIdeal.nD Cert.NrmIdeal.τ).loc Cert.NrmIdeal.main_arg1) = m ((c.tc : Thread Cert.NrmIdeal.nD Cert.NrmIdeal.τ).loc Cert.NrmIdeal.main_arg1)
          ∧ r.2.mem ((c.tc : Thread Cert.NrmIdeal.nD Cert.NrmIdeal.τ).loc Cert.NrmIdeal.main_arg2) = m ((c.tc : Thread Cert.NrmIdeal.nD Cert.NrmIdeal.τ).loc Cert.NrmIdeal.main_arg2))
      ∧ θ_run (Cert.NrmRefIdeal.defs (F := Ideal)) (onTc (τ := Cert.NrmRefIdeal.τ) (Cert.NrmRefIdeal.main (F := Ideal))) ⟨m', fun _ => 0, g'⟩ (fun r => ∀ c : Dev Cert.NrmRefIdeal.nD,
          r.2.mem ((c.tc : Thread Cert.NrmRefIdeal.nD Cert.NrmRefIdeal.τ).loc Cert.NrmRefIdeal.main_v38) = v0 c
          ∧ r.2.mem ((c.tc : Thread Cert.NrmRefIdeal.nD Cert.NrmRefIdeal.τ).loc Cert.NrmRefIdeal.main_arg0) = m' ((c.tc : Thread Cert.NrmRefIdeal.nD Cert.NrmRefIdeal.τ).loc Cert.NrmRefIdeal.main_arg0)
          ∧ r.2.mem ((c.tc : Thread Cert.NrmRefIdeal.nD Cert.NrmRefIdeal.τ).loc Cert.NrmRefIdeal.main_arg1) = m' ((c.tc : Thread Cert.NrmRefIdeal.nD Cert.NrmRefIdeal.τ).loc Cert.NrmRefIdeal.main_arg1)
          ∧ r.2.mem ((c.tc : Thread Cert.NrmRefIdeal.nD Cert.NrmRefIdeal.τ).loc Cert.NrmRefIdeal.main_arg2) = m' ((c.tc : Thread Cert.NrmRefIdeal.nD Cert.NrmRefIdeal.τ).loc Cert.NrmRefIdeal.main_arg2))

def preserves_Fnp_FnpIdeal : Prop :=
  True

def algebraic_FnpIdeal_FnpRefIdeal [hFnpIdeal : Cert.FnpIdeal.Facts] [hFnpRefIdeal : Cert.FnpRefIdeal.Facts] : Prop :=
  ∀ (m : (ℓ : Loc Cert.FnpIdeal.nD Cert.FnpIdeal.τ Cert.FnpIdeal.sig) → Buf (Elt Ideal) ℓ) (g : Dev Cert.FnpIdeal.nD → PrngReg)
    (m' : (ℓ : Loc Cert.FnpRefIdeal.nD Cert.FnpRefIdeal.τ Cert.FnpRefIdeal.sig) → Buf (Elt Ideal) ℓ) (g' : Dev Cert.FnpRefIdeal.nD → PrngReg), Pre_FnpIdeal m →
    (∀ c : Dev Cert.FnpIdeal.nD,
      m' ((c.tc : Thread Cert.FnpRefIdeal.nD Cert.FnpRefIdeal.τ).loc Cert.FnpRefIdeal.main_arg0) = m ((c.tc : Thread Cert.FnpIdeal.nD Cert.FnpIdeal.τ).loc Cert.FnpIdeal.main_arg0)
      ∧ m' ((c.tc : Thread Cert.FnpRefIdeal.nD Cert.FnpRefIdeal.τ).loc Cert.FnpRefIdeal.main_arg1) = m ((c.tc : Thread Cert.FnpIdeal.nD Cert.FnpIdeal.τ).loc Cert.FnpIdeal.main_arg1)) →
    ∃ (v0 : (c : Dev Cert.FnpIdeal.nD) → Buf (Elt Ideal) ((c.tc : Thread Cert.FnpIdeal.nD Cert.FnpIdeal.τ).loc Cert.FnpIdeal.main_v2)),
      θ_run (Cert.FnpIdeal.defs (F := Ideal)) (onTc (τ := Cert.FnpIdeal.τ) (Cert.FnpIdeal.main (F := Ideal))) ⟨m, fun _ => 0, g⟩ (fun r => ∀ c : Dev Cert.FnpIdeal.nD,
          r.2.mem ((c.tc : Thread Cert.FnpIdeal.nD Cert.FnpIdeal.τ).loc Cert.FnpIdeal.main_v2) = v0 c
          ∧ r.2.mem ((c.tc : Thread Cert.FnpIdeal.nD Cert.FnpIdeal.τ).loc Cert.FnpIdeal.main_arg0) = m ((c.tc : Thread Cert.FnpIdeal.nD Cert.FnpIdeal.τ).loc Cert.FnpIdeal.main_arg0)
          ∧ r.2.mem ((c.tc : Thread Cert.FnpIdeal.nD Cert.FnpIdeal.τ).loc Cert.FnpIdeal.main_arg1) = m ((c.tc : Thread Cert.FnpIdeal.nD Cert.FnpIdeal.τ).loc Cert.FnpIdeal.main_arg1))
      ∧ θ_run (Cert.FnpRefIdeal.defs (F := Ideal)) (onTc (τ := Cert.FnpRefIdeal.τ) (Cert.FnpRefIdeal.main (F := Ideal))) ⟨m', fun _ => 0, g'⟩ (fun r => ∀ c : Dev Cert.FnpRefIdeal.nD,
          r.2.mem ((c.tc : Thread Cert.FnpRefIdeal.nD Cert.FnpRefIdeal.τ).loc Cert.FnpRefIdeal.main_v13) = v0 c
          ∧ r.2.mem ((c.tc : Thread Cert.FnpRefIdeal.nD Cert.FnpRefIdeal.τ).loc Cert.FnpRefIdeal.main_arg0) = m' ((c.tc : Thread Cert.FnpRefIdeal.nD Cert.FnpRefIdeal.τ).loc Cert.FnpRefIdeal.main_arg0)
          ∧ r.2.mem ((c.tc : Thread Cert.FnpRefIdeal.nD Cert.FnpRefIdeal.τ).loc Cert.FnpRefIdeal.main_arg1) = m' ((c.tc : Thread Cert.FnpRefIdeal.nD Cert.FnpRefIdeal.τ).loc Cert.FnpRefIdeal.main_arg1))

def preserves_Fns_FnsIdeal : Prop :=
  True

def algebraic_FnsIdeal_FnsRefIdeal [hFnsIdeal : Cert.FnsIdeal.Facts] [hFnsRefIdeal : Cert.FnsRefIdeal.Facts] : Prop :=
  ∀ (m : (ℓ : Loc Cert.FnsIdeal.nD Cert.FnsIdeal.τ Cert.FnsIdeal.sig) → Buf (Elt Ideal) ℓ) (g : Dev Cert.FnsIdeal.nD → PrngReg)
    (m' : (ℓ : Loc Cert.FnsRefIdeal.nD Cert.FnsRefIdeal.τ Cert.FnsRefIdeal.sig) → Buf (Elt Ideal) ℓ) (g' : Dev Cert.FnsRefIdeal.nD → PrngReg), Pre_FnsIdeal m →
    (∀ c : Dev Cert.FnsIdeal.nD,
      m' ((c.tc : Thread Cert.FnsRefIdeal.nD Cert.FnsRefIdeal.τ).loc Cert.FnsRefIdeal.main_arg0) = m ((c.tc : Thread Cert.FnsIdeal.nD Cert.FnsIdeal.τ).loc Cert.FnsIdeal.main_arg0)
      ∧ m' ((c.tc : Thread Cert.FnsRefIdeal.nD Cert.FnsRefIdeal.τ).loc Cert.FnsRefIdeal.main_arg1) = m ((c.tc : Thread Cert.FnsIdeal.nD Cert.FnsIdeal.τ).loc Cert.FnsIdeal.main_arg1)) →
    ∃ (v0 : (c : Dev Cert.FnsIdeal.nD) → Buf (Elt Ideal) ((c.tc : Thread Cert.FnsIdeal.nD Cert.FnsIdeal.τ).loc Cert.FnsIdeal.main_v2)),
      θ_run (Cert.FnsIdeal.defs (F := Ideal)) (onTc (τ := Cert.FnsIdeal.τ) (Cert.FnsIdeal.main (F := Ideal))) ⟨m, fun _ => 0, g⟩ (fun r => ∀ c : Dev Cert.FnsIdeal.nD,
          r.2.mem ((c.tc : Thread Cert.FnsIdeal.nD Cert.FnsIdeal.τ).loc Cert.FnsIdeal.main_v2) = v0 c
          ∧ r.2.mem ((c.tc : Thread Cert.FnsIdeal.nD Cert.FnsIdeal.τ).loc Cert.FnsIdeal.main_arg0) = m ((c.tc : Thread Cert.FnsIdeal.nD Cert.FnsIdeal.τ).loc Cert.FnsIdeal.main_arg0)
          ∧ r.2.mem ((c.tc : Thread Cert.FnsIdeal.nD Cert.FnsIdeal.τ).loc Cert.FnsIdeal.main_arg1) = m ((c.tc : Thread Cert.FnsIdeal.nD Cert.FnsIdeal.τ).loc Cert.FnsIdeal.main_arg1))
      ∧ θ_run (Cert.FnsRefIdeal.defs (F := Ideal)) (onTc (τ := Cert.FnsRefIdeal.τ) (Cert.FnsRefIdeal.main (F := Ideal))) ⟨m', fun _ => 0, g'⟩ (fun r => ∀ c : Dev Cert.FnsRefIdeal.nD,
          r.2.mem ((c.tc : Thread Cert.FnsRefIdeal.nD Cert.FnsRefIdeal.τ).loc Cert.FnsRefIdeal.main_v13) = v0 c
          ∧ r.2.mem ((c.tc : Thread Cert.FnsRefIdeal.nD Cert.FnsRefIdeal.τ).loc Cert.FnsRefIdeal.main_arg0) = m' ((c.tc : Thread Cert.FnsRefIdeal.nD Cert.FnsRefIdeal.τ).loc Cert.FnsRefIdeal.main_arg0)
          ∧ r.2.mem ((c.tc : Thread Cert.FnsRefIdeal.nD Cert.FnsRefIdeal.τ).loc Cert.FnsRefIdeal.main_arg1) = m' ((c.tc : Thread Cert.FnsRefIdeal.nD Cert.FnsRefIdeal.τ).loc Cert.FnsRefIdeal.main_arg1))

def preserves_Rop_RopIdeal : Prop :=
  True

def algebraic_RopIdeal_RopRefIdeal [hRopIdeal : Cert.RopIdeal.Facts] [hRopRefIdeal : Cert.RopRefIdeal.Facts] : Prop :=
  ∀ (m : (ℓ : Loc Cert.RopIdeal.nD Cert.RopIdeal.τ Cert.RopIdeal.sig) → Buf (Elt Ideal) ℓ) (g : Dev Cert.RopIdeal.nD → PrngReg)
    (m' : (ℓ : Loc Cert.RopRefIdeal.nD Cert.RopRefIdeal.τ Cert.RopRefIdeal.sig) → Buf (Elt Ideal) ℓ) (g' : Dev Cert.RopRefIdeal.nD → PrngReg), Pre_RopIdeal m →
    (∀ c : Dev Cert.RopIdeal.nD,
      m' ((c.tc : Thread Cert.RopRefIdeal.nD Cert.RopRefIdeal.τ).loc Cert.RopRefIdeal.main_arg0) = m ((c.tc : Thread Cert.RopIdeal.nD Cert.RopIdeal.τ).loc Cert.RopIdeal.main_arg0)
      ∧ m' ((c.tc : Thread Cert.RopRefIdeal.nD Cert.RopRefIdeal.τ).loc Cert.RopRefIdeal.main_arg1) = m ((c.tc : Thread Cert.RopIdeal.nD Cert.RopIdeal.τ).loc Cert.RopIdeal.main_arg1)) →
    ∃ (v0 : (c : Dev Cert.RopIdeal.nD) → Buf (Elt Ideal) ((c.tc : Thread Cert.RopIdeal.nD Cert.RopIdeal.τ).loc Cert.RopIdeal.main_v61_0)) (v1 : (c : Dev Cert.RopIdeal.nD) → Buf (Elt Ideal) ((c.tc : Thread Cert.RopIdeal.nD Cert.RopIdeal.τ).loc Cert.RopIdeal.main_v61_1)) (v2 : (c : Dev Cert.RopIdeal.nD) → Buf (Elt Ideal) ((c.tc : Thread Cert.RopIdeal.nD Cert.RopIdeal.τ).loc Cert.RopIdeal.main_v61_2)) (v3 : (c : Dev Cert.RopIdeal.nD) → Buf (Elt Ideal) ((c.tc : Thread Cert.RopIdeal.nD Cert.RopIdeal.τ).loc Cert.RopIdeal.main_v61_3)) (v4 : (c : Dev Cert.RopIdeal.nD) → Buf (Elt Ideal) ((c.tc : Thread Cert.RopIdeal.nD Cert.RopIdeal.τ).loc Cert.RopIdeal.main_v61_4)) (v5 : (c : Dev Cert.RopIdeal.nD) → Buf (Elt Ideal) ((c.tc : Thread Cert.RopIdeal.nD Cert.RopIdeal.τ).loc Cert.RopIdeal.main_v61_5)) (v6 : (c : Dev Cert.RopIdeal.nD) → Buf (Elt Ideal) ((c.tc : Thread Cert.RopIdeal.nD Cert.RopIdeal.τ).loc Cert.RopIdeal.main_v61_6)) (v7 : (c : Dev Cert.RopIdeal.nD) → Buf (Elt Ideal) ((c.tc : Thread Cert.RopIdeal.nD Cert.RopIdeal.τ).loc Cert.RopIdeal.main_v61_7)) (v8 : (c : Dev Cert.RopIdeal.nD) → Buf (Elt Ideal) ((c.tc : Thread Cert.RopIdeal.nD Cert.RopIdeal.τ).loc Cert.RopIdeal.main_v61_8)) (v9 : (c : Dev Cert.RopIdeal.nD) → Buf (Elt Ideal) ((c.tc : Thread Cert.RopIdeal.nD Cert.RopIdeal.τ).loc Cert.RopIdeal.main_v61_9)),
      θ_run (Cert.RopIdeal.defs (F := Ideal)) (onTc (τ := Cert.RopIdeal.τ) (Cert.RopIdeal.main (F := Ideal))) ⟨m, fun _ => 0, g⟩ (fun r => ∀ c : Dev Cert.RopIdeal.nD,
          r.2.mem ((c.tc : Thread Cert.RopIdeal.nD Cert.RopIdeal.τ).loc Cert.RopIdeal.main_v61_0) = v0 c
          ∧ r.2.mem ((c.tc : Thread Cert.RopIdeal.nD Cert.RopIdeal.τ).loc Cert.RopIdeal.main_v61_1) = v1 c
          ∧ r.2.mem ((c.tc : Thread Cert.RopIdeal.nD Cert.RopIdeal.τ).loc Cert.RopIdeal.main_v61_2) = v2 c
          ∧ r.2.mem ((c.tc : Thread Cert.RopIdeal.nD Cert.RopIdeal.τ).loc Cert.RopIdeal.main_v61_3) = v3 c
          ∧ r.2.mem ((c.tc : Thread Cert.RopIdeal.nD Cert.RopIdeal.τ).loc Cert.RopIdeal.main_v61_4) = v4 c
          ∧ r.2.mem ((c.tc : Thread Cert.RopIdeal.nD Cert.RopIdeal.τ).loc Cert.RopIdeal.main_v61_5) = v5 c
          ∧ r.2.mem ((c.tc : Thread Cert.RopIdeal.nD Cert.RopIdeal.τ).loc Cert.RopIdeal.main_v61_6) = v6 c
          ∧ r.2.mem ((c.tc : Thread Cert.RopIdeal.nD Cert.RopIdeal.τ).loc Cert.RopIdeal.main_v61_7) = v7 c
          ∧ r.2.mem ((c.tc : Thread Cert.RopIdeal.nD Cert.RopIdeal.τ).loc Cert.RopIdeal.main_v61_8) = v8 c
          ∧ r.2.mem ((c.tc : Thread Cert.RopIdeal.nD Cert.RopIdeal.τ).loc Cert.RopIdeal.main_v61_9) = v9 c
          ∧ r.2.mem ((c.tc : Thread Cert.RopIdeal.nD Cert.RopIdeal.τ).loc Cert.RopIdeal.main_arg0) = m ((c.tc : Thread Cert.RopIdeal.nD Cert.RopIdeal.τ).loc Cert.RopIdeal.main_arg0)
          ∧ r.2.mem ((c.tc : Thread Cert.RopIdeal.nD Cert.RopIdeal.τ).loc Cert.RopIdeal.main_arg1) = m ((c.tc : Thread Cert.RopIdeal.nD Cert.RopIdeal.τ).loc Cert.RopIdeal.main_arg1))
      ∧ θ_run (Cert.RopRefIdeal.defs (F := Ideal)) (onTc (τ := Cert.RopRefIdeal.τ) (Cert.RopRefIdeal.main (F := Ideal))) ⟨m', fun _ => 0, g'⟩ (fun r => ∀ c : Dev Cert.RopRefIdeal.nD,
          r.2.mem ((c.tc : Thread Cert.RopRefIdeal.nD Cert.RopRefIdeal.τ).loc Cert.RopRefIdeal.main_v165) = v0 c
          ∧ r.2.mem ((c.tc : Thread Cert.RopRefIdeal.nD Cert.RopRefIdeal.τ).loc Cert.RopRefIdeal.main_v160) = v1 c
          ∧ r.2.mem ((c.tc : Thread Cert.RopRefIdeal.nD Cert.RopRefIdeal.τ).loc Cert.RopRefIdeal.main_v161) = v2 c
          ∧ r.2.mem ((c.tc : Thread Cert.RopRefIdeal.nD Cert.RopRefIdeal.τ).loc Cert.RopRefIdeal.main_v162) = v3 c
          ∧ r.2.mem ((c.tc : Thread Cert.RopRefIdeal.nD Cert.RopRefIdeal.τ).loc Cert.RopRefIdeal.main_v163) = v4 c
          ∧ r.2.mem ((c.tc : Thread Cert.RopRefIdeal.nD Cert.RopRefIdeal.τ).loc Cert.RopRefIdeal.main_v164) = v5 c
          ∧ r.2.mem ((c.tc : Thread Cert.RopRefIdeal.nD Cert.RopRefIdeal.τ).loc Cert.RopRefIdeal.main_v166) = v6 c
          ∧ r.2.mem ((c.tc : Thread Cert.RopRefIdeal.nD Cert.RopRefIdeal.τ).loc Cert.RopRefIdeal.main_v167) = v7 c
          ∧ r.2.mem ((c.tc : Thread Cert.RopRefIdeal.nD Cert.RopRefIdeal.τ).loc Cert.RopRefIdeal.main_v168) = v8 c
          ∧ r.2.mem ((c.tc : Thread Cert.RopRefIdeal.nD Cert.RopRefIdeal.τ).loc Cert.RopRefIdeal.main_v169) = v9 c
          ∧ r.2.mem ((c.tc : Thread Cert.RopRefIdeal.nD Cert.RopRefIdeal.τ).loc Cert.RopRefIdeal.main_arg0) = m' ((c.tc : Thread Cert.RopRefIdeal.nD Cert.RopRefIdeal.τ).loc Cert.RopRefIdeal.main_arg0)
          ∧ r.2.mem ((c.tc : Thread Cert.RopRefIdeal.nD Cert.RopRefIdeal.τ).loc Cert.RopRefIdeal.main_arg1) = m' ((c.tc : Thread Cert.RopRefIdeal.nD Cert.RopRefIdeal.τ).loc Cert.RopRefIdeal.main_arg1))

def preserves_Ros_RosIdeal : Prop :=
  True

def algebraic_RosIdeal_RosRefIdeal [hRosIdeal : Cert.RosIdeal.Facts] [hRosRefIdeal : Cert.RosRefIdeal.Facts] : Prop :=
  ∀ (m : (ℓ : Loc Cert.RosIdeal.nD Cert.RosIdeal.τ Cert.RosIdeal.sig) → Buf (Elt Ideal) ℓ) (g : Dev Cert.RosIdeal.nD → PrngReg)
    (m' : (ℓ : Loc Cert.RosRefIdeal.nD Cert.RosRefIdeal.τ Cert.RosRefIdeal.sig) → Buf (Elt Ideal) ℓ) (g' : Dev Cert.RosRefIdeal.nD → PrngReg), Pre_RosIdeal m →
    (∀ c : Dev Cert.RosIdeal.nD,
      m' ((c.tc : Thread Cert.RosRefIdeal.nD Cert.RosRefIdeal.τ).loc Cert.RosRefIdeal.main_arg0) = m ((c.tc : Thread Cert.RosIdeal.nD Cert.RosIdeal.τ).loc Cert.RosIdeal.main_arg0)
      ∧ m' ((c.tc : Thread Cert.RosRefIdeal.nD Cert.RosRefIdeal.τ).loc Cert.RosRefIdeal.main_arg1) = m ((c.tc : Thread Cert.RosIdeal.nD Cert.RosIdeal.τ).loc Cert.RosIdeal.main_arg1)) →
    ∃ (v0 : (c : Dev Cert.RosIdeal.nD) → Buf (Elt Ideal) ((c.tc : Thread Cert.RosIdeal.nD Cert.RosIdeal.τ).loc Cert.RosIdeal.main_v61_0)) (v1 : (c : Dev Cert.RosIdeal.nD) → Buf (Elt Ideal) ((c.tc : Thread Cert.RosIdeal.nD Cert.RosIdeal.τ).loc Cert.RosIdeal.main_v61_1)) (v2 : (c : Dev Cert.RosIdeal.nD) → Buf (Elt Ideal) ((c.tc : Thread Cert.RosIdeal.nD Cert.RosIdeal.τ).loc Cert.RosIdeal.main_v61_2)) (v3 : (c : Dev Cert.RosIdeal.nD) → Buf (Elt Ideal) ((c.tc : Thread Cert.RosIdeal.nD Cert.RosIdeal.τ).loc Cert.RosIdeal.main_v61_3)) (v4 : (c : Dev Cert.RosIdeal.nD) → Buf (Elt Ideal) ((c.tc : Thread Cert.RosIdeal.nD Cert.RosIdeal.τ).loc Cert.RosIdeal.main_v61_4)) (v5 : (c : Dev Cert.RosIdeal.nD) → Buf (Elt Ideal) ((c.tc : Thread Cert.RosIdeal.nD Cert.RosIdeal.τ).loc Cert.RosIdeal.main_v61_5)),
      θ_run (Cert.RosIdeal.defs (F := Ideal)) (onTc (τ := Cert.RosIdeal.τ) (Cert.RosIdeal.main (F := Ideal))) ⟨m, fun _ => 0, g⟩ (fun r => ∀ c : Dev Cert.RosIdeal.nD,
          r.2.mem ((c.tc : Thread Cert.RosIdeal.nD Cert.RosIdeal.τ).loc Cert.RosIdeal.main_v61_0) = v0 c
          ∧ r.2.mem ((c.tc : Thread Cert.RosIdeal.nD Cert.RosIdeal.τ).loc Cert.RosIdeal.main_v61_1) = v1 c
          ∧ r.2.mem ((c.tc : Thread Cert.RosIdeal.nD Cert.RosIdeal.τ).loc Cert.RosIdeal.main_v61_2) = v2 c
          ∧ r.2.mem ((c.tc : Thread Cert.RosIdeal.nD Cert.RosIdeal.τ).loc Cert.RosIdeal.main_v61_3) = v3 c
          ∧ r.2.mem ((c.tc : Thread Cert.RosIdeal.nD Cert.RosIdeal.τ).loc Cert.RosIdeal.main_v61_4) = v4 c
          ∧ r.2.mem ((c.tc : Thread Cert.RosIdeal.nD Cert.RosIdeal.τ).loc Cert.RosIdeal.main_v61_5) = v5 c
          ∧ r.2.mem ((c.tc : Thread Cert.RosIdeal.nD Cert.RosIdeal.τ).loc Cert.RosIdeal.main_arg0) = m ((c.tc : Thread Cert.RosIdeal.nD Cert.RosIdeal.τ).loc Cert.RosIdeal.main_arg0)
          ∧ r.2.mem ((c.tc : Thread Cert.RosIdeal.nD Cert.RosIdeal.τ).loc Cert.RosIdeal.main_arg1) = m ((c.tc : Thread Cert.RosIdeal.nD Cert.RosIdeal.τ).loc Cert.RosIdeal.main_arg1))
      ∧ θ_run (Cert.RosRefIdeal.defs (F := Ideal)) (onTc (τ := Cert.RosRefIdeal.τ) (Cert.RosRefIdeal.main (F := Ideal))) ⟨m', fun _ => 0, g'⟩ (fun r => ∀ c : Dev Cert.RosRefIdeal.nD,
          r.2.mem ((c.tc : Thread Cert.RosRefIdeal.nD Cert.RosRefIdeal.τ).loc Cert.RosRefIdeal.main_v163) = v0 c
          ∧ r.2.mem ((c.tc : Thread Cert.RosRefIdeal.nD Cert.RosRefIdeal.τ).loc Cert.RosRefIdeal.main_v158) = v1 c
          ∧ r.2.mem ((c.tc : Thread Cert.RosRefIdeal.nD Cert.RosRefIdeal.τ).loc Cert.RosRefIdeal.main_v159) = v2 c
          ∧ r.2.mem ((c.tc : Thread Cert.RosRefIdeal.nD Cert.RosRefIdeal.τ).loc Cert.RosRefIdeal.main_v160) = v3 c
          ∧ r.2.mem ((c.tc : Thread Cert.RosRefIdeal.nD Cert.RosRefIdeal.τ).loc Cert.RosRefIdeal.main_v161) = v4 c
          ∧ r.2.mem ((c.tc : Thread Cert.RosRefIdeal.nD Cert.RosRefIdeal.τ).loc Cert.RosRefIdeal.main_v162) = v5 c
          ∧ r.2.mem ((c.tc : Thread Cert.RosRefIdeal.nD Cert.RosRefIdeal.τ).loc Cert.RosRefIdeal.main_arg0) = m' ((c.tc : Thread Cert.RosRefIdeal.nD Cert.RosRefIdeal.τ).loc Cert.RosRefIdeal.main_arg0)
          ∧ r.2.mem ((c.tc : Thread Cert.RosRefIdeal.nD Cert.RosRefIdeal.τ).loc Cert.RosRefIdeal.main_arg1) = m' ((c.tc : Thread Cert.RosRefIdeal.nD Cert.RosRefIdeal.τ).loc Cert.RosRefIdeal.main_arg1))

def preserves_Spr_SprIdeal : Prop :=
  True

def algebraic_SprIdeal_SprRefIdeal [hSprIdeal : Cert.SprIdeal.Facts] [hSprRefIdeal : Cert.SprRefIdeal.Facts] : Prop :=
  ∀ (m : (ℓ : Loc Cert.SprIdeal.nD Cert.SprIdeal.τ Cert.SprIdeal.sig) → Buf (Elt Ideal) ℓ) (g : Dev Cert.SprIdeal.nD → PrngReg)
    (m' : (ℓ : Loc Cert.SprRefIdeal.nD Cert.SprRefIdeal.τ Cert.SprRefIdeal.sig) → Buf (Elt Ideal) ℓ) (g' : Dev Cert.SprRefIdeal.nD → PrngReg), Pre_SprIdeal m →
    (∀ c : Dev Cert.SprIdeal.nD,
      m' ((c.tc : Thread Cert.SprRefIdeal.nD Cert.SprRefIdeal.τ).loc Cert.SprRefIdeal.main_arg0) = m ((c.tc : Thread Cert.SprIdeal.nD Cert.SprIdeal.τ).loc Cert.SprIdeal.main_arg0)
      ∧ m' ((c.tc : Thread Cert.SprRefIdeal.nD Cert.SprRefIdeal.τ).loc Cert.SprRefIdeal.main_arg1) = m ((c.tc : Thread Cert.SprIdeal.nD Cert.SprIdeal.τ).loc Cert.SprIdeal.main_arg1)
      ∧ m' ((c.tc : Thread Cert.SprRefIdeal.nD Cert.SprRefIdeal.τ).loc Cert.SprRefIdeal.main_arg2) = m ((c.tc : Thread Cert.SprIdeal.nD Cert.SprIdeal.τ).loc Cert.SprIdeal.main_arg2)
      ∧ m' ((c.tc : Thread Cert.SprRefIdeal.nD Cert.SprRefIdeal.τ).loc Cert.SprRefIdeal.main_arg3) = m ((c.tc : Thread Cert.SprIdeal.nD Cert.SprIdeal.τ).loc Cert.SprIdeal.main_arg3)
      ∧ m' ((c.tc : Thread Cert.SprRefIdeal.nD Cert.SprRefIdeal.τ).loc Cert.SprRefIdeal.main_arg4) = m ((c.tc : Thread Cert.SprIdeal.nD Cert.SprIdeal.τ).loc Cert.SprIdeal.main_arg4)
      ∧ m' ((c.tc : Thread Cert.SprRefIdeal.nD Cert.SprRefIdeal.τ).loc Cert.SprRefIdeal.main_arg5) = m ((c.tc : Thread Cert.SprIdeal.nD Cert.SprIdeal.τ).loc Cert.SprIdeal.main_arg5)
      ∧ m' ((c.tc : Thread Cert.SprRefIdeal.nD Cert.SprRefIdeal.τ).loc Cert.SprRefIdeal.main_arg6) = m ((c.tc : Thread Cert.SprIdeal.nD Cert.SprIdeal.τ).loc Cert.SprIdeal.main_arg6)) →
    ∃ (v0 : (c : Dev Cert.SprIdeal.nD) → Buf (Elt Ideal) ((c.tc : Thread Cert.SprIdeal.nD Cert.SprIdeal.τ).loc Cert.SprIdeal.main_v17_0)) (v1 : (c : Dev Cert.SprIdeal.nD) → Buf (Elt Ideal) ((c.tc : Thread Cert.SprIdeal.nD Cert.SprIdeal.τ).loc Cert.SprIdeal.main_v17_3)) (v2 : (c : Dev Cert.SprIdeal.nD) → Buf (Elt Ideal) ((c.tc : Thread Cert.SprIdeal.nD Cert.SprIdeal.τ).loc Cert.SprIdeal.main_v17_4)) (v3 : (c : Dev Cert.SprIdeal.nD) → Buf (Elt Ideal) ((c.tc : Thread Cert.SprIdeal.nD Cert.SprIdeal.τ).loc Cert.SprIdeal.main_v17_5)),
      θ_run (Cert.SprIdeal.defs (F := Ideal)) (onTc (τ := Cert.SprIdeal.τ) (Cert.SprIdeal.main (F := Ideal))) ⟨m, fun _ => 0, g⟩ (fun r => ∀ c : Dev Cert.SprIdeal.nD,
          r.2.mem ((c.tc : Thread Cert.SprIdeal.nD Cert.SprIdeal.τ).loc Cert.SprIdeal.main_v17_0) = v0 c
          ∧ r.2.mem ((c.tc : Thread Cert.SprIdeal.nD Cert.SprIdeal.τ).loc Cert.SprIdeal.main_v17_3) = v1 c
          ∧ r.2.mem ((c.tc : Thread Cert.SprIdeal.nD Cert.SprIdeal.τ).loc Cert.SprIdeal.main_v17_4) = v2 c
          ∧ r.2.mem ((c.tc : Thread Cert.SprIdeal.nD Cert.SprIdeal.τ).loc Cert.SprIdeal.main_v17_5) = v3 c
          ∧ r.2.mem ((c.tc : Thread Cert.SprIdeal.nD Cert.SprIdeal.τ).loc Cert.SprIdeal.main_arg0) = m ((c.tc : Thread Cert.SprIdeal.nD Cert.SprIdeal.τ).loc Cert.SprIdeal.main_arg0)
          ∧ r.2.mem ((c.tc : Thread Cert.SprIdeal.nD Cert.SprIdeal.τ).loc Cert.SprIdeal.main_arg1) = m ((c.tc : Thread Cert.SprIdeal.nD Cert.SprIdeal.τ).loc Cert.SprIdeal.main_arg1)
          ∧ r.2.mem ((c.tc : Thread Cert.SprIdeal.nD Cert.SprIdeal.τ).loc Cert.SprIdeal.main_arg2) = m ((c.tc : Thread Cert.SprIdeal.nD Cert.SprIdeal.τ).loc Cert.SprIdeal.main_arg2)
          ∧ r.2.mem ((c.tc : Thread Cert.SprIdeal.nD Cert.SprIdeal.τ).loc Cert.SprIdeal.main_arg3) = m ((c.tc : Thread Cert.SprIdeal.nD Cert.SprIdeal.τ).loc Cert.SprIdeal.main_arg3)
          ∧ r.2.mem ((c.tc : Thread Cert.SprIdeal.nD Cert.SprIdeal.τ).loc Cert.SprIdeal.main_arg4) = m ((c.tc : Thread Cert.SprIdeal.nD Cert.SprIdeal.τ).loc Cert.SprIdeal.main_arg4)
          ∧ r.2.mem ((c.tc : Thread Cert.SprIdeal.nD Cert.SprIdeal.τ).loc Cert.SprIdeal.main_arg5) = m ((c.tc : Thread Cert.SprIdeal.nD Cert.SprIdeal.τ).loc Cert.SprIdeal.main_arg5)
          ∧ r.2.mem ((c.tc : Thread Cert.SprIdeal.nD Cert.SprIdeal.τ).loc Cert.SprIdeal.main_arg6) = m ((c.tc : Thread Cert.SprIdeal.nD Cert.SprIdeal.τ).loc Cert.SprIdeal.main_arg6))
      ∧ θ_run (Cert.SprRefIdeal.defs (F := Ideal)) (onTc (τ := Cert.SprRefIdeal.τ) (Cert.SprRefIdeal.main (F := Ideal))) ⟨m', fun _ => 0, g'⟩ (fun r => ∀ c : Dev Cert.SprRefIdeal.nD,
          r.2.mem ((c.tc : Thread Cert.SprRefIdeal.nD Cert.SprRefIdeal.τ).loc Cert.SprRefIdeal.main_v41) = v0 c
          ∧ r.2.mem ((c.tc : Thread Cert.SprRefIdeal.nD Cert.SprRefIdeal.τ).loc Cert.SprRefIdeal.main_v38) = v1 c
          ∧ r.2.mem ((c.tc : Thread Cert.SprRefIdeal.nD Cert.SprRefIdeal.τ).loc Cert.SprRefIdeal.main_v39) = v2 c
          ∧ r.2.mem ((c.tc : Thread Cert.SprRefIdeal.nD Cert.SprRefIdeal.τ).loc Cert.SprRefIdeal.main_v40) = v3 c
          ∧ r.2.mem ((c.tc : Thread Cert.SprRefIdeal.nD Cert.SprRefIdeal.τ).loc Cert.SprRefIdeal.main_arg0) = m' ((c.tc : Thread Cert.SprRefIdeal.nD Cert.SprRefIdeal.τ).loc Cert.SprRefIdeal.main_arg0)
          ∧ r.2.mem ((c.tc : Thread Cert.SprRefIdeal.nD Cert.SprRefIdeal.τ).loc Cert.SprRefIdeal.main_arg1) = m' ((c.tc : Thread Cert.SprRefIdeal.nD Cert.SprRefIdeal.τ).loc Cert.SprRefIdeal.main_arg1)
          ∧ r.2.mem ((c.tc : Thread Cert.SprRefIdeal.nD Cert.SprRefIdeal.τ).loc Cert.SprRefIdeal.main_arg2) = m' ((c.tc : Thread Cert.SprRefIdeal.nD Cert.SprRefIdeal.τ).loc Cert.SprRefIdeal.main_arg2)
          ∧ r.2.mem ((c.tc : Thread Cert.SprRefIdeal.nD Cert.SprRefIdeal.τ).loc Cert.SprRefIdeal.main_arg3) = m' ((c.tc : Thread Cert.SprRefIdeal.nD Cert.SprRefIdeal.τ).loc Cert.SprRefIdeal.main_arg3)
          ∧ r.2.mem ((c.tc : Thread Cert.SprRefIdeal.nD Cert.SprRefIdeal.τ).loc Cert.SprRefIdeal.main_arg4) = m' ((c.tc : Thread Cert.SprRefIdeal.nD Cert.SprRefIdeal.τ).loc Cert.SprRefIdeal.main_arg4)
          ∧ r.2.mem ((c.tc : Thread Cert.SprRefIdeal.nD Cert.SprRefIdeal.τ).loc Cert.SprRefIdeal.main_arg5) = m' ((c.tc : Thread Cert.SprRefIdeal.nD Cert.SprRefIdeal.τ).loc Cert.SprRefIdeal.main_arg5)
          ∧ r.2.mem ((c.tc : Thread Cert.SprRefIdeal.nD Cert.SprRefIdeal.τ).loc Cert.SprRefIdeal.main_arg6) = m' ((c.tc : Thread Cert.SprRefIdeal.nD Cert.SprRefIdeal.τ).loc Cert.SprRefIdeal.main_arg6))

def Claim : Prop :=
  ∃ (hRet : Cert.Ret.Facts) (hRetIdeal : Cert.RetIdeal.Facts) (hRetRefIdeal : Cert.RetRefIdeal.Facts) (hGlu : Cert.Glu.Facts) (hGluIdeal : Cert.GluIdeal.Facts) (hGluRefIdeal : Cert.GluRefIdeal.Facts) (hDwn : Cert.Dwn.Facts) (hDwnIdeal : Cert.DwnIdeal.Facts) (hDwnRefIdeal : Cert.DwnRefIdeal.Facts) (hIng : Cert.Ing.Facts) (hIngIdeal : Cert.IngIdeal.Facts) (hIngRefIdeal : Cert.IngRefIdeal.Facts) (hIns : Cert.Ins.Facts) (hInsIdeal : Cert.InsIdeal.Facts) (hInsRefIdeal : Cert.InsRefIdeal.Facts) (hIna : Cert.Ina.Facts) (hInaIdeal : Cert.InaIdeal.Facts) (hInaRefIdeal : Cert.InaRefIdeal.Facts) (hMrg : Cert.Mrg.Facts) (hMrgIdeal : Cert.MrgIdeal.Facts) (hMrgRefIdeal : Cert.MrgRefIdeal.Facts) (hOpr : Cert.Opr.Facts) (hOprIdeal : Cert.OprIdeal.Facts) (hOprRefIdeal : Cert.OprRefIdeal.Facts) (hNrm : Cert.Nrm.Facts) (hNrmIdeal : Cert.NrmIdeal.Facts) (hNrmRefIdeal : Cert.NrmRefIdeal.Facts) (hFnp : Cert.Fnp.Facts) (hFnpIdeal : Cert.FnpIdeal.Facts) (hFnpRefIdeal : Cert.FnpRefIdeal.Facts) (hFns : Cert.Fns.Facts) (hFnsIdeal : Cert.FnsIdeal.Facts) (hFnsRefIdeal : Cert.FnsRefIdeal.Facts) (hRop : Cert.Rop.Facts) (hRopIdeal : Cert.RopIdeal.Facts) (hRopRefIdeal : Cert.RopRefIdeal.Facts) (hRos : Cert.Ros.Facts) (hRosIdeal : Cert.RosIdeal.Facts) (hRosRefIdeal : Cert.RosRefIdeal.Facts) (hSpr : Cert.Spr.Facts) (hSprIdeal : Cert.SprIdeal.Facts) (hSprRefIdeal : Cert.SprRefIdeal.Facts),
    quiescent_Ret (hRet := hRet)
    ∧ quiescent_RetIdeal (hRetIdeal := hRetIdeal)
    ∧ quiescent_RetRefIdeal (hRetRefIdeal := hRetRefIdeal)
    ∧ quiescent_Glu (hGlu := hGlu)
    ∧ quiescent_GluIdeal (hGluIdeal := hGluIdeal)
    ∧ quiescent_GluRefIdeal (hGluRefIdeal := hGluRefIdeal)
    ∧ quiescent_Dwn (hDwn := hDwn)
    ∧ quiescent_DwnIdeal (hDwnIdeal := hDwnIdeal)
    ∧ quiescent_DwnRefIdeal (hDwnRefIdeal := hDwnRefIdeal)
    ∧ quiescent_Ing (hIng := hIng)
    ∧ quiescent_IngIdeal (hIngIdeal := hIngIdeal)
    ∧ quiescent_IngRefIdeal (hIngRefIdeal := hIngRefIdeal)
    ∧ quiescent_Ins (hIns := hIns)
    ∧ quiescent_InsIdeal (hInsIdeal := hInsIdeal)
    ∧ quiescent_InsRefIdeal (hInsRefIdeal := hInsRefIdeal)
    ∧ quiescent_Ina (hIna := hIna)
    ∧ quiescent_InaIdeal (hInaIdeal := hInaIdeal)
    ∧ quiescent_InaRefIdeal (hInaRefIdeal := hInaRefIdeal)
    ∧ quiescent_Mrg (hMrg := hMrg)
    ∧ quiescent_MrgIdeal (hMrgIdeal := hMrgIdeal)
    ∧ quiescent_MrgRefIdeal (hMrgRefIdeal := hMrgRefIdeal)
    ∧ quiescent_Opr (hOpr := hOpr)
    ∧ quiescent_OprIdeal (hOprIdeal := hOprIdeal)
    ∧ quiescent_OprRefIdeal (hOprRefIdeal := hOprRefIdeal)
    ∧ quiescent_Nrm (hNrm := hNrm)
    ∧ quiescent_NrmIdeal (hNrmIdeal := hNrmIdeal)
    ∧ quiescent_NrmRefIdeal (hNrmRefIdeal := hNrmRefIdeal)
    ∧ quiescent_Fnp (hFnp := hFnp)
    ∧ quiescent_FnpIdeal (hFnpIdeal := hFnpIdeal)
    ∧ quiescent_FnpRefIdeal (hFnpRefIdeal := hFnpRefIdeal)
    ∧ quiescent_Fns (hFns := hFns)
    ∧ quiescent_FnsIdeal (hFnsIdeal := hFnsIdeal)
    ∧ quiescent_FnsRefIdeal (hFnsRefIdeal := hFnsRefIdeal)
    ∧ quiescent_Rop (hRop := hRop)
    ∧ quiescent_RopIdeal (hRopIdeal := hRopIdeal)
    ∧ quiescent_RopRefIdeal (hRopRefIdeal := hRopRefIdeal)
    ∧ quiescent_Ros (hRos := hRos)
    ∧ quiescent_RosIdeal (hRosIdeal := hRosIdeal)
    ∧ quiescent_RosRefIdeal (hRosRefIdeal := hRosRefIdeal)
    ∧ quiescent_Spr (hSpr := hSpr)
    ∧ quiescent_SprIdeal (hSprIdeal := hSprIdeal)
    ∧ quiescent_SprRefIdeal (hSprRefIdeal := hSprRefIdeal)
    ∧ preserves_Ret_RetIdeal
    ∧ preserves_Glu_GluIdeal
    ∧ algebraic_GluIdeal_GluRefIdeal (hGluIdeal := hGluIdeal) (hGluRefIdeal := hGluRefIdeal)
    ∧ preserves_Dwn_DwnIdeal
    ∧ algebraic_DwnIdeal_DwnRefIdeal (hDwnIdeal := hDwnIdeal) (hDwnRefIdeal := hDwnRefIdeal)
    ∧ preserves_Ing_IngIdeal
    ∧ algebraic_IngIdeal_IngRefIdeal (hIngIdeal := hIngIdeal) (hIngRefIdeal := hIngRefIdeal)
    ∧ preserves_Ins_InsIdeal
    ∧ algebraic_InsIdeal_InsRefIdeal (hInsIdeal := hInsIdeal) (hInsRefIdeal := hInsRefIdeal)
    ∧ preserves_Ina_InaIdeal
    ∧ algebraic_InaIdeal_InaRefIdeal (hInaIdeal := hInaIdeal) (hInaRefIdeal := hInaRefIdeal)
    ∧ preserves_Mrg_MrgIdeal
    ∧ algebraic_MrgIdeal_MrgRefIdeal (hMrgIdeal := hMrgIdeal) (hMrgRefIdeal := hMrgRefIdeal)
    ∧ preserves_Opr_OprIdeal
    ∧ algebraic_OprIdeal_OprRefIdeal (hOprIdeal := hOprIdeal) (hOprRefIdeal := hOprRefIdeal)
    ∧ preserves_Nrm_NrmIdeal
    ∧ algebraic_NrmIdeal_NrmRefIdeal (hNrmIdeal := hNrmIdeal) (hNrmRefIdeal := hNrmRefIdeal)
    ∧ preserves_Fnp_FnpIdeal
    ∧ algebraic_FnpIdeal_FnpRefIdeal (hFnpIdeal := hFnpIdeal) (hFnpRefIdeal := hFnpRefIdeal)
    ∧ preserves_Fns_FnsIdeal
    ∧ algebraic_FnsIdeal_FnsRefIdeal (hFnsIdeal := hFnsIdeal) (hFnsRefIdeal := hFnsRefIdeal)
    ∧ preserves_Rop_RopIdeal
    ∧ algebraic_RopIdeal_RopRefIdeal (hRopIdeal := hRopIdeal) (hRopRefIdeal := hRopRefIdeal)
    ∧ preserves_Ros_RosIdeal
    ∧ algebraic_RosIdeal_RosRefIdeal (hRosIdeal := hRosIdeal) (hRosRefIdeal := hRosRefIdeal)
    ∧ preserves_Spr_SprIdeal
    ∧ algebraic_SprIdeal_SprRefIdeal (hSprIdeal := hSprIdeal) (hSprRefIdeal := hSprRefIdeal)
-- ==== Ret.lean ====
abbrev S8x2048x6144 : Shape := ⟨3, ![8, 2048, 6144]⟩
abbrev S8x8x256x128 : Shape := ⟨4, ![8, 8, 256, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x1x128 : Shape := ⟨3, ![8, 1, 128]⟩
abbrev S16384x6144 : Shape := ⟨2, ![16384, 6144]⟩
abbrev S16384x2048 : Shape := ⟨2, ![16384, 2048]⟩
abbrev S128x1024 : Shape := ⟨2, ![128, 1024]⟩
abbrev S128x2048 : Shape := ⟨2, ![128, 2048]⟩
abbrev S1x8x256x128 : Shape := ⟨4, ![1, 8, 256, 128]⟩
abbrev S8x256x128 : Shape := ⟨3, ![8, 256, 128]⟩
abbrev S128x256 : Shape := ⟨2, ![128, 256]⟩
abbrev S1x256x128 : Shape := ⟨3, ![1, 256, 128]⟩
abbrev S256x128 : Shape := ⟨2, ![256, 128]⟩
abbrev S1x128x1 : Shape := ⟨3, ![1, 128, 1]⟩
abbrev S1x1x128 : Shape := ⟨3, ![1, 1, 128]⟩

abbrev nBuf : Space → Nat
  | .hbm => 82
  | .vmem => 23
  | .smem => 0
  | _ => 0

abbrev bufTy : (tb : Table) → Fin (tcTables nBuf tb) → BufTy
  | .hbm, ⟨0, _⟩ => ⟨S8x2048x6144, .f32⟩
  | .hbm, ⟨1, _⟩ => ⟨S8x8x256x128, .f32⟩
  | .hbm, ⟨2, _⟩ => ⟨S2048, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S128, .f32⟩
  | .hbm, ⟨34, _⟩ => ⟨S128x1, .f32⟩
  | .hbm, ⟨35, _⟩ => ⟨S1x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .i1⟩
  | .hbm, ⟨42, _⟩ => ⟨S1x128x128, .f32⟩
  | .hbm, ⟨43, _⟩ => ⟨S8x1x1, .f32⟩
  | .hbm, ⟨44, _⟩ => ⟨S8x128x128, .f32⟩
  | .hbm, ⟨45, _⟩ => ⟨S8x128x128, .f32⟩
  | .hbm, ⟨46, _⟩ => ⟨S8x128x128, .f32⟩
  | .hbm, ⟨47, _⟩ => ⟨S8x128x128, .f32⟩
  | .hbm, ⟨48, _⟩ => ⟨S_, .f32⟩
  | .hbm, ⟨49, _⟩ => ⟨S_, .f32⟩
  | .hbm, ⟨50, _⟩ => ⟨S8x128x128, .i1⟩
  | .hbm, ⟨51, _⟩ => ⟨S8x128x128, .f32⟩
  | .hbm, ⟨52, _⟩ => ⟨S8x128x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S8x1, .f32⟩
  | .hbm, ⟨58, _⟩ => ⟨S8x128, .f32⟩
  | .hbm, ⟨59, _⟩ => ⟨S8x128, .f32⟩
  | .hbm, ⟨60, _⟩ => ⟨S8x128, .f32⟩
  | .hbm, ⟨61, _⟩ => ⟨S8x128, .f32⟩
  | .hbm, ⟨62, _⟩ => ⟨S8x128x1, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S8x1, .f32⟩
  | .hbm, ⟨68, _⟩ => ⟨S8x128, .f32⟩
  | .hbm, ⟨69, _⟩ => ⟨S8x128, .f32⟩
  | .hbm, ⟨70, _⟩ => ⟨S8x128, .f32⟩
  | .hbm, ⟨71, _⟩ => ⟨S8x128, .f32⟩
  | .hbm, ⟨72, _⟩ => ⟨S8x128x1, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S8x1x1, .f32⟩
  | .hbm, ⟨78, _⟩ => ⟨S8x1x128, .f32⟩
  | .hbm, ⟨79, _⟩ => ⟨S16384x6144, .f32⟩
  | .hbm, ⟨80, _⟩ => ⟨S16384x2048, .bf16⟩
  | .hbm, ⟨81, _⟩ => ⟨S8x8x256x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S8x128x1, .f32⟩
  | .local _ .vmem, ⟨14, _⟩ => ⟨S8x128x1, .f32⟩
  | .local _ .vmem, ⟨15, _⟩ => ⟨S8x1x128, .f32⟩
  | .local _ .vmem, ⟨16, _⟩ => ⟨S1x8x256x128, .f32⟩
  | .local _ .vmem, ⟨17, _⟩ => ⟨S1x8x256x128, .f32⟩
  | .local _ .vmem, ⟨18, _⟩ => ⟨S128x2048, .bf16⟩
  | .local _ .vmem, ⟨19, _⟩ => ⟨S128x2048, .bf16⟩
  | .local _ .vmem, ⟨20, _⟩ => ⟨S1x8x256x128, .f32⟩
  | .local _ .vmem, ⟨21, _⟩ => ⟨S1x8x256x128, .f32⟩
  | .local _ .vmem, ⟨22, _⟩ => ⟨S8x256x128, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65_0 : Ref sig .tc := ⟨.hbm, 80, rfl⟩
abbrev main_v65_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v527 : BitVec 1 := Scalar.cmpi .eq arg1 c15_i32
  let v528 : BitVec 32 := Scalar.extui v527
  let c0_i32_288 : BitVec 32 := 0#32
  let v529 : BitVec 1 := Scalar.cmpi .ne v528 c0_i32_288
  v529

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RetRefIdeal.lean ====
abbrev S8x2048x6144 : Shape := ⟨3, ![8, 2048, 6144]⟩
abbrev S8x8x256x128 : Shape := ⟨4, ![8, 8, 256, 128]⟩
abbrev S8x2048x1024 : Shape := ⟨3, ![8, 2048, 1024]⟩
abbrev S8x2048x2048 : Shape := ⟨3, ![8, 2048, 2048]⟩
abbrev S8x2048x8x128 : Shape := ⟨4, ![8, 2048, 8, 128]⟩
abbrev S8x2048x8x256 : Shape := ⟨4, ![8, 2048, 8, 256]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x8x64 : Shape := ⟨4, ![8, 2048, 8, 64]⟩
abbrev S1x2048x1x64 : Shape := ⟨4, ![1, 2048, 1, 64]⟩
abbrev S8 : Shape := ⟨1, ![8]⟩
abbrev S8x16x128x8x128 : Shape := ⟨5, ![8, 16, 128, 8, 128]⟩
abbrev S8x16x128x8x256 : Shape := ⟨5, ![8, 16, 128, 8, 256]⟩
abbrev S128x8 : Shape := ⟨2, ![128, 8]⟩
abbrev S128x128 : Shape := ⟨2, ![128, 128]⟩
abbrev S128x128x1 : Shape := ⟨3, ![128, 128, 1]⟩
abbrev S128x1x8 : Shape := ⟨3, ![128, 1, 8]⟩
abbrev S1x128x8 : Shape := ⟨3, ![1, 128, 8]⟩
abbrev S128x128x8 : Shape := ⟨3, ![128, 128, 8]⟩
abbrev S8x16x8x128x128 : Shape := ⟨5, ![8, 16, 8, 128, 128]⟩
abbrev S8x16x128x128x8 : Shape := ⟨5, ![8, 16, 128, 128, 8]⟩
abbrev S1x1x128x128x8 : Shape := ⟨5, ![1, 1, 128, 128, 8]⟩
abbrev S8x16x8x256x128 : Shape := ⟨5, ![8, 16, 8, 256, 128]⟩
abbrev S1x8 : Shape := ⟨2, ![1, 8]⟩
abbrev S128x8x1 : Shape := ⟨3, ![128, 8, 1]⟩
abbrev S1x1x128x8x1 : Shape := ⟨5, ![1, 1, 128, 8, 1]⟩
abbrev S16x8x8x256x128 : Shape := ⟨5, ![16, 8, 8, 256, 128]⟩
abbrev S8x1x1 : Shape := ⟨3, ![8, 1, 1]⟩
abbrev S1x8x8x256x128 : Shape := ⟨5, ![1, 8, 8, 256, 128]⟩
abbrev S8x1x8x256x128 : Shape := ⟨5, ![8, 1, 8, 256, 128]⟩
abbrev S8x2048x8 : Shape := ⟨3, ![8, 2048, 8]⟩
abbrev S8x2048x8x1 : Shape := ⟨4, ![8, 2048, 8, 1]⟩
abbrev S16384x2048 : Shape := ⟨2, ![16384, 2048]⟩

abbrev nBuf : Space → Nat
  | .hbm => 261
  | .vmem => 0
  | .smem => 0
  | _ => 0

abbrev hbmTy0_0 (i : Nat) : BufTy := match i % 128 with
  | 0 => ⟨S8x2048x6144, .f32⟩
  | 1 => ⟨S8x8x256x128, .f32⟩
  | 2 => ⟨S8x2048x1024, .f32⟩
  | 3 => ⟨S8x2048x1024, .f32⟩
  | 4 => ⟨S8x2048x2048, .f32⟩
  | 5 => ⟨S8x2048x2048, .f32⟩
  | 6 => ⟨S8x2048x8x128, .f32⟩
  | 7 => ⟨S8x2048x8x128, .f32⟩
  | 8 => ⟨S8x2048x8x256, .f32⟩
  | 9 => ⟨S2048, .i32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S2048, .f32⟩
  | 19 => ⟨S2048x1, .f32⟩
  | 20 => ⟨S1x64, .f32⟩
  | 21 => ⟨S2048x64, .f32⟩
  | 22 => ⟨S2048x64, .f32⟩
  | 23 => ⟨S2048x64, .f32⟩
  | 24 => ⟨S2048x64, .f32⟩
  | 25 => ⟨S2048x1x64, .f32⟩
  | 26 => ⟨S2048x64, .f32⟩
  | 27 => ⟨S2048x1x64, .f32⟩
  | 28 => ⟨S8x2048x8x64, .f32⟩
  | 29 => ⟨S8x2048x8x64, .f32⟩
  | 30 => ⟨S1x2048x1x64, .f32⟩
  | 31 => ⟨S8x2048x8x64, .f32⟩
  | 32 => ⟨S8x2048x8x64, .f32⟩
  | 33 => ⟨S1x2048x1x64, .f32⟩
  | 34 => ⟨S8x2048x8x64, .f32⟩
  | 35 => ⟨S8x2048x8x64, .f32⟩
  | 36 => ⟨S8x2048x8x64, .f32⟩
  | 37 => ⟨S1x2048x1x64, .f32⟩
  | 38 => ⟨S8x2048x8x64, .f32⟩
  | 39 => ⟨S8x2048x8x64, .f32⟩
  | 40 => ⟨S1x2048x1x64, .f32⟩
  | 41 => ⟨S8x2048x8x64, .f32⟩
  | 42 => ⟨S8x2048x8x64, .f32⟩
  | 43 => ⟨S8x2048x8x64, .f32⟩
  | 44 => ⟨S8x2048x8x128, .f32⟩
  | 45 => ⟨S64, .f32⟩
  | 46 => ⟨S64, .f32⟩
  | 47 => ⟨S_, .f32⟩
  | 48 => ⟨S64, .f32⟩
  | 49 => ⟨S64, .f32⟩
  | 50 => ⟨S_, .f32⟩
  | 51 => ⟨S64, .f32⟩
  | 52 => ⟨S64, .f32⟩
  | 53 => ⟨S2048, .f32⟩
  | 54 => ⟨S2048x1, .f32⟩
  | 55 => ⟨S1x64, .f32⟩
  | 56 => ⟨S2048x64, .f32⟩
  | 57 => ⟨S2048x64, .f32⟩
  | 58 => ⟨S2048x64, .f32⟩
  | 59 => ⟨S2048x64, .f32⟩
  | 60 => ⟨S2048x1x64, .f32⟩
  | 61 => ⟨S2048x64, .f32⟩
  | 62 => ⟨S2048x1x64, .f32⟩
  | 63 => ⟨S8x2048x8x64, .f32⟩
  | 64 => ⟨S8x2048x8x64, .f32⟩
  | 65 => ⟨S1x2048x1x64, .f32⟩
  | 66 => ⟨S8x2048x8x64, .f32⟩
  | 67 => ⟨S8x2048x8x64, .f32⟩
  | 68 => ⟨S1x2048x1x64, .f32⟩
  | 69 => ⟨S8x2048x8x64, .f32⟩
  | 70 => ⟨S8x2048x8x64, .f32⟩
  | 71 => ⟨S8x2048x8x64, .f32⟩
  | 72 => ⟨S1x2048x1x64, .f32⟩
  | 73 => ⟨S8x2048x8x64, .f32⟩
  | 74 => ⟨S8x2048x8x64, .f32⟩
  | 75 => ⟨S1x2048x1x64, .f32⟩
  | 76 => ⟨S8x2048x8x64, .f32⟩
  | 77 => ⟨S8x2048x8x64, .f32⟩
  | 78 => ⟨S8x2048x8x64, .f32⟩
  | 79 => ⟨S8x2048x8x128, .f32⟩
  | 80 => ⟨S_, .f32⟩
  | 81 => ⟨S8x2048x8x128, .f32⟩
  | 82 => ⟨S8x2048x8x128, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S8x16x128x8x128, .f32⟩
  | 95 => ⟨S8x16x128x8x128, .f32⟩
  | 96 => ⟨S8x16x128x8x256, .f32⟩
  | 97 => ⟨S128x8, .f32⟩
  | 98 => ⟨S_, .f32⟩
  | 99 => ⟨S_, .f32⟩
  | 100 => ⟨S128x8, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S128x128x1, .i1⟩
  | 113 => ⟨S128x1x8, .f32⟩
  | 114 => ⟨S1x128x8, .f32⟩
  | 115 => ⟨S128x128x8, .f32⟩
  | 116 => ⟨S128x128x8, .f32⟩
  | 117 => ⟨S128x128x8, .f32⟩
  | 118 => ⟨S_, .f32⟩
  | 119 => ⟨S_, .f32⟩
  | 120 => ⟨S128x128x8, .i1⟩
  | 121 => ⟨S128x128x8, .f32⟩
  | 122 => ⟨S128x128x8, .f32⟩
  | 123 => ⟨S128x128x8, .f32⟩
  | 124 => ⟨S8x16x8x128x128, .f32⟩
  | 125 => ⟨S8x16x128x128x8, .f32⟩
  | 126 => ⟨S1x1x128x128x8, .f32⟩
  | 127 => ⟨S8x16x128x128x8, .f32⟩
  | _ => ⟨S8x2048x6144, .f32⟩

abbrev hbmTy0_1 (i : Nat) : BufTy := match i % 128 with
  | 0 => ⟨S8x16x128x128x8, .f32⟩
  | 1 => ⟨S8x16x8x256x128, .f32⟩
  | 2 => ⟨S8x16x128x8x256, .f32⟩
  | 3 => ⟨S1x8, .f32⟩
  | 4 => ⟨S128x8, .f32⟩
  | 5 => ⟨S128x8, .f32⟩
  | 6 => ⟨S128x8, .f32⟩
  | 7 => ⟨S128x8x1, .f32⟩
  | 8 => ⟨S1x1x128x8x1, .f32⟩
  | 9 => ⟨S8x16x128x8x256, .f32⟩
  | 10 => ⟨S8x16x128x8x256, .f32⟩
  | 11 => ⟨S16x8x8x256x128, .f32⟩
  | 12 => ⟨S1x8, .f32⟩
  | 13 => ⟨S8, .f32⟩
  | 14 => ⟨S8, .f32⟩
  | 15 => ⟨S8x1x1, .f32⟩
  | 16 => ⟨S8x8x256x128, .f32⟩
  | 17 => ⟨S8x8x256x128, .f32⟩
  | 18 => ⟨S1x8x8x256x128, .f32⟩
  | 19 => ⟨S8x8x256x128, .f32⟩
  | 20 => ⟨S8x8x256x128, .f32⟩
  | 21 => ⟨S8x8x256x128, .f32⟩
  | 22 => ⟨S1x8x8x256x128, .f32⟩
  | 23 => ⟨S8x8x256x128, .f32⟩
  | 24 => ⟨S8x8x256x128, .f32⟩
  | 25 => ⟨S8x8x256x128, .f32⟩
  | 26 => ⟨S1x8x8x256x128, .f32⟩
  | 27 => ⟨S8x8x256x128, .f32⟩
  | 28 => ⟨S8x8x256x128, .f32⟩
  | 29 => ⟨S8x8x256x128, .f32⟩
  | 30 => ⟨S1x8x8x256x128, .f32⟩
  | 31 => ⟨S8x8x256x128, .f32⟩
  | 32 => ⟨S8x8x256x128, .f32⟩
  | 33 => ⟨S8x8x256x128, .f32⟩
  | 34 => ⟨S1x8x8x256x128, .f32⟩
  | 35 => ⟨S8x8x256x128, .f32⟩
  | 36 => ⟨S8x8x256x128, .f32⟩
  | 37 => ⟨S8x8x256x128, .f32⟩
  | 38 => ⟨S1x8x8x256x128, .f32⟩
  | 39 => ⟨S8x8x256x128, .f32⟩
  | 40 => ⟨S8x8x256x128, .f32⟩
  | 41 => ⟨S8x8x256x128, .f32⟩
  | 42 => ⟨S1x8x8x256x128, .f32⟩
  | 43 => ⟨S8x8x256x128, .f32⟩
  | 44 => ⟨S8x8x256x128, .f32⟩
  | 45 => ⟨S8x8x256x128, .f32⟩
  | 46 => ⟨S1x8x8x256x128, .f32⟩
  | 47 => ⟨S8x8x256x128, .f32⟩
  | 48 => ⟨S8x8x256x128, .f32⟩
  | 49 => ⟨S8x8x256x128, .f32⟩
  | 50 => ⟨S1x8x8x256x128, .f32⟩
  | 51 => ⟨S8x8x256x128, .f32⟩
  | 52 => ⟨S8x8x256x128, .f32⟩
  | 53 => ⟨S8x8x256x128, .f32⟩
  | 54 => ⟨S1x8x8x256x128, .f32⟩
  | 55 => ⟨S8x8x256x128, .f32⟩
  | 56 => ⟨S8x8x256x128, .f32⟩
  | 57 => ⟨S8x8x256x128, .f32⟩
  | 58 => ⟨S1x8x8x256x128, .f32⟩
  | 59 => ⟨S8x8x256x128, .f32⟩
  | 60 => ⟨S8x8x256x128, .f32⟩
  | 61 => ⟨S8x8x256x128, .f32⟩
  | 62 => ⟨S1x8x8x256x128, .f32⟩
  | 63 => ⟨S8x8x256x128, .f32⟩
  | 64 => ⟨S8x8x256x128, .f32⟩
  | 65 => ⟨S8x8x256x128, .f32⟩
  | 66 => ⟨S1x8x8x256x128, .f32⟩
  | 67 => ⟨S8x8x256x128, .f32⟩
  | 68 => ⟨S8x8x256x128, .f32⟩
  | 69 => ⟨S8x8x256x128, .f32⟩
  | 70 => ⟨S1x8x8x256x128, .f32⟩
  | 71 => ⟨S8x8x256x128, .f32⟩
  | 72 => ⟨S8x8x256x128, .f32⟩
  | 73 => ⟨S8x8x256x128, .f32⟩
  | 74 => ⟨S1x8x8x256x128, .f32⟩
  | 75 => ⟨S8x8x256x128, .f32⟩
  | 76 => ⟨S8x8x256x128, .f32⟩
  | 77 => ⟨S8x8x256x128, .f32⟩
  | 78 => ⟨S1x8x8x256x128, .f32⟩
  | 79 => ⟨S8x8x256x128, .f32⟩
  | 80 => ⟨S8x8x256x128, .f32⟩
  | 81 => ⟨S8x1x8x256x128, .f32⟩
  | 82 => ⟨S8x1x8x256x128, .f32⟩
  | 83 => ⟨S8x1x8x256x128, .f32⟩
  | 84 => ⟨S8x1x8x256x128, .f32⟩
  | 85 => ⟨S8x1x8x256x128, .f32⟩
  | 86 => ⟨S8x1x8x256x128, .f32⟩
  | 87 => ⟨S8x1x8x256x128, .f32⟩
  | 88 => ⟨S8x1x8x256x128, .f32⟩
  | 89 => ⟨S8x1x8x256x128, .f32⟩
  | 90 => ⟨S8x1x8x256x128, .f32⟩
  | 91 => ⟨S8x1x8x256x128, .f32⟩
  | 92 => ⟨S8x1x8x256x128, .f32⟩
  | 93 => ⟨S8x1x8x256x128, .f32⟩
  | 94 => ⟨S8x1x8x256x128, .f32⟩
  | 95 => ⟨S8x1x8x256x128, .f32⟩
  | 96 => ⟨S8x1x8x256x128, .f32⟩
  | 97 => ⟨S8x16x8x256x128, .f32⟩
  | 98 => ⟨S8x16x8x256x128, .f32⟩
  | 99 => ⟨S8x16x128x8x256, .f32⟩
  | 100 => ⟨S128x8, .f32⟩
  | 101 => ⟨S128x8x1, .f32⟩
  | 102 => ⟨S1x1x128x8x1, .f32⟩
  | 103 => ⟨S8x16x128x8x256, .f32⟩
  | 104 => ⟨S8x16x128x8x256, .f32⟩
  | 105 => ⟨S8x16x128x8x256, .f32⟩
  | 106 => ⟨S8x2048x8x256, .f32⟩
  | 107 => ⟨S8x2048x8x256, .f32⟩
  | 108 => ⟨S_, .f32⟩
  | 109 => ⟨S8x2048x8, .f32⟩
  | 110 => ⟨S8x2048x8x1, .f32⟩
  | 111 => ⟨S_, .f32⟩
  | 112 => ⟨S8x2048x8x1, .f32⟩
  | 113 => ⟨S8x2048x8x1, .f32⟩
  | 114 => ⟨S_, .f32⟩
  | 115 => ⟨S8x2048x8x1, .f32⟩
  | 116 => ⟨S8x2048x8x1, .f32⟩
  | 117 => ⟨S8x2048x8x1, .f32⟩
  | 118 => ⟨S8x2048x8x256, .f32⟩
  | 119 => ⟨S8x2048x8x256, .f32⟩
  | 120 => ⟨S8x2048x2048, .f32⟩
  | 121 => ⟨S8x2048x2048, .f32⟩
  | 122 => ⟨S_, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .f32⟩
  | _ => ⟨S8x2048x6144, .f32⟩

abbrev hbmTy0_2 (i : Nat) : BufTy := match i % 128 with
  | 0 => ⟨S8x2048x2048, .f32⟩
  | 1 => ⟨S8x2048x2048, .f32⟩
  | 2 => ⟨S8x2048x2048, .f32⟩
  | 3 => ⟨S8x2048x2048, .bf16⟩
  | 4 => ⟨S16384x2048, .bf16⟩
  | _ => ⟨S8x2048x6144, .f32⟩

abbrev hbmTy (i : Nat) : BufTy := match i / 128 with
  | 0 => hbmTy0_0 i
  | 1 => hbmTy0_1 i
  | 2 => hbmTy0_2 i
  | _ => ⟨S8x2048x6144, .f32⟩

abbrev bufTy : (tb : Table) → Fin (tcTables nBuf tb) → BufTy
  | .hbm, ⟨i, _⟩ => hbmTy i
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_4 : Ref sig .tc := ⟨.hbm, 84, rfl⟩
abbrev main_v77 : Ref sig .tc := ⟨.hbm, 85, rfl⟩
abbrev main_v78 : Ref sig .tc := ⟨.hbm, 86, rfl⟩
abbrev main_cst_5 : Ref sig .tc := ⟨.hbm, 87, rfl⟩
abbrev main_v79 : Ref sig .tc := ⟨.hbm, 88, rfl⟩
abbrev main_v80 : Ref sig .tc := ⟨.hbm, 89, rfl⟩
abbrev main_cst_6 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_call0_call0_cst : Ref sig .tc := ⟨.hbm, 98, rfl⟩
abbrev main_call0_call0_v0 : Ref sig .tc := ⟨.hbm, 99, rfl⟩
abbrev main_v88 : Ref sig .tc := ⟨.hbm, 100, rfl⟩
abbrev main_c : Ref sig .tc := ⟨.hbm, 101, rfl⟩
abbrev main_v89 : Ref sig .tc := ⟨.hbm, 102, rfl⟩
abbrev main_call1_v0 : Ref sig .tc := ⟨.hbm, 103, rfl⟩
abbrev main_call1_c : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_c_0 : Ref sig .tc := ⟨.hbm, 109, rfl⟩
abbrev main_call1_v5 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_7 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_cst_8 : Ref sig .tc := ⟨.hbm, 236, rfl⟩
abbrev main_v211 : Ref sig .tc := ⟨.hbm, 237, rfl⟩
abbrev main_v212 : Ref sig .tc := ⟨.hbm, 238, rfl⟩
abbrev main_cst_9 : Ref sig .tc := ⟨.hbm, 239, rfl⟩
abbrev main_v213 : Ref sig .tc := ⟨.hbm, 240, rfl⟩
abbrev main_v214 : Ref sig .tc := ⟨.hbm, 241, rfl⟩
abbrev main_cst_10 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_call3_v0 : Ref sig .tc := ⟨.hbm, 248, rfl⟩
abbrev main_call3_v1 : Ref sig .tc := ⟨.hbm, 249, rfl⟩
abbrev main_call3_cst : Ref sig .tc := ⟨.hbm, 250, rfl⟩
abbrev main_call3_v2 : Ref sig .tc := ⟨.hbm, 251, rfl⟩
abbrev main_call3_v3 : Ref sig .tc := ⟨.hbm, 252, rfl⟩
abbrev main_call3_cst_0 : Ref sig .tc := ⟨.hbm, 253, rfl⟩
abbrev main_call3_v4 : Ref sig .tc := ⟨.hbm, 254, rfl⟩
abbrev main_call3_v5 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩

abbrev nD : Nat := 1
abbrev τ : Topo := Topo.v7x

variable {F : FTy → Type} [FloatOps F]
-- ==== Glu.lean ====
abbrev S16384x2048 : Shape := ⟨2, ![16384, 2048]⟩
abbrev S2048x5632 : Shape := ⟨2, ![2048, 5632]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S16384x2048 : Shape := ⟨2, ![16384, 2048]⟩
abbrev S2048x5632 : Shape := ⟨2, ![2048, 5632]⟩
abbrev S16384x5632 : Shape := ⟨2, ![16384, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S16384x2048, .f32⟩
  | .hbm, ⟨4, _⟩ => ⟨S16384x5632, .f32⟩
  | .hbm, ⟨5, _⟩ => ⟨S16384x5632, .f32⟩
  | .hbm, ⟨6, _⟩ => ⟨S16384x5632, .f32⟩
  | .hbm, ⟨7, _⟩ => ⟨S_, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Dwn.lean ====
abbrev S16384x5632 : Shape := ⟨2, ![16384, 5632]⟩
abbrev S8x2048x2048 : Shape := ⟨3, ![8, 2048, 2048]⟩
abbrev S8x18432 : Shape := ⟨2, ![8, 18432]⟩
abbrev S5632x2048 : Shape := ⟨2, ![5632, 2048]⟩
abbrev S1x72x1x2048 : Shape := ⟨4, ![1, 72, 1, 2048]⟩
abbrev S16384x2048 : Shape := ⟨2, ![16384, 2048]⟩
abbrev S72x1x2048 : Shape := ⟨3, ![72, 1, 2048]⟩
abbrev S1024x1408 : Shape := ⟨2, ![1024, 1408]⟩
abbrev S1408x512 : Shape := ⟨2, ![1408, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S8x2048x2048, .f32⟩
  | .hbm, ⟨2, _⟩ => ⟨S8x18432, .f32⟩
  | .hbm, ⟨3, _⟩ => ⟨S5632x2048, .f32⟩
  | .hbm, ⟨4, _⟩ => ⟨S1x72x1x2048, .f32⟩
  | .hbm, ⟨5, _⟩ => ⟨S16384x2048, .f32⟩
  | .hbm, ⟨6, _⟩ => ⟨S72x1x2048, .f32⟩
  | .hbm, ⟨7, _⟩ => ⟨S16384x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .f32⟩
  | .local _ .vmem, ⟨3, _⟩ => ⟨S1408x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c2_i32 : BitVec 32 := 2#32
  let v19 : BitVec 32 := Scalar.addi v18 c2_i32
  let c0_i32_4 : BitVec 32 := 0#32
  let c0_i32_5 : BitVec 32 := 0#32
  ![v19.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DwnRefIdeal.lean ====
abbrev S16384x5632 : Shape := ⟨2, ![16384, 5632]⟩
abbrev S8x2048x2048 : Shape := ⟨3, ![8, 2048, 2048]⟩
abbrev S8x18432 : Shape := ⟨2, ![8, 18432]⟩
abbrev S5632x2048 : Shape := ⟨2, ![5632, 2048]⟩
abbrev S8x2048 : Shape := ⟨2, ![8, 2048]⟩
abbrev S8x1x2048 : Shape := ⟨3, ![8, 1, 2048]⟩
abbrev S8x2048x5632 : Shape := ⟨3, ![8, 2048, 5632]⟩
abbrev S_ : Shape := ⟨0, ![]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S8x2048x2048, .f32⟩
  | .hbm, ⟨2, _⟩ => ⟨S8x18432, .f32⟩
  | .hbm, ⟨3, _⟩ => ⟨S5632x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x1x2048, .f32⟩
  | .hbm, ⟨20, _⟩ => ⟨S8x1x2048, .f32⟩
  | .hbm, ⟨21, _⟩ => ⟨S8x1x2048, .f32⟩
  | .hbm, ⟨22, _⟩ => ⟨S16384x5632, .f32⟩
  | .hbm, ⟨23, _⟩ => ⟨S8x2048x5632, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Ing.lean ====
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IngIdeal.lean ====
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IngRefIdeal.lean ====
abbrev S16384x2048 : Shape := ⟨2, ![16384, 2048]⟩
abbrev S2048x6144 : Shape := ⟨2, ![2048, 6144]⟩
abbrev S16384x6144 : Shape := ⟨2, ![16384, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S16384x6144, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ins.lean ====
abbrev S16384x2048 : Shape := ⟨2, ![16384, 2048]⟩
abbrev S2048x5120 : Shape := ⟨2, ![2048, 5120]⟩
abbrev S16384x5120 : Shape := ⟨2, ![16384, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x5120, .f32⟩
  | .hbm, ⟨2, _⟩ => ⟨S16384x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InsIdeal.lean ====
abbrev S16384x2048 : Shape := ⟨2, ![16384, 2048]⟩
abbrev S2048x5120 : Shape := ⟨2, ![2048, 5120]⟩
abbrev S16384x5120 : Shape := ⟨2, ![16384, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x5120, .f32⟩
  | .hbm, ⟨2, _⟩ => ⟨S16384x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InsRefIdeal.lean ====
abbrev S16384x2048 : Shape := ⟨2, ![16384, 2048]⟩
abbrev S2048x5120 : Shape := ⟨2, ![2048, 5120]⟩
abbrev S16384x5120 : Shape := ⟨2, ![16384, 5120]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5120, .f32⟩
  | .hbm, ⟨2, _⟩ => ⟨S16384x2048, .f32⟩
  | .hbm, ⟨3, _⟩ => ⟨S16384x5120, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ina.lean ====
abbrev S16384x2048 : Shape := ⟨2, ![16384, 2048]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .f32⟩
  | .hbm, ⟨2, _⟩ => ⟨S16384x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InaRefIdeal.lean ====
abbrev S16384x2048 : Shape := ⟨2, ![16384, 2048]⟩
abbrev S2048x3072 : Shape := ⟨2, ![2048, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .f32⟩
  | .hbm, ⟨2, _⟩ => ⟨S16384x2048, .f32⟩
  | .hbm, ⟨3, _⟩ => ⟨S16384x3072, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mrg.lean ====
abbrev S16384x2048 : Shape := ⟨2, ![16384, 2048]⟩
abbrev S16384x6144 : Shape := ⟨2, ![16384, 6144]⟩
abbrev S3x2048x2048 : Shape := ⟨3, ![3, 2048, 2048]⟩
abbrev S1024x2048 : Shape := ⟨2, ![1024, 2048]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 6
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x6144, .f32⟩
  | .hbm, ⟨4, _⟩ => ⟨S3x2048x2048, .f32⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048x256, .f32⟩
  | .local _ .vmem, ⟨7, _⟩ => ⟨S1x2048x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let v1 : BitVec 32 := Scalar.addi v0 arg1
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MrgRefIdeal.lean ====
abbrev S16384x2048 : Shape := ⟨2, ![16384, 2048]⟩
abbrev S16384x6144 : Shape := ⟨2, ![16384, 6144]⟩
abbrev S3x2048x2048 : Shape := ⟨3, ![3, 2048, 2048]⟩
abbrev S16384x1x2048 : Shape := ⟨3, ![16384, 1, 2048]⟩
abbrev S16384x3x2048 : Shape := ⟨3, ![16384, 3, 2048]⟩
abbrev S3x2048x16384 : Shape := ⟨3, ![3, 2048, 16384]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x6144, .f32⟩
  | .hbm, ⟨4, _⟩ => ⟨S3x2048x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x1x2048, .f32⟩
  | .hbm, ⟨9, _⟩ => ⟨S16384x1x2048, .f32⟩
  | .hbm, ⟨10, _⟩ => ⟨S16384x1x2048, .f32⟩
  | .hbm, ⟨11, _⟩ => ⟨S16384x3x2048, .f32⟩
  | .hbm, ⟨12, _⟩ => ⟨S3x2048x16384, .f32⟩
  | .hbm, ⟨13, _⟩ => ⟨S16384x3x2048, .f32⟩
  | .hbm, ⟨14, _⟩ => ⟨S16384x3x2048, .f32⟩
  | .hbm, ⟨15, _⟩ => ⟨S16384x3x2048, .f32⟩
  | .hbm, ⟨16, _⟩ => ⟨S16384x3x2048, .f32⟩
  | .hbm, ⟨17, _⟩ => ⟨S_, .f32⟩
  | .hbm, ⟨18, _⟩ => ⟨S16384x3x2048, .f32⟩
  | .hbm, ⟨19, _⟩ => ⟨S16384x3x2048, .f32⟩
  | .hbm, ⟨20, _⟩ => ⟨S_, .f32⟩
  | .hbm, ⟨21, _⟩ => ⟨S16384x3x2048, .f32⟩
  | .hbm, ⟨22, _⟩ => ⟨S16384x3x2048, .f32⟩
  | .hbm, ⟨23, _⟩ => ⟨S16384x3x2048, .f32⟩
  | .hbm, ⟨24, _⟩ => ⟨S_, .f32⟩
  | .hbm, ⟨25, _⟩ => ⟨S16384x2048, .f32⟩
  | .hbm, ⟨26, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Opr.lean ====
abbrev S16384x2048 : Shape := ⟨2, ![16384, 2048]⟩
abbrev S8x2048x2048 : Shape := ⟨3, ![8, 2048, 2048]⟩
abbrev S8x18432 : Shape := ⟨2, ![8, 18432]⟩
abbrev S2048x2048 : Shape := ⟨2, ![2048, 2048]⟩
abbrev S1x72x1x2048 : Shape := ⟨4, ![1, 72, 1, 2048]⟩
abbrev S72x1x2048 : Shape := ⟨3, ![72, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S8x18432, .f32⟩
  | .hbm, ⟨3, _⟩ => ⟨S2048x2048, .f32⟩
  | .hbm, ⟨4, _⟩ => ⟨S1x72x1x2048, .f32⟩
  | .hbm, ⟨5, _⟩ => ⟨S16384x2048, .f32⟩
  | .hbm, ⟨6, _⟩ => ⟨S72x1x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c5_i32 : BitVec 32 := 5#32
  let v19 : BitVec 32 := Scalar.addi v18 c5_i32
  let c0_i32_4 : BitVec 32 := 0#32
  let c0_i32_5 : BitVec 32 := 0#32
  ![v19.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OprRefIdeal.lean ====
abbrev S16384x2048 : Shape := ⟨2, ![16384, 2048]⟩
abbrev S8x2048x2048 : Shape := ⟨3, ![8, 2048, 2048]⟩
abbrev S8x18432 : Shape := ⟨2, ![8, 18432]⟩
abbrev S2048x2048 : Shape := ⟨2, ![2048, 2048]⟩
abbrev S8x2048 : Shape := ⟨2, ![8, 2048]⟩
abbrev S8x1x2048 : Shape := ⟨3, ![8, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S8x18432, .f32⟩
  | .hbm, ⟨3, _⟩ => ⟨S2048x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x1x2048, .f32⟩
  | .hbm, ⟨20, _⟩ => ⟨S8x1x2048, .f32⟩
  | .hbm, ⟨21, _⟩ => ⟨S8x1x2048, .f32⟩
  | .hbm, ⟨22, _⟩ => ⟨S16384x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Nrm.lean ====
abbrev S8x2048x2048 : Shape := ⟨3, ![8, 2048, 2048]⟩
abbrev S8x18432 : Shape := ⟨2, ![8, 18432]⟩
abbrev S2048 : Shape := ⟨1, ![2048]⟩
abbrev S1x72x1x2048 : Shape := ⟨4, ![1, 72, 1, 2048]⟩
abbrev S16384x2048 : Shape := ⟨2, ![16384, 2048]⟩
abbrev S72x1x2048 : Shape := ⟨3, ![72, 1, 2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x18432, .f32⟩
  | .hbm, ⟨2, _⟩ => ⟨S2048, .f32⟩
  | .hbm, ⟨3, _⟩ => ⟨S1x72x1x2048, .f32⟩
  | .hbm, ⟨4, _⟩ => ⟨S16384x2048, .f32⟩
  | .hbm, ⟨5, _⟩ => ⟨S72x1x2048, .f32⟩
  | .hbm, ⟨6, _⟩ => ⟨S72x1x2048, .f32⟩
  | .hbm, ⟨7, _⟩ => ⟨S1x2048, .f32⟩
  | .hbm, ⟨8, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NrmRefIdeal.lean ====
abbrev S8x2048x2048 : Shape := ⟨3, ![8, 2048, 2048]⟩
abbrev S8x18432 : Shape := ⟨2, ![8, 18432]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x18432, .f32⟩
  | .hbm, ⟨2, _⟩ => ⟨S2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x1x2048, .f32⟩
  | .hbm, ⟨20, _⟩ => ⟨S8x1x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x1x2048, .f32⟩
  | .hbm, ⟨39, _⟩ => ⟨S8x1x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .bf16⟩
  | .hbm, ⟨45, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Fnp.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FnpRefIdeal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Fns.lean ====
abbrev S32x1x2048 : Shape := ⟨3, ![32, 1, 2048]⟩
abbrev S2048 : Shape := ⟨1, ![2048]⟩
abbrev S32x2048 : Shape := ⟨2, ![32, 2048]⟩
abbrev S1x2048 : Shape := ⟨2, ![1, 2048]⟩
abbrev S32 : Shape := ⟨1, ![32]⟩
abbrev S32x1 : Shape := ⟨2, ![32, 1]⟩

abbrev nBuf : Space → Nat
  | .hbm => 5
  | .vmem => 3
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S32x2048, .f32⟩
  | .hbm, ⟨3, _⟩ => ⟨S1x2048, .f32⟩
  | .hbm, ⟨4, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FnsRefIdeal.lean ====
abbrev S32x1x2048 : Shape := ⟨3, ![32, 1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x2048 : Shape := ⟨2, ![32, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048, .f32⟩
  | .hbm, ⟨2, _⟩ => ⟨S32x1x2048, .f32⟩
  | .hbm, ⟨3, _⟩ => ⟨S_, .f32⟩
  | .hbm, ⟨4, _⟩ => ⟨S32x1, .f32⟩
  | .hbm, ⟨5, _⟩ => ⟨S32x1x1, .f32⟩
  | .hbm, ⟨6, _⟩ => ⟨S_, .f32⟩
  | .hbm, ⟨7, _⟩ => ⟨S32x1x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S32x1x1, .f32⟩
  | .hbm, ⟨13, _⟩ => ⟨S32x1x2048, .f32⟩
  | .hbm, ⟨14, _⟩ => ⟨S32x1x2048, .f32⟩
  | .hbm, ⟨15, _⟩ => ⟨S1x1x2048, .f32⟩
  | .hbm, ⟨16, _⟩ => ⟨S32x1x2048, .f32⟩
  | .hbm, ⟨17, _⟩ => ⟨S32x1x2048, .f32⟩
  | .hbm, ⟨18, _⟩ => ⟨S32x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Rop.lean ====
abbrev S16384x3072 : Shape := ⟨2, ![16384, 3072]⟩
abbrev S16384x768 : Shape := ⟨2, ![16384, 768]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x2048x1x128 : Shape := ⟨4, ![1, 2048, 1, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S16384x2048 : Shape := ⟨2, ![16384, 2048]⟩
abbrev S16384x512 : Shape := ⟨2, ![16384, 512]⟩
abbrev S16384x64 : Shape := ⟨2, ![16384, 64]⟩
abbrev S16384x128 : Shape := ⟨2, ![16384, 128]⟩
abbrev S256x3072 : Shape := ⟨2, ![256, 3072]⟩
abbrev S256x768 : Shape := ⟨2, ![256, 768]⟩
abbrev S256x128 : Shape := ⟨2, ![256, 128]⟩
abbrev S256x2048 : Shape := ⟨2, ![256, 2048]⟩
abbrev S256x512 : Shape := ⟨2, ![256, 512]⟩
abbrev S256x64 : Shape := ⟨2, ![256, 64]⟩

abbrev nBuf : Space → Nat
  | .hbm => 83
  | .vmem => 36
  | .smem => 0
  | _ => 0

abbrev bufTy : (tb : Table) → Fin (tcTables nBuf tb) → BufTy
  | .hbm, ⟨0, _⟩ => ⟨S16384x3072, .f32⟩
  | .hbm, ⟨1, _⟩ => ⟨S16384x768, .f32⟩
  | .hbm, ⟨2, _⟩ => ⟨S2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2048, .f32⟩
  | .hbm, ⟨12, _⟩ => ⟨S2048x1, .f32⟩
  | .hbm, ⟨13, _⟩ => ⟨S1x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S_, .f32⟩
  | .hbm, ⟨20, _⟩ => ⟨S2048x96, .f32⟩
  | .hbm, ⟨21, _⟩ => ⟨S_, .f32⟩
  | .hbm, ⟨22, _⟩ => ⟨S2048x96, .f32⟩
  | .hbm, ⟨23, _⟩ => ⟨S_, .f32⟩
  | .hbm, ⟨24, _⟩ => ⟨S2048x16, .f32⟩
  | .hbm, ⟨25, _⟩ => ⟨S2048x128, .f32⟩
  | .hbm, ⟨26, _⟩ => ⟨S2048x16, .f32⟩
  | .hbm, ⟨27, _⟩ => ⟨S2048x128, .f32⟩
  | .hbm, ⟨28, _⟩ => ⟨S2048x128, .f32⟩
  | .hbm, ⟨29, _⟩ => ⟨S1x2048x1x128, .f32⟩
  | .hbm, ⟨30, _⟩ => ⟨S1x2048x1x128, .f32⟩
  | .hbm, ⟨31, _⟩ => ⟨S2048x128, .f32⟩
  | .hbm, ⟨32, _⟩ => ⟨S1x2048x1x128, .f32⟩
  | .hbm, ⟨33, _⟩ => ⟨S1x2048x1x128, .f32⟩
  | .hbm, ⟨34, _⟩ => ⟨S2048x128, .f32⟩
  | .hbm, ⟨35, _⟩ => ⟨S1x2048x1x128, .f32⟩
  | .hbm, ⟨36, _⟩ => ⟨S1x2048x1x128, .f32⟩
  | .hbm, ⟨37, _⟩ => ⟨S2048x128, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S2048, .f32⟩
  | .hbm, ⟨47, _⟩ => ⟨S2048x1, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S_, .f32⟩
  | .hbm, ⟨55, _⟩ => ⟨S2048x48, .f32⟩
  | .hbm, ⟨56, _⟩ => ⟨S_, .f32⟩
  | .hbm, ⟨57, _⟩ => ⟨S2048x48, .f32⟩
  | .hbm, ⟨58, _⟩ => ⟨S_, .f32⟩
  | .hbm, ⟨59, _⟩ => ⟨S2048x8, .f32⟩
  | .hbm, ⟨60, _⟩ => ⟨S2048x64, .f32⟩
  | .hbm, ⟨61, _⟩ => ⟨S2048x8, .f32⟩
  | .hbm, ⟨62, _⟩ => ⟨S2048x64, .f32⟩
  | .hbm, ⟨63, _⟩ => ⟨S2048x64, .f32⟩
  | .hbm, ⟨64, _⟩ => ⟨S1x2048x1x64, .f32⟩
  | .hbm, ⟨65, _⟩ => ⟨S1x2048x2x64, .f32⟩
  | .hbm, ⟨66, _⟩ => ⟨S2048x128, .f32⟩
  | .hbm, ⟨67, _⟩ => ⟨S1x2048x1x64, .f32⟩
  | .hbm, ⟨68, _⟩ => ⟨S1x2048x2x64, .f32⟩
  | .hbm, ⟨69, _⟩ => ⟨S2048x128, .f32⟩
  | .hbm, ⟨70, _⟩ => ⟨S1x2048x1x64, .f32⟩
  | .hbm, ⟨71, _⟩ => ⟨S1x2048x2x64, .f32⟩
  | .hbm, ⟨72, _⟩ => ⟨S2048x128, .f32⟩
  | .hbm, ⟨73, _⟩ => ⟨S16384x2048, .bf16⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x64, .f32⟩
  | .hbm, ⟨78, _⟩ => ⟨S16384x128, .f32⟩
  | .hbm, ⟨79, _⟩ => ⟨S16384x512, .bf16⟩
  | .hbm, ⟨80, _⟩ => ⟨S16384x512, .bf16⟩
  | .hbm, ⟨81, _⟩ => ⟨S16384x512, .bf16⟩
  | .hbm, ⟨82, _⟩ => ⟨S16384x64, .bf16⟩
  | .local _ .vmem, ⟨0, _⟩ => ⟨S256x3072, .f32⟩
  | .local _ .vmem, ⟨1, _⟩ => ⟨S256x3072, .f32⟩
  | .local _ .vmem, ⟨2, _⟩ => ⟨S256x768, .f32⟩
  | .local _ .vmem, ⟨3, _⟩ => ⟨S256x768, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x2048, .bf16⟩
  | .local _ .vmem, ⟨17, _⟩ => ⟨S256x2048, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x64, .f32⟩
  | .local _ .vmem, ⟨25, _⟩ => ⟨S256x64, .f32⟩
  | .local _ .vmem, ⟨26, _⟩ => ⟨S256x128, .f32⟩
  | .local _ .vmem, ⟨27, _⟩ => ⟨S256x128, .f32⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x64, .bf16⟩
  | .local _ .vmem, ⟨35, _⟩ => ⟨S256x64, .bf16⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61_0 : Ref sig .tc := ⟨.hbm, 73, rfl⟩
abbrev main_v61_1 : Ref sig .tc := ⟨.hbm, 74, rfl⟩
abbrev main_v61_2 : Ref sig .tc := ⟨.hbm, 75, rfl⟩
abbrev main_v61_3 : Ref sig .tc := ⟨.hbm, 76, rfl⟩
abbrev main_v61_4 : Ref sig .tc := ⟨.hbm, 77, rfl⟩
abbrev main_v61_5 : Ref sig .tc := ⟨.hbm, 78, rfl⟩
abbrev main_v61_6 : Ref sig .tc := ⟨.hbm, 79, rfl⟩
abbrev main_v61_7 : Ref sig .tc := ⟨.hbm, 80, rfl⟩
abbrev main_v61_8 : Ref sig .tc := ⟨.hbm, 81, rfl⟩
abbrev main_v61_9 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RopRefIdeal.lean ====
abbrev S16384x3072 : Shape := ⟨2, ![16384, 3072]⟩
abbrev S16384x768 : Shape := ⟨2, ![16384, 768]⟩
abbrev S8x2048x3072 : Shape := ⟨3, ![8, 2048, 3072]⟩
abbrev S8x2048x768 : Shape := ⟨3, ![8, 2048, 768]⟩
abbrev S2048 : Shape := ⟨1, ![2048]⟩
abbrev S8x2048x2048 : Shape := ⟨3, ![8, 2048, 2048]⟩
abbrev S8x2048x512 : Shape := ⟨3, ![8, 2048, 512]⟩
abbrev S8x2048x64 : Shape := ⟨3, ![8, 2048, 64]⟩
abbrev S8x2048x128 : Shape := ⟨3, ![8, 2048, 128]⟩
abbrev S8x2048x16x128 : Shape := ⟨4, ![8, 2048, 16, 128]⟩
abbrev S8x2048x16x32 : Shape := ⟨4, ![8, 2048, 16, 32]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x16x16 : Shape := ⟨4, ![8, 2048, 16, 16]⟩
abbrev S1x2048x1x16 : Shape := ⟨4, ![1, 2048, 1, 16]⟩
abbrev S8x2048x16x96 : Shape := ⟨4, ![8, 2048, 16, 96]⟩
abbrev S8x2048x4x128 : Shape := ⟨4, ![8, 2048, 4, 128]⟩
abbrev S8x2048x4x32 : Shape := ⟨4, ![8, 2048, 4, 32]⟩
abbrev S8x2048x4x16 : Shape := ⟨4, ![8, 2048, 4, 16]⟩
abbrev S8x2048x4x96 : Shape := ⟨4, ![8, 2048, 4, 96]⟩
abbrev S8x2048x8x64 : Shape := ⟨4, ![8, 2048, 8, 64]⟩
abbrev S8x2048x8x16 : Shape := ⟨4, ![8, 2048, 8, 16]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S8x2048x1x64 : Shape := ⟨4, ![8, 2048, 1, 64]⟩
abbrev S8x2048x1x16 : Shape := ⟨4, ![8, 2048, 1, 16]⟩
abbrev S8x2048x1x8 : Shape := ⟨4, ![8, 2048, 1, 8]⟩
abbrev S8x2048x1x48 : Shape := ⟨4, ![8, 2048, 1, 48]⟩
abbrev S16384x2048 : Shape := ⟨2, ![16384, 2048]⟩
abbrev S16384x512 : Shape := ⟨2, ![16384, 512]⟩
abbrev S16384x64 : Shape := ⟨2, ![16384, 64]⟩
abbrev S16384x128 : Shape := ⟨2, ![16384, 128]⟩

abbrev nBuf : Space → Nat
  | .hbm => 181
  | .vmem => 0
  | .smem => 0
  | _ => 0

abbrev hbmTy0_0 (i : Nat) : BufTy := match i % 128 with
  | 0 => ⟨S16384x3072, .f32⟩
  | 1 => ⟨S16384x768, .f32⟩
  | 2 => ⟨S8x2048x3072, .f32⟩
  | 3 => ⟨S8x2048x768, .f32⟩
  | 4 => ⟨S2048, .i32⟩
  | 5 => ⟨S8x2048x2048, .f32⟩
  | 6 => ⟨S8x2048x512, .f32⟩
  | 7 => ⟨S8x2048x512, .f32⟩
  | 8 => ⟨S8x2048x512, .f32⟩
  | 9 => ⟨S8x2048x64, .f32⟩
  | 10 => ⟨S8x2048x128, .f32⟩
  | 11 => ⟨S8x2048x16x128, .f32⟩
  | 12 => ⟨S8x2048x16x32, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S2048x1x16, .f32⟩
  | 29 => ⟨S2048x16, .f32⟩
  | 30 => ⟨S2048x1x16, .f32⟩
  | 31 => ⟨S8x2048x16x16, .f32⟩
  | 32 => ⟨S8x2048x16x16, .f32⟩
  | 33 => ⟨S1x2048x1x16, .f32⟩
  | 34 => ⟨S8x2048x16x16, .f32⟩
  | 35 => ⟨S8x2048x16x16, .f32⟩
  | 36 => ⟨S1x2048x1x16, .f32⟩
  | 37 => ⟨S8x2048x16x16, .f32⟩
  | 38 => ⟨S8x2048x16x16, .f32⟩
  | 39 => ⟨S8x2048x16x16, .f32⟩
  | 40 => ⟨S1x2048x1x16, .f32⟩
  | 41 => ⟨S8x2048x16x16, .f32⟩
  | 42 => ⟨S8x2048x16x16, .f32⟩
  | 43 => ⟨S1x2048x1x16, .f32⟩
  | 44 => ⟨S8x2048x16x16, .f32⟩
  | 45 => ⟨S8x2048x16x16, .f32⟩
  | 46 => ⟨S8x2048x16x16, .f32⟩
  | 47 => ⟨S8x2048x16x32, .f32⟩
  | 48 => ⟨S8x2048x16x96, .f32⟩
  | 49 => ⟨S8x2048x16x128, .f32⟩
  | 50 => ⟨S8x2048x4x128, .f32⟩
  | 51 => ⟨S8x2048x4x32, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048x16, .f32⟩
  | 67 => ⟨S2048x1x16, .f32⟩
  | 68 => ⟨S2048x16, .f32⟩
  | 69 => ⟨S2048x1x16, .f32⟩
  | 70 => ⟨S8x2048x4x16, .f32⟩
  | 71 => ⟨S8x2048x4x16, .f32⟩
  | 72 => ⟨S1x2048x1x16, .f32⟩
  | 73 => ⟨S8x2048x4x16, .f32⟩
  | 74 => ⟨S8x2048x4x16, .f32⟩
  | 75 => ⟨S1x2048x1x16, .f32⟩
  | 76 => ⟨S8x2048x4x16, .f32⟩
  | 77 => ⟨S8x2048x4x16, .f32⟩
  | 78 => ⟨S8x2048x4x16, .f32⟩
  | 79 => ⟨S1x2048x1x16, .f32⟩
  | 80 => ⟨S8x2048x4x16, .f32⟩
  | 81 => ⟨S8x2048x4x16, .f32⟩
  | 82 => ⟨S1x2048x1x16, .f32⟩
  | 83 => ⟨S8x2048x4x16, .f32⟩
  | 84 => ⟨S8x2048x4x16, .f32⟩
  | 85 => ⟨S8x2048x4x16, .f32⟩
  | 86 => ⟨S8x2048x4x32, .f32⟩
  | 87 => ⟨S8x2048x4x96, .f32⟩
  | 88 => ⟨S8x2048x4x128, .f32⟩
  | 89 => ⟨S8x2048x8x64, .f32⟩
  | 90 => ⟨S8x2048x8x16, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S2048, .f32⟩
  | 100 => ⟨S2048x1, .f32⟩
  | 101 => ⟨S1x8, .f32⟩
  | 102 => ⟨S2048x8, .f32⟩
  | 103 => ⟨S2048x8, .f32⟩
  | 104 => ⟨S2048x8, .f32⟩
  | 105 => ⟨S2048x8, .f32⟩
  | 106 => ⟨S2048x1x8, .f32⟩
  | 107 => ⟨S2048x8, .f32⟩
  | 108 => ⟨S2048x1x8, .f32⟩
  | 109 => ⟨S8x2048x8x8, .f32⟩
  | 110 => ⟨S8x2048x8x8, .f32⟩
  | 111 => ⟨S1x2048x1x8, .f32⟩
  | 112 => ⟨S8x2048x8x8, .f32⟩
  | 113 => ⟨S8x2048x8x8, .f32⟩
  | 114 => ⟨S1x2048x1x8, .f32⟩
  | 115 => ⟨S8x2048x8x8, .f32⟩
  | 116 => ⟨S8x2048x8x8, .f32⟩
  | 117 => ⟨S8x2048x8x8, .f32⟩
  | 118 => ⟨S1x2048x1x8, .f32⟩
  | 119 => ⟨S8x2048x8x8, .f32⟩
  | 120 => ⟨S8x2048x8x8, .f32⟩
  | 121 => ⟨S1x2048x1x8, .f32⟩
  | 122 => ⟨S8x2048x8x8, .f32⟩
  | 123 => ⟨S8x2048x8x8, .f32⟩
  | 124 => ⟨S8x2048x8x8, .f32⟩
  | 125 => ⟨S8x2048x8x16, .f32⟩
  | 126 => ⟨S8x2048x8x48, .f32⟩
  | 127 => ⟨S8x2048x8x64, .f32⟩
  | _ => ⟨S16384x3072, .f32⟩

abbrev hbmTy0_1 (i : Nat) : BufTy := match i % 128 with
  | 0 => ⟨S8x2048x1x64, .f32⟩
  | 1 => ⟨S8x2048x1x16, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S2048, .f32⟩
  | 11 => ⟨S2048x1, .f32⟩
  | 12 => ⟨S1x8, .f32⟩
  | 13 => ⟨S2048x8, .f32⟩
  | 14 => ⟨S2048x8, .f32⟩
  | 15 => ⟨S2048x8, .f32⟩
  | 16 => ⟨S2048x8, .f32⟩
  | 17 => ⟨S2048x1x8, .f32⟩
  | 18 => ⟨S2048x8, .f32⟩
  | 19 => ⟨S2048x1x8, .f32⟩
  | 20 => ⟨S8x2048x1x8, .f32⟩
  | 21 => ⟨S8x2048x1x8, .f32⟩
  | 22 => ⟨S1x2048x1x8, .f32⟩
  | 23 => ⟨S8x2048x1x8, .f32⟩
  | 24 => ⟨S8x2048x1x8, .f32⟩
  | 25 => ⟨S1x2048x1x8, .f32⟩
  | 26 => ⟨S8x2048x1x8, .f32⟩
  | 27 => ⟨S8x2048x1x8, .f32⟩
  | 28 => ⟨S8x2048x1x8, .f32⟩
  | 29 => ⟨S1x2048x1x8, .f32⟩
  | 30 => ⟨S8x2048x1x8, .f32⟩
  | 31 => ⟨S8x2048x1x8, .f32⟩
  | 32 => ⟨S1x2048x1x8, .f32⟩
  | 33 => ⟨S8x2048x1x8, .f32⟩
  | 34 => ⟨S8x2048x1x8, .f32⟩
  | 35 => ⟨S8x2048x1x8, .f32⟩
  | 36 => ⟨S8x2048x1x16, .f32⟩
  | 37 => ⟨S8x2048x1x48, .f32⟩
  | 38 => ⟨S8x2048x1x64, .f32⟩
  | 39 => ⟨S_, .f32⟩
  | 40 => ⟨S8x2048x128, .f32⟩
  | 41 => ⟨S8x2048x128, .f32⟩
  | 42 => ⟨S16384x2048, .f32⟩
  | 43 => ⟨S16384x512, .f32⟩
  | 44 => ⟨S16384x512, .f32⟩
  | 45 => ⟨S16384x512, .f32⟩
  | 46 => ⟨S16384x64, .f32⟩
  | 47 => ⟨S16384x128, .f32⟩
  | 48 => ⟨S16384x2048, .bf16⟩
  | 49 => ⟨S16384x512, .bf16⟩
  | 50 => ⟨S16384x512, .bf16⟩
  | 51 => ⟨S16384x512, .bf16⟩
  | 52 => ⟨S16384x64, .bf16⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_cst_3 : Ref sig .tc := ⟨.hbm, 93, rfl⟩
abbrev main_v87 : Ref sig .tc := ⟨.hbm, 94, rfl⟩
abbrev main_v88 : Ref sig .tc := ⟨.hbm, 95, rfl⟩
abbrev main_cst_4 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_cst_5 : Ref sig .tc := ⟨.hbm, 132, rfl⟩
abbrev main_v124 : Ref sig .tc := ⟨.hbm, 133, rfl⟩
abbrev main_v125 : Ref sig .tc := ⟨.hbm, 134, rfl⟩
abbrev main_cst_6 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_cst_7 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩

abbrev nD : Nat := 1
abbrev τ : Topo := Topo.v7x

variable {F : FTy → Type} [FloatOps F]
-- ==== Ros.lean ====
abbrev S32x3072 : Shape := ⟨2, ![32, 3072]⟩
abbrev S32x768 : Shape := ⟨2, ![32, 768]⟩
abbrev S_ : Shape := ⟨0, ![]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x128 : Shape := ⟨2, ![32, 128]⟩
abbrev S1x32x1x128 : Shape := ⟨4, ![1, 32, 1, 128]⟩
abbrev S8 : Shape := ⟨1, ![8]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x2048 : Shape := ⟨2, ![32, 2048]⟩
abbrev S32x512 : Shape := ⟨2, ![32, 512]⟩

abbrev nBuf : Space → Nat
  | .hbm => 84
  | .vmem => 18
  | .smem => 0
  | _ => 0

abbrev bufTy : (tb : Table) → Fin (tcTables nBuf tb) → BufTy
  | .hbm, ⟨0, _⟩ => ⟨S32x3072, .f32⟩
  | .hbm, ⟨1, _⟩ => ⟨S32x768, .f32⟩
  | .hbm, ⟨2, _⟩ => ⟨S_, .i32⟩
  | .hbm, ⟨3, _⟩ => ⟨S32, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S32, .f32⟩
  | .hbm, ⟨13, _⟩ => ⟨S32x1, .f32⟩
  | .hbm, ⟨14, _⟩ => ⟨S1x16, .f32⟩
  | .hbm, ⟨15, _⟩ => ⟨S32x16, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S32x16, .f32⟩
  | .hbm, ⟨20, _⟩ => ⟨S_, .f32⟩
  | .hbm, ⟨21, _⟩ => ⟨S32x96, .f32⟩
  | .hbm, ⟨22, _⟩ => ⟨S_, .f32⟩
  | .hbm, ⟨23, _⟩ => ⟨S32x96, .f32⟩
  | .hbm, ⟨24, _⟩ => ⟨S_, .f32⟩
  | .hbm, ⟨25, _⟩ => ⟨S32x16, .f32⟩
  | .hbm, ⟨26, _⟩ => ⟨S32x128, .f32⟩
  | .hbm, ⟨27, _⟩ => ⟨S32x16, .f32⟩
  | .hbm, ⟨28, _⟩ => ⟨S32x128, .f32⟩
  | .hbm, ⟨29, _⟩ => ⟨S32x128, .f32⟩
  | .hbm, ⟨30, _⟩ => ⟨S1x32x1x128, .f32⟩
  | .hbm, ⟨31, _⟩ => ⟨S1x32x1x128, .f32⟩
  | .hbm, ⟨32, _⟩ => ⟨S32x128, .f32⟩
  | .hbm, ⟨33, _⟩ => ⟨S1x32x1x128, .f32⟩
  | .hbm, ⟨34, _⟩ => ⟨S1x32x1x128, .f32⟩
  | .hbm, ⟨35, _⟩ => ⟨S32x128, .f32⟩
  | .hbm, ⟨36, _⟩ => ⟨S1x32x1x128, .f32⟩
  | .hbm, ⟨37, _⟩ => ⟨S1x32x1x128, .f32⟩
  | .hbm, ⟨38, _⟩ => ⟨S32x128, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S32, .f32⟩
  | .hbm, ⟨48, _⟩ => ⟨S32x1, .f32⟩
  | .hbm, ⟨49, _⟩ => ⟨S1x8, .f32⟩
  | .hbm, ⟨50, _⟩ => ⟨S32x8, .f32⟩
  | .hbm, ⟨51, _⟩ => ⟨S32x8, .f32⟩
  | .hbm, ⟨52, _⟩ => ⟨S32x8, .f32⟩
  | .hbm, ⟨53, _⟩ => ⟨S32x8, .f32⟩
  | .hbm, ⟨54, _⟩ => ⟨S32x8, .f32⟩
  | .hbm, ⟨55, _⟩ => ⟨S_, .f32⟩
  | .hbm, ⟨56, _⟩ => ⟨S32x48, .f32⟩
  | .hbm, ⟨57, _⟩ => ⟨S_, .f32⟩
  | .hbm, ⟨58, _⟩ => ⟨S32x48, .f32⟩
  | .hbm, ⟨59, _⟩ => ⟨S_, .f32⟩
  | .hbm, ⟨60, _⟩ => ⟨S32x8, .f32⟩
  | .hbm, ⟨61, _⟩ => ⟨S32x64, .f32⟩
  | .hbm, ⟨62, _⟩ => ⟨S32x8, .f32⟩
  | .hbm, ⟨63, _⟩ => ⟨S32x64, .f32⟩
  | .hbm, ⟨64, _⟩ => ⟨S32x64, .f32⟩
  | .hbm, ⟨65, _⟩ => ⟨S1x32x1x64, .f32⟩
  | .hbm, ⟨66, _⟩ => ⟨S1x32x2x64, .f32⟩
  | .hbm, ⟨67, _⟩ => ⟨S32x128, .f32⟩
  | .hbm, ⟨68, _⟩ => ⟨S1x32x1x64, .f32⟩
  | .hbm, ⟨69, _⟩ => ⟨S1x32x2x64, .f32⟩
  | .hbm, ⟨70, _⟩ => ⟨S32x128, .f32⟩
  | .hbm, ⟨71, _⟩ => ⟨S1x32x1x64, .f32⟩
  | .hbm, ⟨72, _⟩ => ⟨S1x32x2x64, .f32⟩
  | .hbm, ⟨73, _⟩ => ⟨S32x128, .f32⟩
  | .hbm, ⟨74, _⟩ => ⟨S32x2048, .bf16⟩
  | .hbm, ⟨75, _⟩ => ⟨S32x512, .f32⟩
  | .hbm, ⟨76, _⟩ => ⟨S32x512, .f32⟩
  | .hbm, ⟨77, _⟩ => ⟨S32x512, .f32⟩
  | .hbm, ⟨78, _⟩ => ⟨S32x64, .f32⟩
  | .hbm, ⟨79, _⟩ => ⟨S32x128, .f32⟩
  | .hbm, ⟨80, _⟩ => ⟨S32x512, .bf16⟩
  | .hbm, ⟨81, _⟩ => ⟨S32x512, .bf16⟩
  | .hbm, ⟨82, _⟩ => ⟨S32x512, .bf16⟩
  | .hbm, ⟨83, _⟩ => ⟨S32x64, .bf16⟩
  | .local _ .vmem, ⟨0, _⟩ => ⟨S32x3072, .f32⟩
  | .local _ .vmem, ⟨1, _⟩ => ⟨S32x768, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x2048, .bf16⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x64, .f32⟩
  | .local _ .vmem, ⟨13, _⟩ => ⟨S32x128, .f32⟩
  | .local _ .vmem, ⟨14, _⟩ => ⟨S32x512, .bf16⟩
  | .local _ .vmem, ⟨15, _⟩ => ⟨S32x512, .bf16⟩
  | .local _ .vmem, ⟨16, _⟩ => ⟨S32x512, .bf16⟩
  | .local _ .vmem, ⟨17, _⟩ => ⟨S32x64, .bf16⟩
  | _, _ => ⟨S32x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61_0 : Ref sig .tc := ⟨.hbm, 74, rfl⟩
abbrev main_v61_1 : Ref sig .tc := ⟨.hbm, 75, rfl⟩
abbrev main_v61_2 : Ref sig .tc := ⟨.hbm, 76, rfl⟩
abbrev main_v61_3 : Ref sig .tc := ⟨.hbm, 77, rfl⟩
abbrev main_v61_4 : Ref sig .tc := ⟨.hbm, 78, rfl⟩
abbrev main_v61_5 : Ref sig .tc := ⟨.hbm, 79, rfl⟩
abbrev main_v61_6 : Ref sig .tc := ⟨.hbm, 80, rfl⟩
abbrev main_v61_7 : Ref sig .tc := ⟨.hbm, 81, rfl⟩
abbrev main_v61_8 : Ref sig .tc := ⟨.hbm, 82, rfl⟩
abbrev main_v61_9 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== RosRefIdeal.lean ====
abbrev S32x3072 : Shape := ⟨2, ![32, 3072]⟩
abbrev S32x768 : Shape := ⟨2, ![32, 768]⟩
abbrev S32x1x3072 : Shape := ⟨3, ![32, 1, 3072]⟩
abbrev S32x1x768 : Shape := ⟨3, ![32, 1, 768]⟩
abbrev S1 : Shape := ⟨1, ![1]⟩
abbrev S_ : Shape := ⟨0, ![]⟩
abbrev S32x1x2048 : Shape := ⟨3, ![32, 1, 2048]⟩
abbrev S32x1x512 : Shape := ⟨3, ![32, 1, 512]⟩
abbrev S32x1x64 : Shape := ⟨3, ![32, 1, 64]⟩
abbrev S32x1x128 : Shape := ⟨3, ![32, 1, 128]⟩
abbrev S32x1x16x128 : Shape := ⟨4, ![32, 1, 16, 128]⟩
abbrev S32x1x16x32 : Shape := ⟨4, ![32, 1, 16, 32]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S32x1x16x16 : Shape := ⟨4, ![32, 1, 16, 16]⟩
abbrev S1x1x1x16 : Shape := ⟨4, ![1, 1, 1, 16]⟩
abbrev S32x1x16x96 : Shape := ⟨4, ![32, 1, 16, 96]⟩
abbrev S32x1x4x128 : Shape := ⟨4, ![32, 1, 4, 128]⟩
abbrev S32x1x4x32 : Shape := ⟨4, ![32, 1, 4, 32]⟩
abbrev S32x1x4x16 : Shape := ⟨4, ![32, 1, 4, 16]⟩
abbrev S32x1x4x96 : Shape := ⟨4, ![32, 1, 4, 96]⟩
abbrev S32x1x8x64 : Shape := ⟨4, ![32, 1, 8, 64]⟩
abbrev S32x1x8x16 : Shape := ⟨4, ![32, 1, 8, 16]⟩
abbrev S8 : Shape := ⟨1, ![8]⟩
abbrev S1x8 : Shape := ⟨2, ![1, 8]⟩
abbrev S1x1x8 : Shape := ⟨3, ![1, 1, 8]⟩
abbrev S32x1x8x8 : Shape := ⟨4, ![32, 1, 8, 8]⟩
abbrev S1x1x1x8 : Shape := ⟨4, ![1, 1, 1, 8]⟩
abbrev S32x1x8x48 : Shape := ⟨4, ![32, 1, 8, 48]⟩
abbrev S32x1x1x64 : Shape := ⟨4, ![32, 1, 1, 64]⟩
abbrev S32x1x1x16 : Shape := ⟨4, ![32, 1, 1, 16]⟩
abbrev S32x1x1x8 : Shape := ⟨4, ![32, 1, 1, 8]⟩
abbrev S32x1x1x48 : Shape := ⟨4, ![32, 1, 1, 48]⟩
abbrev S32x2048 : Shape := ⟨2, ![32, 2048]⟩
abbrev S32x512 : Shape := ⟨2, ![32, 512]⟩
abbrev S32x64 : Shape := ⟨2, ![32, 64]⟩
abbrev S32x128 : Shape := ⟨2, ![32, 128]⟩

abbrev nBuf : Space → Nat
  | .hbm => 176
  | .vmem => 0
  | .smem => 0
  | _ => 0

abbrev hbmTy0_0 (i : Nat) : BufTy := match i % 128 with
  | 0 => ⟨S32x3072, .f32⟩
  | 1 => ⟨S32x768, .f32⟩
  | 2 => ⟨S32x1x3072, .f32⟩
  | 3 => ⟨S32x1x768, .f32⟩
  | 4 => ⟨S1, .i32⟩
  | 5 => ⟨S_, .i32⟩
  | 6 => ⟨S1, .i32⟩
  | 7 => ⟨S1, .i32⟩
  | 8 => ⟨S32x1x2048, .f32⟩
  | 9 => ⟨S32x1x512, .f32⟩
  | 10 => ⟨S32x1x512, .f32⟩
  | 11 => ⟨S32x1x512, .f32⟩
  | 12 => ⟨S32x1x64, .f32⟩
  | 13 => ⟨S32x1x128, .f32⟩
  | 14 => ⟨S32x1x16x128, .f32⟩
  | 15 => ⟨S32x1x16x32, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S1, .f32⟩
  | 25 => ⟨S1x1, .f32⟩
  | 26 => ⟨S1x16, .f32⟩
  | 27 => ⟨S1x16, .f32⟩
  | 28 => ⟨S1x16, .f32⟩
  | 29 => ⟨S1x16, .f32⟩
  | 30 => ⟨S1x1x16, .f32⟩
  | 31 => ⟨S1x16, .f32⟩
  | 32 => ⟨S1x1x16, .f32⟩
  | 33 => ⟨S32x1x16x16, .f32⟩
  | 34 => ⟨S32x1x16x16, .f32⟩
  | 35 => ⟨S1x1x1x16, .f32⟩
  | 36 => ⟨S32x1x16x16, .f32⟩
  | 37 => ⟨S32x1x16x16, .f32⟩
  | 38 => ⟨S1x1x1x16, .f32⟩
  | 39 => ⟨S32x1x16x16, .f32⟩
  | 40 => ⟨S32x1x16x16, .f32⟩
  | 41 => ⟨S32x1x16x16, .f32⟩
  | 42 => ⟨S1x1x1x16, .f32⟩
  | 43 => ⟨S32x1x16x16, .f32⟩
  | 44 => ⟨S32x1x16x16, .f32⟩
  | 45 => ⟨S1x1x1x16, .f32⟩
  | 46 => ⟨S32x1x16x16, .f32⟩
  | 47 => ⟨S32x1x16x16, .f32⟩
  | 48 => ⟨S32x1x16x16, .f32⟩
  | 49 => ⟨S32x1x16x32, .f32⟩
  | 50 => ⟨S32x1x16x96, .f32⟩
  | 51 => ⟨S32x1x16x128, .f32⟩
  | 52 => ⟨S32x1x4x128, .f32⟩
  | 53 => ⟨S32x1x4x32, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S1, .f32⟩
  | 63 => ⟨S1x1, .f32⟩
  | 64 => ⟨S1x16, .f32⟩
  | 65 => ⟨S1x16, .f32⟩
  | 66 => ⟨S1x16, .f32⟩
  | 67 => ⟨S1x16, .f32⟩
  | 68 => ⟨S1x1x16, .f32⟩
  | 69 => ⟨S1x16, .f32⟩
  | 70 => ⟨S1x1x16, .f32⟩
  | 71 => ⟨S32x1x4x16, .f32⟩
  | 72 => ⟨S32x1x4x16, .f32⟩
  | 73 => ⟨S1x1x1x16, .f32⟩
  | 74 => ⟨S32x1x4x16, .f32⟩
  | 75 => ⟨S32x1x4x16, .f32⟩
  | 76 => ⟨S1x1x1x16, .f32⟩
  | 77 => ⟨S32x1x4x16, .f32⟩
  | 78 => ⟨S32x1x4x16, .f32⟩
  | 79 => ⟨S32x1x4x16, .f32⟩
  | 80 => ⟨S1x1x1x16, .f32⟩
  | 81 => ⟨S32x1x4x16, .f32⟩
  | 82 => ⟨S32x1x4x16, .f32⟩
  | 83 => ⟨S1x1x1x16, .f32⟩
  | 84 => ⟨S32x1x4x16, .f32⟩
  | 85 => ⟨S32x1x4x16, .f32⟩
  | 86 => ⟨S32x1x4x16, .f32⟩
  | 87 => ⟨S32x1x4x32, .f32⟩
  | 88 => ⟨S32x1x4x96, .f32⟩
  | 89 => ⟨S32x1x4x128, .f32⟩
  | 90 => ⟨S32x1x8x64, .f32⟩
  | 91 => ⟨S32x1x8x16, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S1, .f32⟩
  | 101 => ⟨S1x1, .f32⟩
  | 102 => ⟨S1x8, .f32⟩
  | 103 => ⟨S1x8, .f32⟩
  | 104 => ⟨S1x8, .f32⟩
  | 105 => ⟨S1x8, .f32⟩
  | 106 => ⟨S1x1x8, .f32⟩
  | 107 => ⟨S1x8, .f32⟩
  | 108 => ⟨S1x1x8, .f32⟩
  | 109 => ⟨S32x1x8x8, .f32⟩
  | 110 => ⟨S32x1x8x8, .f32⟩
  | 111 => ⟨S1x1x1x8, .f32⟩
  | 112 => ⟨S32x1x8x8, .f32⟩
  | 113 => ⟨S32x1x8x8, .f32⟩
  | 114 => ⟨S1x1x1x8, .f32⟩
  | 115 => ⟨S32x1x8x8, .f32⟩
  | 116 => ⟨S32x1x8x8, .f32⟩
  | 117 => ⟨S32x1x8x8, .f32⟩
  | 118 => ⟨S1x1x1x8, .f32⟩
  | 119 => ⟨S32x1x8x8, .f32⟩
  | 120 => ⟨S32x1x8x8, .f32⟩
  | 121 => ⟨S1x1x1x8, .f32⟩
  | 122 => ⟨S32x1x8x8, .f32⟩
  | 123 => ⟨S32x1x8x8, .f32⟩
  | 124 => ⟨S32x1x8x8, .f32⟩
  | 125 => ⟨S32x1x8x16, .f32⟩
  | 126 => ⟨S32x1x8x48, .f32⟩
  | 127 => ⟨S32x1x8x64, .f32⟩
  | _ => ⟨S32x3072, .f32⟩

abbrev hbmTy0_1 (i : Nat) : BufTy := match i % 128 with
  | 0 => ⟨S32x1x1x64, .f32⟩
  | 1 => ⟨S32x1x1x16, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S1, .f32⟩
  | 11 => ⟨S1x1, .f32⟩
  | 12 => ⟨S1x8, .f32⟩
  | 13 => ⟨S1x8, .f32⟩
  | 14 => ⟨S1x8, .f32⟩
  | 15 => ⟨S1x8, .f32⟩
  | 16 => ⟨S1x1x8, .f32⟩
  | 17 => ⟨S1x8, .f32⟩
  | 18 => ⟨S1x1x8, .f32⟩
  | 19 => ⟨S32x1x1x8, .f32⟩
  | 20 => ⟨S32x1x1x8, .f32⟩
  | 21 => ⟨S1x1x1x8, .f32⟩
  | 22 => ⟨S32x1x1x8, .f32⟩
  | 23 => ⟨S32x1x1x8, .f32⟩
  | 24 => ⟨S1x1x1x8, .f32⟩
  | 25 => ⟨S32x1x1x8, .f32⟩
  | 26 => ⟨S32x1x1x8, .f32⟩
  | 27 => ⟨S32x1x1x8, .f32⟩
  | 28 => ⟨S1x1x1x8, .f32⟩
  | 29 => ⟨S32x1x1x8, .f32⟩
  | 30 => ⟨S32x1x1x8, .f32⟩
  | 31 => ⟨S1x1x1x8, .f32⟩
  | 32 => ⟨S32x1x1x8, .f32⟩
  | 33 => ⟨S32x1x1x8, .f32⟩
  | 34 => ⟨S32x1x1x8, .f32⟩
  | 35 => ⟨S32x1x1x16, .f32⟩
  | 36 => ⟨S32x1x1x48, .f32⟩
  | 37 => ⟨S32x1x1x64, .f32⟩
  | 38 => ⟨S_, .f32⟩
  | 39 => ⟨S32x1x128, .f32⟩
  | 40 => ⟨S32x1x128, .f32⟩
  | 41 => ⟨S32x2048, .f32⟩
  | 42 => ⟨S32x512, .f32⟩
  | 43 => ⟨S32x512, .f32⟩
  | 44 => ⟨S32x512, .f32⟩
  | 45 => ⟨S32x64, .f32⟩
  | 46 => ⟨S32x128, .f32⟩
  | 47 => ⟨S32x2048, .bf16⟩
  | _ => ⟨S32x3072, .f32⟩

abbrev hbmTy (i : Nat) : BufTy := match i / 128 with
  | 0 => hbmTy0_0 i
  | 1 => hbmTy0_1 i
  | _ => ⟨S32x3072, .f32⟩

abbrev bufTy : (tb : Table) → Fin (tcTables nBuf tb) → BufTy
  | .hbm, ⟨i, _⟩ => hbmTy i
  | _, _ => ⟨S32x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_1 : Ref sig .tc := ⟨.hbm, 56, rfl⟩
abbrev main_v51 : Ref sig .tc := ⟨.hbm, 57, rfl⟩
abbrev main_v52 : Ref sig .tc := ⟨.hbm, 58, rfl⟩
abbrev main_cst_2 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_cst_3 : Ref sig .tc := ⟨.hbm, 94, rfl⟩
abbrev main_v87 : Ref sig .tc := ⟨.hbm, 95, rfl⟩
abbrev main_v88 : Ref sig .tc := ⟨.hbm, 96, rfl⟩
abbrev main_cst_4 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_cst_5 : Ref sig .tc := ⟨.hbm, 132, rfl⟩
abbrev main_v123 : Ref sig .tc := ⟨.hbm, 133, rfl⟩
abbrev main_v124 : Ref sig .tc := ⟨.hbm, 134, rfl⟩
abbrev main_cst_6 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_cst_7 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩

abbrev nD : Nat := 1
abbrev τ : Topo := Topo.v7x

variable {F : FTy → Type} [FloatOps F]
-- ==== Spr.lean ====
abbrev S32x5120 : Shape := ⟨2, ![32, 5120]⟩
abbrev S32x128 : Shape := ⟨2, ![32, 128]⟩
abbrev S32x3x3072 : Shape := ⟨3, ![32, 3, 3072]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S1x3072 : Shape := ⟨2, ![1, 3072]⟩
abbrev S96 : Shape := ⟨1, ![96]⟩
abbrev S1x128 : Shape := ⟨2, ![1, 128]⟩
abbrev S3x32x3072 : Shape := ⟨3, ![3, 32, 3072]⟩
abbrev S32x2048 : Shape := ⟨2, ![32, 2048]⟩
abbrev S32x512 : Shape := ⟨2, ![32, 512]⟩
abbrev S32x3072 : Shape := ⟨2, ![32, 3072]⟩
abbrev S1x32x3072 : Shape := ⟨3, ![1, 32, 3072]⟩

abbrev nBuf : Space → Nat
  | .hbm => 49
  | .vmem => 14
  | .smem => 0
  | _ => 0

abbrev bufTy : (tb : Table) → Fin (tcTables nBuf tb) → BufTy
  | .hbm, ⟨0, _⟩ => ⟨S32x5120, .f32⟩
  | .hbm, ⟨1, _⟩ => ⟨S32x128, .f32⟩
  | .hbm, ⟨2, _⟩ => ⟨S32x3x3072, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S128, .i32⟩
  | .hbm, ⟨27, _⟩ => ⟨S128x1, .i32⟩
  | .hbm, ⟨28, _⟩ => ⟨S1x2048, .i32⟩
  | .hbm, ⟨29, _⟩ => ⟨S128x2048, .i32⟩
  | .hbm, ⟨30, _⟩ => ⟨S128x2048, .i32⟩
  | .hbm, ⟨31, _⟩ => ⟨S128x2048, .i1⟩
  | .hbm, ⟨32, _⟩ => ⟨S128x2048, .bf16⟩
  | .hbm, ⟨33, _⟩ => ⟨S1x3072, .f32⟩
  | .hbm, ⟨34, _⟩ => ⟨S_, .f32⟩
  | .hbm, ⟨35, _⟩ => ⟨S96, .f32⟩
  | .hbm, ⟨36, _⟩ => ⟨S128, .f32⟩
  | .hbm, ⟨37, _⟩ => ⟨S1x128, .f32⟩
  | .hbm, ⟨38, _⟩ => ⟨S_, .f32⟩
  | .hbm, ⟨39, _⟩ => ⟨S96, .f32⟩
  | .hbm, ⟨40, _⟩ => ⟨S128, .f32⟩
  | .hbm, ⟨41, _⟩ => ⟨S1x128, .f32⟩
  | .hbm, ⟨42, _⟩ => ⟨S3x32x3072, .f32⟩
  | .hbm, ⟨43, _⟩ => ⟨S3x32x3072, .f32⟩
  | .hbm, ⟨44, _⟩ => ⟨S32x2048, .f32⟩
  | .hbm, ⟨45, _⟩ => ⟨S32x2048, .f32⟩
  | .hbm, ⟨46, _⟩ => ⟨S32x2048, .f32⟩
  | .hbm, ⟨47, _⟩ => ⟨S32x512, .f32⟩
  | .hbm, ⟨48, _⟩ => ⟨S32x512, .f32⟩
  | .local _ .vmem, ⟨0, _⟩ => ⟨S32x5120, .f32⟩
  | .local _ .vmem, ⟨1, _⟩ => ⟨S32x128, .f32⟩
  | .local _ .vmem, ⟨2, _⟩ => ⟨S3x32x3072, .f32⟩
  | .local _ .vmem, ⟨3, _⟩ => ⟨S4x3072, .f32⟩
  | .local _ .vmem, ⟨4, _⟩ => ⟨S1x3072, .f32⟩
  | .local _ .vmem, ⟨5, _⟩ => ⟨S1x128, .f32⟩
  | .local _ .vmem, ⟨6, _⟩ => ⟨S1x128, .f32⟩
  | .local _ .vmem, ⟨7, _⟩ => ⟨S128x2048, .bf16⟩
  | .local _ .vmem, ⟨8, _⟩ => ⟨S3x32x3072, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S32x512, .f32⟩
  | .local _ .vmem, ⟨13, _⟩ => ⟨S32x512, .f32⟩
  | _, _ => ⟨S32x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_v17_3 : Ref sig .tc := ⟨.hbm, 46, rfl⟩
abbrev main_v17_4 : Ref sig .tc := ⟨.hbm, 47, rfl⟩
abbrev main_v17_5 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x32x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x32x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== SprRefIdeal.lean ====
abbrev S32x5120 : Shape := ⟨2, ![32, 5120]⟩
abbrev S32x128 : Shape := ⟨2, ![32, 128]⟩
abbrev S32x3x3072 : Shape := ⟨3, ![32, 3, 3072]⟩
abbrev S4x3072 : Shape := ⟨2, ![4, 3072]⟩
abbrev S3072 : Shape := ⟨1, ![3072]⟩
abbrev S32 : Shape := ⟨1, ![32]⟩
abbrev S32x3072 : Shape := ⟨2, ![32, 3072]⟩
abbrev S32x1x3072 : Shape := ⟨3, ![32, 1, 3072]⟩
abbrev S32x4x3072 : Shape := ⟨3, ![32, 4, 3072]⟩
abbrev S1x3072 : Shape := ⟨2, ![1, 3072]⟩
abbrev S1x1x3072 : Shape := ⟨3, ![1, 1, 3072]⟩
abbrev S_ : Shape := ⟨0, ![]⟩
abbrev S32x2048 : Shape := ⟨2, ![32, 2048]⟩
abbrev S32x512 : Shape := ⟨2, ![32, 512]⟩
abbrev S3x32x3072 : Shape := ⟨3, ![3, 32, 3072]⟩

abbrev nBuf : Space → Nat
  | .hbm => 58
  | .vmem => 0
  | .smem => 0
  | _ => 0

abbrev bufTy : (tb : Table) → Fin (tcTables nBuf tb) → BufTy
  | .hbm, ⟨0, _⟩ => ⟨S32x5120, .f32⟩
  | .hbm, ⟨1, _⟩ => ⟨S32x128, .f32⟩
  | .hbm, ⟨2, _⟩ => ⟨S32x3x3072, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32x3072, .f32⟩
  | .hbm, ⟨8, _⟩ => ⟨S32x1x3072, .f32⟩
  | .hbm, ⟨9, _⟩ => ⟨S32x4x3072, .f32⟩
  | .hbm, ⟨10, _⟩ => ⟨S32x1x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S32x1x3072, .f32⟩
  | .hbm, ⟨15, _⟩ => ⟨S32x1x3072, .f32⟩
  | .hbm, ⟨16, _⟩ => ⟨S_, .f32⟩
  | .hbm, ⟨17, _⟩ => ⟨S32x1x3072, .f32⟩
  | .hbm, ⟨18, _⟩ => ⟨S32x1x3072, .f32⟩
  | .hbm, ⟨19, _⟩ => ⟨S32x1x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S32x1x3072, .f32⟩
  | .hbm, ⟨24, _⟩ => ⟨S32x1x3072, .f32⟩
  | .hbm, ⟨25, _⟩ => ⟨S32x1x3072, .f32⟩
  | .hbm, ⟨26, _⟩ => ⟨S32x1x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S32x1x3072, .f32⟩
  | .hbm, ⟨31, _⟩ => ⟨S32x1x3072, .f32⟩
  | .hbm, ⟨32, _⟩ => ⟨S32x1x3072, .f32⟩
  | .hbm, ⟨33, _⟩ => ⟨S32x1x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S32x1x3072, .f32⟩
  | .hbm, ⟨38, _⟩ => ⟨S32x1x3072, .f32⟩
  | .hbm, ⟨39, _⟩ => ⟨S32x1x3072, .f32⟩
  | .hbm, ⟨40, _⟩ => ⟨S1x1x3072, .f32⟩
  | .hbm, ⟨41, _⟩ => ⟨S32x1x3072, .f32⟩
  | .hbm, ⟨42, _⟩ => ⟨S32x1x3072, .f32⟩
  | .hbm, ⟨43, _⟩ => ⟨S32x3x3072, .f32⟩
  | .hbm, ⟨44, _⟩ => ⟨S32x1x3072, .f32⟩
  | .hbm, ⟨45, _⟩ => ⟨S32x1x3072, .f32⟩
  | .hbm, ⟨46, _⟩ => ⟨S_, .f32⟩
  | .hbm, ⟨47, _⟩ => ⟨S32x1x3072, .f32⟩
  | .hbm, ⟨48, _⟩ => ⟨S32x1x3072, .f32⟩
  | .hbm, ⟨49, _⟩ => ⟨S_, .f32⟩
  | .hbm, ⟨50, _⟩ => ⟨S32x1x3072, .f32⟩
  | .hbm, ⟨51, _⟩ => ⟨S32x1x3072, .f32⟩
  | .hbm, ⟨52, _⟩ => ⟨S32x1x3072, .f32⟩
  | .hbm, ⟨53, _⟩ => ⟨S32x3072, .f32⟩
  | .hbm, ⟨54, _⟩ => ⟨S32x2048, .f32⟩
  | .hbm, ⟨55, _⟩ => ⟨S32x512, .f32⟩
  | .hbm, ⟨56, _⟩ => ⟨S32x512, .f32⟩
  | .hbm, ⟨57, _⟩ => ⟨S3x32x3072, .f32⟩
  | _, _ => ⟨S32x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Glu.lean ====
/-
  The feed-forward gate/up call: `silu(h @ w_gate) * (h @ w_up)`, tiled in blocks of 1024 x 512 with both contractions
  whole in each block. At the ideal instance each element is the reference's: the two sums of products, and the logistic
  function written out as `1 / (1 + exp (-x))`.
-/
module

public import proofs.«01_k».proof.Proof.Gen.GluIdeal.Value
public import proofs.«01_k».proof.Proof.Gen.GluRefIdeal.Read
public import Idealize.ShloMosaic.Lib.MatmulPlain
public import Idealize.ShloMosaic.Lib.IdealHost

@[expose] public section

set_option maxRecDepth 16384

noncomputable section

namespace Cert.GluIdeal.Product

open Cert.GluIdeal Cert.GluIdeal.Gen Idealize.ShloMosaic Idealize.ShloMosaic.TcCoe Idealize.SL.Sem
open Idealize.ShloMosaic.ValueIdx

variable (m : (ℓ : Loc nD τ sig) → Buf (Elt Ideal) ℓ)

theorem hz : (![0, 0] : Fin 2 → Nat) = fun _ => 0 := funext fun a => by fin_cases a <;> rfl

/-- The gated product of two numbers: `silu g * u`. -/
def glu (g u : EReal) : EReal := g * Ideal.logistic g * u

/-- One of the two products of a block, at row `r`, column `q`. -/
theorem block_apply (a : FVec Ideal S1024x2048 .bf16) (w : FVec Ideal S2048x512 .bf16) (r : Fin 1024) (q : Fin 512) :
    (matmul dot_S1024x2048_S2048x512_S1024x512_1_0_0_1_n_n none a w (constant S1024x512 .f32 0x00000000#32)
        : FVec Ideal S1024x512 .f32) (ix2 r q)
      = ∑ k : Fin 2048, a (ix2 r k) * w (ix2 k q) := by
  refine (Ideal.matmul_plain_apply (M := 1024) (K := 2048) (N := 512) none a w _ r q).trans ?_
  rw [show (constant S1024x512 .f32 0x00000000#32 : FVec Ideal S1024x512 .f32) (ix2 r q) = (0 : EReal) from by
    simp [constant, Ideal.ofBits, Ideal.ieee], zero_add]

/-- One block's payload at row `r`, column `q`. -/
theorem pay_apply (a : Vec Ideal S1024x2048 .bf16) (wg wu : Vec Ideal S2048x512 .f32) (r : Fin 1024) (q : Fin 512) :
    k0_pay1 a wg wu (ix2 r q)
      = glu (∑ k : Fin 2048, a (ix2 r k) * wg (ix2 k q)) (∑ k : Fin 2048, a (ix2 r k) * wu (ix2 k q)) := by
  unfold k0_pay1
  have hg := block_apply a (truncf .bf16 (wg : FVec Ideal S2048x512 .f32) bitsLt_bf16_f32) r q
  have hu := block_apply a (truncf .bf16 (wu : FVec Ideal S2048x512 .f32) bitsLt_bf16_f32) r q
  refine Eq.trans ?_ (congrArg₂ glu hg hu)
  rfl

/-- The reference's element. -/
theorem ref_apply (x0 : Vec Ideal Cert.GluRefIdeal.S16384x2048 .bf16) (x1 x2 : Vec Ideal Cert.GluRefIdeal.S2048x5632 .f32)
    (i : Cert.GluRefIdeal.S16384x5632.Idx) :
    Cert.GluRefIdeal.Read.val_main_v5 (F := Ideal) x0 x1 x2 i
      = glu (∑ k : Fin 2048, x0 (Cert.GluRefIdeal.Read.lidx_main_v1 i k) * x1 (Cert.GluRefIdeal.Read.ridx_main_v1 i k))
          (∑ k : Fin 2048, x0 (Cert.GluRefIdeal.Read.lidx_main_v3 i k) * x2 (Cert.GluRefIdeal.Read.ridx_main_v3 i k)) := by
  have h1 : Ideal.ofBits .f32 0x3F800000#32 = (1 : EReal) := Ideal.ofBits_one_f32
  have hg := Cert.GluRefIdeal.Read.val_main_v1_apply x0 x1 i
  have hu := Cert.GluRefIdeal.Read.val_main_v3_apply x0 x2 i
  refine Eq.trans ?_ (congrArg₂ glu hg hu)
  simp only [Cert.GluRefIdeal.Read.val_main_v5_apply, Cert.GluRefIdeal.Read.val_main_v4_apply,
    Cert.GluRefIdeal.Read.val_main_v2_apply, Cert.GluRefIdeal.Read.val_main_call0_v5_apply,
    Cert.GluRefIdeal.Read.val_main_call0_v4_apply, Cert.GluRefIdeal.Read.val_main_call0_v3_apply,
    Cert.GluRefIdeal.Read.val_main_call0_v2_apply, Cert.GluRefIdeal.Read.val_main_call0_v1_apply,
    Cert.GluRefIdeal.Read.val_main_call0_v0_apply, Cert.GluRefIdeal.Read.val_main_call0_cst_apply,
    Cert.GluRefIdeal.Read.val_main_call0_cst_0_apply]
  show _ * Ideal.div (Ideal.ofBits .f32 0x3F800000#32) (Ideal.ofBits .f32 0x3F800000#32 + Ideal.exp (-_)) * _ = _
  rw [h1]
  rfl

/-- Where each window's block lies at grid point `t`. -/
theorem index_facts : ∀ t : Fin grid0.N,
    (win0_0.index t 0 = t.val / 11 ∧ win0_0.index t 1 = 0)
    ∧ (win0_1.index t 0 = 0 ∧ win0_1.index t 1 = t.val % 11)
    ∧ (win0_2.index t 0 = 0 ∧ win0_2.index t 1 = t.val % 11)
    ∧ (win0_3.index t 0 = t.val / 11 ∧ win0_3.index t 1 = t.val % 11) := by decide +kernel

/-- The array the result is to hold. -/
abbrev G (c : Dev nD) : Buf (Elt Ideal) ((c : Thread nD τ).loc main_v0) :=
  Cert.GluRefIdeal.Read.val_main_v5 (F := Ideal) (m ((c : Thread nD τ).loc main_arg0))
    (m ((c : Thread nD τ).loc main_arg1)) (m ((c : Thread nD τ).loc main_arg2))

/-- What point `t` writes back is block `t` of the reference's array. -/
theorem flushed_eq (c : Dev nD) (t : Fin cfg0.N) (hf : (cfg0.win 3).flush t = true) :
    (dats m 0 c).flushed 3 t = ((cfg0.win 3).blk t).view.read (Elt Ideal) (G m c) := by
  rw [Value.flushed3]
  show out0_3 (iblk m c 0 t) (iblk m c 1 t) (iblk m c 2 t) = _
  unfold out0_3
  rw [View.canon_unit_zero hz]
  funext j
  obtain ⟨⟨h00, h01⟩, ⟨h10, h11⟩, ⟨h20, h21⟩, ⟨h30, h31⟩⟩ := index_facts t
  rw [View.ld_unit_zero (S := S1024x2048) hz, View.ld_unit_zero (S := S2048x512) hz, View.ld_unit_zero (S := S2048x512) hz]
  obtain ⟨r, q, rfl⟩ : ∃ (r : Fin 1024) (q : Fin 512), j = ix2 r q := ⟨j 0, j 1, by funext a; fin_cases a <;> rfl⟩
  refine (pay_apply _ _ _ r q).trans ?_
  rw [View.read_apply]
  refine Eq.trans ?_ (ref_apply _ _ _ _).symm
  have ea : ∀ k : Fin 2048, (iblk m c 0 t : Vec Ideal S1024x2048 .bf16) (ix2 r k)
      = m ((c : Thread nD τ).loc main_arg0) (Cert.GluRefIdeal.Read.lidx_main_v1 (((cfg0.win 3).blk t).view.emb (ix2 r q)) k) := fun k => by
    unfold iblk
    rw [View.read_apply]
    show V m c main_arg0 _ = m (c.tc.loc main_arg0) _
    unfold V
    congr 1
    funext a
    apply Fin.ext
    match a with
    | ⟨0, _⟩ => show win0_0.index t 0 * 1024 + 1 * r.val = win0_3.index t 0 * 1024 + 1 * r.val; rw [h00, h30]
    | ⟨1, _⟩ => show win0_0.index t 1 * 2048 + 1 * k.val = k.val; rw [h01]; omega
  refine congrArg₂ glu (Finset.sum_congr rfl fun k _ => congrArg₂ (· * ·) (ea k) ?_)
    (Finset.sum_congr rfl fun k _ => congrArg₂ (· * ·) (ea k) ?_)
  · unfold iblk
    rw [View.read_apply]
    show V m c main_arg1 _ = m (c.tc.loc main_arg1) _
    unfold V
    congr 1
    funext a
    apply Fin.ext
    match a with
    | ⟨0, _⟩ => show win0_1.index t 0 * 2048 + 1 * k.val = k.val; rw [h10]; omega
    | ⟨1, _⟩ => show win0_1.index t 1 * 512 + 1 * q.val = win0_3.index t 1 * 512 + 1 * q.val; rw [h11, h31]
  · unfold iblk
    rw [View.read_apply]
    show V m c main_arg2 _ = m (c.tc.loc main_arg2) _
    unfold V
    congr 1
    funext a
    apply Fin.ext
    match a with
    | ⟨0, _⟩ => show win0_2.index t 0 * 2048 + 1 * k.val = k.val; rw [h20]; omega
    | ⟨1, _⟩ => show win0_2.index t 1 * 512 + 1 * q.val = win0_3.index t 1 * 512 + 1 * q.val; rw [h21, h31]

/-- The blocks cover the array, so it ends holding the reference's. -/
theorem final (c : Dev nD) : (dats m 0 c).arrAt 3 cfg0.N = G m c :=
  (dats m 0 c).arrAt_eq_of_cover 3 (G m c) (flushed_eq m c) fun i => by
    have h0 : (i 0 : Nat) < 16384 := (i 0).isLt
    have h1 : (i 1 : Nat) < 5632 := (i 1).isLt
    have hN : cfg0.N = 176 := N_0
    have ht : (i 0 : Nat) / 1024 * 11 + (i 1 : Nat) / 512 < cfg0.N := by omega
    refine ⟨⟨(i 0 : Nat) / 1024 * 11 + (i 1 : Nat) / 512, ht⟩, flush0_3 _, ?_⟩
    obtain ⟨-, -, -, h30, h31⟩ := index_facts ⟨(i 0 : Nat) / 1024 * 11 + (i 1 : Nat) / 512, ht⟩
    show i ∈ ((View.whole main_v0).slice (win0_3.rect ⟨(i 0 : Nat) / 1024 * 11 + (i 1 : Nat) / 512, ht⟩)).set
    rw [View.set_slice_whole, Rect.mem_set_unit]
    intro a
    match a with
    | ⟨0, _⟩ =>
      show win0_3.index _ 0 * 1024 ≤ (i 0 : Nat) ∧ (i 0 : Nat) < win0_3.index _ 0 * 1024 + 1024
      rw [h30]; dsimp only; omega
    | ⟨1, _⟩ =>
      show win0_3.index _ 1 * 512 ≤ (i 1 : Nat) ∧ (i 1 : Nat) < win0_3.index _ 1 * 512 + 512
      rw [h31]; dsimp only; omega

end Cert.GluIdeal.Product

end
-- ==== Proof.Dwn.lean ====
/-
  The call that ends a feed-forward layer: `x + 0.5 * gate * (act @ w_down)`. The contraction over 5632 is done in four steps of
  1408, the partial sums kept in a scratch buffer: the first step stores its product, the next ones add theirs, and the last
  one also adds the residual. At the ideal instance the four partial sums are the whole sum.
-/
module

public import proofs.«01_k».proof.Proof.Gen.DwnIdeal.Value
public import proofs.«01_k».proof.Proof.Gen.DwnRefIdeal.Read
public import Idealize.ShloMosaic.Lib.MatmulPlain

@[expose] public section

set_option maxRecDepth 16384

noncomputable section

namespace Cert.DwnIdeal.Product

open Cert.DwnIdeal Cert.DwnIdeal.Gen Idealize.ShloMosaic Idealize.ShloMosaic.TcCoe Idealize.SL.Sem
open Idealize.ShloMosaic.ValueIdx Idealize.ShloMosaic.Tactic

theorem hz : (![0, 0] : Fin 2 → Nat) = fun _ => 0 := funext fun a => by fin_cases a <;> rfl
theorem hz3 : (![0, 0, 0] : Fin 3 → Nat) = fun _ => 0 := funext fun a => by fin_cases a <;> rfl

section Steps

variable {F : FTy → Type} [FloatOps F] (m : (ℓ : Loc nD τ sig) → Buf (Elt F) ℓ)

/-- The first step leaves its product in the scratch. -/
theorem scr_first (c : Dev nD) (t : Fin cfg0.N) (h0 : t.val % 4 = 0) :
    (outsAt0 m c t.val t.isLt).2 = k0_pay1 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread,
    View.ld_unit_zero (S := S1024x1408) hz, View.ld_unit_zero (S := S1408x512) hz]
  unfold k0_pay2
  exact shapeCast_self _ _

/-- A middle step adds its product to the scratch. -/
theorem scr_next (c : Dev nD) (t : Fin cfg0.N) (h1 : 1 ≤ t.val % 4) (h2 : t.val % 4 ≠ 3) :
    (outsAt0 m c t.val t.isLt).2
      = addf (outsAt0 m c (t.val - 1) (Nat.lt_of_le_of_lt (Nat.sub_le _ _) t.isLt)).2 (k0_pay1 (iblk m c 0 t) (iblk m c 1 t)) := by
  rw [outsAt0_B m c t (by omega) h1 h2]
  dsimp only
  unfold sout0_B_0
  rw [View.read_writes_eq_canon _ _ _ (scover0_B_0 c _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (Memref.isWhole_whole cc0_scratch0).read_unread,
    View.ld_unit_zero (S := S1024x1408) hz, View.ld_unit_zero (S := S1408x512) hz, View.ld_unit_zero (S := S1024x512) hz]
  unfold k0_pay3
  exact shapeCast_self _ _

/-- The last step's block of the result: the residual on the whole sum. -/
theorem out_last (c : Dev nD) (t : Fin cfg0.N) (h2 : t.val % 4 = 3) :
    (outsAt0 m c t.val t.isLt).1
      = k0_pay4 (iblk m c 2 t) (iblk m c 3 t)
          (addf (outsAt0 m c (t.val - 1) (Nat.lt_of_le_of_lt (Nat.sub_le _ _) t.isLt)).2 (k0_pay1 (iblk m c 0 t) (iblk m c 1 t))) := by
  rw [outsAt0_C m c t (by omega) (by omega) h2]
  dsimp only
  unfold out0_C_4
  rw [View.read_writes_eq_canon _ _ _ (cover0_C_4 c _ _ _ _ _ _ _ _ _ _ _ _ _ _ _ _ _ _ _ _ _)]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    (Memref.isWhole_whole cc0_scratch0).read_unread, View.ld_unit_zero (S := S1x1x512) hz3,
    View.ld_unit_zero (S := S1024x1408) hz, View.ld_unit_zero (S := S1408x512) hz, View.ld_unit_zero (S := S1024x512) hz,
    View.readCov_unit_zero (S := S1024x512) _ hz]
  unfold k0_pay3
  dsimp only
  rw [shapeCast_self]

end Steps

section Values

variable (m : (ℓ : Loc nD τ sig) → Buf (Elt Ideal) ℓ)

/-- The act array, the weight, the residual and the modulations as launched. -/
abbrev act (c : Dev nD) : Vec Ideal S16384x5632 .bf16 := m ((c : Thread nD τ).loc main_arg0)
abbrev res (c : Dev nD) : Vec Ideal S8x2048x2048 .f32 := m ((c : Thread nD τ).loc main_arg1)
abbrev mods (c : Dev nD) : Vec Ideal S8x18432 .f32 := m ((c : Thread nD τ).loc main_arg2)
abbrev wgt (c : Dev nD) : Vec Ideal S5632x2048 .f32 := m ((c : Thread nD τ).loc main_arg3)

/-- A sum over 5632 as four sums over 1408, added from the left. -/
theorem sum_four (f : Fin 5632 → EReal) : ∑ k, f k
    = (((∑ k : Fin 1408, f ⟨0 * 1408 + k.val, by omega⟩) + ∑ k : Fin 1408, f ⟨1 * 1408 + k.val, by omega⟩)
        + ∑ k : Fin 1408, f ⟨2 * 1408 + k.val, by omega⟩) + ∑ k : Fin 1408, f ⟨3 * 1408 + k.val, by omega⟩ := by
  show (∑ k : Fin (1408 + 1408 + 1408 + 1408), f k) = _
  rw [Fin.sum_univ_add, Fin.sum_univ_add, Fin.sum_univ_add]
  refine congrArg₂ (· + ·) (congrArg₂ (· + ·) (congrArg₂ (· + ·) ?_ ?_) ?_) ?_ <;>
    exact Finset.sum_congr rfl fun k _ => congrArg f (Fin.ext (by simp <;> omega))

/-- Step `s`'s part of the sum at row `R`, column `J`. -/
def part (c : Dev nD) (R : Fin 16384) (J : Fin 2048) (s : Nat) (hs : s < 4) : EReal :=
  ∑ k : Fin 1408, act m c (ix2 R ⟨s * 1408 + k.val, by omega⟩) * wgt m c (ix2 ⟨s * 1408 + k.val, by omega⟩ J)

/-- Where each window's block lies at grid point `t`. -/
theorem index_facts : ∀ t : Fin grid0.N,
    (win0_0.index t 0 = t.val / 16 ∧ win0_0.index t 1 = t.val % 4)
    ∧ (win0_1.index t 0 = t.val % 4 ∧ win0_1.index t 1 = t.val / 4 % 4)
    ∧ (win0_2.index t 0 = t.val / 16 ∧ win0_2.index t 1 = t.val / 4 % 4)
    ∧ (win0_3.index t 0 = t.val / 32 * 9 + 2 ∧ win0_3.index t 1 = 0 ∧ win0_3.index t 2 = t.val / 4 % 4)
    ∧ (win0_4.index t 0 = t.val / 16 ∧ win0_4.index t 1 = t.val / 4 % 4) := by decide +kernel

/-- One step's product at row `r`, column `q` of its block. -/
theorem pay_apply (a : Vec Ideal S1024x1408 .bf16) (w : Vec Ideal S1408x512 .f32) (r : Fin 1024) (q : Fin 512) :
    k0_pay1 a w (ix2 r q) = ∑ k : Fin 1408, a (ix2 r k) * w (ix2 k q) := by
  unfold k0_pay1
  refine (Ideal.matmul_plain_apply (M := 1024) (K := 1408) (N := 512) none a _ _ r q).trans ?_
  rw [show (constant S1024x512 .f32 0x00000000#32 : FVec Ideal S1024x512 .f32) (ix2 r q) = (0 : EReal) from by
    simp [constant, Ideal.ofBits, Ideal.ieee], zero_add]
  rfl

/-- The product of grid point `t` is its step's part of the sum. -/
theorem step_apply (c : Dev nD) (t : Fin cfg0.N) (r : Fin 1024) (q : Fin 512) (R : Fin 16384) (J : Fin 2048) (s : Nat) (hs : s < 4)
    (ht : t.val % 4 = s) (hR : R.val = t.val / 16 * 1024 + r.val) (hJ : J.val = t.val / 4 % 4 * 512 + q.val) :
    k0_pay1 (F := Ideal) (iblk m c 0 t) (iblk m c 1 t) (ix2 r q) = part m c R J s hs := by
  obtain ⟨⟨h00, h01⟩, ⟨h10, h11⟩, -, -, -⟩ := index_facts t
  refine (pay_apply _ _ r q).trans ?_
  refine Finset.sum_congr rfl fun k _ => congrArg₂ (· * ·) ?_ ?_
  · unfold iblk
    rw [View.read_apply]
    refine (congrFun (V_main_arg0 m c) _).trans ?_
    show m (c.tc.loc main_arg0) _ = m (c.tc.loc main_arg0) _
    congr 1
    funext a
    apply Fin.ext
    match a with
    | ⟨0, _⟩ => show win0_0.index t 0 * 1024 + 1 * r.val = R.val; rw [h00]; omega
    | ⟨1, _⟩ => show win0_0.index t 1 * 1408 + 1 * k.val = s * 1408 + k.val; rw [h01, ht]; omega
  · unfold iblk
    rw [View.read_apply]
    refine (congrFun (V_main_arg3 m c) _).trans ?_
    show m (c.tc.loc main_arg3) _ = m (c.tc.loc main_arg3) _
    congr 1
    funext a
    apply Fin.ext
    match a with
    | ⟨0, _⟩ => show win0_1.index t 0 * 1408 + 1 * k.val = s * 1408 + k.val; rw [h10, ht]; omega
    | ⟨1, _⟩ => show win0_1.index t 1 * 512 + 1 * q.val = J.val; rw [h11]; omega

/-- After the last step the scratch and the step's own product make the whole sum. -/
theorem sum_apply (c : Dev nD) (t : Fin cfg0.N) (h3 : t.val % 4 = 3) (r : Fin 1024) (q : Fin 512) (R : Fin 16384) (J : Fin 2048)
    (hR : R.val = t.val / 16 * 1024 + r.val) (hJ : J.val = t.val / 4 % 4 * 512 + q.val) :
    addf (outsAt0 m c (t.val - 1) (Nat.lt_of_le_of_lt (Nat.sub_le _ _) t.isLt)).2 (k0_pay1 (F := Ideal) (iblk m c 0 t) (iblk m c 1 t))
        (ix2 r q) = ∑ k : Fin 5632, act m c (ix2 R k) * wgt m c (ix2 k J) := by
  have hN := t.isLt
  have e2 := scr_next m c ⟨t.val - 1, by omega⟩ (show 1 ≤ (t.val - 1) % 4 by omega) (show (t.val - 1) % 4 ≠ 3 by omega)
  have e1 := scr_next m c ⟨t.val - 1 - 1, by omega⟩ (show 1 ≤ (t.val - 1 - 1) % 4 by omega) (show (t.val - 1 - 1) % 4 ≠ 3 by omega)
  have e0 := scr_first m c ⟨t.val - 1 - 1 - 1, by omega⟩ (show (t.val - 1 - 1 - 1) % 4 = 0 by omega)
  dsimp only at e2 e1 e0
  rw [sum_four]
  refine congrArg₂ (· + ·) ?_ (step_apply m c t r q R J 3 (by omega) h3 hR hJ)
  rw [e2]
  refine congrArg₂ (· + ·) ?_ (step_apply m c ⟨t.val - 1, by omega⟩ r q R J 2 (by omega) (by dsimp only; omega)
    (by dsimp only; omega) (by dsimp only; omega))
  rw [e1]
  refine congrArg₂ (· + ·) ?_ (step_apply m c ⟨t.val - 1 - 1, by omega⟩ r q R J 1 (by omega) (by dsimp only; omega)
    (by dsimp only; omega) (by dsimp only; omega))
  rw [e0]
  exact step_apply m c ⟨t.val - 1 - 1 - 1, by omega⟩ r q R J 0 (by omega) (by dsimp only; omega)
    (by dsimp only; omega) (by dsimp only; omega)

/-- The last step's block at row `r`, column `q`. -/
theorem pay4_apply (x : Vec Ideal S1024x512 .f32) (g : Vec Ideal S1x1x512 .f32) (a : Vec Ideal S1024x512 .f32) (r : Fin 1024)
    (q : Fin 512) : k0_pay4 x g a (ix2 r q)
      = x (ix2 r q) + (Ideal.ofBits .f32 0x3F000000#32 * g (ix3 0 0 q)) * a (ix2 r q) := by
  unfold k0_pay4
  refine congrArg₂ (· + ·) (congrFun (shapeCast_self _ _) _) (congrArg₂ (· * ·) ?_ rfl)
  refine (broadcastTo_apply _ _ (ix2 r q) (ix2 (0 : Fin 1) q) fun a => by fin_cases a <;> rfl).trans ?_
  refine congrArg₂ (· * ·) rfl ?_
  exact shapeCast_apply _ _ _ (ix3 0 0 q) (by
    rw [Shape.rowMajor_val_three, Shape.rowMajor_val_two]; rfl)

/-- The residual as the call finds it: the launched array with its two leading axes joined. -/
theorem V_res (c : Dev nD) : (V m c main_v1 : Vec Ideal S16384x2048 .f32)
    = shapeCast S16384x2048 (res m c) shapeCasts_S8x2048x2048_S16384x2048 := by
  show StableHlo.after hostOps0 _ (Proc.devRef .tc main_v1) = _
  after_results
  rfl

/-- The modulations as the call finds them: one row per batch and modulation. -/
theorem V_mods (c : Dev nD) : (V m c main_v2 : Vec Ideal S72x1x2048 .f32)
    = shapeCast S72x1x2048 (shapeCast S1x72x1x2048 (mods m c) shapeCasts_S8x18432_S1x72x1x2048) shapeCasts_S1x72x1x2048_S72x1x2048 := by
  show StableHlo.after hostOps0 _ (Proc.devRef .tc main_v2) = _
  after_results
  rfl

/-- The array the result is to hold. -/
abbrev G (c : Dev nD) : Buf (Elt Ideal) ((c : Thread nD τ).loc main_v3) :=
  Cert.DwnRefIdeal.Read.val_main_v26 (F := Ideal) (act m c) (res m c) (mods m c) (wgt m c)

/-- The reference's element at row `R`, column `J`. -/
theorem ref_apply (x0 : Vec Ideal S16384x5632 .bf16) (x1 : Vec Ideal S8x2048x2048 .f32) (x2 : Vec Ideal S8x18432 .f32)
    (x3 : Vec Ideal S5632x2048 .f32) (R : Fin 16384) (J : Fin 2048) :
    Cert.DwnRefIdeal.Read.val_main_v26 (F := Ideal) x0 x1 x2 x3 (ix2 R J)
      = x1 (ix3 ⟨R.val / 2048, by omega⟩ ⟨R.val % 2048, by omega⟩ J)
        + (Ideal.ofBits .f32 0x3F000000#32 * x2 (ix2 ⟨R.val / 2048, by omega⟩ ⟨4096 + J.val, by omega⟩))
          * ∑ k : Fin 5632, x0 (ix2 R k) * x3 (ix2 k J) := by
  have hR := R.isLt
  have hJ := J.isLt
  simp only [Cert.DwnRefIdeal.Read.val_main_v26_apply, Cert.DwnRefIdeal.Read.val_main_v25_apply,
    Cert.DwnRefIdeal.Read.val_main_v24_apply, Cert.DwnRefIdeal.Read.val_main_v23_apply,
    Cert.DwnRefIdeal.Read.val_main_v22_apply, Cert.DwnRefIdeal.Read.val_main_v21_apply,
    Cert.DwnRefIdeal.Read.val_main_v20_apply, Cert.DwnRefIdeal.Read.val_main_cst_apply,
    Cert.DwnRefIdeal.Read.val_main_v19_apply, Cert.DwnRefIdeal.Read.val_main_v18_apply,
    Cert.DwnRefIdeal.Read.val_main_v11_apply, Cert.DwnRefIdeal.Read.val_main_v2_apply]
  refine congrArg₂ (· + ·) (congrArg x1 ?_) (congrArg₂ (· * ·) (congrArg₂ (· * ·) rfl (congrArg x2 ?_))
    (Finset.sum_congr rfl fun k _ => congrArg₂ (· * ·) (congrArg x0 ?_) (congrArg x3 ?_)))
  · funext a
    apply Fin.ext
    match a with
    | ⟨0, _⟩ => show (R.val * 2048 + J.val) / 4194304 = R.val / 2048; omega
    | ⟨1, _⟩ => show (R.val * 2048 + J.val) / 2048 % 2048 = R.val % 2048; omega
    | ⟨2, _⟩ => show (R.val * 2048 + J.val) % 2048 = J.val; omega
  · funext a
    apply Fin.ext
    match a with
    | ⟨0, _⟩ => show (R.val * 2048 + J.val) / 4194304 = R.val / 2048; omega
    | ⟨1, _⟩ => show 4096 + (R.val * 2048 + J.val) % 2048 = 4096 + J.val; omega
  · have hk := k.isLt
    funext a
    apply Fin.ext
    match a with
    | ⟨0, _⟩ =>
      show (((R.val * 2048 + J.val) / 4194304 * 2048 + (R.val * 2048 + J.val) / 2048 % 2048) * 5632 + k.val) / 5632 = R.val
      omega
    | ⟨1, _⟩ =>
      show (((R.val * 2048 + J.val) / 4194304 * 2048 + (R.val * 2048 + J.val) / 2048 % 2048) * 5632 + k.val) % 5632 = k.val
      omega
  · funext a
    apply Fin.ext
    match a with
    | ⟨0, _⟩ => rfl
    | ⟨1, _⟩ => show (R.val * 2048 + J.val) % 2048 = J.val; omega

/-- What a last step writes back is its block of the reference's array. -/
theorem flushed_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  have hN : t.val < 256 := lt_of_lt_of_eq t.isLt N_0
  rw [Value.flushed4]
  show (outsAt0 m c t.val t.isLt).1 = _
  rw [out_last m c t h3]
  funext j
  obtain ⟨-, -, ⟨h20, h21⟩, ⟨h30, h31, h32⟩, ⟨h40, h41⟩⟩ := index_facts t
  obtain ⟨r, q, rfl⟩ : ∃ (r : Fin 1024) (q : Fin 512), j = ix2 r q := ⟨j 0, j 1, by funext a; fin_cases a <;> rfl⟩
  have hr := r.isLt
  have hq := q.isLt
  let R : Fin 16384 := ⟨t.val / 16 * 1024 + r.val, by omega⟩
  let J : Fin 2048 := ⟨t.val / 4 % 4 * 512 + q.val, by omega⟩
  rw [View.read_apply]
  have hemb : ((cfg0.win 4).blk t).view.emb (ix2 r q) = (ix2 R J : S16384x2048.Idx) := by
    funext a
    apply Fin.ext
    match a with
    | ⟨0, _⟩ => show win0_4.index t 0 * 1024 + 1 * r.val = t.val / 16 * 1024 + r.val; rw [h40]; omega
    | ⟨1, _⟩ => show win0_4.index t 1 * 512 + 1 * q.val = t.val / 4 % 4 * 512 + q.val; rw [h41]; omega
  refine Eq.trans ?_ (congrArg (G m c) hemb.symm)
  refine (pay4_apply _ _ _ r q).trans ?_
  refine Eq.trans ?_ (ref_apply _ _ _ _ R J).symm
  refine congrArg₂ (· + ·) ?_ (congrArg₂ (· * ·) (congrArg₂ (· * ·) rfl ?_) (sum_apply m c t h3 r q R J rfl rfl))
  · unfold iblk
    rw [View.read_apply]
    refine (congrFun (V_res m c) _).trans ?_
    refine shapeCast_apply _ _ _ _ ?_
    rw [Shape.rowMajor_val_three, Shape.rowMajor_val_two]
    show ((R.val / 2048) * 2048 + R.val % 2048) * 2048 + J.val
      = (win0_2.index t 0 * 1024 + 1 * r.val) * 2048 + (win0_2.index t 1 * 512 + 1 * q.val)
    rw [h20, h21]
    show (((t.val / 16 * 1024 + r.val) / 2048) * 2048 + (t.val / 16 * 1024 + r.val) % 2048) * 2048 + (t.val / 4 % 4 * 512 + q.val) = _
    omega
  · unfold iblk
    rw [View.read_apply]
    refine (congrFun (V_mods m c) _).trans ?_
    refine (shapeCast_apply _ _ _ (ix4 (0 : Fin 1) (⟨t.val / 32 * 9 + 2, by omega⟩ : Fin 72) (0 : Fin 1) J) ?_).trans
      (shapeCast_apply _ _ _ _ ?_)
    · rw [Shape.rowMajor_val_four, Shape.rowMajor_val_three]
      show ((0 * 72 + (t.val / 32 * 9 + 2)) * 1 + 0) * 2048 + (t.val / 4 % 4 * 512 + q.val)
        = ((win0_3.index t 0 * 1 + 1 * 0) * 1 + (win0_3.index t 1 * 1 + 1 * 0)) * 2048 + (win0_3.index t 2 * 512 + 1 * q.val)
      rw [h30, h31, h32]
      omega
    · rw [Shape.rowMajor_val_two, Shape.rowMajor_val_four]
      show ((t.val / 16 * 1024 + r.val) / 2048) * 18432 + (4096 + (t.val / 4 % 4 * 512 + q.val))
        = ((0 * 72 + (t.val / 32 * 9 + 2)) * 1 + 0) * 2048 + (t.val / 4 % 4 * 512 + q.val)
      omega

/-- The last steps' blocks cover the array, so it ends holding the reference's. -/
theorem final (c : Dev nD) : (dats m 0 c).arrAt 4 cfg0.N = G m c :=
  (dats m 0 c).arrAt_eq_of_cover 4 (G m c) (flushed_eq m c) fun i => by
    have h0 : (i 0 : Nat) < 16384 := (i 0).isLt
    have h1 : (i 1 : Nat) < 2048 := (i 1).isLt
    have hN : cfg0.N = 256 := N_0
    have ht : (i 0 : Nat) / 1024 * 16 + (i 1 : Nat) / 512 * 4 + 3 < cfg0.N := by omega
    refine ⟨⟨(i 0 : Nat) / 1024 * 16 + (i 1 : Nat) / 512 * 4 + 3, ht⟩, (flush0_4 _).mpr (by dsimp only; omega), ?_⟩
    obtain ⟨-, -, -, -, h40, h41⟩ := index_facts ⟨(i 0 : Nat) / 1024 * 16 + (i 1 : Nat) / 512 * 4 + 3, ht⟩
    show i ∈ ((View.whole main_v3).slice (win0_4.rect ⟨(i 0 : Nat) / 1024 * 16 + (i 1 : Nat) / 512 * 4 + 3, ht⟩)).set
    rw [View.set_slice_whole, Rect.mem_set_unit]
    intro a
    match a with
    | ⟨0, _⟩ =>
      show win0_4.index _ 0 * 1024 ≤ (i 0 : Nat) ∧ (i 0 : Nat) < win0_4.index _ 0 * 1024 + 1024
      rw [h40]; dsimp only; omega
    | ⟨1, _⟩ =>
      show win0_4.index _ 1 * 512 ≤ (i 1 : Nat) ∧ (i 1 : Nat) < win0_4.index _ 1 * 512 + 512
      rw [h41]; dsimp only; omega

end Values

end Cert.DwnIdeal.Product

end
-- ==== Proof.Ing.lean ====
/-
  The in-projection call with 6144 output columns: `h @ w`, the result tiled in blocks of 1024 x 1024, one whole
  contraction per block. At the ideal instance a block holds the textbook sums of products of its rows and columns, so
  the result array is the reference's one product.
-/
module

public import proofs.«01_k».proof.Proof.Gen.IngIdeal.Value
public import proofs.«01_k».proof.Proof.Gen.IngRefIdeal.Read
public import Idealize.ShloMosaic.Lib.MatmulPlain

@[expose] public section

set_option maxRecDepth 16384

noncomputable section

namespace Cert.IngIdeal.Product

open Cert.IngIdeal Cert.IngIdeal.Gen Idealize.ShloMosaic Idealize.ShloMosaic.TcCoe Idealize.SL.Sem
open Idealize.ShloMosaic.ValueIdx

variable (m : (ℓ : Loc nD τ sig) → Buf (Elt Ideal) ℓ)

theorem hz : (![0, 0] : Fin 2 → Nat) = fun _ => 0 := funext fun a => by fin_cases a <;> rfl

/-- One block's payload at row `r`, column `q`: the sum over the 2048 contracted positions. -/
theorem pay_apply (a : Vec Ideal S1024x2048 .bf16) (w : Vec Ideal S2048x1024 .f32) (r : Fin 1024) (q : Fin 1024) :
    k0_pay1 a w (ix2 r q) = ∑ k : Fin 2048, a (ix2 r k) * w (ix2 k q) := by
  unfold k0_pay1
  refine (Ideal.matmul_plain_apply (M := 1024) (K := 2048) (N := 1024) none a _ _ r q).trans ?_
  rw [show (constant S1024x1024 .f32 0x00000000#32 : FVec Ideal S1024x1024 .f32) (ix2 r q) = (0 : EReal) from by
    simp [constant, Ideal.ofBits, Ideal.ieee], zero_add]
  rfl

/-- Where each window's block lies at grid point `t`. -/
theorem index_facts : ∀ t : Fin grid0.N,
    (win0_0.index t 0 = t.val / 6 ∧ win0_0.index t 1 = 0)
    ∧ (win0_1.index t 0 = 0 ∧ win0_1.index t 1 = t.val % 6)
    ∧ (win0_2.index t 0 = t.val / 6 ∧ win0_2.index t 1 = t.val % 6) := by decide +kernel

/-- The product the result array is to hold. -/
abbrev G (c : Dev nD) : Buf (Elt Ideal) ((c : Thread nD τ).loc main_v0) :=
  Cert.IngRefIdeal.Read.val_main_v1 (F := Ideal) (m ((c : Thread nD τ).loc main_arg0)) (m ((c : Thread nD τ).loc main_arg1))

/-- What point `t` writes back is block `t` of the product. -/
theorem flushed_eq (c : Dev nD) (t : Fin cfg0.N) (hf : (cfg0.win 2).flush t = true) :
    (dats m 0 c).flushed 2 t = ((cfg0.win 2).blk t).view.read (Elt Ideal) (G m c) := by
  rw [Value.flushed2]
  show out0_2 (iblk m c 0 t) (iblk m c 1 t) = _
  unfold out0_2
  rw [View.canon_unit_zero hz]
  funext j
  obtain ⟨⟨h00, h01⟩, ⟨h10, h11⟩, ⟨h20, h21⟩⟩ := index_facts t
  rw [View.ld_unit_zero (S := S1024x2048) hz, View.ld_unit_zero (S := S2048x1024) hz]
  obtain ⟨r, q, rfl⟩ : ∃ (r : Fin 1024) (q : Fin 1024), j = ix2 r q := ⟨j 0, j 1, by funext a; fin_cases a <;> rfl⟩
  refine (pay_apply _ _ r q).trans ?_
  rw [View.read_apply]
  refine Eq.trans ?_ (Cert.IngRefIdeal.Read.val_main_v1_apply _ _ _).symm
  refine Finset.sum_congr rfl fun k _ => ?_
  refine congrArg₂ (· * ·) ?_ ?_
  · unfold iblk
    rw [View.read_apply]
    show V m c main_arg0 _ = m (c.tc.loc main_arg0) _
    unfold V
    congr 1
    funext a
    apply Fin.ext
    match a with
    | ⟨0, _⟩ => show win0_0.index t 0 * 1024 + 1 * r.val = win0_2.index t 0 * 1024 + 1 * r.val; rw [h00, h20]
    | ⟨1, _⟩ => show win0_0.index t 1 * 2048 + 1 * k.val = k.val; rw [h01]; omega
  · unfold iblk
    rw [View.read_apply]
    show V m c main_arg1 _ = m (c.tc.loc main_arg1) _
    unfold V
    congr 1
    funext a
    apply Fin.ext
    match a with
    | ⟨0, _⟩ => show win0_1.index t 0 * 2048 + 1 * k.val = k.val; rw [h10]; omega
    | ⟨1, _⟩ => show win0_1.index t 1 * 1024 + 1 * q.val = win0_2.index t 1 * 1024 + 1 * q.val; rw [h11, h21]

/-- The blocks cover the array, so it ends holding the product. -/
theorem final (c : Dev nD) : (dats m 0 c).arrAt 2 cfg0.N = G m c :=
  (dats m 0 c).arrAt_eq_of_cover 2 (G m c) (flushed_eq m c) fun i => by
    have h0 : (i 0 : Nat) < 16384 := (i 0).isLt
    have h1 : (i 1 : Nat) < 6144 := (i 1).isLt
    have hN : cfg0.N = 16 * 6 := N_0
    have ht : (i 0 : Nat) / 1024 * 6 + (i 1 : Nat) / 1024 < cfg0.N := by omega
    refine ⟨⟨(i 0 : Nat) / 1024 * 6 + (i 1 : Nat) / 1024, ht⟩, flush0_2 _, ?_⟩
    obtain ⟨-, -, h20, h21⟩ := index_facts ⟨(i 0 : Nat) / 1024 * 6 + (i 1 : Nat) / 1024, ht⟩
    show i ∈ ((View.whole main_v0).slice (win0_2.rect ⟨(i 0 : Nat) / 1024 * 6 + (i 1 : Nat) / 1024, ht⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [h20]; dsimp only; omega
    | ⟨1, _⟩ =>
      show win0_2.index _ 1 * 1024 ≤ (i 1 : Nat) ∧ (i 1 : Nat) < win0_2.index _ 1 * 1024 + 1024
      rw [h21]; dsimp only; omega

end Cert.IngIdeal.Product

end
-- ==== Proof.Ins.lean ====
/-
  The in-projection call with 5120 output columns: `h @ w`, the result tiled in blocks of 1024 x 1024, one whole
  contraction per block. At the ideal instance a block holds the textbook sums of products of its rows and columns, so
  the result array is the reference's one product.
-/
module

public import proofs.«01_k».proof.Proof.Gen.InsIdeal.Value
public import proofs.«01_k».proof.Proof.Gen.InsRefIdeal.Read
public import Idealize.ShloMosaic.Lib.MatmulPlain

@[expose] public section

set_option maxRecDepth 16384

noncomputable section

namespace Cert.InsIdeal.Product

open Cert.InsIdeal Cert.InsIdeal.Gen Idealize.ShloMosaic Idealize.ShloMosaic.TcCoe Idealize.SL.Sem
open Idealize.ShloMosaic.ValueIdx

variable (m : (ℓ : Loc nD τ sig) → Buf (Elt Ideal) ℓ)

theorem hz : (![0, 0] : Fin 2 → Nat) = fun _ => 0 := funext fun a => by fin_cases a <;> rfl

/-- One block's payload at row `r`, column `q`: the sum over the 2048 contracted positions. -/
theorem pay_apply (a : Vec Ideal S1024x2048 .bf16) (w : Vec Ideal S2048x1024 .f32) (r : Fin 1024) (q : Fin 1024) :
    k0_pay1 a w (ix2 r q) = ∑ k : Fin 2048, a (ix2 r k) * w (ix2 k q) := by
  unfold k0_pay1
  refine (Ideal.matmul_plain_apply (M := 1024) (K := 2048) (N := 1024) none a _ _ r q).trans ?_
  rw [show (constant S1024x1024 .f32 0x00000000#32 : FVec Ideal S1024x1024 .f32) (ix2 r q) = (0 : EReal) from by
    simp [constant, Ideal.ofBits, Ideal.ieee], zero_add]
  rfl

/-- Where each window's block lies at grid point `t`. -/
theorem index_facts : ∀ t : Fin grid0.N,
    (win0_0.index t 0 = t.val / 5 ∧ win0_0.index t 1 = 0)
    ∧ (win0_1.index t 0 = 0 ∧ win0_1.index t 1 = t.val % 5)
    ∧ (win0_2.index t 0 = t.val / 5 ∧ win0_2.index t 1 = t.val % 5) := by decide +kernel

/-- The product the result array is to hold. -/
abbrev G (c : Dev nD) : Buf (Elt Ideal) ((c : Thread nD τ).loc main_v0) :=
  Cert.InsRefIdeal.Read.val_main_v1 (F := Ideal) (m ((c : Thread nD τ).loc main_arg0)) (m ((c : Thread nD τ).loc main_arg1))

/-- What point `t` writes back is block `t` of the product. -/
theorem flushed_eq (c : Dev nD) (t : Fin cfg0.N) (hf : (cfg0.win 2).flush t = true) :
    (dats m 0 c).flushed 2 t = ((cfg0.win 2).blk t).view.read (Elt Ideal) (G m c) := by
  rw [Value.flushed2]
  show out0_2 (iblk m c 0 t) (iblk m c 1 t) = _
  unfold out0_2
  rw [View.canon_unit_zero hz]
  funext j
  obtain ⟨⟨h00, h01⟩, ⟨h10, h11⟩, ⟨h20, h21⟩⟩ := index_facts t
  rw [View.ld_unit_zero (S := S1024x2048) hz, View.ld_unit_zero (S := S2048x1024) hz]
  obtain ⟨r, q, rfl⟩ : ∃ (r : Fin 1024) (q : Fin 1024), j = ix2 r q := ⟨j 0, j 1, by funext a; fin_cases a <;> rfl⟩
  refine (pay_apply _ _ r q).trans ?_
  rw [View.read_apply]
  refine Eq.trans ?_ (Cert.InsRefIdeal.Read.val_main_v1_apply _ _ _).symm
  refine Finset.sum_congr rfl fun k _ => ?_
  refine congrArg₂ (· * ·) ?_ ?_
  · unfold iblk
    rw [View.read_apply]
    show V m c main_arg0 _ = m (c.tc.loc main_arg0) _
    unfold V
    congr 1
    funext a
    apply Fin.ext
    match a with
    | ⟨0, _⟩ => show win0_0.index t 0 * 1024 + 1 * r.val = win0_2.index t 0 * 1024 + 1 * r.val; rw [h00, h20]
    | ⟨1, _⟩ => show win0_0.index t 1 * 2048 + 1 * k.val = k.val; rw [h01]; omega
  · unfold iblk
    rw [View.read_apply]
    show V m c main_arg1 _ = m (c.tc.loc main_arg1) _
    unfold V
    congr 1
    funext a
    apply Fin.ext
    match a with
    | ⟨0, _⟩ => show win0_1.index t 0 * 2048 + 1 * k.val = k.val; rw [h10]; omega
    | ⟨1, _⟩ => show win0_1.index t 1 * 1024 + 1 * q.val = win0_2.index t 1 * 1024 + 1 * q.val; rw [h11, h21]

/-- The blocks cover the array, so it ends holding the product. -/
theorem final (c : Dev nD) : (dats m 0 c).arrAt 2 cfg0.N = G m c :=
  (dats m 0 c).arrAt_eq_of_cover 2 (G m c) (flushed_eq m c) fun i => by
    have h0 : (i 0 : Nat) < 16384 := (i 0).isLt
    have h1 : (i 1 : Nat) < 5120 := (i 1).isLt
    have hN : cfg0.N = 16 * 5 := N_0
    have ht : (i 0 : Nat) / 1024 * 5 + (i 1 : Nat) / 1024 < cfg0.N := by omega
    refine ⟨⟨(i 0 : Nat) / 1024 * 5 + (i 1 : Nat) / 1024, ht⟩, flush0_2 _, ?_⟩
    obtain ⟨-, -, h20, h21⟩ := index_facts ⟨(i 0 : Nat) / 1024 * 5 + (i 1 : Nat) / 1024, ht⟩
    show i ∈ ((View.whole main_v0).slice (win0_2.rect ⟨(i 0 : Nat) / 1024 * 5 + (i 1 : Nat) / 1024, ht⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [h20]; dsimp only; omega
    | ⟨1, _⟩ =>
      show win0_2.index _ 1 * 1024 ≤ (i 1 : Nat) ∧ (i 1 : Nat) < win0_2.index _ 1 * 1024 + 1024
      rw [h21]; dsimp only; omega

end Cert.InsIdeal.Product

end
-- ==== Proof.Ina.lean ====
/-
  The in-projection call with 3072 output columns: `h @ w`, the result tiled in blocks of 1024 x 1024, one whole
  contraction per block. At the ideal instance a block holds the textbook sums of products of its rows and columns, so
  the result array is the reference's one product.
-/
module

public import proofs.«01_k».proof.Proof.Gen.InaIdeal.Value
public import proofs.«01_k».proof.Proof.Gen.InaRefIdeal.Read
public import Idealize.ShloMosaic.Lib.MatmulPlain

@[expose] public section

set_option maxRecDepth 16384

noncomputable section

namespace Cert.InaIdeal.Product

open Cert.InaIdeal Cert.InaIdeal.Gen Idealize.ShloMosaic Idealize.ShloMosaic.TcCoe Idealize.SL.Sem
open Idealize.ShloMosaic.ValueIdx

variable (m : (ℓ : Loc nD τ sig) → Buf (Elt Ideal) ℓ)

theorem hz : (![0, 0] : Fin 2 → Nat) = fun _ => 0 := funext fun a => by fin_cases a <;> rfl

/-- One block's payload at row `r`, column `q`: the sum over the 2048 contracted positions. -/
theorem pay_apply (a : Vec Ideal S1024x2048 .bf16) (w : Vec Ideal S2048x1024 .f32) (r : Fin 1024) (q : Fin 1024) :
    k0_pay1 a w (ix2 r q) = ∑ k : Fin 2048, a (ix2 r k) * w (ix2 k q) := by
  unfold k0_pay1
  refine (Ideal.matmul_plain_apply (M := 1024) (K := 2048) (N := 1024) none a _ _ r q).trans ?_
  rw [show (constant S1024x1024 .f32 0x00000000#32 : FVec Ideal S1024x1024 .f32) (ix2 r q) = (0 : EReal) from by
    simp [constant, Ideal.ofBits, Ideal.ieee], zero_add]
  rfl

/-- Where each window's block lies at grid point `t`. -/
theorem index_facts : ∀ t : Fin grid0.N,
    (win0_0.index t 0 = t.val / 3 ∧ win0_0.index t 1 = 0)
    ∧ (win0_1.index t 0 = 0 ∧ win0_1.index t 1 = t.val % 3)
    ∧ (win0_2.index t 0 = t.val / 3 ∧ win0_2.index t 1 = t.val % 3) := by decide +kernel

/-- The product the result array is to hold. -/
abbrev G (c : Dev nD) : Buf (Elt Ideal) ((c : Thread nD τ).loc main_v0) :=
  Cert.InaRefIdeal.Read.val_main_v1 (F := Ideal) (m ((c : Thread nD τ).loc main_arg0)) (m ((c : Thread nD τ).loc main_arg1))

/-- What point `t` writes back is block `t` of the product. -/
theorem flushed_eq (c : Dev nD) (t : Fin cfg0.N) (hf : (cfg0.win 2).flush t = true) :
    (dats m 0 c).flushed 2 t = ((cfg0.win 2).blk t).view.read (Elt Ideal) (G m c) := by
  rw [Value.flushed2]
  show out0_2 (iblk m c 0 t) (iblk m c 1 t) = _
  unfold out0_2
  rw [View.canon_unit_zero hz]
  funext j
  obtain ⟨⟨h00, h01⟩, ⟨h10, h11⟩, ⟨h20, h21⟩⟩ := index_facts t
  rw [View.ld_unit_zero (S := S1024x2048) hz, View.ld_unit_zero (S := S2048x1024) hz]
  obtain ⟨r, q, rfl⟩ : ∃ (r : Fin 1024) (q : Fin 1024), j = ix2 r q := ⟨j 0, j 1, by funext a; fin_cases a <;> rfl⟩
  refine (pay_apply _ _ r q).trans ?_
  rw [View.read_apply]
  refine Eq.trans ?_ (Cert.InaRefIdeal.Read.val_main_v1_apply _ _ _).symm
  refine Finset.sum_congr rfl fun k _ => ?_
  refine congrArg₂ (· * ·) ?_ ?_
  · unfold iblk
    rw [View.read_apply]
    show V m c main_arg0 _ = m (c.tc.loc main_arg0) _
    unfold V
    congr 1
    funext a
    apply Fin.ext
    match a with
    | ⟨0, _⟩ => show win0_0.index t 0 * 1024 + 1 * r.val = win0_2.index t 0 * 1024 + 1 * r.val; rw [h00, h20]
    | ⟨1, _⟩ => show win0_0.index t 1 * 2048 + 1 * k.val = k.val; rw [h01]; omega
  · unfold iblk
    rw [View.read_apply]
    show V m c main_arg1 _ = m (c.tc.loc main_arg1) _
    unfold V
    congr 1
    funext a
    apply Fin.ext
    match a with
    | ⟨0, _⟩ => show win0_1.index t 0 * 2048 + 1 * k.val = k.val; rw [h10]; omega
    | ⟨1, _⟩ => show win0_1.index t 1 * 1024 + 1 * q.val = win0_2.index t 1 * 1024 + 1 * q.val; rw [h11, h21]

/-- The blocks cover the array, so it ends holding the product. -/
theorem final (c : Dev nD) : (dats m 0 c).arrAt 2 cfg0.N = G m c :=
  (dats m 0 c).arrAt_eq_of_cover 2 (G m c) (flushed_eq m c) fun i => by
    have h0 : (i 0 : Nat) < 16384 := (i 0).isLt
    have h1 : (i 1 : Nat) < 3072 := (i 1).isLt
    have hN : cfg0.N = 16 * 3 := N_0
    have ht : (i 0 : Nat) / 1024 * 3 + (i 1 : Nat) / 1024 < cfg0.N := by omega
    refine ⟨⟨(i 0 : Nat) / 1024 * 3 + (i 1 : Nat) / 1024, ht⟩, flush0_2 _, ?_⟩
    obtain ⟨-, -, h20, h21⟩ := index_facts ⟨(i 0 : Nat) / 1024 * 3 + (i 1 : Nat) / 1024, ht⟩
    show i ∈ ((View.whole main_v0).slice (win0_2.rect ⟨(i 0 : Nat) / 1024 * 3 + (i 1 : Nat) / 1024, ht⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [h20]; dsimp only; omega
    | ⟨1, _⟩ =>
      show win0_2.index _ 1 * 1024 ≤ (i 1 : Nat) ∧ (i 1 : Nat) < win0_2.index _ 1 * 1024 + 1024
      rw [h21]; dsimp only; omega

end Cert.InaIdeal.Product

end
-- ==== Proof.Mrg.lean ====
/-
  The merge of the three branches: `sum over b of sigmoid(gate_b) * (branch_b @ w_branch[b])`. The kernel visits the branches one
  after another and keeps the partial sum in a scratch buffer; the reference stacks the branches and sums over the stacked
  axis. At the ideal instance each element is the same sum of three gated products.
-/
module

public import proofs.«01_k».proof.Proof.Gen.MrgIdeal.Value
public import proofs.«01_k».proof.Proof.Gen.MrgRefIdeal.Read
public import Idealize.ShloMosaic.Lib.MatmulPlain
public import Idealize.ShloMosaic.Lib.IdealHost

@[expose] public section

set_option maxRecDepth 16384

noncomputable section

namespace Cert.MrgIdeal.Product

open Cert.MrgIdeal Cert.MrgIdeal.Gen Idealize.ShloMosaic Idealize.ShloMosaic.TcCoe Idealize.SL.Sem
open Idealize.ShloMosaic.ValueIdx Idealize.ShloMosaic.Tactic

theorem hz : (![0, 0] : Fin 2 → Nat) = fun _ => 0 := funext fun a => by fin_cases a <;> rfl
theorem hz3 : (![0, 0, 0] : Fin 3 → Nat) = fun _ => 0 := funext fun a => by fin_cases a <;> rfl

section Steps

variable {F : FTy → Type} [FloatOps F] (m : (ℓ : Loc nD τ sig) → Buf (Elt F) ℓ)

/-- One branch's gated product on one block. -/
def gated (w : Vec F S1x2048x256 .f32) (g : Vec F S1024x256 .f32) (a : Vec F S1024x2048 .bf16) : FVec F S1024x256 .f32 :=
  mulf (k0_pay2 g) (matmul dot_S1024x2048_S2048x256_S1024x256_1_0_0_1_n_n none a (k0_pay1 w) (constant S1024x256 .f32 0x00000000#32))

/-- The first branch's step leaves its gated product in the scratch. -/
theorem scr_first (c : Dev nD) (t : Fin cfg0.N) (h0 : t.val % 3 = 0) :
    (outsAt0 m c t.val t.isLt).2 = gated (iblk m c 3 t) (iblk m c 4 t) (iblk m c 0 t) := by
  rw [outsAt0_A m c t h0 (by omega) (by omega)]
  dsimp only
  unfold sout0_A_0
  rw [View.read_writes_eq_canon _ _ _ (scover0_A_0 c _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_3 t).read_unread, (hs0_4 t).read_unread,
    View.ld_unit_zero (S := S1024x2048) hz, View.ld_unit_zero (S := S1x2048x256) hz3, View.ld_unit_zero (S := S1024x256) hz]
  unfold k0_pay3
  exact shapeCast_self _ _

/-- The second branch's step adds its gated product. -/
theorem scr_next (c : Dev nD) (t : Fin cfg0.N) (h1 : t.val % 3 = 1) :
    (outsAt0 m c t.val t.isLt).2
      = addf (outsAt0 m c (t.val - 1) (Nat.lt_of_le_of_lt (Nat.sub_le _ _) t.isLt)).2
          (gated (iblk m c 3 t) (iblk m c 4 t) (iblk m c 1 t)) := by
  rw [outsAt0_B m c t (by omega) h1 (by omega)]
  dsimp only
  unfold sout0_B_0
  rw [View.read_writes_eq_canon _ _ _ (scover0_B_0 c _ _ _ _ _ _ _ _ _ _ _ _ _ _ _ _ _ _ _ _ _ _ _ _)]
  unfold kernelRun0_B
  dsimp only
  sl_unfold_words
  rw [View.canon_unit_zero hz]
  simp only [View.readAt_eq_ld, (hs0_1 t).read_unread, (hs0_3 t).read_unread, (hs0_4 t).read_unread,
    (Memref.isWhole_whole cc0_scratch0).read_unread,
    View.ld_unit_zero (S := S1024x2048) hz, View.ld_unit_zero (S := S1x2048x256) hz3, View.ld_unit_zero (S := S1024x256) hz]
  unfold k0_pay4
  exact shapeCast_self _ _

/-- The third branch's step writes the block of the result: the scratch and its own gated product, rounded. -/
theorem out_last (c : Dev nD) (t : Fin cfg0.N) (h2 : t.val % 3 = 2) :
    (outsAt0 m c t.val t.isLt).1
      = truncf .bf16 (addf (outsAt0 m c (t.val - 1) (Nat.lt_of_le_of_lt (Nat.sub_le _ _) t.isLt)).2
          (gated (iblk m c 3 t) (iblk m c 4 t) (iblk m c 2 t))) bitsLt_bf16_f32 := by
  rw [outsAt0_C m c t (by omega) (by omega) h2]
  dsimp only
  unfold out0_C_5
  rw [View.read_writes_eq_canon _ _ _ (cover0_C_5 c _ _ _ _ _ _ _ _ _ _ _ _ _ _ _ _ _ _ _ _ _ _ _ _)]
  unfold kernelRun0_C
  dsimp only
  sl_unfold_words
  rw [View.canon_unit_zero hz]
  simp only [View.readAt_eq_ld, (hs0_2 t).read_unread, (hs0_3 t).read_unread, (hs0_4 t).read_unread,
    (Memref.isWhole_whole cc0_scratch0).read_unread,
    View.ld_unit_zero (S := S1024x2048) hz, View.ld_unit_zero (S := S1x2048x256) hz3, View.ld_unit_zero (S := S1024x256) hz]
  rfl

end Steps

section Values

variable (m : (ℓ : Loc nD τ sig) → Buf (Elt Ideal) ℓ)

/-- The three branches, the gate logits and the weights as launched. -/
abbrev br (c : Dev nD) (b : Fin 3) : Vec Ideal S16384x2048 .bf16 := match b with
  | ⟨0, _⟩ => m ((c : Thread nD τ).loc main_arg0)
  | ⟨1, _⟩ => m ((c : Thread nD τ).loc main_arg1)
  | ⟨2, _⟩ => m ((c : Thread nD τ).loc main_arg2)
abbrev logits (c : Dev nD) : Vec Ideal S16384x6144 .f32 := m ((c : Thread nD τ).loc main_arg3)
abbrev wgt (c : Dev nD) : Vec Ideal S3x2048x2048 .f32 := m ((c : Thread nD τ).loc main_arg4)

/-- Branch `b`'s gated product at row `R`, column `J`. -/
def term (x : Vec Ideal S16384x2048 .bf16) (g : Vec Ideal S16384x6144 .f32) (w : Vec Ideal S3x2048x2048 .f32) (b : Fin 3)
    (R : Fin 16384) (J : Fin 2048) : EReal :=
  Ideal.logistic (g (ix2 R ⟨b.val * 2048 + J.val, by omega⟩)) * ∑ k : Fin 2048, x (ix2 R k) * w (ix3 b k J)

/-- Where each window's block lies at grid point `t`. -/
theorem index_facts : ∀ t : Fin grid0.N,
    (win0_0.index t 0 = t.val / 24 ∧ win0_0.index t 1 = 0)
    ∧ (win0_1.index t 0 = t.val / 24 ∧ win0_1.index t 1 = 0)
    ∧ (win0_2.index t 0 = t.val / 24 ∧ win0_2.index t 1 = 0)
    ∧ (win0_3.index t 0 = t.val % 3 ∧ win0_3.index t 1 = 0 ∧ win0_3.index t 2 = t.val / 3 % 8)
    ∧ (win0_4.index t 0 = t.val / 24 ∧ win0_4.index t 1 = t.val % 3 * 8 + t.val / 3 % 8)
    ∧ (win0_5.index t 0 = t.val / 24 ∧ win0_5.index t 1 = t.val / 3 % 8) := by decide +kernel

/-- One gated product at row `r`, column `q` of its block. -/
theorem gated_apply (w : Vec Ideal S1x2048x256 .f32) (g : Vec Ideal S1024x256 .f32) (a : Vec Ideal S1024x2048 .bf16) (r : Fin 1024)
    (q : Fin 256) : gated w g a (ix2 r q)
      = Ideal.logistic (g (ix2 r q)) * ∑ k : Fin 2048, a (ix2 r k) * w (ix3 0 k q) := by
  unfold gated
  refine congrArg₂ (· * ·) rfl ?_
  refine (Ideal.matmul_plain_apply (M := 1024) (K := 2048) (N := 256) none a _ _ r q).trans ?_
  rw [show (constant S1024x256 .f32 0x00000000#32 : FVec Ideal S1024x256 .f32) (ix2 r q) = (0 : EReal) from by
    simp [constant, Ideal.ofBits, Ideal.ieee], zero_add]
  refine Finset.sum_congr rfl fun k _ => congrArg₂ (· * ·) rfl ?_
  exact shapeCast_apply _ _ (ix2 k q) (ix3 0 k q) (by
    rw [Shape.rowMajor_val_three, Shape.rowMajor_val_two]
    show (0 * 2048 + k.val) * 256 + q.val = k.val * 256 + q.val
    omega)

/-- The gated product of grid point `t`, whose first operand's block `a` is branch `b`'s. -/
theorem step_apply (c : Dev nD) (t : Fin cfg0.N) (r : Fin 1024) (q : Fin 256) (R : Fin 16384) (J : Fin 2048) (b : Fin 3)
    (hb : t.val % 3 = b.val) (hR : R.val = t.val / 24 * 1024 + r.val) (hJ : J.val = t.val / 3 % 8 * 256 + q.val)
    (a : Vec Ideal S1024x2048 .bf16) (ha : ∀ k : Fin 2048, a (ix2 r k) = br m c b (ix2 R k)) :
    gated (F := Ideal) (iblk m c 3 t) (iblk m c 4 t) a (ix2 r q) = term (br m c b) (logits m c) (wgt m c) b R J := by
  obtain ⟨-, -, -, ⟨h30, h31, h32⟩, ⟨h40, h41⟩, -⟩ := index_facts t
  refine (gated_apply _ _ _ r q).trans ?_
  unfold term
  refine congrArg₂ (· * ·) (congrArg Ideal.logistic ?_) (Finset.sum_congr rfl fun k _ => congrArg₂ (· * ·) (ha k) ?_)
  · unfold iblk
    rw [View.read_apply]
    show m (c.tc.loc main_arg3) _ = m (c.tc.loc main_arg3) _
    congr 1
    funext a
    apply Fin.ext
    match a with
    | ⟨0, _⟩ => show win0_4.index t 0 * 1024 + 1 * r.val = R.val; rw [h40]; omega
    | ⟨1, _⟩ => show win0_4.index t 1 * 256 + 1 * q.val = b.val * 2048 + J.val; rw [h41, hb]; omega
  · unfold iblk
    rw [View.read_apply]
    show m (c.tc.loc main_arg4) _ = m (c.tc.loc main_arg4) _
    congr 1
    funext a
    apply Fin.ext
    match a with
    | ⟨0, _⟩ => show win0_3.index t 0 * 1 + 1 * 0 = b.val; rw [h30]; omega
    | ⟨1, _⟩ => show win0_3.index t 1 * 2048 + 1 * k.val = k.val; rw [h31]; omega
    | ⟨2, _⟩ => show win0_3.index t 2 * 256 + 1 * q.val = J.val; rw [h32]; omega

/-- The branches' blocks at grid point `t`, row `r`. -/
theorem blk0 (c : Dev nD) (t : Fin cfg0.N) (r : Fin 1024) (R : Fin 16384) (hR : R.val = t.val / 24 * 1024 + r.val) (k : Fin 2048) :
    (iblk m c 0 t : Vec Ideal S1024x2048 .bf16) (ix2 r k) = br m c 0 (ix2 R k) := by
  obtain ⟨⟨h0, h1⟩, -⟩ := index_facts t
  unfold iblk
  rw [View.read_apply]
  show m (c.tc.loc main_arg0) _ = m (c.tc.loc main_arg0) _
  congr 1
  funext a
  apply Fin.ext
  match a with
  | ⟨0, _⟩ => show win0_0.index t 0 * 1024 + 1 * r.val = R.val; rw [h0]; omega
  | ⟨1, _⟩ => show win0_0.index t 1 * 2048 + 1 * k.val = k.val; rw [h1]; omega
theorem blk1 (c : Dev nD) (t : Fin cfg0.N) (r : Fin 1024) (R : Fin 16384) (hR : R.val = t.val / 24 * 1024 + r.val) (k : Fin 2048) :
    (iblk m c 1 t : Vec Ideal S1024x2048 .bf16) (ix2 r k) = br m c 1 (ix2 R k) := by
  obtain ⟨-, ⟨h0, h1⟩, -⟩ := index_facts t
  unfold iblk
  rw [View.read_apply]
  show m (c.tc.loc main_arg1) _ = m (c.tc.loc main_arg1) _
  congr 1
  funext a
  apply Fin.ext
  match a with
  | ⟨0, _⟩ => show win0_1.index t 0 * 1024 + 1 * r.val = R.val; rw [h0]; omega
  | ⟨1, _⟩ => show win0_1.index t 1 * 2048 + 1 * k.val = k.val; rw [h1]; omega
theorem blk2 (c : Dev nD) (t : Fin cfg0.N) (r : Fin 1024) (R : Fin 16384) (hR : R.val = t.val / 24 * 1024 + r.val) (k : Fin 2048) :
    (iblk m c 2 t : Vec Ideal S1024x2048 .bf16) (ix2 r k) = br m c 2 (ix2 R k) := by
  obtain ⟨-, -, ⟨h0, h1⟩, -⟩ := index_facts t
  unfold iblk
  rw [View.read_apply]
  show m (c.tc.loc main_arg2) _ = m (c.tc.loc main_arg2) _
  congr 1
  funext a
  apply Fin.ext
  match a with
  | ⟨0, _⟩ => show win0_2.index t 0 * 1024 + 1 * r.val = R.val; rw [h0]; omega
  | ⟨1, _⟩ => show win0_2.index t 1 * 2048 + 1 * k.val = k.val; rw [h1]; omega

/-- The array the result is to hold. -/
abbrev G (c : Dev nD) : Buf (Elt Ideal) ((c : Thread nD τ).loc main_v0) :=
  Cert.MrgRefIdeal.Read.val_main_v18 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The stacked branches read at one of them. -/
theorem stack_apply (x0 x1 x2 : Vec Ideal S16384x2048 .bf16) (b : Fin 3) (R : Fin 16384) (k : Fin 2048) :
    Cert.MrgRefIdeal.Read.val_main_v6 (F := Ideal) x0 x1 x2 (ix3 R b k)
      = (match b with | ⟨0, _⟩ => x0 | ⟨1, _⟩ => x1 | ⟨2, _⟩ => x2 : Vec Ideal S16384x2048 .bf16) (ix2 R k) := by
  have off : ∀ (n : Fin 3) (a : Fin 3), a ≠ 1 → ((ix3 R (0 : Fin 1) k : Cert.MrgRefIdeal.S16384x1x2048.Idx) a).val
      = ((ix3 R n k : Cert.MrgRefIdeal.S16384x3x2048.Idx) a).val := fun n a h => by
    match a with
    | ⟨0, _⟩ => rfl
    | ⟨1, _⟩ => exact absurd rfl h
    | ⟨2, _⟩ => rfl
  have at2 : ∀ x : Vec Ideal S16384x2048 .bf16, x (Cert.MrgRefIdeal.Read.idx_main_v3 (ix3 R (0 : Fin 1) k)) = x (ix2 R k) := fun x =>
    congrArg x (funext fun a => by fin_cases a <;> rfl)
  unfold Cert.MrgRefIdeal.Read.val_main_v6
  match b with
  | ⟨0, _⟩ =>
    refine (concatenate_apply_piece (t := Cert.MrgRefIdeal.S16384x3x2048) 1 _ _ (ix3 R (0 : Fin 3) k) 0 (by show 0 < 3; omega)
      Cert.MrgRefIdeal.S16384x1x2048 (Cert.MrgRefIdeal.Read.val_main_v3 (F := Ideal) x0) rfl rfl 0 rfl (ix3 R (0 : Fin 1) k) (off 0) rfl).trans ?_
    exact (Cert.MrgRefIdeal.Read.val_main_v3_apply _ _).trans (at2 x0)
  | ⟨1, _⟩ =>
    refine (concatenate_apply_piece (t := Cert.MrgRefIdeal.S16384x3x2048) 1 _ _ (ix3 R (1 : Fin 3) k) 1 (by show 1 < 3; omega)
      Cert.MrgRefIdeal.S16384x1x2048 (Cert.MrgRefIdeal.Read.val_main_v4 (F := Ideal) x1) rfl rfl 1 rfl (ix3 R (0 : Fin 1) k) (off 1) rfl).trans ?_
    exact (Cert.MrgRefIdeal.Read.val_main_v4_apply _ _).trans (at2 x1)
  | ⟨2, _⟩ =>
    refine (concatenate_apply_piece (t := Cert.MrgRefIdeal.S16384x3x2048) 1 _ _ (ix3 R (2 : Fin 3) k) 2 (by show 2 < 3; omega)
      Cert.MrgRefIdeal.S16384x1x2048 (Cert.MrgRefIdeal.Read.val_main_v5 (F := Ideal) x2) rfl rfl 2 rfl (ix3 R (0 : Fin 1) k) (off 2) rfl).trans ?_
    exact (Cert.MrgRefIdeal.Read.val_main_v5_apply _ _).trans (at2 x2)

/-- One branch's part of the reference. -/
theorem ref_term (x0 x1 x2 : Vec Ideal S16384x2048 .bf16) (x3 : Vec Ideal S16384x6144 .f32) (x4 : Vec Ideal S3x2048x2048 .f32)
    (b : Fin 3) (R : Fin 16384) (J : Fin 2048) :
    Cert.MrgRefIdeal.Read.val_main_v16 (F := Ideal) x0 x1 x2 x3 x4 (ix3 R b J)
      = term (match b with | ⟨0, _⟩ => x0 | ⟨1, _⟩ => x1 | ⟨2, _⟩ => x2) x3 x4 b R J := by
  have hb := b.isLt
  have hJ := J.isLt
  have hR := R.isLt
  rw [Cert.MrgRefIdeal.Read.val_main_v16_apply, Cert.MrgRefIdeal.Read.val_main_v8_apply, Cert.MrgRefIdeal.Read.val_main_v7_apply]
  unfold term
  refine congrArg₂ (· * ·) ?_ (Finset.sum_congr rfl fun k _ => (mul_comm _ _).trans (congrArg₂ (· * ·) ?_ (congrArg x4 ?_)))
  · simp only [Cert.MrgRefIdeal.Read.val_main_v15_apply, Cert.MrgRefIdeal.Read.val_main_v14_apply,
      Cert.MrgRefIdeal.Read.val_main_v13_apply, Cert.MrgRefIdeal.Read.val_main_v12_apply,
      Cert.MrgRefIdeal.Read.val_main_v11_apply, Cert.MrgRefIdeal.Read.val_main_v10_apply,
      Cert.MrgRefIdeal.Read.val_main_cst_apply, Cert.MrgRefIdeal.Read.val_main_cst_0_apply,
      Cert.MrgRefIdeal.Read.val_main_v9_apply]
    show Ideal.div (Ideal.ofBits .f32 0x3F800000#32) (Ideal.ofBits .f32 0x3F800000#32 + Ideal.exp (-_)) = _
    rw [Ideal.ofBits_one_f32]
    show Ideal.logistic _ = _
    refine congrArg Ideal.logistic (congrArg x3 (funext fun a => Fin.ext ?_))
    match a with
    | ⟨0, _⟩ => show ((R.val * 3 + b.val) * 2048 + J.val) / 6144 = R.val; omega
    | ⟨1, _⟩ => show ((R.val * 3 + b.val) * 2048 + J.val) % 6144 = b.val * 2048 + J.val; omega
  · refine (congrArg _ ?_).trans (stack_apply x0 x1 x2 b R k)
    funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's element at row `R`, column `J`. -/
theorem ref_apply (x0 x1 x2 : Vec Ideal S16384x2048 .bf16) (x3 : Vec Ideal S16384x6144 .f32) (x4 : Vec Ideal S3x2048x2048 .f32)
    (R : Fin 16384) (J : Fin 2048) :
    Cert.MrgRefIdeal.Read.val_main_v18 (F := Ideal) x0 x1 x2 x3 x4 (ix2 R J)
      = (term x0 x3 x4 0 R J + term x1 x3 x4 1 R J) + term x2 x3 x4 2 R J := by
  have hi : ∀ b : Fin 3, Cert.MrgRefIdeal.Read.idx_main_v17 (ix2 R J) b = ix3 R b J := fun b => funext fun a => by
    match a with
    | ⟨0, _⟩ => rfl
    | ⟨1, _⟩ => rfl
    | ⟨2, _⟩ => rfl
  rw [Cert.MrgRefIdeal.Read.val_main_v18_apply, Cert.MrgRefIdeal.Read.val_main_v17_apply, Fin.sum_univ_three, hi, hi, hi,
    ref_term, ref_term, ref_term, Cert.MrgRefIdeal.Read.val_main_cst_1_apply]
  show Ideal.ofBits .f32 0x00000000#32 + _ = _
  rw [Ideal.ofBits_zero_f32, zero_add]

/-- What a third step writes back is its block of the reference's array. -/
theorem flushed_eq (c : Dev nD) (t : Fin cfg0.N) (hf : (cfg0.win 5).flush t = true) :
    (dats m 0 c).flushed 5 t = ((cfg0.win 5).blk t).view.read (Elt Ideal) (G m c) := by
  have h2 : t.val % 3 = 2 := (flush0_5 t).mp hf
  have hN : t.val < 384 := lt_of_lt_of_eq t.isLt N_0
  have hN' : cfg0.N = 384 := N_0
  rw [Value.flushed5]
  show (outsAt0 m c t.val t.isLt).1 = _
  rw [out_last m c t h2]
  have e1 := scr_next m c ⟨t.val - 1, by omega⟩ (show (t.val - 1) % 3 = 1 by omega)
  have e0 := scr_first m c ⟨t.val - 1 - 1, by omega⟩ (show (t.val - 1 - 1) % 3 = 0 by omega)
  dsimp only at e1 e0
  funext j
  obtain ⟨-, -, -, -, -, ⟨h50, h51⟩⟩ := index_facts t
  obtain ⟨r, q, rfl⟩ : ∃ (r : Fin 1024) (q : Fin 256), j = ix2 r q := ⟨j 0, j 1, by funext a; fin_cases a <;> rfl⟩
  have hr := r.isLt
  have hq := q.isLt
  let R : Fin 16384 := ⟨t.val / 24 * 1024 + r.val, by omega⟩
  let J : Fin 2048 := ⟨t.val / 3 % 8 * 256 + q.val, by omega⟩
  rw [View.read_apply]
  have hemb : ((cfg0.win 5).blk t).view.emb (ix2 r q) = (ix2 R J : S16384x2048.Idx) := by
    funext a
    apply Fin.ext
    match a with
    | ⟨0, _⟩ => show win0_5.index t 0 * 1024 + 1 * r.val = t.val / 24 * 1024 + r.val; rw [h50]; omega
    | ⟨1, _⟩ => show win0_5.index t 1 * 256 + 1 * q.val = t.val / 3 % 8 * 256 + q.val; rw [h51]; omega
  refine Eq.trans ?_ (congrArg (G m c) hemb.symm)
  refine Eq.trans ?_ (ref_apply _ _ _ _ _ R J).symm
  refine congrArg₂ (· + ·) ?_ (step_apply m c t r q R J 2 h2 rfl rfl _ (blk2 m c t r R rfl))
  rw [e1]
  have hR1 : R.val = (t.val - 1) / 24 * 1024 + r.val := by show t.val / 24 * 1024 + r.val = _; omega
  have hR0 : R.val = (t.val - 1 - 1) / 24 * 1024 + r.val := by show t.val / 24 * 1024 + r.val = _; omega
  refine congrArg₂ (· + ·) ?_ (step_apply m c ⟨t.val - 1, by omega⟩ r q R J 1 (show (t.val - 1) % 3 = 1 by omega) hR1
    (show t.val / 3 % 8 * 256 + q.val = (t.val - 1) / 3 % 8 * 256 + q.val by omega) _ (blk1 m c _ r R hR1))
  rw [e0]
  exact step_apply m c ⟨t.val - 1 - 1, by omega⟩ r q R J 0 (show (t.val - 1 - 1) % 3 = 0 by omega) hR0
    (show t.val / 3 % 8 * 256 + q.val = (t.val - 1 - 1) / 3 % 8 * 256 + q.val by omega) _ (blk0 m c _ r R hR0)

/-- The third steps' blocks cover the array, so it ends holding the reference's. -/
theorem final (c : Dev nD) : (dats m 0 c).arrAt 5 cfg0.N = G m c :=
  (dats m 0 c).arrAt_eq_of_cover 5 (G m c) (flushed_eq m c) fun i => by
    have h0 : (i 0 : Nat) < 16384 := (i 0).isLt
    have h1 : (i 1 : Nat) < 2048 := (i 1).isLt
    have hN : cfg0.N = 384 := N_0
    have ht : (i 0 : Nat) / 1024 * 24 + (i 1 : Nat) / 256 * 3 + 2 < cfg0.N := by omega
    refine ⟨⟨(i 0 : Nat) / 1024 * 24 + (i 1 : Nat) / 256 * 3 + 2, ht⟩, (flush0_5 _).mpr (by dsimp only; omega), ?_⟩
    obtain ⟨-, -, -, -, -, h50, h51⟩ := index_facts ⟨(i 0 : Nat) / 1024 * 24 + (i 1 : Nat) / 256 * 3 + 2, ht⟩
    show i ∈ ((View.whole main_v0).slice (win0_5.rect ⟨(i 0 : Nat) / 1024 * 24 + (i 1 : Nat) / 256 * 3 + 2, ht⟩)).set
    rw [View.set_slice_whole, Rect.mem_set_unit]
    intro a
    match a with
    | ⟨0, _⟩ =>
      show win0_5.index _ 0 * 1024 ≤ (i 0 : Nat) ∧ (i 0 : Nat) < win0_5.index _ 0 * 1024 + 1024
      rw [h50]; dsimp only; omega
    | ⟨1, _⟩ =>
      show win0_5.index _ 1 * 256 ≤ (i 1 : Nat) ∧ (i 1 : Nat) < win0_5.index _ 1 * 256 + 256
      rw [h51]; dsimp only; omega

end Values

end Cert.MrgIdeal.Product

end
-- ==== Proof.Opr.lean ====
/-
  The output projection: `x + gate * (merged @ w_out)`. The contraction over 2048 is one step, so each grid point stores its product
  in the scratch, reads it back and adds the residual. At the ideal instance the constant factor 1 of the gate is the only
  thing in which the two sides are written differently.
-/
module

public import proofs.«01_k».proof.Proof.Gen.OprIdeal.Value
public import proofs.«01_k».proof.Proof.Gen.OprRefIdeal.Read
public import Idealize.ShloMosaic.Lib.MatmulPlain
public import Idealize.ShloMosaic.Lib.IdealHost

@[expose] public section

set_option maxRecDepth 16384

noncomputable section

namespace Cert.OprIdeal.Product

open Cert.OprIdeal Cert.OprIdeal.Gen Idealize.ShloMosaic Idealize.ShloMosaic.TcCoe Idealize.SL.Sem
open Idealize.ShloMosaic.ValueIdx Idealize.ShloMosaic.Tactic

theorem hz : (![0, 0] : Fin 2 → Nat) = fun _ => 0 := funext fun a => by fin_cases a <;> rfl
theorem hz3 : (![0, 0, 0] : Fin 3 → Nat) = fun _ => 0 := funext fun a => by fin_cases a <;> rfl

section Steps

variable {F : FTy → Type} [FloatOps F] (m : (ℓ : Loc nD τ sig) → Buf (Elt F) ℓ)

/-- What a point leaves in its block of the result: the residual on the product, which goes through the scratch. -/
theorem out_point (c : Dev nD) (t : Fin cfg0.N) :
    outsAt0 m c t = k0_pay4 (iblk m c 2 t) (iblk m c 3 t) (k0_pay1 (iblk m c 0 t) (iblk m c 1 t)) := by
  unfold outsAt0 out0_A_4
  rw [View.read_writes_eq_canon _ _ _ (cover0_A_4 c _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S1x1x512) hz3,
    View.ld_unit_zero (S := S1024x2048) hz, View.ld_unit_zero (S := S2048x512) hz, View.ld_unit_zero (S := S1024x512) hz,
    View.readCov_unit_zero (S := S1024x512) _ hz]
  unfold k0_pay2
  dsimp only
  rw [shapeCast_self]

end Steps

section Values

variable (m : (ℓ : Loc nD τ sig) → Buf (Elt Ideal) ℓ)

/-- The merged branches, the weight, the residual and the modulations as launched. -/
abbrev act (c : Dev nD) : Vec Ideal S16384x2048 .bf16 := m ((c : Thread nD τ).loc main_arg0)
abbrev res (c : Dev nD) : Vec Ideal S8x2048x2048 .f32 := m ((c : Thread nD τ).loc main_arg1)
abbrev mods (c : Dev nD) : Vec Ideal S8x18432 .f32 := m ((c : Thread nD τ).loc main_arg2)
abbrev wgt (c : Dev nD) : Vec Ideal S2048x2048 .f32 := m ((c : Thread nD τ).loc main_arg3)

/-- Where each window's block lies at grid point `t`. -/
theorem index_facts : ∀ t : Fin grid0.N,
    (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 8 * 9 + 5 ∧ win0_3.index t 1 = 0 ∧ win0_3.index t 2 = t.val % 4)
    ∧ (win0_4.index t 0 = t.val / 4 ∧ win0_4.index t 1 = t.val % 4) := by decide +kernel

/-- One block's product at row `r`, column `q` of its block. -/
theorem pay_apply (a : Vec Ideal S1024x2048 .bf16) (w : Vec Ideal S2048x512 .f32) (r : Fin 1024) (q : Fin 512) :
    k0_pay1 a w (ix2 r q) = ∑ k : Fin 2048, a (ix2 r k) * w (ix2 k q) := by
  unfold k0_pay1
  refine (Ideal.matmul_plain_apply (M := 1024) (K := 2048) (N := 512) none a _ _ r q).trans ?_
  rw [show (constant S1024x512 .f32 0x00000000#32 : FVec Ideal S1024x512 .f32) (ix2 r q) = (0 : EReal) from by
    simp [constant, Ideal.ofBits, Ideal.ieee], zero_add]
  rfl

/-- The product of grid point `t` is its block of the whole product. -/
theorem step_apply (c : Dev nD) (t : Fin cfg0.N) (r : Fin 1024) (q : Fin 512) (R : Fin 16384) (J : Fin 2048)
    (hR : R.val = t.val / 4 * 1024 + r.val) (hJ : J.val = t.val % 4 * 512 + q.val) :
    k0_pay1 (F := Ideal) (iblk m c 0 t) (iblk m c 1 t) (ix2 r q) = ∑ k : Fin 2048, act m c (ix2 R k) * wgt m c (ix2 k J) := by
  obtain ⟨⟨h00, h01⟩, ⟨h10, h11⟩, -, -, -⟩ := index_facts t
  refine (pay_apply _ _ r q).trans ?_
  refine Finset.sum_congr rfl fun k _ => congrArg₂ (· * ·) ?_ ?_
  · unfold iblk
    rw [View.read_apply]
    refine (congrFun (V_main_arg0 m c) _).trans ?_
    show m (c.tc.loc main_arg0) _ = m (c.tc.loc main_arg0) _
    congr 1
    funext a
    apply Fin.ext
    match a with
    | ⟨0, _⟩ => show win0_0.index t 0 * 1024 + 1 * r.val = R.val; rw [h00]; omega
    | ⟨1, _⟩ => show win0_0.index t 1 * 2048 + 1 * k.val = k.val; rw [h01]; omega
  · unfold iblk
    rw [View.read_apply]
    refine (congrFun (V_main_arg3 m c) _).trans ?_
    show m (c.tc.loc main_arg3) _ = m (c.tc.loc main_arg3) _
    congr 1
    funext a
    apply Fin.ext
    match a with
    | ⟨0, _⟩ => show win0_1.index t 0 * 2048 + 1 * k.val = k.val; rw [h10]; omega
    | ⟨1, _⟩ => show win0_1.index t 1 * 512 + 1 * q.val = J.val; rw [h11]; omega

/-- A point's block at row `r`, column `q`. -/
theorem pay4_apply (x : Vec Ideal S1024x512 .f32) (g : Vec Ideal S1x1x512 .f32) (a : Vec Ideal S1024x512 .f32) (r : Fin 1024)
    (q : Fin 512) : k0_pay4 x g a (ix2 r q)
      = x (ix2 r q) + g (ix3 0 0 q) * a (ix2 r q) := by
  unfold k0_pay4
  refine congrArg₂ (· + ·) (congrFun (shapeCast_self _ _) _) (congrArg₂ (· * ·) ?_ rfl)
  refine (broadcastTo_apply _ _ (ix2 r q) (ix2 (0 : Fin 1) q) fun a => by fin_cases a <;> rfl).trans ?_
  refine (congrArg₂ (· * ·) Ideal.ofBits_one_f32 rfl).trans ((one_mul _).trans ?_)
  exact shapeCast_apply _ _ _ (ix3 0 0 q) (by
    rw [Shape.rowMajor_val_three, Shape.rowMajor_val_two]; rfl)

/-- The residual as the call finds it: the launched array with its two leading axes joined. -/
theorem V_res (c : Dev nD) : (V m c main_v1 : Vec Ideal S16384x2048 .f32)
    = shapeCast S16384x2048 (res m c) shapeCasts_S8x2048x2048_S16384x2048 := by
  show StableHlo.after hostOps0 _ (Proc.devRef .tc main_v1) = _
  after_results
  rfl

/-- The modulations as the call finds them: one row per batch and modulation. -/
theorem V_mods (c : Dev nD) : (V m c main_v2 : Vec Ideal S72x1x2048 .f32)
    = shapeCast S72x1x2048 (shapeCast S1x72x1x2048 (mods m c) shapeCasts_S8x18432_S1x72x1x2048) shapeCasts_S1x72x1x2048_S72x1x2048 := by
  show StableHlo.after hostOps0 _ (Proc.devRef .tc main_v2) = _
  after_results
  rfl

/-- The array the result is to hold. -/
abbrev G (c : Dev nD) : Buf (Elt Ideal) ((c : Thread nD τ).loc main_v3) :=
  Cert.OprRefIdeal.Read.val_main_v24 (F := Ideal) (act m c) (res m c) (mods m c) (wgt m c)

/-- The reference's element at row `R`, column `J`. -/
theorem ref_apply (x0 : Vec Ideal S16384x2048 .bf16) (x1 : Vec Ideal S8x2048x2048 .f32) (x2 : Vec Ideal S8x18432 .f32)
    (x3 : Vec Ideal S2048x2048 .f32) (R : Fin 16384) (J : Fin 2048) :
    Cert.OprRefIdeal.Read.val_main_v24 (F := Ideal) x0 x1 x2 x3 (ix2 R J)
      = x1 (ix3 ⟨R.val / 2048, by omega⟩ ⟨R.val % 2048, by omega⟩ J)
        + x2 (ix2 ⟨R.val / 2048, by omega⟩ ⟨10240 + J.val, by omega⟩)
          * ∑ k : Fin 2048, x0 (ix2 R k) * x3 (ix2 k J) := by
  have hR := R.isLt
  have hJ := J.isLt
  simp only [Cert.OprRefIdeal.Read.val_main_v24_apply, Cert.OprRefIdeal.Read.val_main_v23_apply,
    Cert.OprRefIdeal.Read.val_main_v22_apply, Cert.OprRefIdeal.Read.val_main_v21_apply,
    Cert.OprRefIdeal.Read.val_main_v20_apply, Cert.OprRefIdeal.Read.val_main_v19_apply,
    Cert.OprRefIdeal.Read.val_main_v18_apply, Cert.OprRefIdeal.Read.val_main_v14_apply,
    Cert.OprRefIdeal.Read.val_main_v5_apply]
  refine congrArg₂ (· + ·) (congrArg x1 ?_) (congrArg₂ (· * ·) (congrArg x2 ?_)
    (Finset.sum_congr rfl fun k _ => congrArg₂ (· * ·) (congrArg x0 ?_) (congrArg x3 ?_)))
  · funext a
    apply Fin.ext
    match a with
    | ⟨0, _⟩ => show (R.val * 2048 + J.val) / 4194304 = R.val / 2048; omega
    | ⟨1, _⟩ => show (R.val * 2048 + J.val) / 2048 % 2048 = R.val % 2048; omega
    | ⟨2, _⟩ => show (R.val * 2048 + J.val) % 2048 = J.val; omega
  · funext a
    apply Fin.ext
    match a with
    | ⟨0, _⟩ => show (R.val * 2048 + J.val) / 4194304 = R.val / 2048; omega
    | ⟨1, _⟩ => show 10240 + (R.val * 2048 + J.val) % 2048 = 10240 + J.val; omega
  · have hk := k.isLt
    funext a
    apply Fin.ext
    match a with
    | ⟨0, _⟩ =>
      show (((R.val * 2048 + J.val) / 4194304 * 2048 + (R.val * 2048 + J.val) / 2048 % 2048) * 2048 + k.val) / 2048 = R.val
      omega
    | ⟨1, _⟩ =>
      show (((R.val * 2048 + J.val) / 4194304 * 2048 + (R.val * 2048 + J.val) / 2048 % 2048) * 2048 + k.val) % 2048 = k.val
      omega
  · funext a
    apply Fin.ext
    match a with
    | ⟨0, _⟩ => rfl
    | ⟨1, _⟩ => show (R.val * 2048 + J.val) % 2048 = J.val; omega

/-- What a point writes back is its block of the reference's array. -/
theorem flushed_eq (c : Dev nD) (t : Fin cfg0.N) (hf : (cfg0.win 4).flush t = true) :
    (dats m 0 c).flushed 4 t = ((cfg0.win 4).blk t).view.read (Elt Ideal) (G m c) := by
  have hN : t.val < 64 := lt_of_lt_of_eq t.isLt N_0
  rw [Value.flushed4]
  show outsAt0 m c t = _
  rw [out_point m c t]
  funext j
  obtain ⟨-, -, ⟨h20, h21⟩, ⟨h30, h31, h32⟩, ⟨h40, h41⟩⟩ := index_facts t
  obtain ⟨r, q, rfl⟩ : ∃ (r : Fin 1024) (q : Fin 512), j = ix2 r q := ⟨j 0, j 1, by funext a; fin_cases a <;> rfl⟩
  have hr := r.isLt
  have hq := q.isLt
  let R : Fin 16384 := ⟨t.val / 4 * 1024 + r.val, by omega⟩
  let J : Fin 2048 := ⟨t.val % 4 * 512 + q.val, by omega⟩
  rw [View.read_apply]
  have hemb : ((cfg0.win 4).blk t).view.emb (ix2 r q) = (ix2 R J : S16384x2048.Idx) := by
    funext a
    apply Fin.ext
    match a with
    | ⟨0, _⟩ => show win0_4.index t 0 * 1024 + 1 * r.val = t.val / 4 * 1024 + r.val; rw [h40]; omega
    | ⟨1, _⟩ => show win0_4.index t 1 * 512 + 1 * q.val = t.val % 4 * 512 + q.val; rw [h41]; omega
  refine Eq.trans ?_ (congrArg (G m c) hemb.symm)
  refine (pay4_apply _ _ _ r q).trans ?_
  refine Eq.trans ?_ (ref_apply _ _ _ _ R J).symm
  refine congrArg₂ (· + ·) ?_ (congrArg₂ (· * ·) ?_ (step_apply m c t r q R J rfl rfl))
  · unfold iblk
    rw [View.read_apply]
    refine (congrFun (V_res m c) _).trans ?_
    refine shapeCast_apply _ _ _ _ ?_
    rw [Shape.rowMajor_val_three, Shape.rowMajor_val_two]
    show ((R.val / 2048) * 2048 + R.val % 2048) * 2048 + J.val
      = (win0_2.index t 0 * 1024 + 1 * r.val) * 2048 + (win0_2.index t 1 * 512 + 1 * q.val)
    rw [h20, h21]
    show (((t.val / 4 * 1024 + r.val) / 2048) * 2048 + (t.val / 4 * 1024 + r.val) % 2048) * 2048 + (t.val % 4 * 512 + q.val) = _
    omega
  · unfold iblk
    rw [View.read_apply]
    refine (congrFun (V_mods m c) _).trans ?_
    refine (shapeCast_apply _ _ _ (ix4 (0 : Fin 1) (⟨t.val / 8 * 9 + 5, by omega⟩ : Fin 72) (0 : Fin 1) J) ?_).trans
      (shapeCast_apply _ _ _ _ ?_)
    · rw [Shape.rowMajor_val_four, Shape.rowMajor_val_three]
      show ((0 * 72 + (t.val / 8 * 9 + 5)) * 1 + 0) * 2048 + (t.val % 4 * 512 + q.val)
        = ((win0_3.index t 0 * 1 + 1 * 0) * 1 + (win0_3.index t 1 * 1 + 1 * 0)) * 2048 + (win0_3.index t 2 * 512 + 1 * q.val)
      rw [h30, h31, h32]
      omega
    · rw [Shape.rowMajor_val_two, Shape.rowMajor_val_four]
      show ((t.val / 4 * 1024 + r.val) / 2048) * 18432 + (10240 + (t.val % 4 * 512 + q.val))
        = ((0 * 72 + (t.val / 8 * 9 + 5)) * 1 + 0) * 2048 + (t.val % 4 * 512 + q.val)
      omega

/-- The blocks cover the array, so it ends holding the reference's. -/
theorem final (c : Dev nD) : (dats m 0 c).arrAt 4 cfg0.N = G m c :=
  (dats m 0 c).arrAt_eq_of_cover 4 (G m c) (flushed_eq m c) fun i => by
    have h0 : (i 0 : Nat) < 16384 := (i 0).isLt
    have h1 : (i 1 : Nat) < 2048 := (i 1).isLt
    have hN : cfg0.N = 64 := N_0
    have ht : (i 0 : Nat) / 1024 * 4 + (i 1 : Nat) / 512 < cfg0.N := by omega
    refine ⟨⟨(i 0 : Nat) / 1024 * 4 + (i 1 : Nat) / 512, ht⟩, flush0_4 _, ?_⟩
    obtain ⟨-, -, -, -, h40, h41⟩ := index_facts ⟨(i 0 : Nat) / 1024 * 4 + (i 1 : Nat) / 512, ht⟩
    show i ∈ ((View.whole main_v3).slice (win0_4.rect ⟨(i 0 : Nat) / 1024 * 4 + (i 1 : Nat) / 512, ht⟩)).set
    rw [View.set_slice_whole, Rect.mem_set_unit]
    intro a
    match a with
    | ⟨0, _⟩ =>
      show win0_4.index _ 0 * 1024 ≤ (i 0 : Nat) ∧ (i 0 : Nat) < win0_4.index _ 0 * 1024 + 1024
      rw [h40]; dsimp only; omega
    | ⟨1, _⟩ =>
      show win0_4.index _ 1 * 512 ≤ (i 1 : Nat) ∧ (i 1 : Nat) < win0_4.index _ 1 * 512 + 512
      rw [h41]; dsimp only; omega

end Values

end Cert.OprIdeal.Product

end
-- ==== Proof.Nrm.lean ====
/-
  The adaptive normalisation of a row: `x * rsqrt(mean(x*x) + eps) * g * (1 + scale) + shift`, rounded. The kernel takes 256 rows
  at a time, with the row of the modulations its batch has; the reference does it on the whole array. At the ideal instance the
  elements are the same expression.
-/
module

public import proofs.«01_k».proof.Proof.Gen.NrmIdeal.Value
public import proofs.«01_k».proof.Proof.Gen.NrmRefIdeal.Read
public import Idealize.ShloMosaic.Lib.IdealHost

@[expose] public section

set_option maxRecDepth 16384

noncomputable section

namespace Cert.NrmIdeal.Product

open Cert.NrmIdeal Cert.NrmIdeal.Gen Idealize.ShloMosaic Idealize.ShloMosaic.TcCoe Idealize.SL.Sem
open Idealize.ShloMosaic.ValueIdx Idealize.ShloMosaic.Tactic

variable (m : (ℓ : Loc nD τ sig) → Buf (Elt Ideal) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The rows, the modulations and the norm's weight as launched. -/
abbrev rows (c : Dev nD) : Vec Ideal S8x2048x2048 .f32 := m ((c : Thread nD τ).loc main_arg0)
abbrev mods (c : Dev nD) : Vec Ideal S8x18432 .f32 := m ((c : Thread nD τ).loc main_arg1)
abbrev wgt (c : Dev nD) : Vec Ideal S2048 .f32 := m ((c : Thread nD τ).loc main_arg2)

/-- The normalised and modulated element `x` of a row whose squares sum to `s`. -/
def elem (x s g scale shift : EReal) : EReal :=
  ((x * Ideal.rsqrt (Ideal.div s (Ideal.ofBits .f32 0x45000000#32) + Ideal.ofBits .f32 0x358637BD#32)) * g)
    * (Ideal.ofBits .f32 0x3F800000#32 + scale) + shift

/-- Where each window's block lies at grid point `t`. -/
theorem index_facts : ∀ t : Fin grid0.N,
    (win0_0.index t 0 = t.val ∧ win0_0.index t 1 = 0)
    ∧ (win0_1.index t 0 = 0 ∧ win0_1.index t 1 = 0)
    ∧ (win0_2.index t 0 = t.val / 8 * 9 + 4 ∧ win0_2.index t 1 = 0 ∧ win0_2.index t 2 = 0)
    ∧ (win0_3.index t 0 = t.val / 8 * 9 + 3 ∧ win0_3.index t 1 = 0 ∧ win0_3.index t 2 = 0)
    ∧ (win0_4.index t 0 = t.val ∧ win0_4.index t 1 = 0) := by decide +kernel

/-- The block's payload at row `r`, column `q`. -/
theorem pay_apply (x : Vec Ideal S256x2048 .f32) (g : Vec Ideal S1x2048 .f32) (sc : Vec Ideal S1x1x2048 .f32)
    (sh : Vec Ideal S1x1x2048 .f32) (r : Fin 256) (q : Fin 2048) :
    Value.E4 (F := Ideal) x g sc sh (ix2 r q)
      = elem (x (ix2 r q)) (∑ k : Fin 2048, x (ix2 r k) * x (ix2 r k)) (g (ix2 0 q)) (sc (ix3 0 0 q)) (sh (ix3 0 0 q)) := by
  have hs : (multiReduction .add [1] S256 (mulf (shapeCast S256x2048 x shapeCasts_S256x2048_S256x2048)
      (shapeCast S256x2048 x shapeCasts_S256x2048_S256x2048)) 0x00000000#32 reduces_S256x2048_S256 (.inl rfl) rfl : FVec Ideal S256 .f32)
        (Value.ix4_1 (ix2 r q)) = ∑ k : Fin 2048, x (ix2 r k) * x (ix2 r k) := by
    rw [shapeCast_self]
    refine (Ideal.multiReduction_add_single _ _ _ _ _ _).trans ?_
    refine Finset.sum_congr rfl fun k _ => ?_
    have hk : reduces_S256x2048_S256.lift (Value.ix4_1 (ix2 r q)) k = (ix2 r k : S256x2048.Idx) := by
      funext a; fin_cases a <;> rfl
    rw [hk]
    rfl
  unfold Value.E4 elem
  dsimp only
  rw [hs]
  have e0 : Value.ix4_0 (ix2 r q) = (ix2 r q : S256x2048.Idx) := by funext a; fin_cases a <;> rfl
  have e2 : Value.ix4_2 (ix2 r q) = (ix2 0 q : S1x2048.Idx) := by funext a; fin_cases a <;> rfl
  have e3 : Value.ix4_3 (ix2 r q) = (ix3 0 0 q : S1x1x2048.Idx) := by funext a; fin_cases a <;> rfl
  have e4 : Value.ix4_4 (ix2 r q) = (ix3 0 0 q : S1x1x2048.Idx) := by funext a; fin_cases a <;> rfl
  rw [e0, e2, e3, e4]
  rfl

/-- The rows as the call finds them: the batches one after another. -/
theorem V_rows (c : Dev nD) : (V m c main_v1 : Vec Ideal S16384x2048 .f32)
    = shapeCast S16384x2048 (rows m c) shapeCasts_S8x2048x2048_S16384x2048 := by
  show StableHlo.after hostOps0 _ (Proc.devRef .tc main_v1) = _
  after_results
  rfl

/-- The norm's weight as the call finds it: one row. -/
theorem V_wgt (c : Dev nD) : (V m c main_v4 : Vec Ideal S1x2048 .f32)
    = shapeCast S1x2048 (wgt m c) shapeCasts_S2048_S1x2048 := by
  show StableHlo.after hostOps0 _ (Proc.devRef .tc main_v4) = _
  after_results
  rfl

/-- The modulations as the call finds them: one row per batch and modulation. -/
theorem V_scale (c : Dev nD) : (V m c main_v2 : Vec Ideal S72x1x2048 .f32)
    = shapeCast S72x1x2048 (shapeCast S1x72x1x2048 (mods m c) shapeCasts_S8x18432_S1x72x1x2048) shapeCasts_S1x72x1x2048_S72x1x2048 := by
  show StableHlo.after hostOps0 _ (Proc.devRef .tc main_v2) = _
  after_results
  rfl
theorem V_shift (c : Dev nD) : (V m c main_v3 : Vec Ideal S72x1x2048 .f32)
    = shapeCast S72x1x2048 (shapeCast S1x72x1x2048 (mods m c) shapeCasts_S8x18432_S1x72x1x2048) shapeCasts_S1x72x1x2048_S72x1x2048 := by
  show StableHlo.after hostOps0 _ (Proc.devRef .tc main_v3) = _
  after_results
  rfl

/-- Row `b * 9 + s` of the modulations is modulation `s` of batch `b`. -/
theorem mod_apply (x : Vec Ideal S8x18432 .f32) (b : Fin 8) (s : Fin 9) (j : Fin 2048) :
    (shapeCast S72x1x2048 (shapeCast S1x72x1x2048 x shapeCasts_S8x18432_S1x72x1x2048) shapeCasts_S1x72x1x2048_S72x1x2048)
        (ix3 (⟨b.val * 9 + s.val, by omega⟩ : Fin 72) (0 : Fin 1) j)
      = x (ix2 b ⟨s.val * 2048 + j.val, by omega⟩) := by
  refine (shapeCast_apply _ _ _ (ix4 (0 : Fin 1) (⟨b.val * 9 + s.val, by omega⟩ : Fin 72) (0 : Fin 1) j) ?_).trans
    (shapeCast_apply _ _ _ _ ?_)
  · rw [Shape.rowMajor_val_four, Shape.rowMajor_val_three]
    show ((0 * 72 + (b.val * 9 + s.val)) * 1 + 0) * 2048 + j.val = ((b.val * 9 + s.val) * 1 + 0) * 2048 + j.val
    omega
  · rw [Shape.rowMajor_val_two, Shape.rowMajor_val_four]
    show b.val * 18432 + (s.val * 2048 + j.val) = ((0 * 72 + (b.val * 9 + s.val)) * 1 + 0) * 2048 + j.val
    omega

/-- The array the result is to hold. -/
abbrev G (c : Dev nD) : Buf (Elt Ideal) ((c : Thread nD τ).loc main_v5) :=
  Cert.NrmRefIdeal.Read.val_main_v38 (F := Ideal) (rows m c) (mods m c) (wgt m c)

/-- The reference's element at row `R`, column `J`. -/
theorem ref_apply (x0 : Vec Ideal S8x2048x2048 .f32) (x1 : Vec Ideal S8x18432 .f32) (x2 : Vec Ideal S2048 .f32)
    (R : Fin 16384) (J : Fin 2048) :
    Cert.NrmRefIdeal.Read.val_main_v38 (F := Ideal) x0 x1 x2 (ix2 R J)
      = elem (x0 (ix3 ⟨R.val / 2048, by omega⟩ ⟨R.val % 2048, by omega⟩ J))
          (∑ k : Fin 2048, x0 (ix3 ⟨R.val / 2048, by omega⟩ ⟨R.val % 2048, by omega⟩ k)
            * x0 (ix3 ⟨R.val / 2048, by omega⟩ ⟨R.val % 2048, by omega⟩ k))
          (x2 (ix1 J))
          (x1 (ix2 ⟨R.val / 2048, by omega⟩ ⟨4 * 2048 + J.val, by omega⟩))
          (x1 (ix2 ⟨R.val / 2048, by omega⟩ ⟨3 * 2048 + J.val, by omega⟩)) := by
  have hJ := J.isLt
  have hi : Cert.NrmRefIdeal.Read.idx_main_v38 (ix2 R J)
      = (ix3 ⟨R.val / 2048, by omega⟩ ⟨R.val % 2048, by omega⟩ J : Cert.NrmRefIdeal.S8x2048x2048.Idx) := by
    funext a
    apply Fin.ext
    match a with
    | ⟨0, _⟩ => show (R.val * 2048 + J.val) / 4194304 = R.val / 2048; omega
    | ⟨1, _⟩ => show (R.val * 2048 + J.val) / 2048 % 2048 = R.val % 2048; omega
    | ⟨2, _⟩ => show (R.val * 2048 + J.val) % 2048 = J.val; omega
  rw [Cert.NrmRefIdeal.Read.val_main_v38_apply, hi]
  simp only [Cert.NrmRefIdeal.Read.val_main_v37_apply, Cert.NrmRefIdeal.Read.val_main_v36_apply,
    Cert.NrmRefIdeal.Read.val_main_v35_apply, Cert.NrmRefIdeal.Read.val_main_v34_apply,
    Cert.NrmRefIdeal.Read.val_main_v33_apply, Cert.NrmRefIdeal.Read.val_main_v32_apply,
    Cert.NrmRefIdeal.Read.val_main_v31_apply, Cert.NrmRefIdeal.Read.val_main_v30_apply,
    Cert.NrmRefIdeal.Read.val_main_v29_apply, Cert.NrmRefIdeal.Read.val_main_v28_apply,
    Cert.NrmRefIdeal.Read.val_main_v27_apply, Cert.NrmRefIdeal.Read.val_main_v26_apply,
    Cert.NrmRefIdeal.Read.val_main_v25_apply, Cert.NrmRefIdeal.Read.val_main_v24_apply,
    Cert.NrmRefIdeal.Read.val_main_v23_apply, Cert.NrmRefIdeal.Read.val_main_v22_apply,
    Cert.NrmRefIdeal.Read.val_main_v21_apply, Cert.NrmRefIdeal.Read.val_main_v20_apply,
    Cert.NrmRefIdeal.Read.val_main_v19_apply, Cert.NrmRefIdeal.Read.val_main_v18_apply,
    Cert.NrmRefIdeal.Read.val_main_cst_apply, Cert.NrmRefIdeal.Read.val_main_cst_0_apply,
    Cert.NrmRefIdeal.Read.val_main_cst_1_apply, Cert.NrmRefIdeal.Read.val_main_cst_2_apply,
    Cert.NrmRefIdeal.Read.val_main_v13_apply, Cert.NrmRefIdeal.Read.val_main_v12_apply,
    Cert.NrmRefIdeal.Read.val_main_v4_apply, Cert.NrmRefIdeal.Read.val_main_v3_apply]
  unfold elem
  refine congrArg₂ (· + ·) (congrArg₂ (· * ·) (congrArg₂ (· * ·) (congrArg₂ (· * ·) rfl (congrArg Ideal.rsqrt
    (congrArg₂ (· + ·) (congrArg₂ Ideal.div ?_ rfl) rfl))) (congrArg x2 ?_)) (congrArg₂ (· + ·) rfl (congrArg x1 ?_))) (congrArg x1 ?_)
  · show Ideal.ofBits .f32 0x00000000#32 + _ = _
    rw [Ideal.ofBits_zero_f32, zero_add]
    refine Finset.sum_congr rfl fun k _ => congrArg₂ (· * ·) (congrArg x0 ?_) (congrArg x0 ?_) <;>
      exact funext fun a => by fin_cases a <;> rfl
  · funext a; fin_cases a; rfl
  · funext a
    apply Fin.ext
    match a with
    | ⟨0, _⟩ => rfl
    | ⟨1, _⟩ => show 8192 + J.val = 4 * 2048 + J.val; omega
  · funext a
    apply Fin.ext
    match a with
    | ⟨0, _⟩ => rfl
    | ⟨1, _⟩ => show 6144 + J.val = 3 * 2048 + J.val; omega

/-- What a point writes back is its block of the reference's array. -/
theorem flushed_eq (c : Dev nD) (t : Fin cfg0.N) :
    (dats m 0 c).flushed 4 t = ((cfg0.win 4).blk t).view.read (Elt Ideal) (G m c) := by
  have hN : t.val < 64 := lt_of_lt_of_eq t.isLt N_0
  rw [Value.flushed4]
  show out0_4 (iblk m c 0 t) (iblk m c 1 t) (iblk m c 2 t) (iblk m c 3 t) = _
  unfold out0_4
  simp only [View.ld_unit_zero (S := S256x2048) hz, View.ld_unit_zero (S := S1x2048) hz, View.ld_unit_zero (S := S1x1x2048) hz3]
  funext j
  obtain ⟨⟨h00, h01⟩, ⟨h10, h11⟩, ⟨h20, h21, h22⟩, ⟨h30, h31, h32⟩, ⟨h40, h41⟩⟩ := index_facts t
  obtain ⟨r, q, rfl⟩ : ∃ (r : Fin 256) (q : Fin 2048), j = ix2 r q := ⟨j 0, j 1, by funext a; fin_cases a <;> rfl⟩
  have hr := r.isLt
  have hq := q.isLt
  let R : Fin 16384 := ⟨t.val * 256 + r.val, by omega⟩
  have hRb : R.val / 2048 = t.val / 8 := by show (t.val * 256 + r.val) / 2048 = _; omega
  rw [View.read_apply]
  have hemb : ((cfg0.win 4).blk t).view.emb (ix2 r q) = (ix2 R q : S16384x2048.Idx) := by
    funext a
    apply Fin.ext
    match a with
    | ⟨0, _⟩ => show win0_4.index t 0 * 256 + 1 * r.val = t.val * 256 + r.val; rw [h40]; omega
    | ⟨1, _⟩ => show win0_4.index t 1 * 2048 + 1 * q.val = q.val; rw [h41]; omega
  have hx : ∀ k : Fin 2048, (iblk m c 0 t : Vec Ideal S256x2048 .f32) (ix2 r k)
      = rows m c (ix3 ⟨R.val / 2048, by omega⟩ ⟨R.val % 2048, by omega⟩ k) := fun k => by
    unfold iblk
    rw [View.read_apply]
    refine (congrFun (V_rows m c) _).trans (shapeCast_apply _ _ _ _ ?_)
    rw [Shape.rowMajor_val_three, Shape.rowMajor_val_two]
    show ((R.val / 2048) * 2048 + R.val % 2048) * 2048 + k.val
      = (win0_0.index t 0 * 256 + 1 * r.val) * 2048 + (win0_0.index t 1 * 2048 + 1 * k.val)
    rw [h00, h01]
    show (((t.val * 256 + r.val) / 2048) * 2048 + (t.val * 256 + r.val) % 2048) * 2048 + k.val = _
    omega
  have hg : (iblk m c 1 t : Vec Ideal S1x2048 .f32) (ix2 0 q) = wgt m c (ix1 q) := by
    unfold iblk
    rw [View.read_apply]
    refine (congrFun (V_wgt m c) _).trans (shapeCast_apply _ _ _ _ ?_)
    rw [Shape.rowMajor_val_one, Shape.rowMajor_val_two]
    show q.val = (win0_1.index t 0 * 1 + 1 * 0) * 2048 + (win0_1.index t 1 * 2048 + 1 * q.val)
    rw [h10, h11]
    omega
  have hsc : (iblk m c 2 t : Vec Ideal S1x1x2048 .f32) (ix3 0 0 q)
      = mods m c (ix2 ⟨R.val / 2048, by omega⟩ ⟨4 * 2048 + q.val, by omega⟩) := by
    refine Eq.trans ?_ (mod_apply (mods m c) ⟨R.val / 2048, by omega⟩ 4 q)
    unfold iblk
    rw [View.read_apply]
    refine (congrFun (V_scale m c) _).trans (congrArg _ (funext fun a => Fin.ext ?_))
    match a with
    | ⟨0, _⟩ => show win0_2.index t 0 * 1 + 1 * 0 = R.val / 2048 * 9 + 4; rw [h20, hRb]; omega
    | ⟨1, _⟩ => show win0_2.index t 1 * 1 + 1 * 0 = 0; rw [h21]
    | ⟨2, _⟩ => show win0_2.index t 2 * 2048 + 1 * q.val = q.val; rw [h22]; omega
  have hsh : (iblk m c 3 t : Vec Ideal S1x1x2048 .f32) (ix3 0 0 q)
      = mods m c (ix2 ⟨R.val / 2048, by omega⟩ ⟨3 * 2048 + q.val, by omega⟩) := by
    refine Eq.trans ?_ (mod_apply (mods m c) ⟨R.val / 2048, by omega⟩ 3 q)
    unfold iblk
    rw [View.read_apply]
    refine (congrFun (V_shift m c) _).trans (congrArg _ (funext fun a => Fin.ext ?_))
    match a with
    | ⟨0, _⟩ => show win0_3.index t 0 * 1 + 1 * 0 = R.val / 2048 * 9 + 3; rw [h30, hRb]; omega
    | ⟨1, _⟩ => show win0_3.index t 1 * 1 + 1 * 0 = 0; rw [h31]
    | ⟨2, _⟩ => show win0_3.index t 2 * 2048 + 1 * q.val = q.val; rw [h32]; omega
  refine Eq.trans ?_ (congrArg (G m c) hemb.symm)
  refine Eq.trans ?_ (ref_apply _ _ _ R q).symm
  refine (Value.canon4_eq _ _ _ _ (ix2 r q)).trans ((pay_apply _ _ _ _ r q).trans ?_)
  rw [hx, hg, hsc, hsh]
  exact congrArg (fun s => elem _ s _ _ _) (Finset.sum_congr rfl fun k _ => by rw [hx k])

/-- The blocks cover the array, so it ends holding the reference's. -/
theorem final (c : Dev nD) : (dats m 0 c).arrAt 4 cfg0.N = G m c :=
  (dats m 0 c).arrAt_eq_of_cover 4 (G m c) (fun t _ => flushed_eq m c t) fun i => by
    have h0 : (i 0 : Nat) < 16384 := (i 0).isLt
    have h1 : (i 1 : Nat) < 2048 := (i 1).isLt
    have hN : cfg0.N = 64 := N_0
    have ht : (i 0 : Nat) / 256 < cfg0.N := by omega
    refine ⟨⟨(i 0 : Nat) / 256, ht⟩, flush0_4 _, ?_⟩
    obtain ⟨-, -, -, -, h40, h41⟩ := index_facts ⟨(i 0 : Nat) / 256, ht⟩
    show i ∈ ((View.whole main_v5).slice (win0_4.rect ⟨(i 0 : Nat) / 256, ht⟩)).set
    rw [View.set_slice_whole, Rect.mem_set_unit]
    intro a
    match a with
    | ⟨0, _⟩ =>
      show win0_4.index _ 0 * 256 ≤ (i 0 : Nat) ∧ (i 0 : Nat) < win0_4.index _ 0 * 256 + 256
      rw [h40]; dsimp only; omega
    | ⟨1, _⟩ =>
      show win0_4.index _ 1 * 2048 ≤ (i 1 : Nat) ∧ (i 1 : Nat) < win0_4.index _ 1 * 2048 + 2048
      rw [h41]; omega

end Cert.NrmIdeal.Product

end
-- ==== Proof.Fnp.lean ====
/-
  The last norm of a row: `x * rsqrt(mean(x*x) + eps) * g`, prompt rows. The kernel takes 256 rows at a time; the reference does it on the
  whole array. At the ideal instance the elements are the same expression.
-/
module

public import proofs.«01_k».proof.Proof.Gen.FnpIdeal.Value
public import proofs.«01_k».proof.Proof.Gen.FnpRefIdeal.Read
public import Idealize.ShloMosaic.Lib.IdealHost

@[expose] public section

set_option maxRecDepth 16384

noncomputable section

namespace Cert.FnpIdeal.Product

open Cert.FnpIdeal Cert.FnpIdeal.Gen Idealize.ShloMosaic Idealize.ShloMosaic.TcCoe Idealize.SL.Sem
open Idealize.ShloMosaic.ValueIdx Idealize.ShloMosaic.Tactic

variable (m : (ℓ : Loc nD τ sig) → Buf (Elt Ideal) ℓ)

theorem hz : (![0, 0] : Fin 2 → Nat) = fun _ => 0 := funext fun a => by fin_cases a <;> rfl

/-- The rows and the norm's weight as launched. -/
abbrev rows (c : Dev nD) : Vec Ideal S8x2048x2048 .f32 := m ((c : Thread nD τ).loc main_arg0)
abbrev wgt (c : Dev nD) : Vec Ideal S2048 .f32 := m ((c : Thread nD τ).loc main_arg1)

/-- The normalised element `x` of a row whose squares sum to `s`. -/
def elem (x s g : EReal) : EReal :=
  (x * Ideal.rsqrt (Ideal.div s (Ideal.ofBits .f32 0x45000000#32) + Ideal.ofBits .f32 0x358637BD#32)) * g

/-- Where each window's block lies at grid point `t`. -/
theorem index_facts : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by decide +kernel

/-- The block's payload at row `r`, column `q`. -/
theorem pay_apply (x : Vec Ideal S256x2048 .f32) (g : Vec Ideal S1x2048 .f32) (r : Fin 256) (q : Fin 2048) :
    Value.E2 (F := Ideal) x g (ix2 r q)
      = elem (x (ix2 r q)) (∑ k : Fin 2048, x (ix2 r k) * x (ix2 r k)) (g (ix2 0 q)) := by
  have hs : (multiReduction .add [1] S256 (mulf (shapeCast S256x2048 x shapeCasts_S256x2048_S256x2048)
      (shapeCast S256x2048 x shapeCasts_S256x2048_S256x2048)) 0x00000000#32 reduces_S256x2048_S256 (.inl rfl) rfl : FVec Ideal S256 .f32)
        (Value.ix2_1 (ix2 r q)) = ∑ k : Fin 2048, x (ix2 r k) * x (ix2 r k) := by
    rw [shapeCast_self]
    refine (Ideal.multiReduction_add_single _ _ _ _ _ _).trans ?_
    refine Finset.sum_congr rfl fun k _ => ?_
    have hk : reduces_S256x2048_S256.lift (Value.ix2_1 (ix2 r q)) k = (ix2 r k : S256x2048.Idx) := by
      funext a; fin_cases a <;> rfl
    rw [hk]
    rfl
  unfold Value.E2 elem
  dsimp only
  rw [hs]
  have e0 : Value.ix2_0 (ix2 r q) = (ix2 r q : S256x2048.Idx) := by funext a; fin_cases a <;> rfl
  have e2 : Value.ix2_2 (ix2 r q) = (ix2 0 q : S1x2048.Idx) := by funext a; fin_cases a <;> rfl
  rw [e0, e2]
  rfl

/-- The rows as the call finds them: the batches one after another. -/
theorem V_rows (c : Dev nD) : (V m c main_v0 : Vec Ideal S16384x2048 .f32)
    = shapeCast S16384x2048 (rows m c) shapeCasts_S8x2048x2048_S16384x2048 := by
  show StableHlo.after hostOps0 _ (Proc.devRef .tc main_v0) = _
  after_results
  rfl

/-- The norm's weight as the call finds it: one row. -/
theorem V_wgt (c : Dev nD) : (V m c main_v1 : Vec Ideal S1x2048 .f32)
    = shapeCast S1x2048 (wgt m c) shapeCasts_S2048_S1x2048 := by
  show StableHlo.after hostOps0 _ (Proc.devRef .tc main_v1) = _
  after_results
  rfl

/-- The array the result is to hold. -/
abbrev G (c : Dev nD) : Buf (Elt Ideal) ((c : Thread nD τ).loc main_v2) :=
  Cert.FnpRefIdeal.Read.val_main_v13 (F := Ideal) (rows m c) (wgt m c)

/-- The reference's element at row `R`, column `J`. -/
theorem ref_apply (x0 : Vec Ideal S8x2048x2048 .f32) (x1 : Vec Ideal S2048 .f32) (R : Fin 16384) (J : Fin 2048) :
    Cert.FnpRefIdeal.Read.val_main_v13 (F := Ideal) x0 x1 (ix2 R J)
      = elem (x0 (ix3 ⟨R.val / 2048, by omega⟩ ⟨R.val % 2048, by omega⟩ J))
          (∑ k : Fin 2048, x0 (ix3 ⟨R.val / 2048, by omega⟩ ⟨R.val % 2048, by omega⟩ k)
            * x0 (ix3 ⟨R.val / 2048, by omega⟩ ⟨R.val % 2048, by omega⟩ k))
          (x1 (ix1 J)) := by
  have hJ := J.isLt
  have hi : Cert.FnpRefIdeal.Read.idx_main_v13 (ix2 R J)
      = (ix3 ⟨R.val / 2048, by omega⟩ ⟨R.val % 2048, by omega⟩ J : Cert.FnpRefIdeal.S8x2048x2048.Idx) := by
    funext a
    apply Fin.ext
    match a with
    | ⟨0, _⟩ => show (R.val * 2048 + J.val) / 4194304 = R.val / 2048; omega
    | ⟨1, _⟩ => show (R.val * 2048 + J.val) / 2048 % 2048 = R.val % 2048; omega
    | ⟨2, _⟩ => show (R.val * 2048 + J.val) % 2048 = J.val; omega
  rw [Cert.FnpRefIdeal.Read.val_main_v13_apply, hi]
  simp only [Cert.FnpRefIdeal.Read.val_main_v12_apply, Cert.FnpRefIdeal.Read.val_main_v11_apply,
    Cert.FnpRefIdeal.Read.val_main_v10_apply, Cert.FnpRefIdeal.Read.val_main_v9_apply,
    Cert.FnpRefIdeal.Read.val_main_v8_apply, Cert.FnpRefIdeal.Read.val_main_v7_apply,
    Cert.FnpRefIdeal.Read.val_main_v6_apply, Cert.FnpRefIdeal.Read.val_main_v5_apply,
    Cert.FnpRefIdeal.Read.val_main_v4_apply, Cert.FnpRefIdeal.Read.val_main_v3_apply,
    Cert.FnpRefIdeal.Read.val_main_v2_apply, Cert.FnpRefIdeal.Read.val_main_v1_apply,
    Cert.FnpRefIdeal.Read.val_main_v0_apply, Cert.FnpRefIdeal.Read.val_main_cst_apply,
    Cert.FnpRefIdeal.Read.val_main_cst_0_apply, Cert.FnpRefIdeal.Read.val_main_cst_1_apply]
  unfold elem
  refine congrArg₂ (· * ·) (congrArg₂ (· * ·) rfl (congrArg Ideal.rsqrt
    (congrArg₂ (· + ·) (congrArg₂ Ideal.div ?_ rfl) rfl))) (congrArg x1 ?_)
  · show Ideal.ofBits .f32 0x00000000#32 + _ = _
    rw [Ideal.ofBits_zero_f32, zero_add]
    refine Finset.sum_congr rfl fun k _ => congrArg₂ (· * ·) (congrArg x0 ?_) (congrArg x0 ?_) <;>
      exact funext fun a => by fin_cases a <;> rfl
  · funext a; fin_cases a; rfl

/-- What a point writes back is its block of the reference's array. -/
theorem flushed_eq (c : Dev nD) (t : Fin cfg0.N) :
    (dats m 0 c).flushed 2 t = ((cfg0.win 2).blk t).view.read (Elt Ideal) (G m c) := by
  have hN : t.val < 64 := lt_of_lt_of_eq t.isLt N_0
  rw [Value.flushed2]
  show out0_2 (iblk m c 0 t) (iblk m c 1 t) = _
  unfold out0_2
  simp only [View.ld_unit_zero (S := S256x2048) hz, View.ld_unit_zero (S := S1x2048) hz]
  funext j
  obtain ⟨⟨h00, h01⟩, ⟨h10, h11⟩, ⟨h20, h21⟩⟩ := index_facts t
  obtain ⟨r, q, rfl⟩ : ∃ (r : Fin 256) (q : Fin 2048), j = ix2 r q := ⟨j 0, j 1, by funext a; fin_cases a <;> rfl⟩
  have hr := r.isLt
  have hq := q.isLt
  let R : Fin 16384 := ⟨t.val * 256 + r.val, by omega⟩
  rw [View.read_apply]
  have hemb : ((cfg0.win 2).blk t).view.emb (ix2 r q) = (ix2 R q : S16384x2048.Idx) := by
    funext a
    apply Fin.ext
    match a with
    | ⟨0, _⟩ => show win0_2.index t 0 * 256 + 1 * r.val = t.val * 256 + r.val; rw [h20]; omega
    | ⟨1, _⟩ => show win0_2.index t 1 * 2048 + 1 * q.val = q.val; rw [h21]; omega
  have hx : ∀ k : Fin 2048, (iblk m c 0 t : Vec Ideal S256x2048 .f32) (ix2 r k)
      = rows m c (ix3 ⟨R.val / 2048, by omega⟩ ⟨R.val % 2048, by omega⟩ k) := fun k => by
    unfold iblk
    rw [View.read_apply]
    refine (congrFun (V_rows m c) _).trans (shapeCast_apply _ _ _ _ ?_)
    rw [Shape.rowMajor_val_three, Shape.rowMajor_val_two]
    show ((R.val / 2048) * 2048 + R.val % 2048) * 2048 + k.val
      = (win0_0.index t 0 * 256 + 1 * r.val) * 2048 + (win0_0.index t 1 * 2048 + 1 * k.val)
    rw [h00, h01]
    show (((t.val * 256 + r.val) / 2048) * 2048 + (t.val * 256 + r.val) % 2048) * 2048 + k.val = _
    omega
  have hg : (iblk m c 1 t : Vec Ideal S1x2048 .f32) (ix2 0 q) = wgt m c (ix1 q) := by
    unfold iblk
    rw [View.read_apply]
    refine (congrFun (V_wgt m c) _).trans (shapeCast_apply _ _ _ _ ?_)
    rw [Shape.rowMajor_val_one, Shape.rowMajor_val_two]
    show q.val = (win0_1.index t 0 * 1 + 1 * 0) * 2048 + (win0_1.index t 1 * 2048 + 1 * q.val)
    rw [h10, h11]
    omega
  refine Eq.trans ?_ (congrArg (G m c) hemb.symm)
  refine Eq.trans ?_ (ref_apply _ _ R q).symm
  refine (Value.canon2_eq _ _ (ix2 r q)).trans ((pay_apply _ _ r q).trans ?_)
  rw [hx, hg]
  exact congrArg (fun s => elem _ s _) (Finset.sum_congr rfl fun k _ => by rw [hx k])

/-- The blocks cover the array, so it ends holding the reference's. -/
theorem final (c : Dev nD) : (dats m 0 c).arrAt 2 cfg0.N = G m c :=
  (dats m 0 c).arrAt_eq_of_cover 2 (G m c) (fun t _ => flushed_eq m c t) fun i => by
    have h0 : (i 0 : Nat) < 16384 := (i 0).isLt
    have h1 : (i 1 : Nat) < 2048 := (i 1).isLt
    have hN : cfg0.N = 64 := N_0
    have ht : (i 0 : Nat) / 256 < cfg0.N := by omega
    refine ⟨⟨(i 0 : Nat) / 256, ht⟩, flush0_2 _, ?_⟩
    obtain ⟨-, -, h20, h21⟩ := index_facts ⟨(i 0 : Nat) / 256, ht⟩
    show i ∈ ((View.whole main_v2).slice (win0_2.rect ⟨(i 0 : Nat) / 256, ht⟩)).set
    rw [View.set_slice_whole, Rect.mem_set_unit]
    intro a
    match a with
    | ⟨0, _⟩ =>
      show win0_2.index _ 0 * 256 ≤ (i 0 : Nat) ∧ (i 0 : Nat) < win0_2.index _ 0 * 256 + 256
      rw [h20]; dsimp only; omega
    | ⟨1, _⟩ =>
      show win0_2.index _ 1 * 2048 ≤ (i 1 : Nat) ∧ (i 1 : Nat) < win0_2.index _ 1 * 2048 + 2048
      rw [h21]; omega

end Cert.FnpIdeal.Product

end
-- ==== Proof.Fns.lean ====
/-
  The last norm of a row: `x * rsqrt(mean(x*x) + eps) * g`, sample rows. The kernel takes 32 rows at a time; the reference does it on the
  whole array. At the ideal instance the elements are the same expression.
-/
module

public import proofs.«01_k».proof.Proof.Gen.FnsIdeal.Value
public import proofs.«01_k».proof.Proof.Gen.FnsRefIdeal.Read
public import Idealize.ShloMosaic.Lib.IdealHost

@[expose] public section

set_option maxRecDepth 16384

noncomputable section

namespace Cert.FnsIdeal.Product

open Cert.FnsIdeal Cert.FnsIdeal.Gen Idealize.ShloMosaic Idealize.ShloMosaic.TcCoe Idealize.SL.Sem
open Idealize.ShloMosaic.ValueIdx Idealize.ShloMosaic.Tactic

variable (m : (ℓ : Loc nD τ sig) → Buf (Elt Ideal) ℓ)

theorem hz : (![0, 0] : Fin 2 → Nat) = fun _ => 0 := funext fun a => by fin_cases a <;> rfl

/-- The rows and the norm's weight as launched. -/
abbrev rows (c : Dev nD) : Vec Ideal S32x1x2048 .f32 := m ((c : Thread nD τ).loc main_arg0)
abbrev wgt (c : Dev nD) : Vec Ideal S2048 .f32 := m ((c : Thread nD τ).loc main_arg1)

/-- The normalised element `x` of a row whose squares sum to `s`. -/
def elem (x s g : EReal) : EReal :=
  (x * Ideal.rsqrt (Ideal.div s (Ideal.ofBits .f32 0x45000000#32) + Ideal.ofBits .f32 0x358637BD#32)) * g

/-- Where each window's block lies at grid point `t`. -/
theorem index_facts : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0) := by decide +kernel

/-- The block's payload at row `r`, column `q`. -/
theorem pay_apply (x : Vec Ideal S32x2048 .f32) (g : Vec Ideal S1x2048 .f32) (r : Fin 32) (q : Fin 2048) :
    Value.E2 (F := Ideal) x g (ix2 r q)
      = elem (x (ix2 r q)) (∑ k : Fin 2048, x (ix2 r k) * x (ix2 r k)) (g (ix2 0 q)) := by
  have hs : (multiReduction .add [1] S32 (mulf (shapeCast S32x2048 x shapeCasts_S32x2048_S32x2048)
      (shapeCast S32x2048 x shapeCasts_S32x2048_S32x2048)) 0x00000000#32 reduces_S32x2048_S32 (.inl rfl) rfl : FVec Ideal S32 .f32)
        (Value.ix2_1 (ix2 r q)) = ∑ k : Fin 2048, x (ix2 r k) * x (ix2 r k) := by
    rw [shapeCast_self]
    refine (Ideal.multiReduction_add_single _ _ _ _ _ _).trans ?_
    refine Finset.sum_congr rfl fun k _ => ?_
    have hk : reduces_S32x2048_S32.lift (Value.ix2_1 (ix2 r q)) k = (ix2 r k : S32x2048.Idx) := by
      funext a; fin_cases a <;> rfl
    rw [hk]
    rfl
  unfold Value.E2 elem
  dsimp only
  rw [hs]
  have e0 : Value.ix2_0 (ix2 r q) = (ix2 r q : S32x2048.Idx) := by funext a; fin_cases a <;> rfl
  have e2 : Value.ix2_2 (ix2 r q) = (ix2 0 q : S1x2048.Idx) := by funext a; fin_cases a <;> rfl
  rw [e0, e2]
  rfl

/-- The rows as the call finds them: the batches one after another. -/
theorem V_rows (c : Dev nD) : (V m c main_v0 : Vec Ideal S32x2048 .f32)
    = shapeCast S32x2048 (rows m c) shapeCasts_S32x1x2048_S32x2048 := by
  show StableHlo.after hostOps0 _ (Proc.devRef .tc main_v0) = _
  after_results
  rfl

/-- The norm's weight as the call finds it: one row. -/
theorem V_wgt (c : Dev nD) : (V m c main_v1 : Vec Ideal S1x2048 .f32)
    = shapeCast S1x2048 (wgt m c) shapeCasts_S2048_S1x2048 := by
  show StableHlo.after hostOps0 _ (Proc.devRef .tc main_v1) = _
  after_results
  rfl

/-- The array the result is to hold. -/
abbrev G (c : Dev nD) : Buf (Elt Ideal) ((c : Thread nD τ).loc main_v2) :=
  Cert.FnsRefIdeal.Read.val_main_v13 (F := Ideal) (rows m c) (wgt m c)

/-- The reference's element at row `R`, column `J`. -/
theorem ref_apply (x0 : Vec Ideal S32x1x2048 .f32) (x1 : Vec Ideal S2048 .f32) (R : Fin 32) (J : Fin 2048) :
    Cert.FnsRefIdeal.Read.val_main_v13 (F := Ideal) x0 x1 (ix2 R J)
      = elem (x0 (ix3 ⟨R.val / 1, by omega⟩ ⟨R.val % 1, by omega⟩ J))
          (∑ k : Fin 2048, x0 (ix3 ⟨R.val / 1, by omega⟩ ⟨R.val % 1, by omega⟩ k)
            * x0 (ix3 ⟨R.val / 1, by omega⟩ ⟨R.val % 1, by omega⟩ k))
          (x1 (ix1 J)) := by
  have hJ := J.isLt
  have hi : Cert.FnsRefIdeal.Read.idx_main_v13 (ix2 R J)
      = (ix3 ⟨R.val / 1, by omega⟩ ⟨R.val % 1, by omega⟩ J : Cert.FnsRefIdeal.S32x1x2048.Idx) := by
    funext a
    apply Fin.ext
    match a with
    | ⟨0, _⟩ => show (R.val * 2048 + J.val) / 2048 = R.val / 1; omega
    | ⟨1, _⟩ => show 0 = R.val % 1; omega
    | ⟨2, _⟩ => show (R.val * 2048 + J.val) % 2048 = J.val; omega
  rw [Cert.FnsRefIdeal.Read.val_main_v13_apply, hi]
  simp only [Cert.FnsRefIdeal.Read.val_main_v12_apply, Cert.FnsRefIdeal.Read.val_main_v11_apply,
    Cert.FnsRefIdeal.Read.val_main_v10_apply, Cert.FnsRefIdeal.Read.val_main_v9_apply,
    Cert.FnsRefIdeal.Read.val_main_v8_apply, Cert.FnsRefIdeal.Read.val_main_v7_apply,
    Cert.FnsRefIdeal.Read.val_main_v6_apply, Cert.FnsRefIdeal.Read.val_main_v5_apply,
    Cert.FnsRefIdeal.Read.val_main_v4_apply, Cert.FnsRefIdeal.Read.val_main_v3_apply,
    Cert.FnsRefIdeal.Read.val_main_v2_apply, Cert.FnsRefIdeal.Read.val_main_v1_apply,
    Cert.FnsRefIdeal.Read.val_main_v0_apply, Cert.FnsRefIdeal.Read.val_main_cst_apply,
    Cert.FnsRefIdeal.Read.val_main_cst_0_apply, Cert.FnsRefIdeal.Read.val_main_cst_1_apply]
  unfold elem
  refine congrArg₂ (· * ·) (congrArg₂ (· * ·) rfl (congrArg Ideal.rsqrt
    (congrArg₂ (· + ·) (congrArg₂ Ideal.div ?_ rfl) rfl))) (congrArg x1 ?_)
  · show Ideal.ofBits .f32 0x00000000#32 + _ = _
    rw [Ideal.ofBits_zero_f32, zero_add]
    refine Finset.sum_congr rfl fun k _ => congrArg₂ (· * ·) (congrArg x0 ?_) (congrArg x0 ?_) <;>
      exact funext fun a => by apply Fin.ext; match a with | ⟨0, _⟩ => rfl | ⟨1, _⟩ => exact (Nat.mod_one _).symm | ⟨2, _⟩ => rfl
  · funext a; fin_cases a; rfl

/-- What a point writes back is its block of the reference's array. -/
theorem flushed_eq (c : Dev nD) (t : Fin cfg0.N) :
    (dats m 0 c).flushed 2 t = ((cfg0.win 2).blk t).view.read (Elt Ideal) (G m c) := by
  have hN : t.val < 1 := lt_of_lt_of_eq t.isLt N_0
  rw [Value.flushed2]
  show out0_2 (iblk m c 0 t) (iblk m c 1 t) = _
  unfold out0_2
  simp only [View.ld_unit_zero (S := S32x2048) hz, View.ld_unit_zero (S := S1x2048) hz]
  funext j
  obtain ⟨⟨h00, h01⟩, ⟨h10, h11⟩, ⟨h20, h21⟩⟩ := index_facts t
  obtain ⟨r, q, rfl⟩ : ∃ (r : Fin 32) (q : Fin 2048), j = ix2 r q := ⟨j 0, j 1, by funext a; fin_cases a <;> rfl⟩
  have hr := r.isLt
  have hq := q.isLt
  let R : Fin 32 := ⟨t.val * 32 + r.val, by omega⟩
  rw [View.read_apply]
  have hemb : ((cfg0.win 2).blk t).view.emb (ix2 r q) = (ix2 R q : S32x2048.Idx) := by
    funext a
    apply Fin.ext
    match a with
    | ⟨0, _⟩ => show win0_2.index t 0 * 32 + 1 * r.val = t.val * 32 + r.val; rw [h20]; omega
    | ⟨1, _⟩ => show win0_2.index t 1 * 2048 + 1 * q.val = q.val; rw [h21]; omega
  have hx : ∀ k : Fin 2048, (iblk m c 0 t : Vec Ideal S32x2048 .f32) (ix2 r k)
      = rows m c (ix3 ⟨R.val / 1, by omega⟩ ⟨R.val % 1, by omega⟩ k) := fun k => by
    unfold iblk
    rw [View.read_apply]
    refine (congrFun (V_rows m c) _).trans (shapeCast_apply _ _ _ _ ?_)
    rw [Shape.rowMajor_val_three, Shape.rowMajor_val_two]
    show ((R.val / 1) * 1 + R.val % 1) * 2048 + k.val
      = (win0_0.index t 0 * 32 + 1 * r.val) * 2048 + (win0_0.index t 1 * 2048 + 1 * k.val)
    rw [h00, h01]
    show (((t.val * 32 + r.val) / 1) * 1 + (t.val * 32 + r.val) % 1) * 2048 + k.val = _
    omega
  have hg : (iblk m c 1 t : Vec Ideal S1x2048 .f32) (ix2 0 q) = wgt m c (ix1 q) := by
    unfold iblk
    rw [View.read_apply]
    refine (congrFun (V_wgt m c) _).trans (shapeCast_apply _ _ _ _ ?_)
    rw [Shape.rowMajor_val_one, Shape.rowMajor_val_two]
    show q.val = (win0_1.index t 0 * 1 + 1 * 0) * 2048 + (win0_1.index t 1 * 2048 + 1 * q.val)
    rw [h10, h11]
    omega
  refine Eq.trans ?_ (congrArg (G m c) hemb.symm)
  refine Eq.trans ?_ (ref_apply _ _ R q).symm
  refine (Value.canon2_eq _ _ (ix2 r q)).trans ((pay_apply _ _ r q).trans ?_)
  rw [hx, hg]
  exact congrArg (fun s => elem _ s _) (Finset.sum_congr rfl fun k _ => by rw [hx k])

/-- The blocks cover the array, so it ends holding the reference's. -/
theorem final (c : Dev nD) : (dats m 0 c).arrAt 2 cfg0.N = G m c :=
  (dats m 0 c).arrAt_eq_of_cover 2 (G m c) (fun t _ => flushed_eq m c t) fun i => by
    have h0 : (i 0 : Nat) < 32 := (i 0).isLt
    have h1 : (i 1 : Nat) < 2048 := (i 1).isLt
    have hN : cfg0.N = 1 := N_0
    have ht : (i 0 : Nat) / 32 < cfg0.N := by omega
    refine ⟨⟨(i 0 : Nat) / 32, ht⟩, flush0_2 _, ?_⟩
    obtain ⟨-, -, h20, h21⟩ := index_facts ⟨(i 0 : Nat) / 32, ht⟩
    show i ∈ ((View.whole main_v2).slice (win0_2.rect ⟨(i 0 : Nat) / 32, ht⟩)).set
    rw [View.set_slice_whole, Rect.mem_set_unit]
    intro a
    match a with
    | ⟨0, _⟩ =>
      show win0_2.index _ 0 * 32 ≤ (i 0 : Nat) ∧ (i 0 : Nat) < win0_2.index _ 0 * 32 + 32
      rw [h20]; dsimp only; omega
    | ⟨1, _⟩ =>
      show win0_2.index _ 1 * 2048 ≤ (i 1 : Nat) ∧ (i 1 : Nat) < win0_2.index _ 1 * 2048 + 2048
      rw [h21]; omega

end Cert.FnsIdeal.Product

end
-- ==== Proof.Rot.lean ====
/-
  Rotary position encoding on numbered columns: a row is a function on column numbers. The kernel multiplies the row, and the row
  turned both ways inside each 128 columns, by three tables; the reference rotates the first columns of every head and keeps the rest.
-/
module

public import Idealize.ShloMosaic.Lib.IdealHost
public import Idealize.ShloMosaic.Lib.Pipeline
public import Idealize.ShloMosaic.Lib.Pipeline.Value
public import Idealize.ShloMosaic.Lib.KernelVsHost
public import Idealize.ShloMosaic.Lib.ValueIdxCore

@[expose] public section

noncomputable section

namespace Cert.Rot

open Idealize.ShloMosaic Idealize.ShloMosaic.ValueIdx

/-- An array of rows read at a row's and a column's number; zero outside. -/
def at2 {a b : Nat} (x : (⟨2, ![a, b]⟩ : Shape).Idx → EReal) (r j : Nat) : EReal :=
  if h : r < a ∧ j < b then x (ix2 ⟨r, h.1⟩ ⟨j, h.2⟩) else 0

/-- Reading at an index is reading at its numbers. -/
theorem at2_eq {a b : Nat} (x : (⟨2, ![a, b]⟩ : Shape).Idx → EReal) (i : (⟨2, ![a, b]⟩ : Shape).Idx) :
    x i = at2 x (i 0).val (i 1).val := by
  have h : (i 0).val < a ∧ (i 1).val < b := ⟨(i 0).isLt, (i 1).isLt⟩
  unfold at2
  rw [dif_pos h]
  exact congrArg x (eq_ix2 i)

/-- Reading at numbers in range. -/
theorem at2_ix2 {a b : Nat} (x : (⟨2, ![a, b]⟩ : Shape).Idx → EReal) (r : Fin a) (j : Fin b) :
    at2 x r.val j.val = x (ix2 r j) := (at2_eq x (ix2 r j)).symm

/-- Column `j` of a row after the kernel's three products: the row, the row turned left and right by `h` inside its 128 columns. -/
def turned (h : Nat) (x c sa sb : Nat → EReal) (j : Nat) : EReal :=
  x j * c (j % 128) + x (j / 128 * 128 + (j % 128 + h) % 128) * sa (j % 128)
    + x (j / 128 * 128 + (j % 128 + (128 - h)) % 128) * sb (j % 128)

/-- Column `j` of a row whose heads of width `w` have their first `2 * h` columns rotated in pairs. -/
def rotated (w h : Nat) (x c s : Nat → EReal) (j : Nat) : EReal :=
  if j % w < h then x j * c (j % w) - x (j + h) * s (j % w)
  else if j % w < 2 * h then x j * c (j % w - h) + x (j - h) * s (j % w - h)
  else x j

/-- The three tables for heads of width `w`. -/
structure Tables (w h : Nat) (c s tc tsa tsb : Nat → EReal) : Prop where
  cos : ∀ l < 128, tc l = if l % w < h then c (l % w) else if l % w < 2 * h then c (l % w - h) else 1
  left : ∀ l < 128, tsa l = if l % w < h then -s (l % w) else 0
  right : ∀ l < 128, tsb l = if l % w < h then 0 else if l % w < 2 * h then s (l % w - h) else 0

/-- With the tables for heads of 128 columns the three products rotate the first 32. -/
theorem turned_128 (x c s tc tsa tsb : Nat → EReal) (T : Tables 128 16 c s tc tsa tsb) (j : Nat) :
    turned 16 x tc tsa tsb j = rotated 128 16 x c s j := by
  have hl : j % 128 < 128 := Nat.mod_lt _ (by decide)
  unfold turned rotated
  rw [T.cos _ hl, T.left _ hl, T.right _ hl, Nat.mod_mod]
  split
  · rw [mul_zero, add_zero, mul_neg, ← sub_eq_add_neg, show j / 128 * 128 + (j % 128 + 16) % 128 = j + 16 by omega]
  · split
    · rw [mul_zero, add_zero, show j / 128 * 128 + (j % 128 + (128 - 16)) % 128 = j - 16 by omega]
    · rw [mul_zero, add_zero, mul_zero, add_zero, mul_one]

/-- With the tables for heads of 64 columns they rotate the first 16 of each. -/
theorem turned_64 (x c s tc tsa tsb : Nat → EReal) (T : Tables 64 8 c s tc tsa tsb) (j : Nat) :
    turned 8 x tc tsa tsb j = rotated 64 8 x c s j := by
  have hl : j % 128 < 128 := Nat.mod_lt _ (by decide)
  have hm : j % 128 % 64 = j % 64 := by omega
  unfold turned rotated
  rw [T.cos _ hl, T.left _ hl, T.right _ hl, hm]
  split
  · rw [mul_zero, add_zero, mul_neg, ← sub_eq_add_neg, show j / 128 * 128 + (j % 128 + 8) % 128 = j + 8 by omega]
  · split
    · rw [mul_zero, add_zero, show j / 128 * 128 + (j % 128 + (128 - 8)) % 128 = j - 8 by omega]
    · rw [mul_zero, add_zero, mul_zero, add_zero, mul_one]

/-- The three products of a block of 128 columns, as the kernel writes them. -/
theorem block_apply {n : Nat} (h : Nat) (hh : h < 128) (s₁ s₂ : BitVec 32) (e₁ : s₁.toNat = 128 - h) (e₂ : s₂.toNat = h) (h0 : 0 < h)
    (x c sa sb : FVec Ideal ⟨2, ![n, 128]⟩ .f32) (r₁ r₂ : (⟨2, ![n, 128]⟩ : Shape).Rotates 1 none)
    (k : (⟨2, ![n, 128]⟩ : Shape).Idx) (X : Nat → EReal) (b : Nat) (hX : ∀ l : Fin 128, x (ix2 (k 0) l) = X (b * 128 + l.val)) :
    addf (addf (mulf x c) (mulf (dynamicRotate 1 s₁ none x r₁) sa)) (mulf (dynamicRotate 1 s₂ none x r₂) sb) k
      = turned h X (at2 c (k 0).val) (at2 sa (k 0).val) (at2 sb (k 0).val) (b * 128 + (k 1).val) := by
  have hk : (k 1).val < 128 := (k 1).isLt
  have hm : (b * 128 + (k 1).val) % 128 = (k 1).val := by omega
  have hd : (b * 128 + (k 1).val) / 128 * 128 = b * 128 := by omega
  have turn : ∀ (sb : BitVec 32) (g : Nat) (r : (⟨2, ![n, 128]⟩ : Shape).Rotates 1 none), sb.toNat < 128 → (128 - sb.toNat) % 128 = g →
      dynamicRotate 1 sb none x r k = X (b * 128 + ((k 1).val + g) % 128) := fun sb g r hs hg => by
    refine Eq.trans (dynamicRotate_apply 1 sb x r k (ix2 (k 0) ⟨((k 1).val + g) % 128, Nat.mod_lt _ (by decide)⟩) fun a => ?_) (hX _)
    match a with
    | ⟨0, _⟩ => rfl
    | ⟨1, _⟩ =>
      show ((k 1).val + g) % 128 = ((k 1).val + 128 - sb.toNat % 128) % 128
      omega
  have ha : x k = X (b * 128 + (k 1).val) := (congrArg x (eq_ix2 k)).trans (hX (k 1))
  unfold turned
  rw [hm, hd]
  refine congrArg₂ (· + ·) (congrArg₂ (· + ·) (congrArg₂ (· * ·) ha (at2_eq c k)) (congrArg₂ (· * ·) ?_ (at2_eq sa k)))
    (congrArg₂ (· * ·) ?_ (at2_eq sb k))
  · exact turn s₁ h r₁ (by omega) (by omega)
  · exact turn s₂ (128 - h) r₂ (by omega) (by omega)

end Cert.Rot

end
-- ==== Proof.RopK.lean ====
/-
  What the rotary call leaves in each of its result blocks of 256 rows, read at a row's and a column's number. The pieces a result is
  stored in are the heads of 128 columns.
-/
module

public import proofs.«01_k».proof.Proof.Gen.RopIdeal.Value
public import proofs.«01_k».proof.Proof.Rot

@[expose] public section

set_option maxRecDepth 16384

noncomputable section

namespace Cert.RopIdeal.Product

open Cert.RopIdeal Cert.RopIdeal.Gen Idealize.ShloMosaic Idealize.ShloMosaic.TcCoe Idealize.SL.Sem
open Idealize.ShloMosaic.ValueIdx Idealize.ShloMosaic.Tactic Cert.Rot

variable (x0 : Vec Ideal S256x3072 .f32) (x1 : Vec Ideal S256x768 .f32)
  (x2 x3 x4 x5 x6 x7 : Vec Ideal S256x128 .f32)

theorem hz : (![0, 0] : Fin 2 → Nat) = fun _ => 0 := funext fun a => by fin_cases a <;> rfl

/-- The tables a point reads are its blocks of them, whole. -/
theorem tab2 : k0_pay49 (F := Ideal) x0 x1 x2 x3 x4 x5 x6 x7 = x2 := by
  show shapeCast S256x128 (View.ld x2 r0_0) shapeCasts_S256x128_S256x128 = x2
  rw [View.ld_unit_zero (S := S256x128) hz]
  exact shapeCast_self _ _
theorem tab3 : k0_pay50 (F := Ideal) x0 x1 x2 x3 x4 x5 x6 x7 = x3 := by
  show shapeCast S256x128 (View.ld x3 r0_0) shapeCasts_S256x128_S256x128 = x3
  rw [View.ld_unit_zero (S := S256x128) hz]
  exact shapeCast_self _ _
theorem tab4 : k0_pay51 (F := Ideal) x0 x1 x2 x3 x4 x5 x6 x7 = x4 := by
  show shapeCast S256x128 (View.ld x4 r0_0) shapeCasts_S256x128_S256x128 = x4
  rw [View.ld_unit_zero (S := S256x128) hz]
  exact shapeCast_self _ _
theorem tab5 : k0_pay52 (F := Ideal) x0 x1 x2 x3 x4 x5 x6 x7 = x5 := by
  show shapeCast S256x128 (View.ld x5 r0_0) shapeCasts_S256x128_S256x128 = x5
  rw [View.ld_unit_zero (S := S256x128) hz]
  exact shapeCast_self _ _
theorem tab6 : k0_pay53 (F := Ideal) x0 x1 x2 x3 x4 x5 x6 x7 = x6 := by
  show shapeCast S256x128 (View.ld x6 r0_0) shapeCasts_S256x128_S256x128 = x6
  rw [View.ld_unit_zero (S := S256x128) hz]
  exact shapeCast_self _ _
theorem tab7 : k0_pay54 (F := Ideal) x0 x1 x2 x3 x4 x5 x6 x7 = x7 := by
  show shapeCast S256x128 (View.ld x7 r0_0) shapeCasts_S256x128_S256x128 = x7
  rw [View.ld_unit_zero (S := S256x128) hz]
  exact shapeCast_self _ _

/-- Row `r`, column `j` of the attention columns and of the indexer's, after the kernel's products. -/
def attE (r j : Nat) : EReal := turned 16 (at2 x0 r) (at2 x2 r) (at2 x3 r) (at2 x4 r) j
def idxE (r j : Nat) : EReal := turned 8 (at2 x1 r) (at2 x5 r) (at2 x6 r) (at2 x7 r) j

/-- A head `b` of the attention columns after the products. -/
theorem att_head (b : Nat) (q : FVec Ideal S256x128 .f32) (hq : ∀ k : S256x128.Idx, q k = at2 x0 (k 0).val (b * 128 + (k 1).val))
    (k : S256x128.Idx) :
    addf (addf (mulf q (k0_pay49 (F := Ideal) x0 x1 x2 x3 x4 x5 x6 x7))
        (mulf (dynamicRotate 1 112#32 none q rotates_S256x128_d1) (k0_pay50 (F := Ideal) x0 x1 x2 x3 x4 x5 x6 x7)))
      (mulf (dynamicRotate 1 16#32 none q rotates_S256x128_d1) (k0_pay51 (F := Ideal) x0 x1 x2 x3 x4 x5 x6 x7)) k
      = attE x0 x2 x3 x4 (k 0).val (b * 128 + (k 1).val) := by
  rw [tab2, tab3, tab4]
  exact block_apply 16 (by decide) 112#32 16#32 rfl rfl (by decide) q x2 x3 x4 _ _ k (at2 x0 (k 0).val) b fun l => hq (ix2 (k 0) l)

/-- The same for 128 of the indexer's columns. -/
theorem idx_head (b : Nat) (q : FVec Ideal S256x128 .f32) (hq : ∀ k : S256x128.Idx, q k = at2 x1 (k 0).val (b * 128 + (k 1).val))
    (k : S256x128.Idx) :
    addf (addf (mulf q (k0_pay52 (F := Ideal) x0 x1 x2 x3 x4 x5 x6 x7))
        (mulf (dynamicRotate 1 120#32 none q rotates_S256x128_d1) (k0_pay53 (F := Ideal) x0 x1 x2 x3 x4 x5 x6 x7)))
      (mulf (dynamicRotate 1 8#32 none q rotates_S256x128_d1) (k0_pay54 (F := Ideal) x0 x1 x2 x3 x4 x5 x6 x7)) k
      = idxE x1 x5 x6 x7 (k 0).val (b * 128 + (k 1).val) := by
  rw [tab5, tab6, tab7]
  exact block_apply 8 (by decide) 120#32 8#32 rfl rfl (by decide) q x5 x6 x7 _ _ k (at2 x1 (k 0).val) b fun l => hq (ix2 (k 0) l)

/-- A load of 128 columns, read at a column's number. -/
theorem ld_att (off : Fin 2 → Nat) (inb : ∀ a, off a + S256x128.size a ≤ S256x3072.size a) (h0 : off 0 = 0) (k : S256x128.Idx) :
    View.ld x0 (Rect.unit (s := S256x3072) off S256x128.size inb) k = at2 x0 (k 0).val (off 1 + (k 1).val) := by
  refine (at2_eq x0 _).trans (congrArg₂ (at2 x0) ?_ ?_)
  · show off 0 + 1 * (k 0).val = _; omega
  · show off 1 + 1 * (k 1).val = _; omega
theorem ld_idx (off : Fin 2 → Nat) (inb : ∀ a, off a + S256x128.size a ≤ S256x768.size a) (h0 : off 0 = 0) (k : S256x128.Idx) :
    View.ld x1 (Rect.unit (s := S256x768) off S256x128.size inb) k = at2 x1 (k 0).val (off 1 + (k 1).val) := by
  refine (at2_eq x1 _).trans (congrArg₂ (at2 x1) ?_ ?_)
  · show off 0 + 1 * (k 0).val = _; omega
  · show off 1 + 1 * (k 1).val = _; omega

/-- The queries: their 16 heads. -/
theorem block8 (y : S256x2048.Idx) : out0_8 (F := Ideal) x0 x1 x2 x3 x4 x5 x6 x7 y = attE x0 x2 x3 x4 (y 0).val (0 + (y 1).val) := by
  unfold out0_8
  refine View.canon_apply_of_pieces (Val := Elt Ideal) (S := S256x2048) (e := .bf16) (fun y => (attE x0 x2 x3 x4 (y 0).val (0 + (y 1).val) : EReal)) _ ?_ y (cover0_8 _ _ _ _ _ _ _ _ _ _ _ _ _ _ _ _ y)
  intro pc hpc
  rcases List.mem_cons.mp hpc with rfl | hpc
  · intro x
    refine (att_head x0 x1 x2 x3 x4 x5 x6 x7 15 _ (ld_att x0 ![0, 1920] _ rfl) x).trans (congrArg₂ (attE x0 x2 x3 x4) ?_ ?_)
    · show (x 0).val = 0 + 1 * (x 0).val; omega
    · show 1920 + (x 1).val = 0 + (1920 + 1 * (x 1).val); omega
  rcases List.mem_cons.mp hpc with rfl | hpc
  · intro x
    refine (att_head x0 x1 x2 x3 x4 x5 x6 x7 14 _ (ld_att x0 ![0, 1792] _ rfl) x).trans (congrArg₂ (attE x0 x2 x3 x4) ?_ ?_)
    · show (x 0).val = 0 + 1 * (x 0).val; omega
    · show 1792 + (x 1).val = 0 + (1792 + 1 * (x 1).val); omega
  rcases List.mem_cons.mp hpc with rfl | hpc
  · intro x
    refine (att_head x0 x1 x2 x3 x4 x5 x6 x7 13 _ (ld_att x0 ![0, 1664] _ rfl) x).trans (congrArg₂ (attE x0 x2 x3 x4) ?_ ?_)
    · show (x 0).val = 0 + 1 * (x 0).val; omega
    · show 1664 + (x 1).val = 0 + (1664 + 1 * (x 1).val); omega
  rcases List.mem_cons.mp hpc with rfl | hpc
  · intro x
    refine (att_head x0 x1 x2 x3 x4 x5 x6 x7 12 _ (ld_att x0 ![0, 1536] _ rfl) x).trans (congrArg₂ (attE x0 x2 x3 x4) ?_ ?_)
    · show (x 0).val = 0 + 1 * (x 0).val; omega
    · show 1536 + (x 1).val = 0 + (1536 + 1 * (x 1).val); omega
  rcases List.mem_cons.mp hpc with rfl | hpc
  · intro x
    refine (att_head x0 x1 x2 x3 x4 x5 x6 x7 11 _ (ld_att x0 ![0, 1408] _ rfl) x).trans (congrArg₂ (attE x0 x2 x3 x4) ?_ ?_)
    · show (x 0).val = 0 + 1 * (x 0).val; omega
    · show 1408 + (x 1).val = 0 + (1408 + 1 * (x 1).val); omega
  rcases List.mem_cons.mp hpc with rfl | hpc
  · intro x
    refine (att_head x0 x1 x2 x3 x4 x5 x6 x7 10 _ (ld_att x0 ![0, 1280] _ rfl) x).trans (congrArg₂ (attE x0 x2 x3 x4) ?_ ?_)
    · show (x 0).val = 0 + 1 * (x 0).val; omega
    · show 1280 + (x 1).val = 0 + (1280 + 1 * (x 1).val); omega
  rcases List.mem_cons.mp hpc with rfl | hpc
  · intro x
    refine (att_head x0 x1 x2 x3 x4 x5 x6 x7 9 _ (ld_att x0 ![0, 1152] _ rfl) x).trans (congrArg₂ (attE x0 x2 x3 x4) ?_ ?_)
    · show (x 0).val = 0 + 1 * (x 0).val; omega
    · show 1152 + (x 1).val = 0 + (1152 + 1 * (x 1).val); omega
  rcases List.mem_cons.mp hpc with rfl | hpc
  · intro x
    refine (att_head x0 x1 x2 x3 x4 x5 x6 x7 8 _ (ld_att x0 ![0, 1024] _ rfl) x).trans (congrArg₂ (attE x0 x2 x3 x4) ?_ ?_)
    · show (x 0).val = 0 + 1 * (x 0).val; omega
    · show 1024 + (x 1).val = 0 + (1024 + 1 * (x 1).val); omega
  rcases List.mem_cons.mp hpc with rfl | hpc
  · intro x
    refine (att_head x0 x1 x2 x3 x4 x5 x6 x7 7 _ (ld_att x0 ![0, 896] _ rfl) x).trans (congrArg₂ (attE x0 x2 x3 x4) ?_ ?_)
    · show (x 0).val = 0 + 1 * (x 0).val; omega
    · show 896 + (x 1).val = 0 + (896 + 1 * (x 1).val); omega
  rcases List.mem_cons.mp hpc with rfl | hpc
  · intro x
    refine (att_head x0 x1 x2 x3 x4 x5 x6 x7 6 _ (ld_att x0 ![0, 768] _ rfl) x).trans (congrArg₂ (attE x0 x2 x3 x4) ?_ ?_)
    · show (x 0).val = 0 + 1 * (x 0).val; omega
    · show 768 + (x 1).val = 0 + (768 + 1 * (x 1).val); omega
  rcases List.mem_cons.mp hpc with rfl | hpc
  · intro x
    refine (att_head x0 x1 x2 x3 x4 x5 x6 x7 5 _ (ld_att x0 ![0, 640] _ rfl) x).trans (congrArg₂ (attE x0 x2 x3 x4) ?_ ?_)
    · show (x 0).val = 0 + 1 * (x 0).val; omega
    · show 640 + (x 1).val = 0 + (640 + 1 * (x 1).val); omega
  rcases List.mem_cons.mp hpc with rfl | hpc
  · intro x
    refine (att_head x0 x1 x2 x3 x4 x5 x6 x7 4 _ (ld_att x0 ![0, 512] _ rfl) x).trans (congrArg₂ (attE x0 x2 x3 x4) ?_ ?_)
    · show (x 0).val = 0 + 1 * (x 0).val; omega
    · show 512 + (x 1).val = 0 + (512 + 1 * (x 1).val); omega
  rcases List.mem_cons.mp hpc with rfl | hpc
  · intro x
    refine (att_head x0 x1 x2 x3 x4 x5 x6 x7 3 _ (ld_att x0 ![0, 384] _ rfl) x).trans (congrArg₂ (attE x0 x2 x3 x4) ?_ ?_)
    · show (x 0).val = 0 + 1 * (x 0).val; omega
    · show 384 + (x 1).val = 0 + (384 + 1 * (x 1).val); omega
  rcases List.mem_cons.mp hpc with rfl | hpc
  · intro x
    refine (att_head x0 x1 x2 x3 x4 x5 x6 x7 2 _ (ld_att x0 ![0, 256] _ rfl) x).trans (congrArg₂ (attE x0 x2 x3 x4) ?_ ?_)
    · show (x 0).val = 0 + 1 * (x 0).val; omega
    · show 256 + (x 1).val = 0 + (256 + 1 * (x 1).val); omega
  rcases List.mem_cons.mp hpc with rfl | hpc
  · intro x
    refine (att_head x0 x1 x2 x3 x4 x5 x6 x7 1 _ (ld_att x0 ![0, 128] _ rfl) x).trans (congrArg₂ (attE x0 x2 x3 x4) ?_ ?_)
    · show (x 0).val = 0 + 1 * (x 0).val; omega
    · show 128 + (x 1).val = 0 + (128 + 1 * (x 1).val); omega
  rcases List.mem_cons.mp hpc with rfl | hpc
  · intro x
    refine (att_head x0 x1 x2 x3 x4 x5 x6 x7 0 _ (ld_att x0 ![0, 0] _ rfl) x).trans (congrArg₂ (attE x0 x2 x3 x4) ?_ ?_)
    · show (x 0).val = 0 + 1 * (x 0).val; omega
    · show 0 + (x 1).val = 0 + (0 + 1 * (x 1).val); omega
  nomatch hpc

/-- The keys: their 4 heads. -/
theorem block9 (y : S256x512.Idx) : out0_9 (F := Ideal) x0 x1 x2 x3 x4 x5 x6 x7 y = attE x0 x2 x3 x4 (y 0).val (2048 + (y 1).val) := by
  unfold out0_9
  refine View.canon_apply_of_pieces (Val := Elt Ideal) (S := S256x512) (e := .f32) (fun y => (attE x0 x2 x3 x4 (y 0).val (2048 + (y 1).val) : EReal)) _ ?_ y (cover0_9 _ _ _ _ y)
  intro pc hpc
  rcases List.mem_cons.mp hpc with rfl | hpc
  · intro x
    refine (att_head x0 x1 x2 x3 x4 x5 x6 x7 19 _ (ld_att x0 ![0, 2432] _ rfl) x).trans (congrArg₂ (attE x0 x2 x3 x4) ?_ ?_)
    · show (x 0).val = 0 + 1 * (x 0).val; omega
    · show 2432 + (x 1).val = 2048 + (384 + 1 * (x 1).val); omega
  rcases List.mem_cons.mp hpc with rfl | hpc
  · intro x
    refine (att_head x0 x1 x2 x3 x4 x5 x6 x7 18 _ (ld_att x0 ![0, 2304] _ rfl) x).trans (congrArg₂ (attE x0 x2 x3 x4) ?_ ?_)
    · show (x 0).val = 0 + 1 * (x 0).val; omega
    · show 2304 + (x 1).val = 2048 + (256 + 1 * (x 1).val); omega
  rcases List.mem_cons.mp hpc with rfl | hpc
  · intro x
    refine (att_head x0 x1 x2 x3 x4 x5 x6 x7 17 _ (ld_att x0 ![0, 2176] _ rfl) x).trans (congrArg₂ (attE x0 x2 x3 x4) ?_ ?_)
    · show (x 0).val = 0 + 1 * (x 0).val; omega
    · show 2176 + (x 1).val = 2048 + (128 + 1 * (x 1).val); omega
  rcases List.mem_cons.mp hpc with rfl | hpc
  · intro x
    refine (att_head x0 x1 x2 x3 x4 x5 x6 x7 16 _ (ld_att x0 ![0, 2048] _ rfl) x).trans (congrArg₂ (attE x0 x2 x3 x4) ?_ ?_)
    · show (x 0).val = 0 + 1 * (x 0).val; omega
    · show 2048 + (x 1).val = 2048 + (0 + 1 * (x 1).val); omega
  nomatch hpc

/-- The indexer's queries. -/
theorem block11 (y : S256x512.Idx) : out0_11 (F := Ideal) x0 x1 x2 x3 x4 x5 x6 x7 y = idxE x1 x5 x6 x7 (y 0).val (0 + (y 1).val) := by
  unfold out0_11
  refine View.canon_apply_of_pieces (Val := Elt Ideal) (S := S256x512) (e := .f32) (fun y => (idxE x1 x5 x6 x7 (y 0).val (0 + (y 1).val) : EReal)) _ ?_ y (cover0_11 _ _ _ _ y)
  intro pc hpc
  rcases List.mem_cons.mp hpc with rfl | hpc
  · intro x
    refine (idx_head x0 x1 x2 x3 x4 x5 x6 x7 3 _ (ld_idx x1 ![0, 384] _ rfl) x).trans (congrArg₂ (idxE x1 x5 x6 x7) ?_ ?_)
    · show (x 0).val = 0 + 1 * (x 0).val; omega
    · show 384 + (x 1).val = 0 + (384 + 1 * (x 1).val); omega
  rcases List.mem_cons.mp hpc with rfl | hpc
  · intro x
    refine (idx_head x0 x1 x2 x3 x4 x5 x6 x7 2 _ (ld_idx x1 ![0, 256] _ rfl) x).trans (congrArg₂ (idxE x1 x5 x6 x7) ?_ ?_)
    · show (x 0).val = 0 + 1 * (x 0).val; omega
    · show 256 + (x 1).val = 0 + (256 + 1 * (x 1).val); omega
  rcases List.mem_cons.mp hpc with rfl | hpc
  · intro x
    refine (idx_head x0 x1 x2 x3 x4 x5 x6 x7 1 _ (ld_idx x1 ![0, 128] _ rfl) x).trans (congrArg₂ (idxE x1 x5 x6 x7) ?_ ?_)
    · show (x 0).val = 0 + 1 * (x 0).val; omega
    · show 128 + (x 1).val = 0 + (128 + 1 * (x 1).val); omega
  rcases List.mem_cons.mp hpc with rfl | hpc
  · intro x
    refine (idx_head x0 x1 x2 x3 x4 x5 x6 x7 0 _ (ld_idx x1 ![0, 0] _ rfl) x).trans (congrArg₂ (idxE x1 x5 x6 x7) ?_ ?_)
    · show (x 0).val = 0 + 1 * (x 0).val; omega
    · show 0 + (x 1).val = 0 + (0 + 1 * (x 1).val); omega
  nomatch hpc

/-- The keys, rounded. -/
theorem block14 (y : S256x512.Idx) : out0_14 (F := Ideal) x0 x1 x2 x3 x4 x5 x6 x7 y = attE x0 x2 x3 x4 (y 0).val (2048 + (y 1).val) := by
  unfold out0_14
  refine View.canon_apply_of_pieces (Val := Elt Ideal) (S := S256x512) (e := .bf16) (fun y => (attE x0 x2 x3 x4 (y 0).val (2048 + (y 1).val) : EReal)) _ ?_ y (cover0_14 _ _ _ _ y)
  intro pc hpc
  rcases List.mem_cons.mp hpc with rfl | hpc
  · intro x
    refine (att_head x0 x1 x2 x3 x4 x5 x6 x7 19 _ (ld_att x0 ![0, 2432] _ rfl) x).trans (congrArg₂ (attE x0 x2 x3 x4) ?_ ?_)
    · show (x 0).val = 0 + 1 * (x 0).val; omega
    · show 2432 + (x 1).val = 2048 + (384 + 1 * (x 1).val); omega
  rcases List.mem_cons.mp hpc with rfl | hpc
  · intro x
    refine (att_head x0 x1 x2 x3 x4 x5 x6 x7 18 _ (ld_att x0 ![0, 2304] _ rfl) x).trans (congrArg₂ (attE x0 x2 x3 x4) ?_ ?_)
    · show (x 0).val = 0 + 1 * (x 0).val; omega
    · show 2304 + (x 1).val = 2048 + (256 + 1 * (x 1).val); omega
  rcases List.mem_cons.mp hpc with rfl | hpc
  · intro x
    refine (att_head x0 x1 x2 x3 x4 x5 x6 x7 17 _ (ld_att x0 ![0, 2176] _ rfl) x).trans (congrArg₂ (attE x0 x2 x3 x4) ?_ ?_)
    · show (x 0).val = 0 + 1 * (x 0).val; omega
    · show 2176 + (x 1).val = 2048 + (128 + 1 * (x 1).val); omega
  rcases List.mem_cons.mp hpc with rfl | hpc
  · intro x
    refine (att_head x0 x1 x2 x3 x4 x5 x6 x7 16 _ (ld_att x0 ![0, 2048] _ rfl) x).trans (congrArg₂ (attE x0 x2 x3 x4) ?_ ?_)
    · show (x 0).val = 0 + 1 * (x 0).val; omega
    · show 2048 + (x 1).val = 2048 + (0 + 1 * (x 1).val); omega
  nomatch hpc

/-- The indexer's queries, rounded. -/
theorem block16 (y : S256x512.Idx) : out0_16 (F := Ideal) x0 x1 x2 x3 x4 x5 x6 x7 y = idxE x1 x5 x6 x7 (y 0).val (0 + (y 1).val) := by
  unfold out0_16
  refine View.canon_apply_of_pieces (Val := Elt Ideal) (S := S256x512) (e := .bf16) (fun y => (idxE x1 x5 x6 x7 (y 0).val (0 + (y 1).val) : EReal)) _ ?_ y (cover0_16 _ _ _ _ y)
  intro pc hpc
  rcases List.mem_cons.mp hpc with rfl | hpc
  · intro x
    refine (idx_head x0 x1 x2 x3 x4 x5 x6 x7 3 _ (ld_idx x1 ![0, 384] _ rfl) x).trans (congrArg₂ (idxE x1 x5 x6 x7) ?_ ?_)
    · show (x 0).val = 0 + 1 * (x 0).val; omega
    · show 384 + (x 1).val = 0 + (384 + 1 * (x 1).val); omega
  rcases List.mem_cons.mp hpc with rfl | hpc
  · intro x
    refine (idx_head x0 x1 x2 x3 x4 x5 x6 x7 2 _ (ld_idx x1 ![0, 256] _ rfl) x).trans (congrArg₂ (idxE x1 x5 x6 x7) ?_ ?_)
    · show (x 0).val = 0 + 1 * (x 0).val; omega
    · show 256 + (x 1).val = 0 + (256 + 1 * (x 1).val); omega
  rcases List.mem_cons.mp hpc with rfl | hpc
  · intro x
    refine (idx_head x0 x1 x2 x3 x4 x5 x6 x7 1 _ (ld_idx x1 ![0, 128] _ rfl) x).trans (congrArg₂ (idxE x1 x5 x6 x7) ?_ ?_)
    · show (x 0).val = 0 + 1 * (x 0).val; omega
    · show 128 + (x 1).val = 0 + (128 + 1 * (x 1).val); omega
  rcases List.mem_cons.mp hpc with rfl | hpc
  · intro x
    refine (idx_head x0 x1 x2 x3 x4 x5 x6 x7 0 _ (ld_idx x1 ![0, 0] _ rfl) x).trans (congrArg₂ (idxE x1 x5 x6 x7) ?_ ?_)
    · show (x 0).val = 0 + 1 * (x 0).val; omega
    · show 0 + (x 1).val = 0 + (0 + 1 * (x 1).val); omega
  nomatch hpc

/-- The values, as they are. -/
theorem block10 (y : S256x512.Idx) : out0_10 (F := Ideal) x0 x1 x2 x3 x4 x5 x6 x7 y = at2 x0 (y 0).val (2560 + (y 1).val) := by
  unfold out0_10
  refine View.canon_apply_of_pieces (Val := Elt Ideal) (S := S256x512) (e := .f32) (fun y => (at2 x0 (y 0).val (2560 + (y 1).val) : EReal)) _ ?_ y (cover0_10 _ y)
  intro pc hpc
  rcases List.mem_cons.mp hpc with rfl | hpc
  · intro x
    refine (at2_eq x0 _).trans (congrArg₂ (at2 x0) ?_ ?_)
    · show 0 + 1 * (x 0).val = 0 + 1 * (x 0).val; rfl
    · show 2560 + 1 * (x 1).val = 2560 + (0 + 1 * (x 1).val); omega
  nomatch hpc

/-- The values, rounded. -/
theorem block15 (y : S256x512.Idx) : out0_15 (F := Ideal) x0 x1 x2 x3 x4 x5 x6 x7 y = at2 x0 (y 0).val (2560 + (y 1).val) := by
  unfold out0_15
  refine View.canon_apply_of_pieces (Val := Elt Ideal) (S := S256x512) (e := .bf16) (fun y => (at2 x0 (y 0).val (2560 + (y 1).val) : EReal)) _ ?_ y (cover0_15 _ y)
  intro pc hpc
  rcases List.mem_cons.mp hpc with rfl | hpc
  · intro x
    refine (at2_eq x0 _).trans (congrArg₂ (at2 x0) ?_ ?_)
    · show 0 + 1 * (x 0).val = 0 + 1 * (x 0).val; rfl
    · show 2560 + 1 * (x 1).val = 2560 + (0 + 1 * (x 1).val); omega
  nomatch hpc

/-- The first 64 of 128 columns. -/
theorem first64 (v : FVec Ideal S256x128 .f32) (x : S256x64.Idx) :
    extractStridedSlice S256x64 ![0, 0] v slices_S256x128_o0_0_S256x64 x
      = v (ix2 (x 0) ⟨(x 1).val, lt_trans (x 1).isLt (by decide : 64 < 128)⟩ : S256x128.Idx) := by
  refine extractStridedSlice_apply _ _ _ x _ fun a => ?_
  match a with
  | ⟨0, _⟩ => show (x 0).val = 0 + (x 0).val; omega
  | ⟨1, _⟩ => show (x 1).val = 0 + (x 1).val; omega

/-- The indexer's key: the first 64 of 128 columns. -/
theorem block12 (y : S256x64.Idx) : out0_12 (F := Ideal) x0 x1 x2 x3 x4 x5 x6 x7 y = idxE x1 x5 x6 x7 (y 0).val (512 + (y 1).val) := by
  unfold out0_12
  refine View.canon_apply_of_pieces (Val := Elt Ideal) (S := S256x64) (e := .f32) (fun y => (idxE x1 x5 x6 x7 (y 0).val (512 + (y 1).val) : EReal)) _ ?_ y (cover0_12 _ y)
  intro pc hpc
  rcases List.mem_cons.mp hpc with rfl | hpc
  · intro x
    exact (first64 _ x).trans ((idx_head x0 x1 x2 x3 x4 x5 x6 x7 4 _ (ld_idx x1 ![0, 512] _ rfl) _).trans
      (congrArg₂ (idxE x1 x5 x6 x7) (by show (x 0).val = 0 + 1 * (x 0).val; omega)
        (by show 512 + (x 1).val = 512 + (0 + 1 * (x 1).val); omega)))
  nomatch hpc

/-- The indexer's key, rounded. -/
theorem block17 (y : S256x64.Idx) : out0_17 (F := Ideal) x0 x1 x2 x3 x4 x5 x6 x7 y = idxE x1 x5 x6 x7 (y 0).val (512 + (y 1).val) := by
  unfold out0_17
  refine View.canon_apply_of_pieces (Val := Elt Ideal) (S := S256x64) (e := .bf16) (fun y => (idxE x1 x5 x6 x7 (y 0).val (512 + (y 1).val) : EReal)) _ ?_ y (cover0_17 _ y)
  intro pc hpc
  rcases List.mem_cons.mp hpc with rfl | hpc
  · intro x
    exact (first64 _ x).trans ((idx_head x0 x1 x2 x3 x4 x5 x6 x7 4 _ (ld_idx x1 ![0, 512] _ rfl) _).trans
      (congrArg₂ (idxE x1 x5 x6 x7) (by show (x 0).val = 0 + 1 * (x 0).val; omega)
        (by show 512 + (x 1).val = 512 + (0 + 1 * (x 1).val); omega)))
  nomatch hpc

/-- The indexer's weights, scaled. -/
theorem block13 (y : S256x128.Idx) : out0_13 (F := Ideal) x0 x1 x2 x3 x4 x5 x6 x7 y = at2 x1 (y 0).val (640 + (y 1).val) * Ideal.ofBits .f32 0x3EB504F3#32 := by
  unfold out0_13
  refine View.canon_apply_of_pieces (Val := Elt Ideal) (S := S256x128) (e := .f32) (fun y => (at2 x1 (y 0).val (640 + (y 1).val) * Ideal.ofBits .f32 0x3EB504F3#32 : EReal)) _ ?_ y (cover0_13 _ y)
  intro pc hpc
  rcases List.mem_cons.mp hpc with rfl | hpc
  · intro x
    refine congrArg₂ (· * ·) ((at2_eq x1 _).trans (congrArg₂ (at2 x1) ?_ ?_)) rfl
    · show 0 + 1 * (x 0).val = 0 + 1 * (x 0).val; rfl
    · show 640 + 1 * (x 1).val = 640 + (0 + 1 * (x 1).val); omega
  nomatch hpc

end Cert.RopIdeal.Product

end
-- ==== Proof.RopR.lean ====
/-
  The reference's rotated columns, read at a row's and a column's number: heads of 128 columns for the queries and keys, of 64 for the
  indexer's. The first quarter of a head is rotated in pairs, the rest is kept.
-/
module

public import proofs.«01_k».proof.Proof.Gen.RopRefIdeal.Read
public import proofs.«01_k».proof.Proof.Rot

@[expose] public section

set_option maxRecDepth 16384

noncomputable section

namespace Cert.RopRefIdeal.Columns

open Cert.RopRefIdeal Cert.RopRefIdeal.Read Idealize.ShloMosaic Idealize.ShloMosaic.StableHlo Idealize.SL.Sem
open Idealize.ShloMosaic.ValueIdx Cert.Rot

/-- The heads of `q` before the rotation. -/
theorem q_in (x0 : Vec Ideal S16384x3072 .f32) (b : Fin 8) (p : Fin 2048) (h : Fin 16) (e : Fin 128) :
    val_main_v9 (F := Ideal) x0 (ix4 b p h e) = at2 x0 (b.val * 2048 + p.val) (0 + (h.val * 128 + e.val)) := by
  have hb := b.isLt
  have hp := p.isLt
  have hh := h.isLt
  have he := e.isLt
  rw [val_main_v9_apply, val_main_v3_apply, val_main_v0_apply]
  refine (at2_eq x0 _).trans (congrArg₂ (at2 x0) ?_ ?_)
  · show ((((((b.val * 2048 + p.val) * 16 + h.val) * 128 + e.val) / 4194304) * 2048 + (((b.val * 2048 + p.val) * 16 + h.val) * 128 + e.val) / 2048 % 2048) * 3072 + ((((b.val * 2048 + p.val) * 16 + h.val) * 128 + e.val) % 2048)) / 3072 = (b.val * 2048 + p.val); omega
  · show ((((((b.val * 2048 + p.val) * 16 + h.val) * 128 + e.val) / 4194304) * 2048 + (((b.val * 2048 + p.val) * 16 + h.val) * 128 + e.val) / 2048 % 2048) * 3072 + ((((b.val * 2048 + p.val) * 16 + h.val) * 128 + e.val) % 2048)) % 3072 = (0 + (h.val * 128 + e.val)); omega

/-- The cosines and sines along the rows and the rotated columns of `q`. -/
theorem q_cos (b : Fin 8) (p : Fin 2048) (h : Fin 16) (k : Fin 16) :
    val_main_v30 (F := Ideal) (ix4 b p h k) = at2 (val_main_v23 (F := Ideal)) p.val k.val := by
  rw [val_main_v30_apply, val_main_v29_apply, val_main_v24_apply]
  exact (congrArg _ (funext fun a => by fin_cases a <;> rfl)).trans (at2_ix2 (val_main_v23 (F := Ideal)) p k).symm
theorem q_sin (b : Fin 8) (p : Fin 2048) (h : Fin 16) (k : Fin 16) :
    val_main_v33 (F := Ideal) (ix4 b p h k) = at2 (val_main_v25 (F := Ideal)) p.val k.val := by
  rw [val_main_v33_apply, val_main_v32_apply, val_main_v26_apply]
  exact (congrArg _ (funext fun a => by fin_cases a <;> rfl)).trans (at2_ix2 (val_main_v25 (F := Ideal)) p k).symm
theorem q_cos' (b : Fin 8) (p : Fin 2048) (h : Fin 16) (k : Fin 16) :
    val_main_v37 (F := Ideal) (ix4 b p h k) = at2 (val_main_v23 (F := Ideal)) p.val k.val := by
  rw [val_main_v37_apply, val_main_v36_apply, val_main_v24_apply]
  exact (congrArg _ (funext fun a => by fin_cases a <;> rfl)).trans (at2_ix2 (val_main_v23 (F := Ideal)) p k).symm
theorem q_sin' (b : Fin 8) (p : Fin 2048) (h : Fin 16) (k : Fin 16) :
    val_main_v40 (F := Ideal) (ix4 b p h k) = at2 (val_main_v25 (F := Ideal)) p.val k.val := by
  rw [val_main_v40_apply, val_main_v39_apply, val_main_v26_apply]
  exact (congrArg _ (funext fun a => by fin_cases a <;> rfl)).trans (at2_ix2 (val_main_v25 (F := Ideal)) p k).symm

/-- The halves that are rotated, and the columns that are kept. -/
theorem q_x1 (x0 : Vec Ideal S16384x3072 .f32) (b : Fin 8) (p : Fin 2048) (h : Fin 16) (k : Fin 16) :
    val_main_v27 (F := Ideal) x0 (ix4 b p h k) = at2 x0 (b.val * 2048 + p.val) (0 + (h.val * 128 + (k.val))) := by
  rw [val_main_v27_apply, val_main_v10_apply]
  refine Eq.trans (congrArg _ ?_) (q_in x0 b p h ⟨k.val, by have := k.isLt; omega⟩)
  funext a; fin_cases a <;> rfl
theorem q_x2 (x0 : Vec Ideal S16384x3072 .f32) (b : Fin 8) (p : Fin 2048) (h : Fin 16) (k : Fin 16) :
    val_main_v28 (F := Ideal) x0 (ix4 b p h k) = at2 x0 (b.val * 2048 + p.val) (0 + (h.val * 128 + (16 + k.val))) := by
  rw [val_main_v28_apply, val_main_v10_apply]
  refine Eq.trans (congrArg _ ?_) (q_in x0 b p h ⟨16 + k.val, by have := k.isLt; omega⟩)
  funext a; fin_cases a <;> rfl
theorem q_kept (x0 : Vec Ideal S16384x3072 .f32) (b : Fin 8) (p : Fin 2048) (h : Fin 16) (k : Fin 96) :
    val_main_v44 (F := Ideal) x0 (ix4 b p h k) = at2 x0 (b.val * 2048 + p.val) (0 + (h.val * 128 + (32 + k.val))) := by
  rw [val_main_v44_apply]
  refine Eq.trans (congrArg _ ?_) (q_in x0 b p h ⟨32 + k.val, by have := k.isLt; omega⟩)
  funext a; fin_cases a <;> rfl

/-- A head of `q` after the rotation. -/
theorem q_head (x0 : Vec Ideal S16384x3072 .f32) (b : Fin 8) (p : Fin 2048) (h : Fin 16) (e : Fin 128) :
    val_main_v45 (F := Ideal) x0 (ix4 b p h e)
      = rotated 128 16 (at2 x0 (b.val * 2048 + p.val)) (at2 (val_main_v23 (F := Ideal)) p.val) (at2 (val_main_v25 (F := Ideal)) p.val) (0 + (h.val * 128 + e.val)) := by
  have he := e.isLt
  have hm : (0 + (h.val * 128 + e.val)) % 128 = e.val := by omega
  unfold rotated
  rw [hm]
  by_cases h1 : e.val < 16
  · rw [if_pos h1]
    unfold val_main_v45
    refine (concatenate_apply_piece (t := S8x2048x16x128) 3 _ _ (ix4 b p h e) 0 (by show 0 < 2; omega)
      S8x2048x16x32 (val_main_v43 (F := Ideal) x0) rfl rfl 0 rfl (ix4 b p h ⟨e.val, by omega⟩)
      (fun a ha => by fin_cases a <;> first | rfl | exact absurd rfl ha) (by show 0 + e.val = e.val; omega)).trans ?_
    unfold val_main_v43
    refine (concatenate_apply_piece (t := S8x2048x16x32) 3 _ _ (ix4 b p h ⟨e.val, by omega⟩) 0 (by show 0 < 2; omega)
      S8x2048x16x16 (val_main_v35 (F := Ideal) x0) rfl rfl 0 rfl (ix4 b p h ⟨e.val, h1⟩)
      (fun a ha => by fin_cases a <;> first | rfl | exact absurd rfl ha) (by show 0 + e.val = e.val; omega)).trans ?_
    rw [val_main_v35_apply, val_main_v31_apply, val_main_v34_apply, q_x1, q_x2, q_cos, q_sin]
    rw [show (0 + (h.val * 128 + e.val)) + 16 = (0 + (h.val * 128 + (16 + e.val))) by omega]
    rfl
  · rw [if_neg h1]
    by_cases h2 : e.val < 2 * 16
    · rw [if_pos h2]
      unfold val_main_v45
      refine (concatenate_apply_piece (t := S8x2048x16x128) 3 _ _ (ix4 b p h e) 0 (by show 0 < 2; omega)
        S8x2048x16x32 (val_main_v43 (F := Ideal) x0) rfl rfl 0 rfl (ix4 b p h ⟨e.val, by omega⟩)
        (fun a ha => by fin_cases a <;> first | rfl | exact absurd rfl ha) (by show 0 + e.val = e.val; omega)).trans ?_
      unfold val_main_v43
      refine (concatenate_apply_piece (t := S8x2048x16x32) 3 _ _ (ix4 b p h ⟨e.val, by omega⟩) 1 (by show 1 < 2; omega)
        S8x2048x16x16 (val_main_v42 (F := Ideal) x0) rfl rfl 16 rfl (ix4 b p h ⟨e.val - 16, by omega⟩)
        (fun a ha => by fin_cases a <;> first | rfl | exact absurd rfl ha) (by show 16 + (e.val - 16) = e.val; omega)).trans ?_
      rw [val_main_v42_apply, val_main_v38_apply, val_main_v41_apply, q_x1, q_x2, q_cos', q_sin']
      rw [show (0 + (h.val * 128 + e.val)) - 16 = (0 + (h.val * 128 + (e.val - 16))) by omega, show (0 + (h.val * 128 + e.val)) = (0 + (h.val * 128 + (16 + (e.val - 16)))) by omega]
      rfl
    · rw [if_neg h2]
      unfold val_main_v45
      refine (concatenate_apply_piece (t := S8x2048x16x128) 3 _ _ (ix4 b p h e) 1 (by show 1 < 2; omega)
        S8x2048x16x96 (val_main_v44 (F := Ideal) x0) rfl rfl 32 rfl (ix4 b p h ⟨e.val - 32, by omega⟩)
        (fun a ha => by fin_cases a <;> first | rfl | exact absurd rfl ha) (by show 32 + (e.val - 32) = e.val; omega)).trans ?_
      rw [q_kept, show (0 + (h.val * 128 + (32 + (e.val - 32)))) = (0 + (h.val * 128 + e.val)) by omega]

/-- The result `q` at row `R`, column `J`. -/
theorem q_apply (x0 : Vec Ideal S16384x3072 .f32) (R : Fin 16384) (J : Fin 2048) :
    val_main_v159 (F := Ideal) x0 (ix2 R J)
      = rotated 128 16 (at2 x0 R.val) (at2 (val_main_v23 (F := Ideal)) (R.val % 2048)) (at2 (val_main_v25 (F := Ideal)) (R.val % 2048)) (0 + J.val) := by
  have hR := R.isLt
  have hJ := J.isLt
  rw [val_main_v159_apply]
  refine (congrArg _ ?_).trans ((q_head x0 ⟨R.val / 2048, by omega⟩ ⟨R.val % 2048, by omega⟩ ⟨J.val / 128, by omega⟩ ⟨J.val % 128, by omega⟩).trans ?_)
  · funext a
    apply Fin.ext
    match a with
    | ⟨0, _⟩ => show (R.val * 2048 + J.val) / 4194304 = R.val / 2048; omega
    | ⟨1, _⟩ => show (R.val * 2048 + J.val) / 2048 % 2048 = R.val % 2048; omega
    | ⟨2, _⟩ => show (R.val * 2048 + J.val) / 128 % 16 = J.val / 128; omega
    | ⟨3, _⟩ => show (R.val * 2048 + J.val) % 128 = J.val % 128; omega
  · show rotated 128 16 (at2 x0 (R.val / 2048 * 2048 + R.val % 2048)) _ _ (0 + (J.val / 128 * 128 + J.val % 128)) = _
    rw [Nat.div_add_mod', Nat.div_add_mod']

/-- The heads of `k` before the rotation. -/
theorem k_in (x0 : Vec Ideal S16384x3072 .f32) (b : Fin 8) (p : Fin 2048) (h : Fin 4) (e : Fin 128) :
    val_main_v46 (F := Ideal) x0 (ix4 b p h e) = at2 x0 (b.val * 2048 + p.val) (2048 + (h.val * 128 + e.val)) := by
  have hb := b.isLt
  have hp := p.isLt
  have hh := h.isLt
  have he := e.isLt
  rw [val_main_v46_apply, val_main_v4_apply, val_main_v0_apply]
  refine (at2_eq x0 _).trans (congrArg₂ (at2 x0) ?_ ?_)
  · show ((((((b.val * 2048 + p.val) * 4 + h.val) * 128 + e.val) / 1048576) * 2048 + (((b.val * 2048 + p.val) * 4 + h.val) * 128 + e.val) / 512 % 2048) * 3072 + (2048 + (((b.val * 2048 + p.val) * 4 + h.val) * 128 + e.val) % 512)) / 3072 = (b.val * 2048 + p.val); omega
  · show ((((((b.val * 2048 + p.val) * 4 + h.val) * 128 + e.val) / 1048576) * 2048 + (((b.val * 2048 + p.val) * 4 + h.val) * 128 + e.val) / 512 % 2048) * 3072 + (2048 + (((b.val * 2048 + p.val) * 4 + h.val) * 128 + e.val) % 512)) % 3072 = (2048 + (h.val * 128 + e.val)); omega

/-- The cosines and sines along the rows and the rotated columns of `k`. -/
theorem k_cos (b : Fin 8) (p : Fin 2048) (h : Fin 4) (k : Fin 16) :
    val_main_v67 (F := Ideal) (ix4 b p h k) = at2 (val_main_v23 (F := Ideal)) p.val k.val := by
  rw [val_main_v67_apply, val_main_v66_apply, val_main_v61_apply]
  exact (congrArg _ (funext fun a => by fin_cases a <;> rfl)).trans (at2_ix2 (val_main_v23 (F := Ideal)) p k).symm
theorem k_sin (b : Fin 8) (p : Fin 2048) (h : Fin 4) (k : Fin 16) :
    val_main_v70 (F := Ideal) (ix4 b p h k) = at2 (val_main_v25 (F := Ideal)) p.val k.val := by
  rw [val_main_v70_apply, val_main_v69_apply, val_main_v63_apply]
  exact (congrArg _ (funext fun a => by fin_cases a <;> rfl)).trans (at2_ix2 (val_main_v25 (F := Ideal)) p k).symm
theorem k_cos' (b : Fin 8) (p : Fin 2048) (h : Fin 4) (k : Fin 16) :
    val_main_v74 (F := Ideal) (ix4 b p h k) = at2 (val_main_v23 (F := Ideal)) p.val k.val := by
  rw [val_main_v74_apply, val_main_v73_apply, val_main_v61_apply]
  exact (congrArg _ (funext fun a => by fin_cases a <;> rfl)).trans (at2_ix2 (val_main_v23 (F := Ideal)) p k).symm
theorem k_sin' (b : Fin 8) (p : Fin 2048) (h : Fin 4) (k : Fin 16) :
    val_main_v77 (F := Ideal) (ix4 b p h k) = at2 (val_main_v25 (F := Ideal)) p.val k.val := by
  rw [val_main_v77_apply, val_main_v76_apply, val_main_v63_apply]
  exact (congrArg _ (funext fun a => by fin_cases a <;> rfl)).trans (at2_ix2 (val_main_v25 (F := Ideal)) p k).symm

/-- The halves that are rotated, and the columns that are kept. -/
theorem k_x1 (x0 : Vec Ideal S16384x3072 .f32) (b : Fin 8) (p : Fin 2048) (h : Fin 4) (k : Fin 16) :
    val_main_v64 (F := Ideal) x0 (ix4 b p h k) = at2 x0 (b.val * 2048 + p.val) (2048 + (h.val * 128 + (k.val))) := by
  rw [val_main_v64_apply, val_main_v47_apply]
  refine Eq.trans (congrArg _ ?_) (k_in x0 b p h ⟨k.val, by have := k.isLt; omega⟩)
  funext a; fin_cases a <;> rfl
theorem k_x2 (x0 : Vec Ideal S16384x3072 .f32) (b : Fin 8) (p : Fin 2048) (h : Fin 4) (k : Fin 16) :
    val_main_v65 (F := Ideal) x0 (ix4 b p h k) = at2 x0 (b.val * 2048 + p.val) (2048 + (h.val * 128 + (16 + k.val))) := by
  rw [val_main_v65_apply, val_main_v47_apply]
  refine Eq.trans (congrArg _ ?_) (k_in x0 b p h ⟨16 + k.val, by have := k.isLt; omega⟩)
  funext a; fin_cases a <;> rfl
theorem k_kept (x0 : Vec Ideal S16384x3072 .f32) (b : Fin 8) (p : Fin 2048) (h : Fin 4) (k : Fin 96) :
    val_main_v81 (F := Ideal) x0 (ix4 b p h k) = at2 x0 (b.val * 2048 + p.val) (2048 + (h.val * 128 + (32 + k.val))) := by
  rw [val_main_v81_apply]
  refine Eq.trans (congrArg _ ?_) (k_in x0 b p h ⟨32 + k.val, by have := k.isLt; omega⟩)
  funext a; fin_cases a <;> rfl

/-- A head of `k` after the rotation. -/
theorem k_head (x0 : Vec Ideal S16384x3072 .f32) (b : Fin 8) (p : Fin 2048) (h : Fin 4) (e : Fin 128) :
    val_main_v82 (F := Ideal) x0 (ix4 b p h e)
      = rotated 128 16 (at2 x0 (b.val * 2048 + p.val)) (at2 (val_main_v23 (F := Ideal)) p.val) (at2 (val_main_v25 (F := Ideal)) p.val) (2048 + (h.val * 128 + e.val)) := by
  have he := e.isLt
  have hm : (2048 + (h.val * 128 + e.val)) % 128 = e.val := by omega
  unfold rotated
  rw [hm]
  by_cases h1 : e.val < 16
  · rw [if_pos h1]
    unfold val_main_v82
    refine (concatenate_apply_piece (t := S8x2048x4x128) 3 _ _ (ix4 b p h e) 0 (by show 0 < 2; omega)
      S8x2048x4x32 (val_main_v80 (F := Ideal) x0) rfl rfl 0 rfl (ix4 b p h ⟨e.val, by omega⟩)
      (fun a ha => by fin_cases a <;> first | rfl | exact absurd rfl ha) (by show 0 + e.val = e.val; omega)).trans ?_
    unfold val_main_v80
    refine (concatenate_apply_piece (t := S8x2048x4x32) 3 _ _ (ix4 b p h ⟨e.val, by omega⟩) 0 (by show 0 < 2; omega)
      S8x2048x4x16 (val_main_v72 (F := Ideal) x0) rfl rfl 0 rfl (ix4 b p h ⟨e.val, h1⟩)
      (fun a ha => by fin_cases a <;> first | rfl | exact absurd rfl ha) (by show 0 + e.val = e.val; omega)).trans ?_
    rw [val_main_v72_apply, val_main_v68_apply, val_main_v71_apply, k_x1, k_x2, k_cos, k_sin]
    rw [show (2048 + (h.val * 128 + e.val)) + 16 = (2048 + (h.val * 128 + (16 + e.val))) by omega]
    rfl
  · rw [if_neg h1]
    by_cases h2 : e.val < 2 * 16
    · rw [if_pos h2]
      unfold val_main_v82
      refine (concatenate_apply_piece (t := S8x2048x4x128) 3 _ _ (ix4 b p h e) 0 (by show 0 < 2; omega)
        S8x2048x4x32 (val_main_v80 (F := Ideal) x0) rfl rfl 0 rfl (ix4 b p h ⟨e.val, by omega⟩)
        (fun a ha => by fin_cases a <;> first | rfl | exact absurd rfl ha) (by show 0 + e.val = e.val; omega)).trans ?_
      unfold val_main_v80
      refine (concatenate_apply_piece (t := S8x2048x4x32) 3 _ _ (ix4 b p h ⟨e.val, by omega⟩) 1 (by show 1 < 2; omega)
        S8x2048x4x16 (val_main_v79 (F := Ideal) x0) rfl rfl 16 rfl (ix4 b p h ⟨e.val - 16, by omega⟩)
        (fun a ha => by fin_cases a <;> first | rfl | exact absurd rfl ha) (by show 16 + (e.val - 16) = e.val; omega)).trans ?_
      rw [val_main_v79_apply, val_main_v75_apply, val_main_v78_apply, k_x1, k_x2, k_cos', k_sin']
      rw [show (2048 + (h.val * 128 + e.val)) - 16 = (2048 + (h.val * 128 + (e.val - 16))) by omega, show (2048 + (h.val * 128 + e.val)) = (2048 + (h.val * 128 + (16 + (e.val - 16)))) by omega]
      rfl
    · rw [if_neg h2]
      unfold val_main_v82
      refine (concatenate_apply_piece (t := S8x2048x4x128) 3 _ _ (ix4 b p h e) 1 (by show 1 < 2; omega)
        S8x2048x4x96 (val_main_v81 (F := Ideal) x0) rfl rfl 32 rfl (ix4 b p h ⟨e.val - 32, by omega⟩)
        (fun a ha => by fin_cases a <;> first | rfl | exact absurd rfl ha) (by show 32 + (e.val - 32) = e.val; omega)).trans ?_
      rw [k_kept, show (2048 + (h.val * 128 + (32 + (e.val - 32)))) = (2048 + (h.val * 128 + e.val)) by omega]

/-- The result `k` at row `R`, column `J`. -/
theorem k_apply (x0 : Vec Ideal S16384x3072 .f32) (R : Fin 16384) (J : Fin 512) :
    val_main_v160 (F := Ideal) x0 (ix2 R J)
      = rotated 128 16 (at2 x0 R.val) (at2 (val_main_v23 (F := Ideal)) (R.val % 2048)) (at2 (val_main_v25 (F := Ideal)) (R.val % 2048)) (2048 + J.val) := by
  have hR := R.isLt
  have hJ := J.isLt
  rw [val_main_v160_apply]
  refine (congrArg _ ?_).trans ((k_head x0 ⟨R.val / 2048, by omega⟩ ⟨R.val % 2048, by omega⟩ ⟨J.val / 128, by omega⟩ ⟨J.val % 128, by omega⟩).trans ?_)
  · funext a
    apply Fin.ext
    match a with
    | ⟨0, _⟩ => show (R.val * 512 + J.val) / 1048576 = R.val / 2048; omega
    | ⟨1, _⟩ => show (R.val * 512 + J.val) / 512 % 2048 = R.val % 2048; omega
    | ⟨2, _⟩ => show (R.val * 512 + J.val) / 128 % 4 = J.val / 128; omega
    | ⟨3, _⟩ => show (R.val * 512 + J.val) % 128 = J.val % 128; omega
  · show rotated 128 16 (at2 x0 (R.val / 2048 * 2048 + R.val % 2048)) _ _ (2048 + (J.val / 128 * 128 + J.val % 128)) = _
    rw [Nat.div_add_mod', Nat.div_add_mod']

/-- The heads of `iq` before the rotation. -/
theorem iq_in (x1 : Vec Ideal S16384x768 .f32) (b : Fin 8) (p : Fin 2048) (h : Fin 8) (e : Fin 64) :
    val_main_v83 (F := Ideal) x1 (ix4 b p h e) = at2 x1 (b.val * 2048 + p.val) (0 + (h.val * 64 + e.val)) := by
  have hb := b.isLt
  have hp := p.isLt
  have hh := h.isLt
  have he := e.isLt
  rw [val_main_v83_apply, val_main_v6_apply, val_main_v1_apply]
  refine (at2_eq x1 _).trans (congrArg₂ (at2 x1) ?_ ?_)
  · show ((((((b.val * 2048 + p.val) * 8 + h.val) * 64 + e.val) / 1048576) * 2048 + (((b.val * 2048 + p.val) * 8 + h.val) * 64 + e.val) / 512 % 2048) * 768 + ((((b.val * 2048 + p.val) * 8 + h.val) * 64 + e.val) % 512)) / 768 = (b.val * 2048 + p.val); omega
  · show ((((((b.val * 2048 + p.val) * 8 + h.val) * 64 + e.val) / 1048576) * 2048 + (((b.val * 2048 + p.val) * 8 + h.val) * 64 + e.val) / 512 % 2048) * 768 + ((((b.val * 2048 + p.val) * 8 + h.val) * 64 + e.val) % 512)) % 768 = (0 + (h.val * 64 + e.val)); omega

/-- The cosines and sines along the rows and the rotated columns of `iq`. -/
theorem iq_cos (b : Fin 8) (p : Fin 2048) (h : Fin 8) (k : Fin 8) :
    val_main_v104 (F := Ideal) (ix4 b p h k) = at2 (val_main_v97 (F := Ideal)) p.val k.val := by
  rw [val_main_v104_apply, val_main_v103_apply, val_main_v98_apply]
  exact (congrArg _ (funext fun a => by fin_cases a <;> rfl)).trans (at2_ix2 (val_main_v97 (F := Ideal)) p k).symm
theorem iq_sin (b : Fin 8) (p : Fin 2048) (h : Fin 8) (k : Fin 8) :
    val_main_v107 (F := Ideal) (ix4 b p h k) = at2 (val_main_v99 (F := Ideal)) p.val k.val := by
  rw [val_main_v107_apply, val_main_v106_apply, val_main_v100_apply]
  exact (congrArg _ (funext fun a => by fin_cases a <;> rfl)).trans (at2_ix2 (val_main_v99 (F := Ideal)) p k).symm
theorem iq_cos' (b : Fin 8) (p : Fin 2048) (h : Fin 8) (k : Fin 8) :
    val_main_v111 (F := Ideal) (ix4 b p h k) = at2 (val_main_v97 (F := Ideal)) p.val k.val := by
  rw [val_main_v111_apply, val_main_v110_apply, val_main_v98_apply]
  exact (congrArg _ (funext fun a => by fin_cases a <;> rfl)).trans (at2_ix2 (val_main_v97 (F := Ideal)) p k).symm
theorem iq_sin' (b : Fin 8) (p : Fin 2048) (h : Fin 8) (k : Fin 8) :
    val_main_v114 (F := Ideal) (ix4 b p h k) = at2 (val_main_v99 (F := Ideal)) p.val k.val := by
  rw [val_main_v114_apply, val_main_v113_apply, val_main_v100_apply]
  exact (congrArg _ (funext fun a => by fin_cases a <;> rfl)).trans (at2_ix2 (val_main_v99 (F := Ideal)) p k).symm

/-- The halves that are rotated, and the columns that are kept. -/
theorem iq_x1 (x1 : Vec Ideal S16384x768 .f32) (b : Fin 8) (p : Fin 2048) (h : Fin 8) (k : Fin 8) :
    val_main_v101 (F := Ideal) x1 (ix4 b p h k) = at2 x1 (b.val * 2048 + p.val) (0 + (h.val * 64 + (k.val))) := by
  rw [val_main_v101_apply, val_main_v84_apply]
  refine Eq.trans (congrArg _ ?_) (iq_in x1 b p h ⟨k.val, by have := k.isLt; omega⟩)
  funext a; fin_cases a <;> rfl
theorem iq_x2 (x1 : Vec Ideal S16384x768 .f32) (b : Fin 8) (p : Fin 2048) (h : Fin 8) (k : Fin 8) :
    val_main_v102 (F := Ideal) x1 (ix4 b p h k) = at2 x1 (b.val * 2048 + p.val) (0 + (h.val * 64 + (8 + k.val))) := by
  rw [val_main_v102_apply, val_main_v84_apply]
  refine Eq.trans (congrArg _ ?_) (iq_in x1 b p h ⟨8 + k.val, by have := k.isLt; omega⟩)
  funext a; fin_cases a <;> rfl
theorem iq_kept (x1 : Vec Ideal S16384x768 .f32) (b : Fin 8) (p : Fin 2048) (h : Fin 8) (k : Fin 48) :
    val_main_v118 (F := Ideal) x1 (ix4 b p h k) = at2 x1 (b.val * 2048 + p.val) (0 + (h.val * 64 + (16 + k.val))) := by
  rw [val_main_v118_apply]
  refine Eq.trans (congrArg _ ?_) (iq_in x1 b p h ⟨16 + k.val, by have := k.isLt; omega⟩)
  funext a; fin_cases a <;> rfl

/-- A head of `iq` after the rotation. -/
theorem iq_head (x1 : Vec Ideal S16384x768 .f32) (b : Fin 8) (p : Fin 2048) (h : Fin 8) (e : Fin 64) :
    val_main_v119 (F := Ideal) x1 (ix4 b p h e)
      = rotated 64 8 (at2 x1 (b.val * 2048 + p.val)) (at2 (val_main_v97 (F := Ideal)) p.val) (at2 (val_main_v99 (F := Ideal)) p.val) (0 + (h.val * 64 + e.val)) := by
  have he := e.isLt
  have hm : (0 + (h.val * 64 + e.val)) % 64 = e.val := by omega
  unfold rotated
  rw [hm]
  by_cases h1 : e.val < 8
  · rw [if_pos h1]
    unfold val_main_v119
    refine (concatenate_apply_piece (t := S8x2048x8x64) 3 _ _ (ix4 b p h e) 0 (by show 0 < 2; omega)
      S8x2048x8x16 (val_main_v117 (F := Ideal) x1) rfl rfl 0 rfl (ix4 b p h ⟨e.val, by omega⟩)
      (fun a ha => by fin_cases a <;> first | rfl | exact absurd rfl ha) (by show 0 + e.val = e.val; omega)).trans ?_
    unfold val_main_v117
    refine (concatenate_apply_piece (t := S8x2048x8x16) 3 _ _ (ix4 b p h ⟨e.val, by omega⟩) 0 (by show 0 < 2; omega)
      S8x2048x8x8 (val_main_v109 (F := Ideal) x1) rfl rfl 0 rfl (ix4 b p h ⟨e.val, h1⟩)
      (fun a ha => by fin_cases a <;> first | rfl | exact absurd rfl ha) (by show 0 + e.val = e.val; omega)).trans ?_
    rw [val_main_v109_apply, val_main_v105_apply, val_main_v108_apply, iq_x1, iq_x2, iq_cos, iq_sin]
    rw [show (0 + (h.val * 64 + e.val)) + 8 = (0 + (h.val * 64 + (8 + e.val))) by omega]
    rfl
  · rw [if_neg h1]
    by_cases h2 : e.val < 2 * 8
    · rw [if_pos h2]
      unfold val_main_v119
      refine (concatenate_apply_piece (t := S8x2048x8x64) 3 _ _ (ix4 b p h e) 0 (by show 0 < 2; omega)
        S8x2048x8x16 (val_main_v117 (F := Ideal) x1) rfl rfl 0 rfl (ix4 b p h ⟨e.val, by omega⟩)
        (fun a ha => by fin_cases a <;> first | rfl | exact absurd rfl ha) (by show 0 + e.val = e.val; omega)).trans ?_
      unfold val_main_v117
      refine (concatenate_apply_piece (t := S8x2048x8x16) 3 _ _ (ix4 b p h ⟨e.val, by omega⟩) 1 (by show 1 < 2; omega)
        S8x2048x8x8 (val_main_v116 (F := Ideal) x1) rfl rfl 8 rfl (ix4 b p h ⟨e.val - 8, by omega⟩)
        (fun a ha => by fin_cases a <;> first | rfl | exact absurd rfl ha) (by show 8 + (e.val - 8) = e.val; omega)).trans ?_
      rw [val_main_v116_apply, val_main_v112_apply, val_main_v115_apply, iq_x1, iq_x2, iq_cos', iq_sin']
      rw [show (0 + (h.val * 64 + e.val)) - 8 = (0 + (h.val * 64 + (e.val - 8))) by omega, show (0 + (h.val * 64 + e.val)) = (0 + (h.val * 64 + (8 + (e.val - 8)))) by omega]
      rfl
    · rw [if_neg h2]
      unfold val_main_v119
      refine (concatenate_apply_piece (t := S8x2048x8x64) 3 _ _ (ix4 b p h e) 1 (by show 1 < 2; omega)
        S8x2048x8x48 (val_main_v118 (F := Ideal) x1) rfl rfl 16 rfl (ix4 b p h ⟨e.val - 16, by omega⟩)
        (fun a ha => by fin_cases a <;> first | rfl | exact absurd rfl ha) (by show 16 + (e.val - 16) = e.val; omega)).trans ?_
      rw [iq_kept, show (0 + (h.val * 64 + (16 + (e.val - 16)))) = (0 + (h.val * 64 + e.val)) by omega]

/-- The result `iq` at row `R`, column `J`. -/
theorem iq_apply (x1 : Vec Ideal S16384x768 .f32) (R : Fin 16384) (J : Fin 512) :
    val_main_v162 (F := Ideal) x1 (ix2 R J)
      = rotated 64 8 (at2 x1 R.val) (at2 (val_main_v97 (F := Ideal)) (R.val % 2048)) (at2 (val_main_v99 (F := Ideal)) (R.val % 2048)) (0 + J.val) := by
  have hR := R.isLt
  have hJ := J.isLt
  rw [val_main_v162_apply]
  refine (congrArg _ ?_).trans ((iq_head x1 ⟨R.val / 2048, by omega⟩ ⟨R.val % 2048, by omega⟩ ⟨J.val / 64, by omega⟩ ⟨J.val % 64, by omega⟩).trans ?_)
  · funext a
    apply Fin.ext
    match a with
    | ⟨0, _⟩ => show (R.val * 512 + J.val) / 1048576 = R.val / 2048; omega
    | ⟨1, _⟩ => show (R.val * 512 + J.val) / 512 % 2048 = R.val % 2048; omega
    | ⟨2, _⟩ => show (R.val * 512 + J.val) / 64 % 8 = J.val / 64; omega
    | ⟨3, _⟩ => show (R.val * 512 + J.val) % 64 = J.val % 64; omega
  · show rotated 64 8 (at2 x1 (R.val / 2048 * 2048 + R.val % 2048)) _ _ (0 + (J.val / 64 * 64 + J.val % 64)) = _
    rw [Nat.div_add_mod', Nat.div_add_mod']

/-- The heads of `ik` before the rotation. -/
theorem ik_in (x1 : Vec Ideal S16384x768 .f32) (b : Fin 8) (p : Fin 2048) (h : Fin 1) (e : Fin 64) :
    val_main_v120 (F := Ideal) x1 (ix4 b p h e) = at2 x1 (b.val * 2048 + p.val) (512 + (h.val * 64 + e.val)) := by
  have hb := b.isLt
  have hp := p.isLt
  have hh := h.isLt
  have he := e.isLt
  rw [val_main_v120_apply, val_main_v7_apply, val_main_v1_apply]
  refine (at2_eq x1 _).trans (congrArg₂ (at2 x1) ?_ ?_)
  · show ((((((b.val * 2048 + p.val) * 1 + h.val) * 64 + e.val) / 131072) * 2048 + (((b.val * 2048 + p.val) * 1 + h.val) * 64 + e.val) / 64 % 2048) * 768 + (512 + (((b.val * 2048 + p.val) * 1 + h.val) * 64 + e.val) % 64)) / 768 = (b.val * 2048 + p.val); omega
  · show ((((((b.val * 2048 + p.val) * 1 + h.val) * 64 + e.val) / 131072) * 2048 + (((b.val * 2048 + p.val) * 1 + h.val) * 64 + e.val) / 64 % 2048) * 768 + (512 + (((b.val * 2048 + p.val) * 1 + h.val) * 64 + e.val) % 64)) % 768 = (512 + (h.val * 64 + e.val)); omega

/-- The cosines and sines along the rows and the rotated columns of `ik`. -/
theorem ik_cos (b : Fin 8) (p : Fin 2048) (h : Fin 1) (k : Fin 8) :
    val_main_v141 (F := Ideal) (ix4 b p h k) = at2 (val_main_v97 (F := Ideal)) p.val k.val := by
  rw [val_main_v141_apply, val_main_v140_apply, val_main_v135_apply]
  exact (congrArg _ (funext fun a => by fin_cases a <;> rfl)).trans (at2_ix2 (val_main_v97 (F := Ideal)) p k).symm
theorem ik_sin (b : Fin 8) (p : Fin 2048) (h : Fin 1) (k : Fin 8) :
    val_main_v144 (F := Ideal) (ix4 b p h k) = at2 (val_main_v99 (F := Ideal)) p.val k.val := by
  rw [val_main_v144_apply, val_main_v143_apply, val_main_v137_apply]
  exact (congrArg _ (funext fun a => by fin_cases a <;> rfl)).trans (at2_ix2 (val_main_v99 (F := Ideal)) p k).symm
theorem ik_cos' (b : Fin 8) (p : Fin 2048) (h : Fin 1) (k : Fin 8) :
    val_main_v148 (F := Ideal) (ix4 b p h k) = at2 (val_main_v97 (F := Ideal)) p.val k.val := by
  rw [val_main_v148_apply, val_main_v147_apply, val_main_v135_apply]
  exact (congrArg _ (funext fun a => by fin_cases a <;> rfl)).trans (at2_ix2 (val_main_v97 (F := Ideal)) p k).symm
theorem ik_sin' (b : Fin 8) (p : Fin 2048) (h : Fin 1) (k : Fin 8) :
    val_main_v151 (F := Ideal) (ix4 b p h k) = at2 (val_main_v99 (F := Ideal)) p.val k.val := by
  rw [val_main_v151_apply, val_main_v150_apply, val_main_v137_apply]
  exact (congrArg _ (funext fun a => by fin_cases a <;> rfl)).trans (at2_ix2 (val_main_v99 (F := Ideal)) p k).symm

/-- The halves that are rotated, and the columns that are kept. -/
theorem ik_x1 (x1 : Vec Ideal S16384x768 .f32) (b : Fin 8) (p : Fin 2048) (h : Fin 1) (k : Fin 8) :
    val_main_v138 (F := Ideal) x1 (ix4 b p h k) = at2 x1 (b.val * 2048 + p.val) (512 + (h.val * 64 + (k.val))) := by
  rw [val_main_v138_apply, val_main_v121_apply]
  refine Eq.trans (congrArg _ ?_) (ik_in x1 b p h ⟨k.val, by have := k.isLt; omega⟩)
  funext a; fin_cases a <;> rfl
theorem ik_x2 (x1 : Vec Ideal S16384x768 .f32) (b : Fin 8) (p : Fin 2048) (h : Fin 1) (k : Fin 8) :
    val_main_v139 (F := Ideal) x1 (ix4 b p h k) = at2 x1 (b.val * 2048 + p.val) (512 + (h.val * 64 + (8 + k.val))) := by
  rw [val_main_v139_apply, val_main_v121_apply]
  refine Eq.trans (congrArg _ ?_) (ik_in x1 b p h ⟨8 + k.val, by have := k.isLt; omega⟩)
  funext a; fin_cases a <;> rfl
theorem ik_kept (x1 : Vec Ideal S16384x768 .f32) (b : Fin 8) (p : Fin 2048) (h : Fin 1) (k : Fin 48) :
    val_main_v155 (F := Ideal) x1 (ix4 b p h k) = at2 x1 (b.val * 2048 + p.val) (512 + (h.val * 64 + (16 + k.val))) := by
  rw [val_main_v155_apply]
  refine Eq.trans (congrArg _ ?_) (ik_in x1 b p h ⟨16 + k.val, by have := k.isLt; omega⟩)
  funext a; fin_cases a <;> rfl

/-- A head of `ik` after the rotation. -/
theorem ik_head (x1 : Vec Ideal S16384x768 .f32) (b : Fin 8) (p : Fin 2048) (h : Fin 1) (e : Fin 64) :
    val_main_v156 (F := Ideal) x1 (ix4 b p h e)
      = rotated 64 8 (at2 x1 (b.val * 2048 + p.val)) (at2 (val_main_v97 (F := Ideal)) p.val) (at2 (val_main_v99 (F := Ideal)) p.val) (512 + (h.val * 64 + e.val)) := by
  have he := e.isLt
  have hm : (512 + (h.val * 64 + e.val)) % 64 = e.val := by omega
  unfold rotated
  rw [hm]
  by_cases h1 : e.val < 8
  · rw [if_pos h1]
    unfold val_main_v156
    refine (concatenate_apply_piece (t := S8x2048x1x64) 3 _ _ (ix4 b p h e) 0 (by show 0 < 2; omega)
      S8x2048x1x16 (val_main_v154 (F := Ideal) x1) rfl rfl 0 rfl (ix4 b p h ⟨e.val, by omega⟩)
      (fun a ha => by fin_cases a <;> first | rfl | exact absurd rfl ha) (by show 0 + e.val = e.val; omega)).trans ?_
    unfold val_main_v154
    refine (concatenate_apply_piece (t := S8x2048x1x16) 3 _ _ (ix4 b p h ⟨e.val, by omega⟩) 0 (by show 0 < 2; omega)
      S8x2048x1x8 (val_main_v146 (F := Ideal) x1) rfl rfl 0 rfl (ix4 b p h ⟨e.val, h1⟩)
      (fun a ha => by fin_cases a <;> first | rfl | exact absurd rfl ha) (by show 0 + e.val = e.val; omega)).trans ?_
    rw [val_main_v146_apply, val_main_v142_apply, val_main_v145_apply, ik_x1, ik_x2, ik_cos, ik_sin]
    rw [show (512 + (h.val * 64 + e.val)) + 8 = (512 + (h.val * 64 + (8 + e.val))) by omega]
    rfl
  · rw [if_neg h1]
    by_cases h2 : e.val < 2 * 8
    · rw [if_pos h2]
      unfold val_main_v156
      refine (concatenate_apply_piece (t := S8x2048x1x64) 3 _ _ (ix4 b p h e) 0 (by show 0 < 2; omega)
        S8x2048x1x16 (val_main_v154 (F := Ideal) x1) rfl rfl 0 rfl (ix4 b p h ⟨e.val, by omega⟩)
        (fun a ha => by fin_cases a <;> first | rfl | exact absurd rfl ha) (by show 0 + e.val = e.val; omega)).trans ?_
      unfold val_main_v154
      refine (concatenate_apply_piece (t := S8x2048x1x16) 3 _ _ (ix4 b p h ⟨e.val, by omega⟩) 1 (by show 1 < 2; omega)
        S8x2048x1x8 (val_main_v153 (F := Ideal) x1) rfl rfl 8 rfl (ix4 b p h ⟨e.val - 8, by omega⟩)
        (fun a ha => by fin_cases a <;> first | rfl | exact absurd rfl ha) (by show 8 + (e.val - 8) = e.val; omega)).trans ?_
      rw [val_main_v153_apply, val_main_v149_apply, val_main_v152_apply, ik_x1, ik_x2, ik_cos', ik_sin']
      rw [show (512 + (h.val * 64 + e.val)) - 8 = (512 + (h.val * 64 + (e.val - 8))) by omega, show (512 + (h.val * 64 + e.val)) = (512 + (h.val * 64 + (8 + (e.val - 8)))) by omega]
      rfl
    · rw [if_neg h2]
      unfold val_main_v156
      refine (concatenate_apply_piece (t := S8x2048x1x64) 3 _ _ (ix4 b p h e) 1 (by show 1 < 2; omega)
        S8x2048x1x48 (val_main_v155 (F := Ideal) x1) rfl rfl 16 rfl (ix4 b p h ⟨e.val - 16, by omega⟩)
        (fun a ha => by fin_cases a <;> first | rfl | exact absurd rfl ha) (by show 16 + (e.val - 16) = e.val; omega)).trans ?_
      rw [ik_kept, show (512 + (h.val * 64 + (16 + (e.val - 16)))) = (512 + (h.val * 64 + e.val)) by omega]

/-- The result `ik` at row `R`, column `J`. -/
theorem ik_apply (x1 : Vec Ideal S16384x768 .f32) (R : Fin 16384) (J : Fin 64) :
    val_main_v163 (F := Ideal) x1 (ix2 R J)
      = rotated 64 8 (at2 x1 R.val) (at2 (val_main_v97 (F := Ideal)) (R.val % 2048)) (at2 (val_main_v99 (F := Ideal)) (R.val % 2048)) (512 + J.val) := by
  have hR := R.isLt
  have hJ := J.isLt
  rw [val_main_v163_apply]
  refine (congrArg _ ?_).trans ((ik_head x1 ⟨R.val / 2048, by omega⟩ ⟨R.val % 2048, by omega⟩ ⟨J.val / 64, by omega⟩ ⟨J.val % 64, by omega⟩).trans ?_)
  · funext a
    apply Fin.ext
    match a with
    | ⟨0, _⟩ => show (R.val * 64 + J.val) / 131072 = R.val / 2048; omega
    | ⟨1, _⟩ => show (R.val * 64 + J.val) / 64 % 2048 = R.val % 2048; omega
    | ⟨2, _⟩ => show 0 = J.val / 64; omega
    | ⟨3, _⟩ => show (R.val * 64 + J.val) % 64 = J.val % 64; omega
  · show rotated 64 8 (at2 x1 (R.val / 2048 * 2048 + R.val % 2048)) _ _ (512 + (J.val / 64 * 64 + J.val % 64)) = _
    rw [Nat.div_add_mod', Nat.div_add_mod']

/-- The result `av` at row `R`, column `J`. -/
theorem av_apply (x0 : Vec Ideal S16384x3072 .f32) (R : Fin 16384) (J : Fin 512) :
    val_main_v161 (F := Ideal) x0 (ix2 R J) = at2 x0 R.val (2560 + J.val) := by
  have hR := R.isLt
  have hJ := J.isLt
  rw [val_main_v161_apply, val_main_v5_apply, val_main_v0_apply]
  refine (at2_eq x0 _).trans (congrArg₂ (at2 x0) ?_ ?_)
  · show ((((R.val * 512 + J.val) / 1048576) * 2048 + (R.val * 512 + J.val) / 512 % 2048) * 3072 + (2560 + (R.val * 512 + J.val) % 512)) / 3072 = R.val; omega
  · show ((((R.val * 512 + J.val) / 1048576) * 2048 + (R.val * 512 + J.val) / 512 % 2048) * 3072 + (2560 + (R.val * 512 + J.val) % 512)) % 3072 = 2560 + J.val; omega

/-- The result `iw` at row `R`, column `J`. -/
theorem iw_apply (x1 : Vec Ideal S16384x768 .f32) (R : Fin 16384) (J : Fin 128) :
    val_main_v164 (F := Ideal) x1 (ix2 R J) = at2 x1 R.val (640 + J.val) * Ideal.ofBits .f32 0x3EB504F3#32 := by
  have hR := R.isLt
  have hJ := J.isLt
  rw [val_main_v164_apply, val_main_v158_apply, val_main_v157_apply, val_main_cst_7_apply, val_main_v8_apply, val_main_v1_apply]
  refine Eq.trans (congrArg (fun x : EReal => x * Ideal.ofBits .f32 0x3EB504F3#32) (at2_eq x1 _)) (congrArg (fun x : EReal => x * Ideal.ofBits .f32 0x3EB504F3#32) (congrArg₂ (at2 x1) ?_ ?_))
  · show ((((R.val * 128 + J.val) / 262144) * 2048 + (R.val * 128 + J.val) / 128 % 2048) * 768 + (640 + (R.val * 128 + J.val) % 128)) / 768 = R.val; omega
  · show ((((R.val * 128 + J.val) / 262144) * 2048 + (R.val * 128 + J.val) / 128 % 2048) * 768 + (640 + (R.val * 128 + J.val) % 128)) % 768 = 640 + J.val; omega

end Cert.RopRefIdeal.Columns

end
-- ==== Proof.RopT.lean ====
/-
  The rotation's tables as the call finds them: for each position a row of cosines and two of sines, laid out over 128 columns.
-/
module

public import proofs.«01_k».proof.Proof.Gen.RopIdeal.Value
public import proofs.«01_k».proof.Proof.Gen.RopRefIdeal.Read
public import proofs.«01_k».proof.Proof.Rot

@[expose] public section

set_option maxRecDepth 16384

noncomputable section

namespace Cert.RopIdeal.Product

open Cert.RopIdeal Cert.RopIdeal.Gen Idealize.ShloMosaic Idealize.ShloMosaic.TcCoe Idealize.SL.Sem
open Idealize.ShloMosaic.ValueIdx Idealize.ShloMosaic.Tactic Cert.Rot

variable (m : (ℓ : Loc nD τ sig) → Buf (Elt Ideal) ℓ)

/-- The tables' cosines and sines for heads of 128 columns, row by row: the reference's. -/
def cos128 : Vec Ideal S2048x16 .f32 := Cert.RopRefIdeal.Read.val_main_v23 (F := Ideal)
def sin128 : Vec Ideal S2048x16 .f32 := Cert.RopRefIdeal.Read.val_main_v25 (F := Ideal)

/-- A table's heads, from its three parts. -/
def parts128 (a b : Vec Ideal S2048x16 .f32) (d : Vec Ideal S2048x96 .f32) : Vec Ideal S2048x128 .f32 :=
  concatenate S2048x128 1 [⟨S2048x16, a⟩, ⟨S2048x16, b⟩, ⟨S2048x96, d⟩] concatenates_S2048x16_S2048x16_S2048x96_S2048x128_d1

/-- The table of 128 columns: the heads one beside another. -/
def tiled128 (x : Vec Ideal S2048x128 .f32) : Vec Ideal S2048x128 .f32 :=
  shapeCast S2048x128 (broadcastInDim S1x2048x1x128 ![0, 1, 2, 3] bcast_S1x2048x1x128_S1x2048x1x128_0_1_2_3
    (shapeCast S1x2048x1x128 x shapeCasts_S2048x128_S1x2048x1x128)) shapeCasts_S1x2048x1x128_S2048x128

/-- A column of the table lies in one of the three parts. -/
theorem parts128_apply (a b : Vec Ideal S2048x16 .f32) (d : Vec Ideal S2048x96 .f32) (p : Fin 2048) (e : Fin 128) :
    parts128 a b d (ix2 p e) = if e.val < 16 then at2 a p.val e.val else if e.val < 2 * 16 then at2 b p.val (e.val - 16)
      else at2 d p.val (e.val - 2 * 16) := by
  have he := e.isLt
  unfold parts128
  by_cases h1 : e.val < 16
  · rw [if_pos h1]
    exact (concatenate_apply_piece (t := S2048x128) 1 _ _ (ix2 p e) 0 (by show 0 < 3; omega) S2048x16 a rfl rfl 0 rfl
      (ix2 p ⟨e.val, h1⟩) (fun a ha => by fin_cases a <;> first | rfl | exact absurd rfl ha)
      (by show 0 + e.val = e.val; omega)).trans (at2_ix2 a p ⟨e.val, h1⟩).symm
  · rw [if_neg h1]
    by_cases h2 : e.val < 2 * 16
    · rw [if_pos h2]
      exact (concatenate_apply_piece (t := S2048x128) 1 _ _ (ix2 p e) 1 (by show 1 < 3; omega) S2048x16 b rfl rfl 16 rfl
        (ix2 p ⟨e.val - 16, by omega⟩) (fun a ha => by fin_cases a <;> first | rfl | exact absurd rfl ha)
        (by show 16 + (e.val - 16) = e.val; omega)).trans (at2_ix2 b p ⟨e.val - 16, by omega⟩).symm
    · rw [if_neg h2]
      exact (concatenate_apply_piece (t := S2048x128) 1 _ _ (ix2 p e) 2 (by show 2 < 3; omega) S2048x96 d rfl rfl 32 rfl
        (ix2 p ⟨e.val - 2 * 16, by omega⟩) (fun a ha => by fin_cases a <;> first | rfl | exact absurd rfl ha)
        (by show 32 + (e.val - 2 * 16) = e.val; omega)).trans (at2_ix2 d p ⟨e.val - 2 * 16, by omega⟩).symm

/-- A column of the table is the column of its head. -/
theorem tiled128_apply (x : Vec Ideal S2048x128 .f32) (p : Fin 2048) (l : Fin 128) :
    tiled128 x (ix2 p l) = x (ix2 p ⟨l.val % 128, Nat.mod_lt _ (by decide)⟩) := by
  have hl := l.isLt
  have hp := p.isLt
  unfold tiled128
  refine (shapeCast_apply _ _ (ix2 p l) (ix4 (0 : Fin 1) p (⟨l.val / 128, by omega⟩ : Fin 1) (⟨l.val % 128, by omega⟩ : Fin 128)) ?_).trans ?_
  · rw [Shape.rowMajor_val_four, Shape.rowMajor_val_two]
    show ((0 * 2048 + p.val) * 1 + l.val / 128) * 128 + l.val % 128 = p.val * 128 + l.val
    omega
  refine (broadcastInDim_apply _ _ _ _ (ix4 (0 : Fin 1) p (0 : Fin 1) (⟨l.val % 128, by omega⟩ : Fin 128)) (fun a => ?_)).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show p.val * 128 + l.val % 128 = ((0 * 2048 + p.val) * 1 + 0) * 128 + l.val % 128
  omega

/-- Constants along an array. -/
abbrev fill128 (w : BitVec 32) : Vec Ideal S2048x16 .f32 := broadcastInDim S2048x16 ![] bcast_S_S2048x16 (constant (F := Ideal) S_ .f32 w)
abbrev rest128 (w : BitVec 32) : Vec Ideal S2048x96 .f32 := broadcastInDim S2048x96 ![] bcast_S_S2048x96 (constant (F := Ideal) S_ .f32 w)

/-- The three tables as the call finds them. -/
theorem V_v24 (c : Dev nD) : (V m c main_v24 : Vec Ideal S2048x128 .f32) = tiled128 (parts128 cos128 cos128 (rest128 0x3F800000#32)) := by
  show StableHlo.after hostOps0 _ (Proc.devRef .tc main_v24) = _
  after_results_simp
  rfl
theorem V_v27 (c : Dev nD) : (V m c main_v27 : Vec Ideal S2048x128 .f32)
    = tiled128 (parts128 (Host.negf (F := Ideal) (φ := .f32) sin128) (fill128 0x00000000#32) (rest128 0x00000000#32)) := by
  show StableHlo.after hostOps0 _ (Proc.devRef .tc main_v27) = _
  after_results_simp
  rfl
theorem V_v30 (c : Dev nD) : (V m c main_v30 : Vec Ideal S2048x128 .f32)
    = tiled128 (parts128 (fill128 0x00000000#32) sin128 (rest128 0x00000000#32)) := by
  show StableHlo.after hostOps0 _ (Proc.devRef .tc main_v30) = _
  after_results_simp
  rfl

/-- A part of a table that holds one number, or the negated sines. -/
theorem fill128_at (p k : Nat) (hp : p < 2048) (hk : k < 16) : at2 (fill128 0x00000000#32) p k = 0 :=
  (at2_ix2 _ ⟨p, hp⟩ ⟨k, hk⟩).trans Ideal.ofBits_zero_f32
theorem rest128_at (p k : Nat) (hp : p < 2048) (hk : k < 96) : at2 (rest128 0x00000000#32) p k = 0 :=
  (at2_ix2 _ ⟨p, hp⟩ ⟨k, hk⟩).trans Ideal.ofBits_zero_f32
theorem ones128_at (p k : Nat) (hp : p < 2048) (hk : k < 96) : at2 (rest128 0x3F800000#32) p k = 1 :=
  (at2_ix2 _ ⟨p, hp⟩ ⟨k, hk⟩).trans Ideal.ofBits_one_f32
theorem neg128_at (p k : Nat) (hp : p < 2048) (hk : k < 16) : at2 (Host.negf (F := Ideal) (φ := .f32) sin128) p k = -at2 sin128 p k :=
  (at2_ix2 _ ⟨p, hp⟩ ⟨k, hk⟩).trans (congrArg (fun x : EReal => -x) (at2_ix2 sin128 ⟨p, hp⟩ ⟨k, hk⟩).symm)

/-- Row `p` of the three holds the tables for heads of 128 columns. -/
theorem tables128 (c : Dev nD) (p : Nat) (hp : p < 2048) :
    Tables 128 16 (at2 cos128 p) (at2 sin128 p) (at2 (V m c main_v24 : Vec Ideal S2048x128 .f32) p)
      (at2 (V m c main_v27 : Vec Ideal S2048x128 .f32) p) (at2 (V m c main_v30 : Vec Ideal S2048x128 .f32) p) where
  cos l hl := by
    have hm : l % 128 < 128 := Nat.mod_lt _ (by decide)
    refine (at2_ix2 _ ⟨p, hp⟩ ⟨l, hl⟩).trans ?_
    rw [V_v24, tiled128_apply, parts128_apply]
    dsimp only
    split
    · rfl
    · split
      · rfl
      · exact ones128_at _ _ hp (by omega)
  left l hl := by
    have hm : l % 128 < 128 := Nat.mod_lt _ (by decide)
    refine (at2_ix2 _ ⟨p, hp⟩ ⟨l, hl⟩).trans ?_
    rw [V_v27, tiled128_apply, parts128_apply]
    dsimp only
    split
    · exact neg128_at _ _ hp (by omega)
    · split
      · exact fill128_at _ _ hp (by omega)
      · exact rest128_at _ _ hp (by omega)
  right l hl := by
    have hm : l % 128 < 128 := Nat.mod_lt _ (by decide)
    refine (at2_ix2 _ ⟨p, hp⟩ ⟨l, hl⟩).trans ?_
    rw [V_v30, tiled128_apply, parts128_apply]
    dsimp only
    split
    · exact fill128_at _ _ hp (by omega)
    · split
      · rfl
      · exact rest128_at _ _ hp (by omega)

/-- The tables' cosines and sines for heads of 64 columns, row by row: the reference's. -/
def cos64 : Vec Ideal S2048x8 .f32 := Cert.RopRefIdeal.Read.val_main_v97 (F := Ideal)
def sin64 : Vec Ideal S2048x8 .f32 := Cert.RopRefIdeal.Read.val_main_v99 (F := Ideal)

/-- A table's heads, from its three parts. -/
def parts64 (a b : Vec Ideal S2048x8 .f32) (d : Vec Ideal S2048x48 .f32) : Vec Ideal S2048x64 .f32 :=
  concatenate S2048x64 1 [⟨S2048x8, a⟩, ⟨S2048x8, b⟩, ⟨S2048x48, d⟩] concatenates_S2048x8_S2048x8_S2048x48_S2048x64_d1

/-- The table of 128 columns: the heads one beside another. -/
def tiled64 (x : Vec Ideal S2048x64 .f32) : Vec Ideal S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

/-- A column of the table lies in one of the three parts. -/
theorem parts64_apply (a b : Vec Ideal S2048x8 .f32) (d : Vec Ideal S2048x48 .f32) (p : Fin 2048) (e : Fin 64) :
    parts64 a b d (ix2 p e) = if e.val < 8 then at2 a p.val e.val else if e.val < 2 * 8 then at2 b p.val (e.val - 8)
      else at2 d p.val (e.val - 2 * 8) := by
  have he := e.isLt
  unfold parts64
  by_cases h1 : e.val < 8
  · rw [if_pos h1]
    exact (concatenate_apply_piece (t := S2048x64) 1 _ _ (ix2 p e) 0 (by show 0 < 3; omega) S2048x8 a rfl rfl 0 rfl
      (ix2 p ⟨e.val, h1⟩) (fun a ha => by fin_cases a <;> first | rfl | exact absurd rfl ha)
      (by show 0 + e.val = e.val; omega)).trans (at2_ix2 a p ⟨e.val, h1⟩).symm
  · rw [if_neg h1]
    by_cases h2 : e.val < 2 * 8
    · rw [if_pos h2]
      exact (concatenate_apply_piece (t := S2048x64) 1 _ _ (ix2 p e) 1 (by show 1 < 3; omega) S2048x8 b rfl rfl 8 rfl
        (ix2 p ⟨e.val - 8, by omega⟩) (fun a ha => by fin_cases a <;> first | rfl | exact absurd rfl ha)
        (by show 8 + (e.val - 8) = e.val; omega)).trans (at2_ix2 b p ⟨e.val - 8, by omega⟩).symm
    · rw [if_neg h2]
      exact (concatenate_apply_piece (t := S2048x64) 1 _ _ (ix2 p e) 2 (by show 2 < 3; omega) S2048x48 d rfl rfl 16 rfl
        (ix2 p ⟨e.val - 2 * 8, by omega⟩) (fun a ha => by fin_cases a <;> first | rfl | exact absurd rfl ha)
        (by show 16 + (e.val - 2 * 8) = e.val; omega)).trans (at2_ix2 d p ⟨e.val - 2 * 8, by omega⟩).symm

/-- A column of the table is the column of its head. -/
theorem tiled64_apply (x : Vec Ideal S2048x64 .f32) (p : Fin 2048) (l : Fin 128) :
    tiled64 x (ix2 p l) = x (ix2 p ⟨l.val % 64, Nat.mod_lt _ (by decide)⟩) := by
  have hl := l.isLt
  have hp := p.isLt
  unfold tiled64
  refine (shapeCast_apply _ _ (ix2 p l) (ix4 (0 : Fin 1) p (⟨l.val / 64, by omega⟩ : Fin 2) (⟨l.val % 64, by omega⟩ : Fin 64)) ?_).trans ?_
  · rw [Shape.rowMajor_val_four, Shape.rowMajor_val_two]
    show ((0 * 2048 + p.val) * 2 + l.val / 64) * 64 + l.val % 64 = p.val * 128 + l.val
    omega
  refine (broadcastInDim_apply _ _ _ _ (ix4 (0 : Fin 1) p (0 : Fin 1) (⟨l.val % 64, by omega⟩ : Fin 64)) (fun a => ?_)).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show p.val * 64 + l.val % 64 = ((0 * 2048 + p.val) * 1 + 0) * 64 + l.val % 64
  omega

/-- Constants along an array. -/
abbrev fill64 (w : BitVec 32) : Vec Ideal S2048x8 .f32 := broadcastInDim S2048x8 ![] bcast_S_S2048x8 (constant (F := Ideal) S_ .f32 w)
abbrev rest64 (w : BitVec 32) : Vec Ideal S2048x48 .f32 := broadcastInDim S2048x48 ![] bcast_S_S2048x48 (constant (F := Ideal) S_ .f32 w)

/-- The three tables as the call finds them. -/
theorem V_v54 (c : Dev nD) : (V m c main_v54 : Vec Ideal S2048x128 .f32) = tiled64 (parts64 cos64 cos64 (rest64 0x3F800000#32)) := by
  show StableHlo.after hostOps0 _ (Proc.devRef .tc main_v54) = _
  after_results_simp
  rfl
theorem V_v57 (c : Dev nD) : (V m c main_v57 : Vec Ideal S2048x128 .f32)
    = tiled64 (parts64 (Host.negf (F := Ideal) (φ := .f32) sin64) (fill64 0x00000000#32) (rest64 0x00000000#32)) := by
  show StableHlo.after hostOps0 _ (Proc.devRef .tc main_v57) = _
  after_results_simp
  rfl
theorem V_v60 (c : Dev nD) : (V m c main_v60 : Vec Ideal S2048x128 .f32)
    = tiled64 (parts64 (fill64 0x00000000#32) sin64 (rest64 0x00000000#32)) := by
  show StableHlo.after hostOps0 _ (Proc.devRef .tc main_v60) = _
  after_results_simp
  rfl

/-- A part of a table that holds one number, or the negated sines. -/
theorem fill64_at (p k : Nat) (hp : p < 2048) (hk : k < 8) : at2 (fill64 0x00000000#32) p k = 0 :=
  (at2_ix2 _ ⟨p, hp⟩ ⟨k, hk⟩).trans Ideal.ofBits_zero_f32
theorem rest64_at (p k : Nat) (hp : p < 2048) (hk : k < 48) : at2 (rest64 0x00000000#32) p k = 0 :=
  (at2_ix2 _ ⟨p, hp⟩ ⟨k, hk⟩).trans Ideal.ofBits_zero_f32
theorem ones64_at (p k : Nat) (hp : p < 2048) (hk : k < 48) : at2 (rest64 0x3F800000#32) p k = 1 :=
  (at2_ix2 _ ⟨p, hp⟩ ⟨k, hk⟩).trans Ideal.ofBits_one_f32
theorem neg64_at (p k : Nat) (hp : p < 2048) (hk : k < 8) : at2 (Host.negf (F := Ideal) (φ := .f32) sin64) p k = -at2 sin64 p k :=
  (at2_ix2 _ ⟨p, hp⟩ ⟨k, hk⟩).trans (congrArg (fun x : EReal => -x) (at2_ix2 sin64 ⟨p, hp⟩ ⟨k, hk⟩).symm)

/-- Row `p` of the three holds the tables for heads of 64 columns. -/
theorem tables64 (c : Dev nD) (p : Nat) (hp : p < 2048) :
    Tables 64 8 (at2 cos64 p) (at2 sin64 p) (at2 (V m c main_v54 : Vec Ideal S2048x128 .f32) p)
      (at2 (V m c main_v57 : Vec Ideal S2048x128 .f32) p) (at2 (V m c main_v60 : Vec Ideal S2048x128 .f32) p) where
  cos l hl := by
    have hm : l % 64 < 64 := Nat.mod_lt _ (by decide)
    refine (at2_ix2 _ ⟨p, hp⟩ ⟨l, hl⟩).trans ?_
    rw [V_v54, tiled64_apply, parts64_apply]
    dsimp only
    split
    · rfl
    · split
      · rfl
      · exact ones64_at _ _ hp (by omega)
  left l hl := by
    have hm : l % 64 < 64 := Nat.mod_lt _ (by decide)
    refine (at2_ix2 _ ⟨p, hp⟩ ⟨l, hl⟩).trans ?_
    rw [V_v57, tiled64_apply, parts64_apply]
    dsimp only
    split
    · exact neg64_at _ _ hp (by omega)
    · split
      · exact fill64_at _ _ hp (by omega)
      · exact rest64_at _ _ hp (by omega)
  right l hl := by
    have hm : l % 64 < 64 := Nat.mod_lt _ (by decide)
    refine (at2_ix2 _ ⟨p, hp⟩ ⟨l, hl⟩).trans ?_
    rw [V_v60, tiled64_apply, parts64_apply]
    dsimp only
    split
    · exact fill64_at _ _ hp (by omega)
    · split
      · rfl
      · exact rest64_at _ _ hp (by omega)

end Cert.RopIdeal.Product

end
-- ==== Proof.Rop.lean ====
/-
  The rotation of the attention's and the indexer's columns, prompt rows: what each block of each result is, and what each result's
  array ends as: the reference's.
-/
module

public import proofs.«01_k».proof.Proof.RopK
public import proofs.«01_k».proof.Proof.RopR
public import proofs.«01_k».proof.Proof.RopT

@[expose] public section

set_option maxRecDepth 16384

noncomputable section

namespace Cert.RopIdeal.Product

open Cert.RopIdeal Cert.RopIdeal.Gen Idealize.ShloMosaic Idealize.ShloMosaic.TcCoe Idealize.SL.Sem
open Idealize.ShloMosaic.ValueIdx Cert.Rot

variable (m : (ℓ : Loc nD τ sig) → Buf (Elt Ideal) ℓ)

/-- The attention's and the indexer's columns as launched. -/
abbrev att (c : Dev nD) : Vec Ideal S16384x3072 .f32 := m ((c : Thread nD τ).loc main_arg0)
abbrev idx (c : Dev nD) : Vec Ideal S16384x768 .f32 := m ((c : Thread nD τ).loc main_arg1)

/-- Where each window's block lies at grid point `t`. -/
theorem index_in : ∀ t : Fin grid0.N,
    (win0_0.index t 0 = t.val ∧ win0_0.index t 1 = 0)
    ∧ (win0_1.index t 0 = t.val ∧ win0_1.index t 1 = 0)
    ∧ (win0_2.index t 0 = t.val % 8 ∧ win0_2.index t 1 = 0)
    ∧ (win0_3.index t 0 = t.val % 8 ∧ win0_3.index t 1 = 0)
    ∧ (win0_4.index t 0 = t.val % 8 ∧ win0_4.index t 1 = 0)
    ∧ (win0_5.index t 0 = t.val % 8 ∧ win0_5.index t 1 = 0)
    ∧ (win0_6.index t 0 = t.val % 8 ∧ win0_6.index t 1 = 0)
    ∧ (win0_7.index t 0 = t.val % 8 ∧ win0_7.index t 1 = 0) := by decide +kernel
theorem index_out : ∀ t : Fin grid0.N,
    (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0)
    ∧ (win0_17.index t 0 = t.val ∧ win0_17.index t 1 = 0) := by decide +kernel

/-- A row of the block of `att` at point `t` is a row of the whole. -/
theorem att_block (c : Dev nD) (t : Fin cfg0.N) (r : Nat) (hr : r < 256) :
    at2 (iblk m c 0 t : Vec Ideal S256x3072 .f32) r = at2 (att m c) (t.val * 256 + r) := by
  have hN : t.val < 64 := lt_of_lt_of_eq t.isLt N_0
  obtain ⟨⟨h0, h1⟩, -, -, -, -, -, -, -⟩ := index_in t
  funext j
  by_cases hj : j < 3072
  · refine (at2_ix2 (iblk m c 0 t : Vec Ideal S256x3072 .f32) ⟨r, hr⟩ ⟨j, hj⟩).trans
      (Eq.trans ?_ (at2_ix2 (att m c) ⟨t.val * 256 + r, by omega⟩ ⟨j, hj⟩).symm)
    unfold iblk
    rw [View.read_apply]
    show m ((c : Thread nD τ).loc main_arg0) _ = m ((c : Thread nD τ).loc main_arg0) _
    congr 1
    funext a
    apply Fin.ext
    match a with
    | ⟨0, _⟩ => show win0_0.index t 0 * 256 + 1 * r = t.val * 256 + r; rw [h0]; omega
    | ⟨1, _⟩ => show win0_0.index t 1 * 3072 + 1 * j = j; rw [h1]; omega
  · unfold at2
    rw [dif_neg (fun h => hj h.2), dif_neg (fun h => hj h.2)]

/-- A row of the block of `idx` at point `t` is a row of the whole. -/
theorem idx_block (c : Dev nD) (t : Fin cfg0.N) (r : Nat) (hr : r < 256) :
    at2 (iblk m c 1 t : Vec Ideal S256x768 .f32) r = at2 (idx m c) (t.val * 256 + r) := by
  have hN : t.val < 64 := lt_of_lt_of_eq t.isLt N_0
  obtain ⟨-, ⟨h0, h1⟩, -, -, -, -, -, -⟩ := index_in t
  funext j
  by_cases hj : j < 768
  · refine (at2_ix2 (iblk m c 1 t : Vec Ideal S256x768 .f32) ⟨r, hr⟩ ⟨j, hj⟩).trans
      (Eq.trans ?_ (at2_ix2 (idx m c) ⟨t.val * 256 + r, by omega⟩ ⟨j, hj⟩).symm)
    unfold iblk
    rw [View.read_apply]
    show m ((c : Thread nD τ).loc main_arg1) _ = m ((c : Thread nD τ).loc main_arg1) _
    congr 1
    funext a
    apply Fin.ext
    match a with
    | ⟨0, _⟩ => show win0_1.index t 0 * 256 + 1 * r = t.val * 256 + r; rw [h0]; omega
    | ⟨1, _⟩ => show win0_1.index t 1 * 768 + 1 * j = j; rw [h1]; omega
  · unfold at2
    rw [dif_neg (fun h => hj h.2), dif_neg (fun h => hj h.2)]

/-- A row of a table's block is a row of the table. -/
theorem tab2_block (c : Dev nD) (t : Fin cfg0.N) (r : Nat) (hr : r < 256) (l : Nat) (hl : l < 128) :
    at2 (iblk m c 2 t : Vec Ideal S256x128 .f32) r l = at2 (V m c main_v24 : Vec Ideal S2048x128 .f32) ((t.val % 8) * 256 + r) l := by
  obtain ⟨-, -, ⟨h0, h1⟩, -, -, -, -, -⟩ := index_in t
  refine (at2_ix2 (iblk m c 2 t : Vec Ideal S256x128 .f32) ⟨r, hr⟩ ⟨l, hl⟩).trans
    (Eq.trans ?_ (at2_ix2 (V m c main_v24 : Vec Ideal S2048x128 .f32) ⟨(t.val % 8) * 256 + r, by omega⟩ ⟨l, hl⟩).symm)
  unfold iblk
  rw [View.read_apply]
  show V m c main_v24 _ = V m c main_v24 _
  congr 1
  funext a
  apply Fin.ext
  match a with
  | ⟨0, _⟩ => show win0_2.index t 0 * 256 + 1 * r = (t.val % 8) * 256 + r; rw [h0]; omega
  | ⟨1, _⟩ => show win0_2.index t 1 * 128 + 1 * l = l; rw [h1]; omega

theorem tab3_block (c : Dev nD) (t : Fin cfg0.N) (r : Nat) (hr : r < 256) (l : Nat) (hl : l < 128) :
    at2 (iblk m c 3 t : Vec Ideal S256x128 .f32) r l = at2 (V m c main_v27 : Vec Ideal S2048x128 .f32) ((t.val % 8) * 256 + r) l := by
  obtain ⟨-, -, -, ⟨h0, h1⟩, -, -, -, -⟩ := index_in t
  refine (at2_ix2 (iblk m c 3 t : Vec Ideal S256x128 .f32) ⟨r, hr⟩ ⟨l, hl⟩).trans
    (Eq.trans ?_ (at2_ix2 (V m c main_v27 : Vec Ideal S2048x128 .f32) ⟨(t.val % 8) * 256 + r, by omega⟩ ⟨l, hl⟩).symm)
  unfold iblk
  rw [View.read_apply]
  show V m c main_v27 _ = V m c main_v27 _
  congr 1
  funext a
  apply Fin.ext
  match a with
  | ⟨0, _⟩ => show win0_3.index t 0 * 256 + 1 * r = (t.val % 8) * 256 + r; rw [h0]; omega
  | ⟨1, _⟩ => show win0_3.index t 1 * 128 + 1 * l = l; rw [h1]; omega

theorem tab4_block (c : Dev nD) (t : Fin cfg0.N) (r : Nat) (hr : r < 256) (l : Nat) (hl : l < 128) :
    at2 (iblk m c 4 t : Vec Ideal S256x128 .f32) r l = at2 (V m c main_v30 : Vec Ideal S2048x128 .f32) ((t.val % 8) * 256 + r) l := by
  obtain ⟨-, -, -, -, ⟨h0, h1⟩, -, -, -⟩ := index_in t
  refine (at2_ix2 (iblk m c 4 t : Vec Ideal S256x128 .f32) ⟨r, hr⟩ ⟨l, hl⟩).trans
    (Eq.trans ?_ (at2_ix2 (V m c main_v30 : Vec Ideal S2048x128 .f32) ⟨(t.val % 8) * 256 + r, by omega⟩ ⟨l, hl⟩).symm)
  unfold iblk
  rw [View.read_apply]
  show V m c main_v30 _ = V m c main_v30 _
  congr 1
  funext a
  apply Fin.ext
  match a with
  | ⟨0, _⟩ => show win0_4.index t 0 * 256 + 1 * r = (t.val % 8) * 256 + r; rw [h0]; omega
  | ⟨1, _⟩ => show win0_4.index t 1 * 128 + 1 * l = l; rw [h1]; omega

theorem tab5_block (c : Dev nD) (t : Fin cfg0.N) (r : Nat) (hr : r < 256) (l : Nat) (hl : l < 128) :
    at2 (iblk m c 5 t : Vec Ideal S256x128 .f32) r l = at2 (V m c main_v54 : Vec Ideal S2048x128 .f32) ((t.val % 8) * 256 + r) l := by
  obtain ⟨-, -, -, -, -, ⟨h0, h1⟩, -, -⟩ := index_in t
  refine (at2_ix2 (iblk m c 5 t : Vec Ideal S256x128 .f32) ⟨r, hr⟩ ⟨l, hl⟩).trans
    (Eq.trans ?_ (at2_ix2 (V m c main_v54 : Vec Ideal S2048x128 .f32) ⟨(t.val % 8) * 256 + r, by omega⟩ ⟨l, hl⟩).symm)
  unfold iblk
  rw [View.read_apply]
  show V m c main_v54 _ = V m c main_v54 _
  congr 1
  funext a
  apply Fin.ext
  match a with
  | ⟨0, _⟩ => show win0_5.index t 0 * 256 + 1 * r = (t.val % 8) * 256 + r; rw [h0]; omega
  | ⟨1, _⟩ => show win0_5.index t 1 * 128 + 1 * l = l; rw [h1]; omega

theorem tab6_block (c : Dev nD) (t : Fin cfg0.N) (r : Nat) (hr : r < 256) (l : Nat) (hl : l < 128) :
    at2 (iblk m c 6 t : Vec Ideal S256x128 .f32) r l = at2 (V m c main_v57 : Vec Ideal S2048x128 .f32) ((t.val % 8) * 256 + r) l := by
  obtain ⟨-, -, -, -, -, -, ⟨h0, h1⟩, -⟩ := index_in t
  refine (at2_ix2 (iblk m c 6 t : Vec Ideal S256x128 .f32) ⟨r, hr⟩ ⟨l, hl⟩).trans
    (Eq.trans ?_ (at2_ix2 (V m c main_v57 : Vec Ideal S2048x128 .f32) ⟨(t.val % 8) * 256 + r, by omega⟩ ⟨l, hl⟩).symm)
  unfold iblk
  rw [View.read_apply]
  show V m c main_v57 _ = V m c main_v57 _
  congr 1
  funext a
  apply Fin.ext
  match a with
  | ⟨0, _⟩ => show win0_6.index t 0 * 256 + 1 * r = (t.val % 8) * 256 + r; rw [h0]; omega
  | ⟨1, _⟩ => show win0_6.index t 1 * 128 + 1 * l = l; rw [h1]; omega

theorem tab7_block (c : Dev nD) (t : Fin cfg0.N) (r : Nat) (hr : r < 256) (l : Nat) (hl : l < 128) :
    at2 (iblk m c 7 t : Vec Ideal S256x128 .f32) r l = at2 (V m c main_v60 : Vec Ideal S2048x128 .f32) ((t.val % 8) * 256 + r) l := by
  obtain ⟨-, -, -, -, -, -, -, ⟨h0, h1⟩⟩ := index_in t
  refine (at2_ix2 (iblk m c 7 t : Vec Ideal S256x128 .f32) ⟨r, hr⟩ ⟨l, hl⟩).trans
    (Eq.trans ?_ (at2_ix2 (V m c main_v60 : Vec Ideal S2048x128 .f32) ⟨(t.val % 8) * 256 + r, by omega⟩ ⟨l, hl⟩).symm)
  unfold iblk
  rw [View.read_apply]
  show V m c main_v60 _ = V m c main_v60 _
  congr 1
  funext a
  apply Fin.ext
  match a with
  | ⟨0, _⟩ => show win0_7.index t 0 * 256 + 1 * r = (t.val % 8) * 256 + r; rw [h0]; omega
  | ⟨1, _⟩ => show win0_7.index t 1 * 128 + 1 * l = l; rw [h1]; omega

/-- The products of the blocks at point `t` are the rotation of the row. -/
theorem att_eq (c : Dev nD) (t : Fin cfg0.N) (r : Nat) (hr : r < 256) (j : Nat) :
    attE (iblk m c 0 t) (iblk m c 2 t) (iblk m c 3 t) (iblk m c 4 t) r j
      = rotated 128 16 (at2 (att m c) (t.val * 256 + r)) (at2 (Cert.RopRefIdeal.Read.val_main_v23 (F := Ideal)) ((t.val * 256 + r) % 2048))
          (at2 (Cert.RopRefIdeal.Read.val_main_v25 (F := Ideal)) ((t.val * 256 + r) % 2048)) j := by
  have hN : t.val < 64 := lt_of_lt_of_eq t.isLt N_0
  have T := tables128 m c ((t.val % 8) * 256 + r) (by omega)
  unfold attE
  rw [turned_128 _ (at2 cos128 ((t.val % 8) * 256 + r)) (at2 sin128 ((t.val % 8) * 256 + r)) _ _ _
    ⟨fun l hl => (tab2_block m c t r hr l hl).trans (T.cos l hl), fun l hl => (tab3_block m c t r hr l hl).trans (T.left l hl),
      fun l hl => (tab4_block m c t r hr l hl).trans (T.right l hl)⟩, att_block m c t r hr]
  rw [show (t.val * 256 + r) % 2048 = ((t.val % 8) * 256 + r) by omega]
  rfl

/-- The products of the blocks at point `t` are the rotation of the row. -/
theorem idx_eq (c : Dev nD) (t : Fin cfg0.N) (r : Nat) (hr : r < 256) (j : Nat) :
    idxE (iblk m c 1 t) (iblk m c 5 t) (iblk m c 6 t) (iblk m c 7 t) r j
      = rotated 64 8 (at2 (idx m c) (t.val * 256 + r)) (at2 (Cert.RopRefIdeal.Read.val_main_v97 (F := Ideal)) ((t.val * 256 + r) % 2048))
          (at2 (Cert.RopRefIdeal.Read.val_main_v99 (F := Ideal)) ((t.val * 256 + r) % 2048)) j := by
  have hN : t.val < 64 := lt_of_lt_of_eq t.isLt N_0
  have T := tables64 m c ((t.val % 8) * 256 + r) (by omega)
  unfold idxE
  rw [turned_64 _ (at2 cos64 ((t.val % 8) * 256 + r)) (at2 sin64 ((t.val % 8) * 256 + r)) _ _ _
    ⟨fun l hl => (tab5_block m c t r hr l hl).trans (T.cos l hl), fun l hl => (tab6_block m c t r hr l hl).trans (T.left l hl),
      fun l hl => (tab7_block m c t r hr l hl).trans (T.right l hl)⟩, idx_block m c t r hr]
  rw [show (t.val * 256 + r) % 2048 = ((t.val % 8) * 256 + r) by omega]
  rfl

/-- The array that result 0 is to hold; what a point writes back is its block of it; and the blocks cover it. -/
abbrev G8 (c : Dev nD) : Buf (Elt Ideal) ((c : Thread nD τ).loc main_v61_0) :=
  Cert.RopRefIdeal.Read.val_main_v165 (F := Ideal) (att m c)

theorem flushed8 (c : Dev nD) (t : Fin cfg0.N) :
    (dats m 0 c).flushed 8 t = ((cfg0.win 8).blk t).view.read (Elt Ideal) (G8 m c) := by
  have hN : t.val < 64 := lt_of_lt_of_eq t.isLt N_0
  rw [Value.flushed8]
  show out0_8 (iblk m c 0 t) (iblk m c 1 t) (iblk m c 2 t) (iblk m c 3 t) (iblk m c 4 t) (iblk m c 5 t) (iblk m c 6 t) (iblk m c 7 t) = _
  obtain ⟨⟨h0, h1⟩, -, -, -, -, -, -, -, -, -⟩ := index_out t
  funext y
  obtain ⟨r, q, rfl⟩ : ∃ (r : Fin 256) (q : Fin 2048), y = ix2 r q := ⟨y 0, y 1, by funext a; fin_cases a <;> rfl⟩
  have hr := r.isLt
  have hq := q.isLt
  rw [View.read_apply]
  have hemb : ((cfg0.win 8).blk t).view.emb (ix2 r q) = (ix2 ⟨t.val * 256 + r.val, by omega⟩ q : S16384x2048.Idx) := by
    funext a
    apply Fin.ext
    match a with
    | ⟨0, _⟩ => show win0_8.index t 0 * 256 + 1 * r.val = t.val * 256 + r.val; rw [h0]; omega
    | ⟨1, _⟩ => show win0_8.index t 1 * 2048 + 1 * q.val = q.val; rw [h1]; omega
  refine Eq.trans ?_ (congrArg (G8 m c) hemb.symm)
  refine (block8 _ _ _ _ _ _ _ _ (ix2 r q)).trans ((att_eq m c t r.val r.isLt (0 + q.val)).trans ?_)
  exact (Cert.RopRefIdeal.Columns.q_apply (att m c) ⟨t.val * 256 + r.val, by omega⟩ q).symm

theorem final8 (c : Dev nD) : (dats m 0 c).arrAt 8 cfg0.N = G8 m c :=
  (dats m 0 c).arrAt_eq_of_cover 8 (G8 m c) (fun t _ => flushed8 m c t) fun i => by
    have h0 : (i 0 : Nat) < 16384 := (i 0).isLt
    have h1 : (i 1 : Nat) < 2048 := (i 1).isLt
    have hN : cfg0.N = 64 := N_0
    have ht : (i 0 : Nat) / 256 < cfg0.N := by omega
    refine ⟨⟨(i 0 : Nat) / 256, ht⟩, flush0_8 _, ?_⟩
    obtain ⟨⟨g0, g1⟩, -, -, -, -, -, -, -, -, -⟩ := index_out ⟨(i 0 : Nat) / 256, ht⟩
    show i ∈ ((View.whole main_v61_0).slice (win0_8.rect ⟨(i 0 : Nat) / 256, ht⟩)).set
    rw [View.set_slice_whole, Rect.mem_set_unit]
    intro a
    match a with
    | ⟨0, _⟩ =>
      show win0_8.index _ 0 * 256 ≤ (i 0 : Nat) ∧ (i 0 : Nat) < win0_8.index _ 0 * 256 + 256
      rw [g0]; dsimp only; omega
    | ⟨1, _⟩ =>
      show win0_8.index _ 1 * 2048 ≤ (i 1 : Nat) ∧ (i 1 : Nat) < win0_8.index _ 1 * 2048 + 2048
      rw [g1]; omega

/-- The array that result 1 is to hold; what a point writes back is its block of it; and the blocks cover it. -/
abbrev G9 (c : Dev nD) : Buf (Elt Ideal) ((c : Thread nD τ).loc main_v61_1) :=
  Cert.RopRefIdeal.Read.val_main_v160 (F := Ideal) (att m c)

theorem flushed9 (c : Dev nD) (t : Fin cfg0.N) :
    (dats m 0 c).flushed 9 t = ((cfg0.win 9).blk t).view.read (Elt Ideal) (G9 m c) := by
  have hN : t.val < 64 := lt_of_lt_of_eq t.isLt N_0
  rw [Value.flushed9]
  show out0_9 (iblk m c 0 t) (iblk m c 1 t) (iblk m c 2 t) (iblk m c 3 t) (iblk m c 4 t) (iblk m c 5 t) (iblk m c 6 t) (iblk m c 7 t) = _
  obtain ⟨-, ⟨h0, h1⟩, -, -, -, -, -, -, -, -⟩ := index_out t
  funext y
  obtain ⟨r, q, rfl⟩ : ∃ (r : Fin 256) (q : Fin 512), y = ix2 r q := ⟨y 0, y 1, by funext a; fin_cases a <;> rfl⟩
  have hr := r.isLt
  have hq := q.isLt
  rw [View.read_apply]
  have hemb : ((cfg0.win 9).blk t).view.emb (ix2 r q) = (ix2 ⟨t.val * 256 + r.val, by omega⟩ q : S16384x512.Idx) := by
    funext a
    apply Fin.ext
    match a with
    | ⟨0, _⟩ => show win0_9.index t 0 * 256 + 1 * r.val = t.val * 256 + r.val; rw [h0]; omega
    | ⟨1, _⟩ => show win0_9.index t 1 * 512 + 1 * q.val = q.val; rw [h1]; omega
  refine Eq.trans ?_ (congrArg (G9 m c) hemb.symm)
  refine (block9 _ _ _ _ _ _ _ _ (ix2 r q)).trans ((att_eq m c t r.val r.isLt (2048 + q.val)).trans ?_)
  exact (Cert.RopRefIdeal.Columns.k_apply (att m c) ⟨t.val * 256 + r.val, by omega⟩ q).symm

theorem final9 (c : Dev nD) : (dats m 0 c).arrAt 9 cfg0.N = G9 m c :=
  (dats m 0 c).arrAt_eq_of_cover 9 (G9 m c) (fun t _ => flushed9 m c t) fun i => by
    have h0 : (i 0 : Nat) < 16384 := (i 0).isLt
    have h1 : (i 1 : Nat) < 512 := (i 1).isLt
    have hN : cfg0.N = 64 := N_0
    have ht : (i 0 : Nat) / 256 < cfg0.N := by omega
    refine ⟨⟨(i 0 : Nat) / 256, ht⟩, flush0_9 _, ?_⟩
    obtain ⟨-, ⟨g0, g1⟩, -, -, -, -, -, -, -, -⟩ := index_out ⟨(i 0 : Nat) / 256, ht⟩
    show i ∈ ((View.whole main_v61_1).slice (win0_9.rect ⟨(i 0 : Nat) / 256, ht⟩)).set
    rw [View.set_slice_whole, Rect.mem_set_unit]
    intro a
    match a with
    | ⟨0, _⟩ =>
      show win0_9.index _ 0 * 256 ≤ (i 0 : Nat) ∧ (i 0 : Nat) < win0_9.index _ 0 * 256 + 256
      rw [g0]; dsimp only; omega
    | ⟨1, _⟩ =>
      show win0_9.index _ 1 * 512 ≤ (i 1 : Nat) ∧ (i 1 : Nat) < win0_9.index _ 1 * 512 + 512
      rw [g1]; omega

/-- The array that result 2 is to hold; what a point writes back is its block of it; and the blocks cover it. -/
abbrev G10 (c : Dev nD) : Buf (Elt Ideal) ((c : Thread nD τ).loc main_v61_2) :=
  Cert.RopRefIdeal.Read.val_main_v161 (F := Ideal) (att m c)

theorem flushed10 (c : Dev nD) (t : Fin cfg0.N) :
    (dats m 0 c).flushed 10 t = ((cfg0.win 10).blk t).view.read (Elt Ideal) (G10 m c) := by
  have hN : t.val < 64 := lt_of_lt_of_eq t.isLt N_0
  rw [Value.flushed10]
  show out0_10 (iblk m c 0 t) (iblk m c 1 t) (iblk m c 2 t) (iblk m c 3 t) (iblk m c 4 t) (iblk m c 5 t) (iblk m c 6 t) (iblk m c 7 t) = _
  obtain ⟨-, -, ⟨h0, h1⟩, -, -, -, -, -, -, -⟩ := index_out t
  funext y
  obtain ⟨r, q, rfl⟩ : ∃ (r : Fin 256) (q : Fin 512), y = ix2 r q := ⟨y 0, y 1, by funext a; fin_cases a <;> rfl⟩
  have hr := r.isLt
  have hq := q.isLt
  rw [View.read_apply]
  have hemb : ((cfg0.win 10).blk t).view.emb (ix2 r q) = (ix2 ⟨t.val * 256 + r.val, by omega⟩ q : S16384x512.Idx) := by
    funext a
    apply Fin.ext
    match a with
    | ⟨0, _⟩ => show win0_10.index t 0 * 256 + 1 * r.val = t.val * 256 + r.val; rw [h0]; omega
    | ⟨1, _⟩ => show win0_10.index t 1 * 512 + 1 * q.val = q.val; rw [h1]; omega
  refine Eq.trans ?_ (congrArg (G10 m c) hemb.symm)
  refine (block10 _ _ _ _ _ _ _ _ (ix2 r q)).trans ((congrFun (att_block m c t r.val r.isLt) (2560 + q.val)).trans ?_)
  exact (Cert.RopRefIdeal.Columns.av_apply (att m c) ⟨t.val * 256 + r.val, by omega⟩ q).symm

theorem final10 (c : Dev nD) : (dats m 0 c).arrAt 10 cfg0.N = G10 m c :=
  (dats m 0 c).arrAt_eq_of_cover 10 (G10 m c) (fun t _ => flushed10 m c t) fun i => by
    have h0 : (i 0 : Nat) < 16384 := (i 0).isLt
    have h1 : (i 1 : Nat) < 512 := (i 1).isLt
    have hN : cfg0.N = 64 := N_0
    have ht : (i 0 : Nat) / 256 < cfg0.N := by omega
    refine ⟨⟨(i 0 : Nat) / 256, ht⟩, flush0_10 _, ?_⟩
    obtain ⟨-, -, ⟨g0, g1⟩, -, -, -, -, -, -, -⟩ := index_out ⟨(i 0 : Nat) / 256, ht⟩
    show i ∈ ((View.whole main_v61_2).slice (win0_10.rect ⟨(i 0 : Nat) / 256, ht⟩)).set
    rw [View.set_slice_whole, Rect.mem_set_unit]
    intro a
    match a with
    | ⟨0, _⟩ =>
      show win0_10.index _ 0 * 256 ≤ (i 0 : Nat) ∧ (i 0 : Nat) < win0_10.index _ 0 * 256 + 256
      rw [g0]; dsimp only; omega
    | ⟨1, _⟩ =>
      show win0_10.index _ 1 * 512 ≤ (i 1 : Nat) ∧ (i 1 : Nat) < win0_10.index _ 1 * 512 + 512
      rw [g1]; omega

/-- The array that result 3 is to hold; what a point writes back is its block of it; and the blocks cover it. -/
abbrev G11 (c : Dev nD) : Buf (Elt Ideal) ((c : Thread nD τ).loc main_v61_3) :=
  Cert.RopRefIdeal.Read.val_main_v162 (F := Ideal) (idx m c)

theorem flushed11 (c : Dev nD) (t : Fin cfg0.N) :
    (dats m 0 c).flushed 11 t = ((cfg0.win 11).blk t).view.read (Elt Ideal) (G11 m c) := by
  have hN : t.val < 64 := lt_of_lt_of_eq t.isLt N_0
  rw [Value.flushed11]
  show out0_11 (iblk m c 0 t) (iblk m c 1 t) (iblk m c 2 t) (iblk m c 3 t) (iblk m c 4 t) (iblk m c 5 t) (iblk m c 6 t) (iblk m c 7 t) = _
  obtain ⟨-, -, -, ⟨h0, h1⟩, -, -, -, -, -, -⟩ := index_out t
  funext y
  obtain ⟨r, q, rfl⟩ : ∃ (r : Fin 256) (q : Fin 512), y = ix2 r q := ⟨y 0, y 1, by funext a; fin_cases a <;> rfl⟩
  have hr := r.isLt
  have hq := q.isLt
  rw [View.read_apply]
  have hemb : ((cfg0.win 11).blk t).view.emb (ix2 r q) = (ix2 ⟨t.val * 256 + r.val, by omega⟩ q : S16384x512.Idx) := by
    funext a
    apply Fin.ext
    match a with
    | ⟨0, _⟩ => show win0_11.index t 0 * 256 + 1 * r.val = t.val * 256 + r.val; rw [h0]; omega
    | ⟨1, _⟩ => show win0_11.index t 1 * 512 + 1 * q.val = q.val; rw [h1]; omega
  refine Eq.trans ?_ (congrArg (G11 m c) hemb.symm)
  refine (block11 _ _ _ _ _ _ _ _ (ix2 r q)).trans ((idx_eq m c t r.val r.isLt (0 + q.val)).trans ?_)
  exact (Cert.RopRefIdeal.Columns.iq_apply (idx m c) ⟨t.val * 256 + r.val, by omega⟩ q).symm

theorem final11 (c : Dev nD) : (dats m 0 c).arrAt 11 cfg0.N = G11 m c :=
  (dats m 0 c).arrAt_eq_of_cover 11 (G11 m c) (fun t _ => flushed11 m c t) fun i => by
    have h0 : (i 0 : Nat) < 16384 := (i 0).isLt
    have h1 : (i 1 : Nat) < 512 := (i 1).isLt
    have hN : cfg0.N = 64 := N_0
    have ht : (i 0 : Nat) / 256 < cfg0.N := by omega
    refine ⟨⟨(i 0 : Nat) / 256, ht⟩, flush0_11 _, ?_⟩
    obtain ⟨-, -, -, ⟨g0, g1⟩, -, -, -, -, -, -⟩ := index_out ⟨(i 0 : Nat) / 256, ht⟩
    show i ∈ ((View.whole main_v61_3).slice (win0_11.rect ⟨(i 0 : Nat) / 256, ht⟩)).set
    rw [View.set_slice_whole, Rect.mem_set_unit]
    intro a
    match a with
    | ⟨0, _⟩ =>
      show win0_11.index _ 0 * 256 ≤ (i 0 : Nat) ∧ (i 0 : Nat) < win0_11.index _ 0 * 256 + 256
      rw [g0]; dsimp only; omega
    | ⟨1, _⟩ =>
      show win0_11.index _ 1 * 512 ≤ (i 1 : Nat) ∧ (i 1 : Nat) < win0_11.index _ 1 * 512 + 512
      rw [g1]; omega

/-- The array that result 4 is to hold; what a point writes back is its block of it; and the blocks cover it. -/
abbrev G12 (c : Dev nD) : Buf (Elt Ideal) ((c : Thread nD τ).loc main_v61_4) :=
  Cert.RopRefIdeal.Read.val_main_v163 (F := Ideal) (idx m c)

theorem flushed12 (c : Dev nD) (t : Fin cfg0.N) :
    (dats m 0 c).flushed 12 t = ((cfg0.win 12).blk t).view.read (Elt Ideal) (G12 m c) := by
  have hN : t.val < 64 := lt_of_lt_of_eq t.isLt N_0
  rw [Value.flushed12]
  show out0_12 (iblk m c 0 t) (iblk m c 1 t) (iblk m c 2 t) (iblk m c 3 t) (iblk m c 4 t) (iblk m c 5 t) (iblk m c 6 t) (iblk m c 7 t) = _
  obtain ⟨-, -, -, -, ⟨h0, h1⟩, -, -, -, -, -⟩ := index_out t
  funext y
  obtain ⟨r, q, rfl⟩ : ∃ (r : Fin 256) (q : Fin 64), y = ix2 r q := ⟨y 0, y 1, by funext a; fin_cases a <;> rfl⟩
  have hr := r.isLt
  have hq := q.isLt
  rw [View.read_apply]
  have hemb : ((cfg0.win 12).blk t).view.emb (ix2 r q) = (ix2 ⟨t.val * 256 + r.val, by omega⟩ q : S16384x64.Idx) := by
    funext a
    apply Fin.ext
    match a with
    | ⟨0, _⟩ => show win0_12.index t 0 * 256 + 1 * r.val = t.val * 256 + r.val; rw [h0]; omega
    | ⟨1, _⟩ => show win0_12.index t 1 * 64 + 1 * q.val = q.val; rw [h1]; omega
  refine Eq.trans ?_ (congrArg (G12 m c) hemb.symm)
  refine (block12 _ _ _ _ _ _ _ _ (ix2 r q)).trans ((idx_eq m c t r.val r.isLt (512 + q.val)).trans ?_)
  exact (Cert.RopRefIdeal.Columns.ik_apply (idx m c) ⟨t.val * 256 + r.val, by omega⟩ q).symm

theorem final12 (c : Dev nD) : (dats m 0 c).arrAt 12 cfg0.N = G12 m c :=
  (dats m 0 c).arrAt_eq_of_cover 12 (G12 m c) (fun t _ => flushed12 m c t) fun i => by
    have h0 : (i 0 : Nat) < 16384 := (i 0).isLt
    have h1 : (i 1 : Nat) < 64 := (i 1).isLt
    have hN : cfg0.N = 64 := N_0
    have ht : (i 0 : Nat) / 256 < cfg0.N := by omega
    refine ⟨⟨(i 0 : Nat) / 256, ht⟩, flush0_12 _, ?_⟩
    obtain ⟨-, -, -, -, ⟨g0, g1⟩, -, -, -, -, -⟩ := index_out ⟨(i 0 : Nat) / 256, ht⟩
    show i ∈ ((View.whole main_v61_4).slice (win0_12.rect ⟨(i 0 : Nat) / 256, ht⟩)).set
    rw [View.set_slice_whole, Rect.mem_set_unit]
    intro a
    match a with
    | ⟨0, _⟩ =>
      show win0_12.index _ 0 * 256 ≤ (i 0 : Nat) ∧ (i 0 : Nat) < win0_12.index _ 0 * 256 + 256
      rw [g0]; dsimp only; omega
    | ⟨1, _⟩ =>
      show win0_12.index _ 1 * 64 ≤ (i 1 : Nat) ∧ (i 1 : Nat) < win0_12.index _ 1 * 64 + 64
      rw [g1]; omega

/-- The array that result 5 is to hold; what a point writes back is its block of it; and the blocks cover it. -/
abbrev G13 (c : Dev nD) : Buf (Elt Ideal) ((c : Thread nD τ).loc main_v61_5) :=
  Cert.RopRefIdeal.Read.val_main_v164 (F := Ideal) (idx m c)

theorem flushed13 (c : Dev nD) (t : Fin cfg0.N) :
    (dats m 0 c).flushed 13 t = ((cfg0.win 13).blk t).view.read (Elt Ideal) (G13 m c) := by
  have hN : t.val < 64 := lt_of_lt_of_eq t.isLt N_0
  rw [Value.flushed13]
  show out0_13 (iblk m c 0 t) (iblk m c 1 t) (iblk m c 2 t) (iblk m c 3 t) (iblk m c 4 t) (iblk m c 5 t) (iblk m c 6 t) (iblk m c 7 t) = _
  obtain ⟨-, -, -, -, -, ⟨h0, h1⟩, -, -, -, -⟩ := index_out t
  funext y
  obtain ⟨r, q, rfl⟩ : ∃ (r : Fin 256) (q : Fin 128), y = ix2 r q := ⟨y 0, y 1, by funext a; fin_cases a <;> rfl⟩
  have hr := r.isLt
  have hq := q.isLt
  rw [View.read_apply]
  have hemb : ((cfg0.win 13).blk t).view.emb (ix2 r q) = (ix2 ⟨t.val * 256 + r.val, by omega⟩ q : S16384x128.Idx) := by
    funext a
    apply Fin.ext
    match a with
    | ⟨0, _⟩ => show win0_13.index t 0 * 256 + 1 * r.val = t.val * 256 + r.val; rw [h0]; omega
    | ⟨1, _⟩ => show win0_13.index t 1 * 128 + 1 * q.val = q.val; rw [h1]; omega
  refine Eq.trans ?_ (congrArg (G13 m c) hemb.symm)
  refine (block13 _ _ _ _ _ _ _ _ (ix2 r q)).trans ((congrArg (fun x : EReal => x * Ideal.ofBits .f32 0x3EB504F3#32) (congrFun (idx_block m c t r.val r.isLt) (640 + q.val))).trans ?_)
  exact (Cert.RopRefIdeal.Columns.iw_apply (idx m c) ⟨t.val * 256 + r.val, by omega⟩ q).symm

theorem final13 (c : Dev nD) : (dats m 0 c).arrAt 13 cfg0.N = G13 m c :=
  (dats m 0 c).arrAt_eq_of_cover 13 (G13 m c) (fun t _ => flushed13 m c t) fun i => by
    have h0 : (i 0 : Nat) < 16384 := (i 0).isLt
    have h1 : (i 1 : Nat) < 128 := (i 1).isLt
    have hN : cfg0.N = 64 := N_0
    have ht : (i 0 : Nat) / 256 < cfg0.N := by omega
    refine ⟨⟨(i 0 : Nat) / 256, ht⟩, flush0_13 _, ?_⟩
    obtain ⟨-, -, -, -, -, ⟨g0, g1⟩, -, -, -, -⟩ := index_out ⟨(i 0 : Nat) / 256, ht⟩
    show i ∈ ((View.whole main_v61_5).slice (win0_13.rect ⟨(i 0 : Nat) / 256, ht⟩)).set
    rw [View.set_slice_whole, Rect.mem_set_unit]
    intro a
    match a with
    | ⟨0, _⟩ =>
      show win0_13.index _ 0 * 256 ≤ (i 0 : Nat) ∧ (i 0 : Nat) < win0_13.index _ 0 * 256 + 256
      rw [g0]; dsimp only; omega
    | ⟨1, _⟩ =>
      show win0_13.index _ 1 * 128 ≤ (i 1 : Nat) ∧ (i 1 : Nat) < win0_13.index _ 1 * 128 + 128
      rw [g1]; omega

/-- The array that result 6 is to hold; what a point writes back is its block of it; and the blocks cover it. -/
abbrev G14 (c : Dev nD) : Buf (Elt Ideal) ((c : Thread nD τ).loc main_v61_6) :=
  Cert.RopRefIdeal.Read.val_main_v166 (F := Ideal) (att m c)

theorem flushed14 (c : Dev nD) (t : Fin cfg0.N) :
    (dats m 0 c).flushed 14 t = ((cfg0.win 14).blk t).view.read (Elt Ideal) (G14 m c) := by
  have hN : t.val < 64 := lt_of_lt_of_eq t.isLt N_0
  rw [Value.flushed14]
  show out0_14 (iblk m c 0 t) (iblk m c 1 t) (iblk m c 2 t) (iblk m c 3 t) (iblk m c 4 t) (iblk m c 5 t) (iblk m c 6 t) (iblk m c 7 t) = _
  obtain ⟨-, -, -, -, -, -, ⟨h0, h1⟩, -, -, -⟩ := index_out t
  funext y
  obtain ⟨r, q, rfl⟩ : ∃ (r : Fin 256) (q : Fin 512), y = ix2 r q := ⟨y 0, y 1, by funext a; fin_cases a <;> rfl⟩
  have hr := r.isLt
  have hq := q.isLt
  rw [View.read_apply]
  have hemb : ((cfg0.win 14).blk t).view.emb (ix2 r q) = (ix2 ⟨t.val * 256 + r.val, by omega⟩ q : S16384x512.Idx) := by
    funext a
    apply Fin.ext
    match a with
    | ⟨0, _⟩ => show win0_14.index t 0 * 256 + 1 * r.val = t.val * 256 + r.val; rw [h0]; omega
    | ⟨1, _⟩ => show win0_14.index t 1 * 512 + 1 * q.val = q.val; rw [h1]; omega
  refine Eq.trans ?_ (congrArg (G14 m c) hemb.symm)
  refine (block14 _ _ _ _ _ _ _ _ (ix2 r q)).trans ((att_eq m c t r.val r.isLt (2048 + q.val)).trans ?_)
  exact (Cert.RopRefIdeal.Columns.k_apply (att m c) ⟨t.val * 256 + r.val, by omega⟩ q).symm

theorem final14 (c : Dev nD) : (dats m 0 c).arrAt 14 cfg0.N = G14 m c :=
  (dats m 0 c).arrAt_eq_of_cover 14 (G14 m c) (fun t _ => flushed14 m c t) fun i => by
    have h0 : (i 0 : Nat) < 16384 := (i 0).isLt
    have h1 : (i 1 : Nat) < 512 := (i 1).isLt
    have hN : cfg0.N = 64 := N_0
    have ht : (i 0 : Nat) / 256 < cfg0.N := by omega
    refine ⟨⟨(i 0 : Nat) / 256, ht⟩, flush0_14 _, ?_⟩
    obtain ⟨-, -, -, -, -, -, ⟨g0, g1⟩, -, -, -⟩ := index_out ⟨(i 0 : Nat) / 256, ht⟩
    show i ∈ ((View.whole main_v61_6).slice (win0_14.rect ⟨(i 0 : Nat) / 256, ht⟩)).set
    rw [View.set_slice_whole, Rect.mem_set_unit]
    intro a
    match a with
    | ⟨0, _⟩ =>
      show win0_14.index _ 0 * 256 ≤ (i 0 : Nat) ∧ (i 0 : Nat) < win0_14.index _ 0 * 256 + 256
      rw [g0]; dsimp only; omega
    | ⟨1, _⟩ =>
      show win0_14.index _ 1 * 512 ≤ (i 1 : Nat) ∧ (i 1 : Nat) < win0_14.index _ 1 * 512 + 512
      rw [g1]; omega

/-- The array that result 7 is to hold; what a point writes back is its block of it; and the blocks cover it. -/
abbrev G15 (c : Dev nD) : Buf (Elt Ideal) ((c : Thread nD τ).loc main_v61_7) :=
  Cert.RopRefIdeal.Read.val_main_v167 (F := Ideal) (att m c)

theorem flushed15 (c : Dev nD) (t : Fin cfg0.N) :
    (dats m 0 c).flushed 15 t = ((cfg0.win 15).blk t).view.read (Elt Ideal) (G15 m c) := by
  have hN : t.val < 64 := lt_of_lt_of_eq t.isLt N_0
  rw [Value.flushed15]
  show out0_15 (iblk m c 0 t) (iblk m c 1 t) (iblk m c 2 t) (iblk m c 3 t) (iblk m c 4 t) (iblk m c 5 t) (iblk m c 6 t) (iblk m c 7 t) = _
  obtain ⟨-, -, -, -, -, -, -, ⟨h0, h1⟩, -, -⟩ := index_out t
  funext y
  obtain ⟨r, q, rfl⟩ : ∃ (r : Fin 256) (q : Fin 512), y = ix2 r q := ⟨y 0, y 1, by funext a; fin_cases a <;> rfl⟩
  have hr := r.isLt
  have hq := q.isLt
  rw [View.read_apply]
  have hemb : ((cfg0.win 15).blk t).view.emb (ix2 r q) = (ix2 ⟨t.val * 256 + r.val, by omega⟩ q : S16384x512.Idx) := by
    funext a
    apply Fin.ext
    match a with
    | ⟨0, _⟩ => show win0_15.index t 0 * 256 + 1 * r.val = t.val * 256 + r.val; rw [h0]; omega
    | ⟨1, _⟩ => show win0_15.index t 1 * 512 + 1 * q.val = q.val; rw [h1]; omega
  refine Eq.trans ?_ (congrArg (G15 m c) hemb.symm)
  refine (block15 _ _ _ _ _ _ _ _ (ix2 r q)).trans ((congrFun (att_block m c t r.val r.isLt) (2560 + q.val)).trans ?_)
  exact (Cert.RopRefIdeal.Columns.av_apply (att m c) ⟨t.val * 256 + r.val, by omega⟩ q).symm

theorem final15 (c : Dev nD) : (dats m 0 c).arrAt 15 cfg0.N = G15 m c :=
  (dats m 0 c).arrAt_eq_of_cover 15 (G15 m c) (fun t _ => flushed15 m c t) fun i => by
    have h0 : (i 0 : Nat) < 16384 := (i 0).isLt
    have h1 : (i 1 : Nat) < 512 := (i 1).isLt
    have hN : cfg0.N = 64 := N_0
    have ht : (i 0 : Nat) / 256 < cfg0.N := by omega
    refine ⟨⟨(i 0 : Nat) / 256, ht⟩, flush0_15 _, ?_⟩
    obtain ⟨-, -, -, -, -, -, -, ⟨g0, g1⟩, -, -⟩ := index_out ⟨(i 0 : Nat) / 256, ht⟩
    show i ∈ ((View.whole main_v61_7).slice (win0_15.rect ⟨(i 0 : Nat) / 256, ht⟩)).set
    rw [View.set_slice_whole, Rect.mem_set_unit]
    intro a
    match a with
    | ⟨0, _⟩ =>
      show win0_15.index _ 0 * 256 ≤ (i 0 : Nat) ∧ (i 0 : Nat) < win0_15.index _ 0 * 256 + 256
      rw [g0]; dsimp only; omega
    | ⟨1, _⟩ =>
      show win0_15.index _ 1 * 512 ≤ (i 1 : Nat) ∧ (i 1 : Nat) < win0_15.index _ 1 * 512 + 512
      rw [g1]; omega

/-- The array that result 8 is to hold; what a point writes back is its block of it; and the blocks cover it. -/
abbrev G16 (c : Dev nD) : Buf (Elt Ideal) ((c : Thread nD τ).loc main_v61_8) :=
  Cert.RopRefIdeal.Read.val_main_v168 (F := Ideal) (idx m c)

theorem flushed16 (c : Dev nD) (t : Fin cfg0.N) :
    (dats m 0 c).flushed 16 t = ((cfg0.win 16).blk t).view.read (Elt Ideal) (G16 m c) := by
  have hN : t.val < 64 := lt_of_lt_of_eq t.isLt N_0
  rw [Value.flushed16]
  show out0_16 (iblk m c 0 t) (iblk m c 1 t) (iblk m c 2 t) (iblk m c 3 t) (iblk m c 4 t) (iblk m c 5 t) (iblk m c 6 t) (iblk m c 7 t) = _
  obtain ⟨-, -, -, -, -, -, -, -, ⟨h0, h1⟩, -⟩ := index_out t
  funext y
  obtain ⟨r, q, rfl⟩ : ∃ (r : Fin 256) (q : Fin 512), y = ix2 r q := ⟨y 0, y 1, by funext a; fin_cases a <;> rfl⟩
  have hr := r.isLt
  have hq := q.isLt
  rw [View.read_apply]
  have hemb : ((cfg0.win 16).blk t).view.emb (ix2 r q) = (ix2 ⟨t.val * 256 + r.val, by omega⟩ q : S16384x512.Idx) := by
    funext a
    apply Fin.ext
    match a with
    | ⟨0, _⟩ => show win0_16.index t 0 * 256 + 1 * r.val = t.val * 256 + r.val; rw [h0]; omega
    | ⟨1, _⟩ => show win0_16.index t 1 * 512 + 1 * q.val = q.val; rw [h1]; omega
  refine Eq.trans ?_ (congrArg (G16 m c) hemb.symm)
  refine (block16 _ _ _ _ _ _ _ _ (ix2 r q)).trans ((idx_eq m c t r.val r.isLt (0 + q.val)).trans ?_)
  exact (Cert.RopRefIdeal.Columns.iq_apply (idx m c) ⟨t.val * 256 + r.val, by omega⟩ q).symm

theorem final16 (c : Dev nD) : (dats m 0 c).arrAt 16 cfg0.N = G16 m c :=
  (dats m 0 c).arrAt_eq_of_cover 16 (G16 m c) (fun t _ => flushed16 m c t) fun i => by
    have h0 : (i 0 : Nat) < 16384 := (i 0).isLt
    have h1 : (i 1 : Nat) < 512 := (i 1).isLt
    have hN : cfg0.N = 64 := N_0
    have ht : (i 0 : Nat) / 256 < cfg0.N := by omega
    refine ⟨⟨(i 0 : Nat) / 256, ht⟩, flush0_16 _, ?_⟩
    obtain ⟨-, -, -, -, -, -, -, -, ⟨g0, g1⟩, -⟩ := index_out ⟨(i 0 : Nat) / 256, ht⟩
    show i ∈ ((View.whole main_v61_8).slice (win0_16.rect ⟨(i 0 : Nat) / 256, ht⟩)).set
    rw [View.set_slice_whole, Rect.mem_set_unit]
    intro a
    match a with
    | ⟨0, _⟩ =>
      show win0_16.index _ 0 * 256 ≤ (i 0 : Nat) ∧ (i 0 : Nat) < win0_16.index _ 0 * 256 + 256
      rw [g0]; dsimp only; omega
    | ⟨1, _⟩ =>
      show win0_16.index _ 1 * 512 ≤ (i 1 : Nat) ∧ (i 1 : Nat) < win0_16.index _ 1 * 512 + 512
      rw [g1]; omega

/-- The array that result 9 is to hold; what a point writes back is its block of it; and the blocks cover it. -/
abbrev G17 (c : Dev nD) : Buf (Elt Ideal) ((c : Thread nD τ).loc main_v61_9) :=
  Cert.RopRefIdeal.Read.val_main_v169 (F := Ideal) (idx m c)

theorem flushed17 (c : Dev nD) (t : Fin cfg0.N) :
    (dats m 0 c).flushed 17 t = ((cfg0.win 17).blk t).view.read (Elt Ideal) (G17 m c) := by
  have hN : t.val < 64 := lt_of_lt_of_eq t.isLt N_0
  rw [Value.flushed17]
  show out0_17 (iblk m c 0 t) (iblk m c 1 t) (iblk m c 2 t) (iblk m c 3 t) (iblk m c 4 t) (iblk m c 5 t) (iblk m c 6 t) (iblk m c 7 t) = _
  obtain ⟨-, -, -, -, -, -, -, -, -, ⟨h0, h1⟩⟩ := index_out t
  funext y
  obtain ⟨r, q, rfl⟩ : ∃ (r : Fin 256) (q : Fin 64), y = ix2 r q := ⟨y 0, y 1, by funext a; fin_cases a <;> rfl⟩
  have hr := r.isLt
  have hq := q.isLt
  rw [View.read_apply]
  have hemb : ((cfg0.win 17).blk t).view.emb (ix2 r q) = (ix2 ⟨t.val * 256 + r.val, by omega⟩ q : S16384x64.Idx) := by
    funext a
    apply Fin.ext
    match a with
    | ⟨0, _⟩ => show win0_17.index t 0 * 256 + 1 * r.val = t.val * 256 + r.val; rw [h0]; omega
    | ⟨1, _⟩ => show win0_17.index t 1 * 64 + 1 * q.val = q.val; rw [h1]; omega
  refine Eq.trans ?_ (congrArg (G17 m c) hemb.symm)
  refine (block17 _ _ _ _ _ _ _ _ (ix2 r q)).trans ((idx_eq m c t r.val r.isLt (512 + q.val)).trans ?_)
  exact (Cert.RopRefIdeal.Columns.ik_apply (idx m c) ⟨t.val * 256 + r.val, by omega⟩ q).symm

theorem final17 (c : Dev nD) : (dats m 0 c).arrAt 17 cfg0.N = G17 m c :=
  (dats m 0 c).arrAt_eq_of_cover 17 (G17 m c) (fun t _ => flushed17 m c t) fun i => by
    have h0 : (i 0 : Nat) < 16384 := (i 0).isLt
    have h1 : (i 1 : Nat) < 64 := (i 1).isLt
    have hN : cfg0.N = 64 := N_0
    have ht : (i 0 : Nat) / 256 < cfg0.N := by omega
    refine ⟨⟨(i 0 : Nat) / 256, ht⟩, flush0_17 _, ?_⟩
    obtain ⟨-, -, -, -, -, -, -, -, -, ⟨g0, g1⟩⟩ := index_out ⟨(i 0 : Nat) / 256, ht⟩
    show i ∈ ((View.whole main_v61_9).slice (win0_17.rect ⟨(i 0 : Nat) / 256, ht⟩)).set
    rw [View.set_slice_whole, Rect.mem_set_unit]
    intro a
    match a with
    | ⟨0, _⟩ =>
      show win0_17.index _ 0 * 256 ≤ (i 0 : Nat) ∧ (i 0 : Nat) < win0_17.index _ 0 * 256 + 256
      rw [g0]; dsimp only; omega
    | ⟨1, _⟩ =>
      show win0_17.index _ 1 * 64 ≤ (i 1 : Nat) ∧ (i 1 : Nat) < win0_17.index _ 1 * 64 + 64
      rw [g1]; omega

end Cert.RopIdeal.Product

end
-- ==== Proof.RosK.lean ====
/-
  What the rotary call leaves in each of its result blocks of 32 rows, read at a row's and a column's number. The pieces a result is
  stored in are the heads of 128 columns.
-/
module

public import proofs.«01_k».proof.Proof.Gen.RosIdeal.Value
public import proofs.«01_k».proof.Proof.Rot

@[expose] public section

set_option maxRecDepth 16384

noncomputable section

namespace Cert.RosIdeal.Product

open Cert.RosIdeal Cert.RosIdeal.Gen Idealize.ShloMosaic Idealize.ShloMosaic.TcCoe Idealize.SL.Sem
open Idealize.ShloMosaic.ValueIdx Idealize.ShloMosaic.Tactic Cert.Rot

variable (x0 : Vec Ideal S32x3072 .f32) (x1 : Vec Ideal S32x768 .f32)
  (x2 x3 x4 x5 x6 x7 : Vec Ideal S32x128 .f32)

theorem hz : (![0, 0] : Fin 2 → Nat) = fun _ => 0 := funext fun a => by fin_cases a <;> rfl

/-- The tables a point reads are its blocks of them, whole. -/
theorem tab2 : k0_pay49 (F := Ideal) x0 x1 x2 x3 x4 x5 x6 x7 = x2 := by
  show shapeCast S32x128 (View.ld x2 r0_0) shapeCasts_S32x128_S32x128 = x2
  rw [View.ld_unit_zero (S := S32x128) hz]
  exact shapeCast_self _ _
theorem tab3 : k0_pay50 (F := Ideal) x0 x1 x2 x3 x4 x5 x6 x7 = x3 := by
  show shapeCast S32x128 (View.ld x3 r0_0) shapeCasts_S32x128_S32x128 = x3
  rw [View.ld_unit_zero (S := S32x128) hz]
  exact shapeCast_self _ _
theorem tab4 : k0_pay51 (F := Ideal) x0 x1 x2 x3 x4 x5 x6 x7 = x4 := by
  show shapeCast S32x128 (View.ld x4 r0_0) shapeCasts_S32x128_S32x128 = x4
  rw [View.ld_unit_zero (S := S32x128) hz]
  exact shapeCast_self _ _
theorem tab5 : k0_pay52 (F := Ideal) x0 x1 x2 x3 x4 x5 x6 x7 = x5 := by
  show shapeCast S32x128 (View.ld x5 r0_0) shapeCasts_S32x128_S32x128 = x5
  rw [View.ld_unit_zero (S := S32x128) hz]
  exact shapeCast_self _ _
theorem tab6 : k0_pay53 (F := Ideal) x0 x1 x2 x3 x4 x5 x6 x7 = x6 := by
  show shapeCast S32x128 (View.ld x6 r0_0) shapeCasts_S32x128_S32x128 = x6
  rw [View.ld_unit_zero (S := S32x128) hz]
  exact shapeCast_self _ _
theorem tab7 : k0_pay54 (F := Ideal) x0 x1 x2 x3 x4 x5 x6 x7 = x7 := by
  show shapeCast S32x128 (View.ld x7 r0_0) shapeCasts_S32x128_S32x128 = x7
  rw [View.ld_unit_zero (S := S32x128) hz]
  exact shapeCast_self _ _

/-- Row `r`, column `j` of the attention columns and of the indexer's, after the kernel's products. -/
def attE (r j : Nat) : EReal := turned 16 (at2 x0 r) (at2 x2 r) (at2 x3 r) (at2 x4 r) j
def idxE (r j : Nat) : EReal := turned 8 (at2 x1 r) (at2 x5 r) (at2 x6 r) (at2 x7 r) j

/-- A head `b` of the attention columns after the products. -/
theorem att_head (b : Nat) (q : FVec Ideal S32x128 .f32) (hq : ∀ k : S32x128.Idx, q k = at2 x0 (k 0).val (b * 128 + (k 1).val))
    (k : S32x128.Idx) :
    addf (addf (mulf q (k0_pay49 (F := Ideal) x0 x1 x2 x3 x4 x5 x6 x7))
        (mulf (dynamicRotate 1 112#32 none q rotates_S32x128_d1) (k0_pay50 (F := Ideal) x0 x1 x2 x3 x4 x5 x6 x7)))
      (mulf (dynamicRotate 1 16#32 none q rotates_S32x128_d1) (k0_pay51 (F := Ideal) x0 x1 x2 x3 x4 x5 x6 x7)) k
      = attE x0 x2 x3 x4 (k 0).val (b * 128 + (k 1).val) := by
  rw [tab2, tab3, tab4]
  exact block_apply 16 (by decide) 112#32 16#32 rfl rfl (by decide) q x2 x3 x4 _ _ k (at2 x0 (k 0).val) b fun l => hq (ix2 (k 0) l)

/-- The same for 128 of the indexer's columns. -/
theorem idx_head (b : Nat) (q : FVec Ideal S32x128 .f32) (hq : ∀ k : S32x128.Idx, q k = at2 x1 (k 0).val (b * 128 + (k 1).val))
    (k : S32x128.Idx) :
    addf (addf (mulf q (k0_pay52 (F := Ideal) x0 x1 x2 x3 x4 x5 x6 x7))
        (mulf (dynamicRotate 1 120#32 none q rotates_S32x128_d1) (k0_pay53 (F := Ideal) x0 x1 x2 x3 x4 x5 x6 x7)))
      (mulf (dynamicRotate 1 8#32 none q rotates_S32x128_d1) (k0_pay54 (F := Ideal) x0 x1 x2 x3 x4 x5 x6 x7)) k
      = idxE x1 x5 x6 x7 (k 0).val (b * 128 + (k 1).val) := by
  rw [tab5, tab6, tab7]
  exact block_apply 8 (by decide) 120#32 8#32 rfl rfl (by decide) q x5 x6 x7 _ _ k (at2 x1 (k 0).val) b fun l => hq (ix2 (k 0) l)

/-- A load of 128 columns, read at a column's number. -/
theorem ld_att (off : Fin 2 → Nat) (inb : ∀ a, off a + S32x128.size a ≤ S32x3072.size a) (h0 : off 0 = 0) (k : S32x128.Idx) :
    View.ld x0 (Rect.unit (s := S32x3072) off S32x128.size inb) k = at2 x0 (k 0).val (off 1 + (k 1).val) := by
  refine (at2_eq x0 _).trans (congrArg₂ (at2 x0) ?_ ?_)
  · show off 0 + 1 * (k 0).val = _; omega
  · show off 1 + 1 * (k 1).val = _; omega
theorem ld_idx (off : Fin 2 → Nat) (inb : ∀ a, off a + S32x128.size a ≤ S32x768.size a) (h0 : off 0 = 0) (k : S32x128.Idx) :
    View.ld x1 (Rect.unit (s := S32x768) off S32x128.size inb) k = at2 x1 (k 0).val (off 1 + (k 1).val) := by
  refine (at2_eq x1 _).trans (congrArg₂ (at2 x1) ?_ ?_)
  · show off 0 + 1 * (k 0).val = _; omega
  · show off 1 + 1 * (k 1).val = _; omega

/-- The queries: their 16 heads. -/
theorem block8 (y : S32x2048.Idx) : out0_8 (F := Ideal) x0 x1 x2 x3 x4 x5 x6 x7 y = attE x0 x2 x3 x4 (y 0).val (0 + (y 1).val) := by
  unfold out0_8
  refine View.canon_apply_of_pieces (Val := Elt Ideal) (S := S32x2048) (e := .bf16) (fun y => (attE x0 x2 x3 x4 (y 0).val (0 + (y 1).val) : EReal)) _ ?_ y (cover0_8 _ _ _ _ _ _ _ _ _ _ _ _ _ _ _ _ y)
  intro pc hpc
  rcases List.mem_cons.mp hpc with rfl | hpc
  · intro x
    refine (att_head x0 x1 x2 x3 x4 x5 x6 x7 15 _ (ld_att x0 ![0, 1920] _ rfl) x).trans (congrArg₂ (attE x0 x2 x3 x4) ?_ ?_)
    · show (x 0).val = 0 + 1 * (x 0).val; omega
    · show 1920 + (x 1).val = 0 + (1920 + 1 * (x 1).val); omega
  rcases List.mem_cons.mp hpc with rfl | hpc
  · intro x
    refine (att_head x0 x1 x2 x3 x4 x5 x6 x7 14 _ (ld_att x0 ![0, 1792] _ rfl) x).trans (congrArg₂ (attE x0 x2 x3 x4) ?_ ?_)
    · show (x 0).val = 0 + 1 * (x 0).val; omega
    · show 1792 + (x 1).val = 0 + (1792 + 1 * (x 1).val); omega
  rcases List.mem_cons.mp hpc with rfl | hpc
  · intro x
    refine (att_head x0 x1 x2 x3 x4 x5 x6 x7 13 _ (ld_att x0 ![0, 1664] _ rfl) x).trans (congrArg₂ (attE x0 x2 x3 x4) ?_ ?_)
    · show (x 0).val = 0 + 1 * (x 0).val; omega
    · show 1664 + (x 1).val = 0 + (1664 + 1 * (x 1).val); omega
  rcases List.mem_cons.mp hpc with rfl | hpc
  · intro x
    refine (att_head x0 x1 x2 x3 x4 x5 x6 x7 12 _ (ld_att x0 ![0, 1536] _ rfl) x).trans (congrArg₂ (attE x0 x2 x3 x4) ?_ ?_)
    · show (x 0).val = 0 + 1 * (x 0).val; omega
    · show 1536 + (x 1).val = 0 + (1536 + 1 * (x 1).val); omega
  rcases List.mem_cons.mp hpc with rfl | hpc
  · intro x
    refine (att_head x0 x1 x2 x3 x4 x5 x6 x7 11 _ (ld_att x0 ![0, 1408] _ rfl) x).trans (congrArg₂ (attE x0 x2 x3 x4) ?_ ?_)
    · show (x 0).val = 0 + 1 * (x 0).val; omega
    · show 1408 + (x 1).val = 0 + (1408 + 1 * (x 1).val); omega
  rcases List.mem_cons.mp hpc with rfl | hpc
  · intro x
    refine (att_head x0 x1 x2 x3 x4 x5 x6 x7 10 _ (ld_att x0 ![0, 1280] _ rfl) x).trans (congrArg₂ (attE x0 x2 x3 x4) ?_ ?_)
    · show (x 0).val = 0 + 1 * (x 0).val; omega
    · show 1280 + (x 1).val = 0 + (1280 + 1 * (x 1).val); omega
  rcases List.mem_cons.mp hpc with rfl | hpc
  · intro x
    refine (att_head x0 x1 x2 x3 x4 x5 x6 x7 9 _ (ld_att x0 ![0, 1152] _ rfl) x).trans (congrArg₂ (attE x0 x2 x3 x4) ?_ ?_)
    · show (x 0).val = 0 + 1 * (x 0).val; omega
    · show 1152 + (x 1).val = 0 + (1152 + 1 * (x 1).val); omega
  rcases List.mem_cons.mp hpc with rfl | hpc
  · intro x
    refine (att_head x0 x1 x2 x3 x4 x5 x6 x7 8 _ (ld_att x0 ![0, 1024] _ rfl) x).trans (congrArg₂ (attE x0 x2 x3 x4) ?_ ?_)
    · show (x 0).val = 0 + 1 * (x 0).val; omega
    · show 1024 + (x 1).val = 0 + (1024 + 1 * (x 1).val); omega
  rcases List.mem_cons.mp hpc with rfl | hpc
  · intro x
    refine (att_head x0 x1 x2 x3 x4 x5 x6 x7 7 _ (ld_att x0 ![0, 896] _ rfl) x).trans (congrArg₂ (attE x0 x2 x3 x4) ?_ ?_)
    · show (x 0).val = 0 + 1 * (x 0).val; omega
    · show 896 + (x 1).val = 0 + (896 + 1 * (x 1).val); omega
  rcases List.mem_cons.mp hpc with rfl | hpc
  · intro x
    refine (att_head x0 x1 x2 x3 x4 x5 x6 x7 6 _ (ld_att x0 ![0, 768] _ rfl) x).trans (congrArg₂ (attE x0 x2 x3 x4) ?_ ?_)
    · show (x 0).val = 0 + 1 * (x 0).val; omega
    · show 768 + (x 1).val = 0 + (768 + 1 * (x 1).val); omega
  rcases List.mem_cons.mp hpc with rfl | hpc
  · intro x
    refine (att_head x0 x1 x2 x3 x4 x5 x6 x7 5 _ (ld_att x0 ![0, 640] _ rfl) x).trans (congrArg₂ (attE x0 x2 x3 x4) ?_ ?_)
    · show (x 0).val = 0 + 1 * (x 0).val; omega
    · show 640 + (x 1).val = 0 + (640 + 1 * (x 1).val); omega
  rcases List.mem_cons.mp hpc with rfl | hpc
  · intro x
    refine (att_head x0 x1 x2 x3 x4 x5 x6 x7 4 _ (ld_att x0 ![0, 512] _ rfl) x).trans (congrArg₂ (attE x0 x2 x3 x4) ?_ ?_)
    · show (x 0).val = 0 + 1 * (x 0).val; omega
    · show 512 + (x 1).val = 0 + (512 + 1 * (x 1).val); omega
  rcases List.mem_cons.mp hpc with rfl | hpc
  · intro x
    refine (att_head x0 x1 x2 x3 x4 x5 x6 x7 3 _ (ld_att x0 ![0, 384] _ rfl) x).trans (congrArg₂ (attE x0 x2 x3 x4) ?_ ?_)
    · show (x 0).val = 0 + 1 * (x 0).val; omega
    · show 384 + (x 1).val = 0 + (384 + 1 * (x 1).val); omega
  rcases List.mem_cons.mp hpc with rfl | hpc
  · intro x
    refine (att_head x0 x1 x2 x3 x4 x5 x6 x7 2 _ (ld_att x0 ![0, 256] _ rfl) x).trans (congrArg₂ (attE x0 x2 x3 x4) ?_ ?_)
    · show (x 0).val = 0 + 1 * (x 0).val; omega
    · show 256 + (x 1).val = 0 + (256 + 1 * (x 1).val); omega
  rcases List.mem_cons.mp hpc with rfl | hpc
  · intro x
    refine (att_head x0 x1 x2 x3 x4 x5 x6 x7 1 _ (ld_att x0 ![0, 128] _ rfl) x).trans (congrArg₂ (attE x0 x2 x3 x4) ?_ ?_)
    · show (x 0).val = 0 + 1 * (x 0).val; omega
    · show 128 + (x 1).val = 0 + (128 + 1 * (x 1).val); omega
  rcases List.mem_cons.mp hpc with rfl | hpc
  · intro x
    refine (att_head x0 x1 x2 x3 x4 x5 x6 x7 0 _ (ld_att x0 ![0, 0] _ rfl) x).trans (congrArg₂ (attE x0 x2 x3 x4) ?_ ?_)
    · show (x 0).val = 0 + 1 * (x 0).val; omega
    · show 0 + (x 1).val = 0 + (0 + 1 * (x 1).val); omega
  nomatch hpc

/-- The keys: their 4 heads. -/
theorem block9 (y : S32x512.Idx) : out0_9 (F := Ideal) x0 x1 x2 x3 x4 x5 x6 x7 y = attE x0 x2 x3 x4 (y 0).val (2048 + (y 1).val) := by
  unfold out0_9
  refine View.canon_apply_of_pieces (Val := Elt Ideal) (S := S32x512) (e := .f32) (fun y => (attE x0 x2 x3 x4 (y 0).val (2048 + (y 1).val) : EReal)) _ ?_ y (cover0_9 _ _ _ _ y)
  intro pc hpc
  rcases List.mem_cons.mp hpc with rfl | hpc
  · intro x
    refine (att_head x0 x1 x2 x3 x4 x5 x6 x7 19 _ (ld_att x0 ![0, 2432] _ rfl) x).trans (congrArg₂ (attE x0 x2 x3 x4) ?_ ?_)
    · show (x 0).val = 0 + 1 * (x 0).val; omega
    · show 2432 + (x 1).val = 2048 + (384 + 1 * (x 1).val); omega
  rcases List.mem_cons.mp hpc with rfl | hpc
  · intro x
    refine (att_head x0 x1 x2 x3 x4 x5 x6 x7 18 _ (ld_att x0 ![0, 2304] _ rfl) x).trans (congrArg₂ (attE x0 x2 x3 x4) ?_ ?_)
    · show (x 0).val = 0 + 1 * (x 0).val; omega
    · show 2304 + (x 1).val = 2048 + (256 + 1 * (x 1).val); omega
  rcases List.mem_cons.mp hpc with rfl | hpc
  · intro x
    refine (att_head x0 x1 x2 x3 x4 x5 x6 x7 17 _ (ld_att x0 ![0, 2176] _ rfl) x).trans (congrArg₂ (attE x0 x2 x3 x4) ?_ ?_)
    · show (x 0).val = 0 + 1 * (x 0).val; omega
    · show 2176 + (x 1).val = 2048 + (128 + 1 * (x 1).val); omega
  rcases List.mem_cons.mp hpc with rfl | hpc
  · intro x
    refine (att_head x0 x1 x2 x3 x4 x5 x6 x7 16 _ (ld_att x0 ![0, 2048] _ rfl) x).trans (congrArg₂ (attE x0 x2 x3 x4) ?_ ?_)
    · show (x 0).val = 0 + 1 * (x 0).val; omega
    · show 2048 + (x 1).val = 2048 + (0 + 1 * (x 1).val); omega
  nomatch hpc

/-- The indexer's queries. -/
theorem block11 (y : S32x512.Idx) : out0_11 (F := Ideal) x0 x1 x2 x3 x4 x5 x6 x7 y = idxE x1 x5 x6 x7 (y 0).val (0 + (y 1).val) := by
  unfold out0_11
  refine View.canon_apply_of_pieces (Val := Elt Ideal) (S := S32x512) (e := .f32) (fun y => (idxE x1 x5 x6 x7 (y 0).val (0 + (y 1).val) : EReal)) _ ?_ y (cover0_11 _ _ _ _ y)
  intro pc hpc
  rcases List.mem_cons.mp hpc with rfl | hpc
  · intro x
    refine (idx_head x0 x1 x2 x3 x4 x5 x6 x7 3 _ (ld_idx x1 ![0, 384] _ rfl) x).trans (congrArg₂ (idxE x1 x5 x6 x7) ?_ ?_)
    · show (x 0).val = 0 + 1 * (x 0).val; omega
    · show 384 + (x 1).val = 0 + (384 + 1 * (x 1).val); omega
  rcases List.mem_cons.mp hpc with rfl | hpc
  · intro x
    refine (idx_head x0 x1 x2 x3 x4 x5 x6 x7 2 _ (ld_idx x1 ![0, 256] _ rfl) x).trans (congrArg₂ (idxE x1 x5 x6 x7) ?_ ?_)
    · show (x 0).val = 0 + 1 * (x 0).val; omega
    · show 256 + (x 1).val = 0 + (256 + 1 * (x 1).val); omega
  rcases List.mem_cons.mp hpc with rfl | hpc
  · intro x
    refine (idx_head x0 x1 x2 x3 x4 x5 x6 x7 1 _ (ld_idx x1 ![0, 128] _ rfl) x).trans (congrArg₂ (idxE x1 x5 x6 x7) ?_ ?_)
    · show (x 0).val = 0 + 1 * (x 0).val; omega
    · show 128 + (x 1).val = 0 + (128 + 1 * (x 1).val); omega
  rcases List.mem_cons.mp hpc with rfl | hpc
  · intro x
    refine (idx_head x0 x1 x2 x3 x4 x5 x6 x7 0 _ (ld_idx x1 ![0, 0] _ rfl) x).trans (congrArg₂ (idxE x1 x5 x6 x7) ?_ ?_)
    · show (x 0).val = 0 + 1 * (x 0).val; omega
    · show 0 + (x 1).val = 0 + (0 + 1 * (x 1).val); omega
  nomatch hpc

/-- The values, as they are. -/
theorem block10 (y : S32x512.Idx) : out0_10 (F := Ideal) x0 x1 x2 x3 x4 x5 x6 x7 y = at2 x0 (y 0).val (2560 + (y 1).val) := by
  unfold out0_10
  refine View.canon_apply_of_pieces (Val := Elt Ideal) (S := S32x512) (e := .f32) (fun y => (at2 x0 (y 0).val (2560 + (y 1).val) : EReal)) _ ?_ y (cover0_10 _ y)
  intro pc hpc
  rcases List.mem_cons.mp hpc with rfl | hpc
  · intro x
    refine (at2_eq x0 _).trans (congrArg₂ (at2 x0) ?_ ?_)
    · show 0 + 1 * (x 0).val = 0 + 1 * (x 0).val; rfl
    · show 2560 + 1 * (x 1).val = 2560 + (0 + 1 * (x 1).val); omega
  nomatch hpc

/-- The first 64 of 128 columns. -/
theorem first64 (v : FVec Ideal S32x128 .f32) (x : S32x64.Idx) :
    extractStridedSlice S32x64 ![0, 0] v slices_S32x128_o0_0_S32x64 x
      = v (ix2 (x 0) ⟨(x 1).val, lt_trans (x 1).isLt (by decide : 64 < 128)⟩ : S32x128.Idx) := by
  refine extractStridedSlice_apply _ _ _ x _ fun a => ?_
  match a with
  | ⟨0, _⟩ => show (x 0).val = 0 + (x 0).val; omega
  | ⟨1, _⟩ => show (x 1).val = 0 + (x 1).val; omega

/-- The indexer's key: the first 64 of 128 columns. -/
theorem block12 (y : S32x64.Idx) : out0_12 (F := Ideal) x0 x1 x2 x3 x4 x5 x6 x7 y = idxE x1 x5 x6 x7 (y 0).val (512 + (y 1).val) := by
  unfold out0_12
  refine View.canon_apply_of_pieces (Val := Elt Ideal) (S := S32x64) (e := .f32) (fun y => (idxE x1 x5 x6 x7 (y 0).val (512 + (y 1).val) : EReal)) _ ?_ y (cover0_12 _ y)
  intro pc hpc
  rcases List.mem_cons.mp hpc with rfl | hpc
  · intro x
    exact (first64 _ x).trans ((idx_head x0 x1 x2 x3 x4 x5 x6 x7 4 _ (ld_idx x1 ![0, 512] _ rfl) _).trans
      (congrArg₂ (idxE x1 x5 x6 x7) (by show (x 0).val = 0 + 1 * (x 0).val; omega)
        (by show 512 + (x 1).val = 512 + (0 + 1 * (x 1).val); omega)))
  nomatch hpc

/-- The indexer's weights, scaled. -/
theorem block13 (y : S32x128.Idx) : out0_13 (F := Ideal) x0 x1 x2 x3 x4 x5 x6 x7 y = at2 x1 (y 0).val (640 + (y 1).val) * Ideal.ofBits .f32 0x3EB504F3#32 := by
  unfold out0_13
  refine View.canon_apply_of_pieces (Val := Elt Ideal) (S := S32x128) (e := .f32) (fun y => (at2 x1 (y 0).val (640 + (y 1).val) * Ideal.ofBits .f32 0x3EB504F3#32 : EReal)) _ ?_ y (cover0_13 _ y)
  intro pc hpc
  rcases List.mem_cons.mp hpc with rfl | hpc
  · intro x
    refine congrArg₂ (· * ·) ((at2_eq x1 _).trans (congrArg₂ (at2 x1) ?_ ?_)) rfl
    · show 0 + 1 * (x 0).val = 0 + 1 * (x 0).val; rfl
    · show 640 + 1 * (x 1).val = 640 + (0 + 1 * (x 1).val); omega
  nomatch hpc

end Cert.RosIdeal.Product

end
-- ==== Proof.RosR.lean ====
/-
  The reference's rotated columns, read at a row's and a column's number: heads of 128 columns for the queries and keys, of 64 for the
  indexer's. The first quarter of a head is rotated in pairs, the rest is kept.
-/
module

public import proofs.«01_k».proof.Proof.Gen.RosRefIdeal.Read
public import proofs.«01_k».proof.Proof.Rot

@[expose] public section

set_option maxRecDepth 16384

noncomputable section

namespace Cert.RosRefIdeal.Columns

open Cert.RosRefIdeal Cert.RosRefIdeal.Read Idealize.ShloMosaic Idealize.ShloMosaic.StableHlo Idealize.SL.Sem
open Idealize.ShloMosaic.ValueIdx Cert.Rot

/-- The heads of `q` before the rotation. -/
theorem q_in (x0 : Vec Ideal S32x3072 .f32) (b : Fin 32) (p : Fin 1) (h : Fin 16) (e : Fin 128) :
    val_main_v11 (F := Ideal) x0 (ix4 b p h e) = at2 x0 (b.val * 1 + p.val) (0 + (h.val * 128 + e.val)) := by
  have hb := b.isLt
  have hp := p.isLt
  have hh := h.isLt
  have he := e.isLt
  rw [val_main_v11_apply, val_main_v5_apply, val_main_v0_apply]
  refine (at2_eq x0 _).trans (congrArg₂ (at2 x0) ?_ ?_)
  · show (((b.val * 1 + p.val) * 16 + h.val) * 128 + e.val) / 2048 = (b.val * 1 + p.val); omega
  · show (((b.val * 1 + p.val) * 16 + h.val) * 128 + e.val) % 2048 = (0 + (h.val * 128 + e.val)); omega

/-- The cosines and sines along the rows and the rotated columns of `q`. -/
theorem q_cos (b : Fin 32) (p : Fin 1) (h : Fin 16) (k : Fin 16) :
    val_main_v31 (F := Ideal) (ix4 b p h k) = at2 (val_main_v24 (F := Ideal)) p.val k.val := by
  rw [val_main_v31_apply, val_main_v30_apply, val_main_v25_apply]
  exact (congrArg _ (funext fun a => by apply Fin.ext; match a with | ⟨0, _⟩ => show 0 = p.val; omega | ⟨1, _⟩ => rfl)).trans (at2_ix2 (val_main_v24 (F := Ideal)) p k).symm
theorem q_sin (b : Fin 32) (p : Fin 1) (h : Fin 16) (k : Fin 16) :
    val_main_v34 (F := Ideal) (ix4 b p h k) = at2 (val_main_v26 (F := Ideal)) p.val k.val := by
  rw [val_main_v34_apply, val_main_v33_apply, val_main_v27_apply]
  exact (congrArg _ (funext fun a => by apply Fin.ext; match a with | ⟨0, _⟩ => show 0 = p.val; omega | ⟨1, _⟩ => rfl)).trans (at2_ix2 (val_main_v26 (F := Ideal)) p k).symm
theorem q_cos' (b : Fin 32) (p : Fin 1) (h : Fin 16) (k : Fin 16) :
    val_main_v38 (F := Ideal) (ix4 b p h k) = at2 (val_main_v24 (F := Ideal)) p.val k.val := by
  rw [val_main_v38_apply, val_main_v37_apply, val_main_v25_apply]
  exact (congrArg _ (funext fun a => by apply Fin.ext; match a with | ⟨0, _⟩ => show 0 = p.val; omega | ⟨1, _⟩ => rfl)).trans (at2_ix2 (val_main_v24 (F := Ideal)) p k).symm
theorem q_sin' (b : Fin 32) (p : Fin 1) (h : Fin 16) (k : Fin 16) :
    val_main_v41 (F := Ideal) (ix4 b p h k) = at2 (val_main_v26 (F := Ideal)) p.val k.val := by
  rw [val_main_v41_apply, val_main_v40_apply, val_main_v27_apply]
  exact (congrArg _ (funext fun a => by apply Fin.ext; match a with | ⟨0, _⟩ => show 0 = p.val; omega | ⟨1, _⟩ => rfl)).trans (at2_ix2 (val_main_v26 (F := Ideal)) p k).symm

/-- The halves that are rotated, and the columns that are kept. -/
theorem q_x1 (x0 : Vec Ideal S32x3072 .f32) (b : Fin 32) (p : Fin 1) (h : Fin 16) (k : Fin 16) :
    val_main_v28 (F := Ideal) x0 (ix4 b p h k) = at2 x0 (b.val * 1 + p.val) (0 + (h.val * 128 + (k.val))) := by
  rw [val_main_v28_apply, val_main_v12_apply]
  refine Eq.trans (congrArg _ ?_) (q_in x0 b p h ⟨k.val, by have := k.isLt; omega⟩)
  funext a; fin_cases a <;> rfl
theorem q_x2 (x0 : Vec Ideal S32x3072 .f32) (b : Fin 32) (p : Fin 1) (h : Fin 16) (k : Fin 16) :
    val_main_v29 (F := Ideal) x0 (ix4 b p h k) = at2 x0 (b.val * 1 + p.val) (0 + (h.val * 128 + (16 + k.val))) := by
  rw [val_main_v29_apply, val_main_v12_apply]
  refine Eq.trans (congrArg _ ?_) (q_in x0 b p h ⟨16 + k.val, by have := k.isLt; omega⟩)
  funext a; fin_cases a <;> rfl
theorem q_kept (x0 : Vec Ideal S32x3072 .f32) (b : Fin 32) (p : Fin 1) (h : Fin 16) (k : Fin 96) :
    val_main_v45 (F := Ideal) x0 (ix4 b p h k) = at2 x0 (b.val * 1 + p.val) (0 + (h.val * 128 + (32 + k.val))) := by
  rw [val_main_v45_apply]
  refine Eq.trans (congrArg _ ?_) (q_in x0 b p h ⟨32 + k.val, by have := k.isLt; omega⟩)
  funext a; fin_cases a <;> rfl

/-- A head of `q` after the rotation. -/
theorem q_head (x0 : Vec Ideal S32x3072 .f32) (b : Fin 32) (p : Fin 1) (h : Fin 16) (e : Fin 128) :
    val_main_v46 (F := Ideal) x0 (ix4 b p h e)
      = rotated 128 16 (at2 x0 (b.val * 1 + p.val)) (at2 (val_main_v24 (F := Ideal)) p.val) (at2 (val_main_v26 (F := Ideal)) p.val) (0 + (h.val * 128 + e.val)) := by
  have he := e.isLt
  have hm : (0 + (h.val * 128 + e.val)) % 128 = e.val := by omega
  unfold rotated
  rw [hm]
  by_cases h1 : e.val < 16
  · rw [if_pos h1]
    unfold val_main_v46
    refine (concatenate_apply_piece (t := S32x1x16x128) 3 _ _ (ix4 b p h e) 0 (by show 0 < 2; omega)
      S32x1x16x32 (val_main_v44 (F := Ideal) x0) rfl rfl 0 rfl (ix4 b p h ⟨e.val, by omega⟩)
      (fun a ha => by fin_cases a <;> first | rfl | exact absurd rfl ha) (by show 0 + e.val = e.val; omega)).trans ?_
    unfold val_main_v44
    refine (concatenate_apply_piece (t := S32x1x16x32) 3 _ _ (ix4 b p h ⟨e.val, by omega⟩) 0 (by show 0 < 2; omega)
      S32x1x16x16 (val_main_v36 (F := Ideal) x0) rfl rfl 0 rfl (ix4 b p h ⟨e.val, h1⟩)
      (fun a ha => by fin_cases a <;> first | rfl | exact absurd rfl ha) (by show 0 + e.val = e.val; omega)).trans ?_
    rw [val_main_v36_apply, val_main_v32_apply, val_main_v35_apply, q_x1, q_x2, q_cos, q_sin]
    rw [show (0 + (h.val * 128 + e.val)) + 16 = (0 + (h.val * 128 + (16 + e.val))) by omega]
    rfl
  · rw [if_neg h1]
    by_cases h2 : e.val < 2 * 16
    · rw [if_pos h2]
      unfold val_main_v46
      refine (concatenate_apply_piece (t := S32x1x16x128) 3 _ _ (ix4 b p h e) 0 (by show 0 < 2; omega)
        S32x1x16x32 (val_main_v44 (F := Ideal) x0) rfl rfl 0 rfl (ix4 b p h ⟨e.val, by omega⟩)
        (fun a ha => by fin_cases a <;> first | rfl | exact absurd rfl ha) (by show 0 + e.val = e.val; omega)).trans ?_
      unfold val_main_v44
      refine (concatenate_apply_piece (t := S32x1x16x32) 3 _ _ (ix4 b p h ⟨e.val, by omega⟩) 1 (by show 1 < 2; omega)
        S32x1x16x16 (val_main_v43 (F := Ideal) x0) rfl rfl 16 rfl (ix4 b p h ⟨e.val - 16, by omega⟩)
        (fun a ha => by fin_cases a <;> first | rfl | exact absurd rfl ha) (by show 16 + (e.val - 16) = e.val; omega)).trans ?_
      rw [val_main_v43_apply, val_main_v39_apply, val_main_v42_apply, q_x1, q_x2, q_cos', q_sin']
      rw [show (0 + (h.val * 128 + e.val)) - 16 = (0 + (h.val * 128 + (e.val - 16))) by omega, show (0 + (h.val * 128 + e.val)) = (0 + (h.val * 128 + (16 + (e.val - 16)))) by omega]
      rfl
    · rw [if_neg h2]
      unfold val_main_v46
      refine (concatenate_apply_piece (t := S32x1x16x128) 3 _ _ (ix4 b p h e) 1 (by show 1 < 2; omega)
        S32x1x16x96 (val_main_v45 (F := Ideal) x0) rfl rfl 32 rfl (ix4 b p h ⟨e.val - 32, by omega⟩)
        (fun a ha => by fin_cases a <;> first | rfl | exact absurd rfl ha) (by show 32 + (e.val - 32) = e.val; omega)).trans ?_
      rw [q_kept, show (0 + (h.val * 128 + (32 + (e.val - 32)))) = (0 + (h.val * 128 + e.val)) by omega]

/-- The result `q` at row `R`, column `J`. -/
theorem q_apply (x0 : Vec Ideal S32x3072 .f32) (R : Fin 32) (J : Fin 2048) :
    val_main_v157 (F := Ideal) x0 (ix2 R J)
      = rotated 128 16 (at2 x0 R.val) (at2 (val_main_v24 (F := Ideal)) (R.val % 1)) (at2 (val_main_v26 (F := Ideal)) (R.val % 1)) (0 + J.val) := by
  have hR := R.isLt
  have hJ := J.isLt
  rw [val_main_v157_apply]
  refine (congrArg _ ?_).trans ((q_head x0 ⟨R.val / 1, by omega⟩ ⟨R.val % 1, by omega⟩ ⟨J.val / 128, by omega⟩ ⟨J.val % 128, by omega⟩).trans ?_)
  · funext a
    apply Fin.ext
    match a with
    | ⟨0, _⟩ => show (R.val * 2048 + J.val) / 2048 = R.val / 1; omega
    | ⟨1, _⟩ => show 0 = R.val % 1; omega
    | ⟨2, _⟩ => show (R.val * 2048 + J.val) / 128 % 16 = J.val / 128; omega
    | ⟨3, _⟩ => show (R.val * 2048 + J.val) % 128 = J.val % 128; omega
  · show rotated 128 16 (at2 x0 (R.val / 1 * 1 + R.val % 1)) _ _ (0 + (J.val / 128 * 128 + J.val % 128)) = _
    rw [Nat.div_add_mod', Nat.div_add_mod']

/-- The heads of `k` before the rotation. -/
theorem k_in (x0 : Vec Ideal S32x3072 .f32) (b : Fin 32) (p : Fin 1) (h : Fin 4) (e : Fin 128) :
    val_main_v47 (F := Ideal) x0 (ix4 b p h e) = at2 x0 (b.val * 1 + p.val) (2048 + (h.val * 128 + e.val)) := by
  have hb := b.isLt
  have hp := p.isLt
  have hh := h.isLt
  have he := e.isLt
  rw [val_main_v47_apply, val_main_v6_apply, val_main_v0_apply]
  refine (at2_eq x0 _).trans (congrArg₂ (at2 x0) ?_ ?_)
  · show (((b.val * 1 + p.val) * 4 + h.val) * 128 + e.val) / 512 = (b.val * 1 + p.val); omega
  · show 2048 + (((b.val * 1 + p.val) * 4 + h.val) * 128 + e.val) % 512 = (2048 + (h.val * 128 + e.val)); omega

/-- The cosines and sines along the rows and the rotated columns of `k`. -/
theorem k_cos (b : Fin 32) (p : Fin 1) (h : Fin 4) (k : Fin 16) :
    val_main_v67 (F := Ideal) (ix4 b p h k) = at2 (val_main_v24 (F := Ideal)) p.val k.val := by
  rw [val_main_v67_apply, val_main_v66_apply, val_main_v61_apply]
  exact (congrArg _ (funext fun a => by apply Fin.ext; match a with | ⟨0, _⟩ => show 0 = p.val; omega | ⟨1, _⟩ => rfl)).trans (at2_ix2 (val_main_v24 (F := Ideal)) p k).symm
theorem k_sin (b : Fin 32) (p : Fin 1) (h : Fin 4) (k : Fin 16) :
    val_main_v70 (F := Ideal) (ix4 b p h k) = at2 (val_main_v26 (F := Ideal)) p.val k.val := by
  rw [val_main_v70_apply, val_main_v69_apply, val_main_v63_apply]
  exact (congrArg _ (funext fun a => by apply Fin.ext; match a with | ⟨0, _⟩ => show 0 = p.val; omega | ⟨1, _⟩ => rfl)).trans (at2_ix2 (val_main_v26 (F := Ideal)) p k).symm
theorem k_cos' (b : Fin 32) (p : Fin 1) (h : Fin 4) (k : Fin 16) :
    val_main_v74 (F := Ideal) (ix4 b p h k) = at2 (val_main_v24 (F := Ideal)) p.val k.val := by
  rw [val_main_v74_apply, val_main_v73_apply, val_main_v61_apply]
  exact (congrArg _ (funext fun a => by apply Fin.ext; match a with | ⟨0, _⟩ => show 0 = p.val; omega | ⟨1, _⟩ => rfl)).trans (at2_ix2 (val_main_v24 (F := Ideal)) p k).symm
theorem k_sin' (b : Fin 32) (p : Fin 1) (h : Fin 4) (k : Fin 16) :
    val_main_v77 (F := Ideal) (ix4 b p h k) = at2 (val_main_v26 (F := Ideal)) p.val k.val := by
  rw [val_main_v77_apply, val_main_v76_apply, val_main_v63_apply]
  exact (congrArg _ (funext fun a => by apply Fin.ext; match a with | ⟨0, _⟩ => show 0 = p.val; omega | ⟨1, _⟩ => rfl)).trans (at2_ix2 (val_main_v26 (F := Ideal)) p k).symm

/-- The halves that are rotated, and the columns that are kept. -/
theorem k_x1 (x0 : Vec Ideal S32x3072 .f32) (b : Fin 32) (p : Fin 1) (h : Fin 4) (k : Fin 16) :
    val_main_v64 (F := Ideal) x0 (ix4 b p h k) = at2 x0 (b.val * 1 + p.val) (2048 + (h.val * 128 + (k.val))) := by
  rw [val_main_v64_apply, val_main_v48_apply]
  refine Eq.trans (congrArg _ ?_) (k_in x0 b p h ⟨k.val, by have := k.isLt; omega⟩)
  funext a; fin_cases a <;> rfl
theorem k_x2 (x0 : Vec Ideal S32x3072 .f32) (b : Fin 32) (p : Fin 1) (h : Fin 4) (k : Fin 16) :
    val_main_v65 (F := Ideal) x0 (ix4 b p h k) = at2 x0 (b.val * 1 + p.val) (2048 + (h.val * 128 + (16 + k.val))) := by
  rw [val_main_v65_apply, val_main_v48_apply]
  refine Eq.trans (congrArg _ ?_) (k_in x0 b p h ⟨16 + k.val, by have := k.isLt; omega⟩)
  funext a; fin_cases a <;> rfl
theorem k_kept (x0 : Vec Ideal S32x3072 .f32) (b : Fin 32) (p : Fin 1) (h : Fin 4) (k : Fin 96) :
    val_main_v81 (F := Ideal) x0 (ix4 b p h k) = at2 x0 (b.val * 1 + p.val) (2048 + (h.val * 128 + (32 + k.val))) := by
  rw [val_main_v81_apply]
  refine Eq.trans (congrArg _ ?_) (k_in x0 b p h ⟨32 + k.val, by have := k.isLt; omega⟩)
  funext a; fin_cases a <;> rfl

/-- A head of `k` after the rotation. -/
theorem k_head (x0 : Vec Ideal S32x3072 .f32) (b : Fin 32) (p : Fin 1) (h : Fin 4) (e : Fin 128) :
    val_main_v82 (F := Ideal) x0 (ix4 b p h e)
      = rotated 128 16 (at2 x0 (b.val * 1 + p.val)) (at2 (val_main_v24 (F := Ideal)) p.val) (at2 (val_main_v26 (F := Ideal)) p.val) (2048 + (h.val * 128 + e.val)) := by
  have he := e.isLt
  have hm : (2048 + (h.val * 128 + e.val)) % 128 = e.val := by omega
  unfold rotated
  rw [hm]
  by_cases h1 : e.val < 16
  · rw [if_pos h1]
    unfold val_main_v82
    refine (concatenate_apply_piece (t := S32x1x4x128) 3 _ _ (ix4 b p h e) 0 (by show 0 < 2; omega)
      S32x1x4x32 (val_main_v80 (F := Ideal) x0) rfl rfl 0 rfl (ix4 b p h ⟨e.val, by omega⟩)
      (fun a ha => by fin_cases a <;> first | rfl | exact absurd rfl ha) (by show 0 + e.val = e.val; omega)).trans ?_
    unfold val_main_v80
    refine (concatenate_apply_piece (t := S32x1x4x32) 3 _ _ (ix4 b p h ⟨e.val, by omega⟩) 0 (by show 0 < 2; omega)
      S32x1x4x16 (val_main_v72 (F := Ideal) x0) rfl rfl 0 rfl (ix4 b p h ⟨e.val, h1⟩)
      (fun a ha => by fin_cases a <;> first | rfl | exact absurd rfl ha) (by show 0 + e.val = e.val; omega)).trans ?_
    rw [val_main_v72_apply, val_main_v68_apply, val_main_v71_apply, k_x1, k_x2, k_cos, k_sin]
    rw [show (2048 + (h.val * 128 + e.val)) + 16 = (2048 + (h.val * 128 + (16 + e.val))) by omega]
    rfl
  · rw [if_neg h1]
    by_cases h2 : e.val < 2 * 16
    · rw [if_pos h2]
      unfold val_main_v82
      refine (concatenate_apply_piece (t := S32x1x4x128) 3 _ _ (ix4 b p h e) 0 (by show 0 < 2; omega)
        S32x1x4x32 (val_main_v80 (F := Ideal) x0) rfl rfl 0 rfl (ix4 b p h ⟨e.val, by omega⟩)
        (fun a ha => by fin_cases a <;> first | rfl | exact absurd rfl ha) (by show 0 + e.val = e.val; omega)).trans ?_
      unfold val_main_v80
      refine (concatenate_apply_piece (t := S32x1x4x32) 3 _ _ (ix4 b p h ⟨e.val, by omega⟩) 1 (by show 1 < 2; omega)
        S32x1x4x16 (val_main_v79 (F := Ideal) x0) rfl rfl 16 rfl (ix4 b p h ⟨e.val - 16, by omega⟩)
        (fun a ha => by fin_cases a <;> first | rfl | exact absurd rfl ha) (by show 16 + (e.val - 16) = e.val; omega)).trans ?_
      rw [val_main_v79_apply, val_main_v75_apply, val_main_v78_apply, k_x1, k_x2, k_cos', k_sin']
      rw [show (2048 + (h.val * 128 + e.val)) - 16 = (2048 + (h.val * 128 + (e.val - 16))) by omega, show (2048 + (h.val * 128 + e.val)) = (2048 + (h.val * 128 + (16 + (e.val - 16)))) by omega]
      rfl
    · rw [if_neg h2]
      unfold val_main_v82
      refine (concatenate_apply_piece (t := S32x1x4x128) 3 _ _ (ix4 b p h e) 1 (by show 1 < 2; omega)
        S32x1x4x96 (val_main_v81 (F := Ideal) x0) rfl rfl 32 rfl (ix4 b p h ⟨e.val - 32, by omega⟩)
        (fun a ha => by fin_cases a <;> first | rfl | exact absurd rfl ha) (by show 32 + (e.val - 32) = e.val; omega)).trans ?_
      rw [k_kept, show (2048 + (h.val * 128 + (32 + (e.val - 32)))) = (2048 + (h.val * 128 + e.val)) by omega]

/-- The result `k` at row `R`, column `J`. -/
theorem k_apply (x0 : Vec Ideal S32x3072 .f32) (R : Fin 32) (J : Fin 512) :
    val_main_v158 (F := Ideal) x0 (ix2 R J)
      = rotated 128 16 (at2 x0 R.val) (at2 (val_main_v24 (F := Ideal)) (R.val % 1)) (at2 (val_main_v26 (F := Ideal)) (R.val % 1)) (2048 + J.val) := by
  have hR := R.isLt
  have hJ := J.isLt
  rw [val_main_v158_apply]
  refine (congrArg _ ?_).trans ((k_head x0 ⟨R.val / 1, by omega⟩ ⟨R.val % 1, by omega⟩ ⟨J.val / 128, by omega⟩ ⟨J.val % 128, by omega⟩).trans ?_)
  · funext a
    apply Fin.ext
    match a with
    | ⟨0, _⟩ => show (R.val * 512 + J.val) / 512 = R.val / 1; omega
    | ⟨1, _⟩ => show 0 = R.val % 1; omega
    | ⟨2, _⟩ => show (R.val * 512 + J.val) / 128 % 4 = J.val / 128; omega
    | ⟨3, _⟩ => show (R.val * 512 + J.val) % 128 = J.val % 128; omega
  · show rotated 128 16 (at2 x0 (R.val / 1 * 1 + R.val % 1)) _ _ (2048 + (J.val / 128 * 128 + J.val % 128)) = _
    rw [Nat.div_add_mod', Nat.div_add_mod']

/-- The heads of `iq` before the rotation. -/
theorem iq_in (x1 : Vec Ideal S32x768 .f32) (b : Fin 32) (p : Fin 1) (h : Fin 8) (e : Fin 64) :
    val_main_v83 (F := Ideal) x1 (ix4 b p h e) = at2 x1 (b.val * 1 + p.val) (0 + (h.val * 64 + e.val)) := by
  have hb := b.isLt
  have hp := p.isLt
  have hh := h.isLt
  have he := e.isLt
  rw [val_main_v83_apply, val_main_v8_apply, val_main_v1_apply]
  refine (at2_eq x1 _).trans (congrArg₂ (at2 x1) ?_ ?_)
  · show (((b.val * 1 + p.val) * 8 + h.val) * 64 + e.val) / 512 = (b.val * 1 + p.val); omega
  · show (((b.val * 1 + p.val) * 8 + h.val) * 64 + e.val) % 512 = (0 + (h.val * 64 + e.val)); omega

/-- The cosines and sines along the rows and the rotated columns of `iq`. -/
theorem iq_cos (b : Fin 32) (p : Fin 1) (h : Fin 8) (k : Fin 8) :
    val_main_v103 (F := Ideal) (ix4 b p h k) = at2 (val_main_v96 (F := Ideal)) p.val k.val := by
  rw [val_main_v103_apply, val_main_v102_apply, val_main_v97_apply]
  exact (congrArg _ (funext fun a => by apply Fin.ext; match a with | ⟨0, _⟩ => show 0 = p.val; omega | ⟨1, _⟩ => rfl)).trans (at2_ix2 (val_main_v96 (F := Ideal)) p k).symm
theorem iq_sin (b : Fin 32) (p : Fin 1) (h : Fin 8) (k : Fin 8) :
    val_main_v106 (F := Ideal) (ix4 b p h k) = at2 (val_main_v98 (F := Ideal)) p.val k.val := by
  rw [val_main_v106_apply, val_main_v105_apply, val_main_v99_apply]
  exact (congrArg _ (funext fun a => by apply Fin.ext; match a with | ⟨0, _⟩ => show 0 = p.val; omega | ⟨1, _⟩ => rfl)).trans (at2_ix2 (val_main_v98 (F := Ideal)) p k).symm
theorem iq_cos' (b : Fin 32) (p : Fin 1) (h : Fin 8) (k : Fin 8) :
    val_main_v110 (F := Ideal) (ix4 b p h k) = at2 (val_main_v96 (F := Ideal)) p.val k.val := by
  rw [val_main_v110_apply, val_main_v109_apply, val_main_v97_apply]
  exact (congrArg _ (funext fun a => by apply Fin.ext; match a with | ⟨0, _⟩ => show 0 = p.val; omega | ⟨1, _⟩ => rfl)).trans (at2_ix2 (val_main_v96 (F := Ideal)) p k).symm
theorem iq_sin' (b : Fin 32) (p : Fin 1) (h : Fin 8) (k : Fin 8) :
    val_main_v113 (F := Ideal) (ix4 b p h k) = at2 (val_main_v98 (F := Ideal)) p.val k.val := by
  rw [val_main_v113_apply, val_main_v112_apply, val_main_v99_apply]
  exact (congrArg _ (funext fun a => by apply Fin.ext; match a with | ⟨0, _⟩ => show 0 = p.val; omega | ⟨1, _⟩ => rfl)).trans (at2_ix2 (val_main_v98 (F := Ideal)) p k).symm

/-- The halves that are rotated, and the columns that are kept. -/
theorem iq_x1 (x1 : Vec Ideal S32x768 .f32) (b : Fin 32) (p : Fin 1) (h : Fin 8) (k : Fin 8) :
    val_main_v100 (F := Ideal) x1 (ix4 b p h k) = at2 x1 (b.val * 1 + p.val) (0 + (h.val * 64 + (k.val))) := by
  rw [val_main_v100_apply, val_main_v84_apply]
  refine Eq.trans (congrArg _ ?_) (iq_in x1 b p h ⟨k.val, by have := k.isLt; omega⟩)
  funext a; fin_cases a <;> rfl
theorem iq_x2 (x1 : Vec Ideal S32x768 .f32) (b : Fin 32) (p : Fin 1) (h : Fin 8) (k : Fin 8) :
    val_main_v101 (F := Ideal) x1 (ix4 b p h k) = at2 x1 (b.val * 1 + p.val) (0 + (h.val * 64 + (8 + k.val))) := by
  rw [val_main_v101_apply, val_main_v84_apply]
  refine Eq.trans (congrArg _ ?_) (iq_in x1 b p h ⟨8 + k.val, by have := k.isLt; omega⟩)
  funext a; fin_cases a <;> rfl
theorem iq_kept (x1 : Vec Ideal S32x768 .f32) (b : Fin 32) (p : Fin 1) (h : Fin 8) (k : Fin 48) :
    val_main_v117 (F := Ideal) x1 (ix4 b p h k) = at2 x1 (b.val * 1 + p.val) (0 + (h.val * 64 + (16 + k.val))) := by
  rw [val_main_v117_apply]
  refine Eq.trans (congrArg _ ?_) (iq_in x1 b p h ⟨16 + k.val, by have := k.isLt; omega⟩)
  funext a; fin_cases a <;> rfl

/-- A head of `iq` after the rotation. -/
theorem iq_head (x1 : Vec Ideal S32x768 .f32) (b : Fin 32) (p : Fin 1) (h : Fin 8) (e : Fin 64) :
    val_main_v118 (F := Ideal) x1 (ix4 b p h e)
      = rotated 64 8 (at2 x1 (b.val * 1 + p.val)) (at2 (val_main_v96 (F := Ideal)) p.val) (at2 (val_main_v98 (F := Ideal)) p.val) (0 + (h.val * 64 + e.val)) := by
  have he := e.isLt
  have hm : (0 + (h.val * 64 + e.val)) % 64 = e.val := by omega
  unfold rotated
  rw [hm]
  by_cases h1 : e.val < 8
  · rw [if_pos h1]
    unfold val_main_v118
    refine (concatenate_apply_piece (t := S32x1x8x64) 3 _ _ (ix4 b p h e) 0 (by show 0 < 2; omega)
      S32x1x8x16 (val_main_v116 (F := Ideal) x1) rfl rfl 0 rfl (ix4 b p h ⟨e.val, by omega⟩)
      (fun a ha => by fin_cases a <;> first | rfl | exact absurd rfl ha) (by show 0 + e.val = e.val; omega)).trans ?_
    unfold val_main_v116
    refine (concatenate_apply_piece (t := S32x1x8x16) 3 _ _ (ix4 b p h ⟨e.val, by omega⟩) 0 (by show 0 < 2; omega)
      S32x1x8x8 (val_main_v108 (F := Ideal) x1) rfl rfl 0 rfl (ix4 b p h ⟨e.val, h1⟩)
      (fun a ha => by fin_cases a <;> first | rfl | exact absurd rfl ha) (by show 0 + e.val = e.val; omega)).trans ?_
    rw [val_main_v108_apply, val_main_v104_apply, val_main_v107_apply, iq_x1, iq_x2, iq_cos, iq_sin]
    rw [show (0 + (h.val * 64 + e.val)) + 8 = (0 + (h.val * 64 + (8 + e.val))) by omega]
    rfl
  · rw [if_neg h1]
    by_cases h2 : e.val < 2 * 8
    · rw [if_pos h2]
      unfold val_main_v118
      refine (concatenate_apply_piece (t := S32x1x8x64) 3 _ _ (ix4 b p h e) 0 (by show 0 < 2; omega)
        S32x1x8x16 (val_main_v116 (F := Ideal) x1) rfl rfl 0 rfl (ix4 b p h ⟨e.val, by omega⟩)
        (fun a ha => by fin_cases a <;> first | rfl | exact absurd rfl ha) (by show 0 + e.val = e.val; omega)).trans ?_
      unfold val_main_v116
      refine (concatenate_apply_piece (t := S32x1x8x16) 3 _ _ (ix4 b p h ⟨e.val, by omega⟩) 1 (by show 1 < 2; omega)
        S32x1x8x8 (val_main_v115 (F := Ideal) x1) rfl rfl 8 rfl (ix4 b p h ⟨e.val - 8, by omega⟩)
        (fun a ha => by fin_cases a <;> first | rfl | exact absurd rfl ha) (by show 8 + (e.val - 8) = e.val; omega)).trans ?_
      rw [val_main_v115_apply, val_main_v111_apply, val_main_v114_apply, iq_x1, iq_x2, iq_cos', iq_sin']
      rw [show (0 + (h.val * 64 + e.val)) - 8 = (0 + (h.val * 64 + (e.val - 8))) by omega, show (0 + (h.val * 64 + e.val)) = (0 + (h.val * 64 + (8 + (e.val - 8)))) by omega]
      rfl
    · rw [if_neg h2]
      unfold val_main_v118
      refine (concatenate_apply_piece (t := S32x1x8x64) 3 _ _ (ix4 b p h e) 1 (by show 1 < 2; omega)
        S32x1x8x48 (val_main_v117 (F := Ideal) x1) rfl rfl 16 rfl (ix4 b p h ⟨e.val - 16, by omega⟩)
        (fun a ha => by fin_cases a <;> first | rfl | exact absurd rfl ha) (by show 16 + (e.val - 16) = e.val; omega)).trans ?_
      rw [iq_kept, show (0 + (h.val * 64 + (16 + (e.val - 16)))) = (0 + (h.val * 64 + e.val)) by omega]

/-- The result `iq` at row `R`, column `J`. -/
theorem iq_apply (x1 : Vec Ideal S32x768 .f32) (R : Fin 32) (J : Fin 512) :
    val_main_v160 (F := Ideal) x1 (ix2 R J)
      = rotated 64 8 (at2 x1 R.val) (at2 (val_main_v96 (F := Ideal)) (R.val % 1)) (at2 (val_main_v98 (F := Ideal)) (R.val % 1)) (0 + J.val) := by
  have hR := R.isLt
  have hJ := J.isLt
  rw [val_main_v160_apply]
  refine (congrArg _ ?_).trans ((iq_head x1 ⟨R.val / 1, by omega⟩ ⟨R.val % 1, by omega⟩ ⟨J.val / 64, by omega⟩ ⟨J.val % 64, by omega⟩).trans ?_)
  · funext a
    apply Fin.ext
    match a with
    | ⟨0, _⟩ => show (R.val * 512 + J.val) / 512 = R.val / 1; omega
    | ⟨1, _⟩ => show 0 = R.val % 1; omega
    | ⟨2, _⟩ => show (R.val * 512 + J.val) / 64 % 8 = J.val / 64; omega
    | ⟨3, _⟩ => show (R.val * 512 + J.val) % 64 = J.val % 64; omega
  · show rotated 64 8 (at2 x1 (R.val / 1 * 1 + R.val % 1)) _ _ (0 + (J.val / 64 * 64 + J.val % 64)) = _
    rw [Nat.div_add_mod', Nat.div_add_mod']

/-- The heads of `ik` before the rotation. -/
theorem ik_in (x1 : Vec Ideal S32x768 .f32) (b : Fin 32) (p : Fin 1) (h : Fin 1) (e : Fin 64) :
    val_main_v119 (F := Ideal) x1 (ix4 b p h e) = at2 x1 (b.val * 1 + p.val) (512 + (h.val * 64 + e.val)) := by
  have hb := b.isLt
  have hp := p.isLt
  have hh := h.isLt
  have he := e.isLt
  rw [val_main_v119_apply, val_main_v9_apply, val_main_v1_apply]
  refine (at2_eq x1 _).trans (congrArg₂ (at2 x1) ?_ ?_)
  · show (((b.val * 1 + p.val) * 1 + h.val) * 64 + e.val) / 64 = (b.val * 1 + p.val); omega
  · show 512 + (((b.val * 1 + p.val) * 1 + h.val) * 64 + e.val) % 64 = (512 + (h.val * 64 + e.val)); omega

/-- The cosines and sines along the rows and the rotated columns of `ik`. -/
theorem ik_cos (b : Fin 32) (p : Fin 1) (h : Fin 1) (k : Fin 8) :
    val_main_v139 (F := Ideal) (ix4 b p h k) = at2 (val_main_v96 (F := Ideal)) p.val k.val := by
  rw [val_main_v139_apply, val_main_v138_apply, val_main_v133_apply]
  exact (congrArg _ (funext fun a => by apply Fin.ext; match a with | ⟨0, _⟩ => show 0 = p.val; omega | ⟨1, _⟩ => rfl)).trans (at2_ix2 (val_main_v96 (F := Ideal)) p k).symm
theorem ik_sin (b : Fin 32) (p : Fin 1) (h : Fin 1) (k : Fin 8) :
    val_main_v142 (F := Ideal) (ix4 b p h k) = at2 (val_main_v98 (F := Ideal)) p.val k.val := by
  rw [val_main_v142_apply, val_main_v141_apply, val_main_v135_apply]
  exact (congrArg _ (funext fun a => by apply Fin.ext; match a with | ⟨0, _⟩ => show 0 = p.val; omega | ⟨1, _⟩ => rfl)).trans (at2_ix2 (val_main_v98 (F := Ideal)) p k).symm
theorem ik_cos' (b : Fin 32) (p : Fin 1) (h : Fin 1) (k : Fin 8) :
    val_main_v146 (F := Ideal) (ix4 b p h k) = at2 (val_main_v96 (F := Ideal)) p.val k.val := by
  rw [val_main_v146_apply, val_main_v145_apply, val_main_v133_apply]
  exact (congrArg _ (funext fun a => by apply Fin.ext; match a with | ⟨0, _⟩ => show 0 = p.val; omega | ⟨1, _⟩ => rfl)).trans (at2_ix2 (val_main_v96 (F := Ideal)) p k).symm
theorem ik_sin' (b : Fin 32) (p : Fin 1) (h : Fin 1) (k : Fin 8) :
    val_main_v149 (F := Ideal) (ix4 b p h k) = at2 (val_main_v98 (F := Ideal)) p.val k.val := by
  rw [val_main_v149_apply, val_main_v148_apply, val_main_v135_apply]
  exact (congrArg _ (funext fun a => by apply Fin.ext; match a with | ⟨0, _⟩ => show 0 = p.val; omega | ⟨1, _⟩ => rfl)).trans (at2_ix2 (val_main_v98 (F := Ideal)) p k).symm

/-- The halves that are rotated, and the columns that are kept. -/
theorem ik_x1 (x1 : Vec Ideal S32x768 .f32) (b : Fin 32) (p : Fin 1) (h : Fin 1) (k : Fin 8) :
    val_main_v136 (F := Ideal) x1 (ix4 b p h k) = at2 x1 (b.val * 1 + p.val) (512 + (h.val * 64 + (k.val))) := by
  rw [val_main_v136_apply, val_main_v120_apply]
  refine Eq.trans (congrArg _ ?_) (ik_in x1 b p h ⟨k.val, by have := k.isLt; omega⟩)
  funext a; fin_cases a <;> rfl
theorem ik_x2 (x1 : Vec Ideal S32x768 .f32) (b : Fin 32) (p : Fin 1) (h : Fin 1) (k : Fin 8) :
    val_main_v137 (F := Ideal) x1 (ix4 b p h k) = at2 x1 (b.val * 1 + p.val) (512 + (h.val * 64 + (8 + k.val))) := by
  rw [val_main_v137_apply, val_main_v120_apply]
  refine Eq.trans (congrArg _ ?_) (ik_in x1 b p h ⟨8 + k.val, by have := k.isLt; omega⟩)
  funext a; fin_cases a <;> rfl
theorem ik_kept (x1 : Vec Ideal S32x768 .f32) (b : Fin 32) (p : Fin 1) (h : Fin 1) (k : Fin 48) :
    val_main_v153 (F := Ideal) x1 (ix4 b p h k) = at2 x1 (b.val * 1 + p.val) (512 + (h.val * 64 + (16 + k.val))) := by
  rw [val_main_v153_apply]
  refine Eq.trans (congrArg _ ?_) (ik_in x1 b p h ⟨16 + k.val, by have := k.isLt; omega⟩)
  funext a; fin_cases a <;> rfl

/-- A head of `ik` after the rotation. -/
theorem ik_head (x1 : Vec Ideal S32x768 .f32) (b : Fin 32) (p : Fin 1) (h : Fin 1) (e : Fin 64) :
    val_main_v154 (F := Ideal) x1 (ix4 b p h e)
      = rotated 64 8 (at2 x1 (b.val * 1 + p.val)) (at2 (val_main_v96 (F := Ideal)) p.val) (at2 (val_main_v98 (F := Ideal)) p.val) (512 + (h.val * 64 + e.val)) := by
  have he := e.isLt
  have hm : (512 + (h.val * 64 + e.val)) % 64 = e.val := by omega
  unfold rotated
  rw [hm]
  by_cases h1 : e.val < 8
  · rw [if_pos h1]
    unfold val_main_v154
    refine (concatenate_apply_piece (t := S32x1x1x64) 3 _ _ (ix4 b p h e) 0 (by show 0 < 2; omega)
      S32x1x1x16 (val_main_v152 (F := Ideal) x1) rfl rfl 0 rfl (ix4 b p h ⟨e.val, by omega⟩)
      (fun a ha => by fin_cases a <;> first | rfl | exact absurd rfl ha) (by show 0 + e.val = e.val; omega)).trans ?_
    unfold val_main_v152
    refine (concatenate_apply_piece (t := S32x1x1x16) 3 _ _ (ix4 b p h ⟨e.val, by omega⟩) 0 (by show 0 < 2; omega)
      S32x1x1x8 (val_main_v144 (F := Ideal) x1) rfl rfl 0 rfl (ix4 b p h ⟨e.val, h1⟩)
      (fun a ha => by fin_cases a <;> first | rfl | exact absurd rfl ha) (by show 0 + e.val = e.val; omega)).trans ?_
    rw [val_main_v144_apply, val_main_v140_apply, val_main_v143_apply, ik_x1, ik_x2, ik_cos, ik_sin]
    rw [show (512 + (h.val * 64 + e.val)) + 8 = (512 + (h.val * 64 + (8 + e.val))) by omega]
    rfl
  · rw [if_neg h1]
    by_cases h2 : e.val < 2 * 8
    · rw [if_pos h2]
      unfold val_main_v154
      refine (concatenate_apply_piece (t := S32x1x1x64) 3 _ _ (ix4 b p h e) 0 (by show 0 < 2; omega)
        S32x1x1x16 (val_main_v152 (F := Ideal) x1) rfl rfl 0 rfl (ix4 b p h ⟨e.val, by omega⟩)
        (fun a ha => by fin_cases a <;> first | rfl | exact absurd rfl ha) (by show 0 + e.val = e.val; omega)).trans ?_
      unfold val_main_v152
      refine (concatenate_apply_piece (t := S32x1x1x16) 3 _ _ (ix4 b p h ⟨e.val, by omega⟩) 1 (by show 1 < 2; omega)
        S32x1x1x8 (val_main_v151 (F := Ideal) x1) rfl rfl 8 rfl (ix4 b p h ⟨e.val - 8, by omega⟩)
        (fun a ha => by fin_cases a <;> first | rfl | exact absurd rfl ha) (by show 8 + (e.val - 8) = e.val; omega)).trans ?_
      rw [val_main_v151_apply, val_main_v147_apply, val_main_v150_apply, ik_x1, ik_x2, ik_cos', ik_sin']
      rw [show (512 + (h.val * 64 + e.val)) - 8 = (512 + (h.val * 64 + (e.val - 8))) by omega, show (512 + (h.val * 64 + e.val)) = (512 + (h.val * 64 + (8 + (e.val - 8)))) by omega]
      rfl
    · rw [if_neg h2]
      unfold val_main_v154
      refine (concatenate_apply_piece (t := S32x1x1x64) 3 _ _ (ix4 b p h e) 1 (by show 1 < 2; omega)
        S32x1x1x48 (val_main_v153 (F := Ideal) x1) rfl rfl 16 rfl (ix4 b p h ⟨e.val - 16, by omega⟩)
        (fun a ha => by fin_cases a <;> first | rfl | exact absurd rfl ha) (by show 16 + (e.val - 16) = e.val; omega)).trans ?_
      rw [ik_kept, show (512 + (h.val * 64 + (16 + (e.val - 16)))) = (512 + (h.val * 64 + e.val)) by omega]

/-- The result `ik` at row `R`, column `J`. -/
theorem ik_apply (x1 : Vec Ideal S32x768 .f32) (R : Fin 32) (J : Fin 64) :
    val_main_v161 (F := Ideal) x1 (ix2 R J)
      = rotated 64 8 (at2 x1 R.val) (at2 (val_main_v96 (F := Ideal)) (R.val % 1)) (at2 (val_main_v98 (F := Ideal)) (R.val % 1)) (512 + J.val) := by
  have hR := R.isLt
  have hJ := J.isLt
  rw [val_main_v161_apply]
  refine (congrArg _ ?_).trans ((ik_head x1 ⟨R.val / 1, by omega⟩ ⟨R.val % 1, by omega⟩ ⟨J.val / 64, by omega⟩ ⟨J.val % 64, by omega⟩).trans ?_)
  · funext a
    apply Fin.ext
    match a with
    | ⟨0, _⟩ => show (R.val * 64 + J.val) / 64 = R.val / 1; omega
    | ⟨1, _⟩ => show 0 = R.val % 1; omega
    | ⟨2, _⟩ => show 0 = J.val / 64; omega
    | ⟨3, _⟩ => show (R.val * 64 + J.val) % 64 = J.val % 64; omega
  · show rotated 64 8 (at2 x1 (R.val / 1 * 1 + R.val % 1)) _ _ (512 + (J.val / 64 * 64 + J.val % 64)) = _
    rw [Nat.div_add_mod', Nat.div_add_mod']

/-- The result `av` at row `R`, column `J`. -/
theorem av_apply (x0 : Vec Ideal S32x3072 .f32) (R : Fin 32) (J : Fin 512) :
    val_main_v159 (F := Ideal) x0 (ix2 R J) = at2 x0 R.val (2560 + J.val) := by
  have hR := R.isLt
  have hJ := J.isLt
  rw [val_main_v159_apply, val_main_v7_apply, val_main_v0_apply]
  refine (at2_eq x0 _).trans (congrArg₂ (at2 x0) ?_ ?_)
  · show (R.val * 512 + J.val) / 512 = R.val; omega
  · show 2560 + (R.val * 512 + J.val) % 512 = 2560 + J.val; omega

/-- The result `iw` at row `R`, column `J`. -/
theorem iw_apply (x1 : Vec Ideal S32x768 .f32) (R : Fin 32) (J : Fin 128) :
    val_main_v162 (F := Ideal) x1 (ix2 R J) = at2 x1 R.val (640 + J.val) * Ideal.ofBits .f32 0x3EB504F3#32 := by
  have hR := R.isLt
  have hJ := J.isLt
  rw [val_main_v162_apply, val_main_v156_apply, val_main_v155_apply, val_main_cst_7_apply, val_main_v10_apply, val_main_v1_apply]
  refine Eq.trans (congrArg (fun x : EReal => x * Ideal.ofBits .f32 0x3EB504F3#32) (at2_eq x1 _)) (congrArg (fun x : EReal => x * Ideal.ofBits .f32 0x3EB504F3#32) (congrArg₂ (at2 x1) ?_ ?_))
  · show (R.val * 128 + J.val) / 128 = R.val; omega
  · show 640 + (R.val * 128 + J.val) % 128 = 640 + J.val; omega

end Cert.RosRefIdeal.Columns

end
-- ==== Proof.RosT.lean ====
/-
  The rotation's tables as the call finds them: for each position a row of cosines and two of sines, laid out over 128 columns.
-/
module

public import proofs.«01_k».proof.Proof.Gen.RosIdeal.Value
public import proofs.«01_k».proof.Proof.Gen.RosRefIdeal.Read
public import proofs.«01_k».proof.Proof.Rot

@[expose] public section

set_option maxRecDepth 16384

noncomputable section

namespace Cert.RosIdeal.Product

open Cert.RosIdeal Cert.RosIdeal.Gen Idealize.ShloMosaic Idealize.ShloMosaic.TcCoe Idealize.SL.Sem
open Idealize.ShloMosaic.ValueIdx Idealize.ShloMosaic.Tactic Cert.Rot

variable (m : (ℓ : Loc nD τ sig) → Buf (Elt Ideal) ℓ)

/-- The tables' cosines and sines for heads of 128 columns, row by row: the reference's. -/
def angle128 : Vec Ideal S32x16 .f32 :=
  mulf (F := Ideal)
    (broadcastInDim S32x16 ![0, 1] bcast_S32x1_S32x16_0_1
      (broadcastInDim S32x1 ![0] bcast_S32_S32x1_0
        (sitofp (F := Ideal) .f32 (broadcastInDim S32 ![] bcast_S_S32 (constantI S_ 32 8192#32 : IVec S_ 32) : IVec S32 32))))
    (broadcastInDim S32x16 ![0, 1] bcast_S1x16_S32x16_0_1
      (broadcastInDim S1x16 ![1] bcast_S16_S1x16_1
        (Host.powf (F := Ideal) (broadcastInDim S16 ![] bcast_S_S16 (constant (F := Ideal) S_ .f32 0x48F42400#32))
          (mulf (F := Ideal) (Host.negf (F := Ideal) (sitofp (F := Ideal) .f32 (iotaInDim S16 32 0)))
            (broadcastInDim S16 ![] bcast_S_S16 (constant (F := Ideal) S_ .f32 0x3D800000#32))))))
def cos128 : Vec Ideal S32x16 .f32 := Host.cos (F := Ideal) (φ := .f32) angle128
def sin128 : Vec Ideal S32x16 .f32 := Host.sin (F := Ideal) (φ := .f32) angle128

/-- Every row's are the reference's one row of them. -/
theorem cos128_row (r k : Nat) (hr : r < 32) : at2 cos128 r k = at2 (Cert.RosRefIdeal.Read.val_main_v24 (F := Ideal)) 0 k := by
  by_cases hk : k < 16
  · exact (at2_ix2 cos128 ⟨r, hr⟩ ⟨k, hk⟩).trans (Eq.trans rfl (at2_ix2 (Cert.RosRefIdeal.Read.val_main_v24 (F := Ideal)) (0 : Fin 1) ⟨k, hk⟩).symm)
  · unfold at2
    rw [dif_neg (fun h => hk h.2), dif_neg (fun h => hk h.2)]
theorem sin128_row (r k : Nat) (hr : r < 32) : at2 sin128 r k = at2 (Cert.RosRefIdeal.Read.val_main_v26 (F := Ideal)) 0 k := by
  by_cases hk : k < 16
  · exact (at2_ix2 sin128 ⟨r, hr⟩ ⟨k, hk⟩).trans (Eq.trans rfl (at2_ix2 (Cert.RosRefIdeal.Read.val_main_v26 (F := Ideal)) (0 : Fin 1) ⟨k, hk⟩).symm)
  · unfold at2
    rw [dif_neg (fun h => hk h.2), dif_neg (fun h => hk h.2)]

/-- A table's heads, from its three parts. -/
def parts128 (a b : Vec Ideal S32x16 .f32) (d : Vec Ideal S32x96 .f32) : Vec Ideal S32x128 .f32 :=
  concatenate S32x128 1 [⟨S32x16, a⟩, ⟨S32x16, b⟩, ⟨S32x96, d⟩] concatenates_S32x16_S32x16_S32x96_S32x128_d1

/-- The table of 128 columns: the heads one beside another. -/
def tiled128 (x : Vec Ideal S32x128 .f32) : Vec Ideal S32x128 .f32 :=
  shapeCast S32x128 (broadcastInDim S1x32x1x128 ![0, 1, 2, 3] bcast_S1x32x1x128_S1x32x1x128_0_1_2_3
    (shapeCast S1x32x1x128 x shapeCasts_S32x128_S1x32x1x128)) shapeCasts_S1x32x1x128_S32x128

/-- A column of the table lies in one of the three parts. -/
theorem parts128_apply (a b : Vec Ideal S32x16 .f32) (d : Vec Ideal S32x96 .f32) (p : Fin 32) (e : Fin 128) :
    parts128 a b d (ix2 p e) = if e.val < 16 then at2 a p.val e.val else if e.val < 2 * 16 then at2 b p.val (e.val - 16)
      else at2 d p.val (e.val - 2 * 16) := by
  have he := e.isLt
  unfold parts128
  by_cases h1 : e.val < 16
  · rw [if_pos h1]
    exact (concatenate_apply_piece (t := S32x128) 1 _ _ (ix2 p e) 0 (by show 0 < 3; omega) S32x16 a rfl rfl 0 rfl
      (ix2 p ⟨e.val, h1⟩) (fun a ha => by fin_cases a <;> first | rfl | exact absurd rfl ha)
      (by show 0 + e.val = e.val; omega)).trans (at2_ix2 a p ⟨e.val, h1⟩).symm
  · rw [if_neg h1]
    by_cases h2 : e.val < 2 * 16
    · rw [if_pos h2]
      exact (concatenate_apply_piece (t := S32x128) 1 _ _ (ix2 p e) 1 (by show 1 < 3; omega) S32x16 b rfl rfl 16 rfl
        (ix2 p ⟨e.val - 16, by omega⟩) (fun a ha => by fin_cases a <;> first | rfl | exact absurd rfl ha)
        (by show 16 + (e.val - 16) = e.val; omega)).trans (at2_ix2 b p ⟨e.val - 16, by omega⟩).symm
    · rw [if_neg h2]
      exact (concatenate_apply_piece (t := S32x128) 1 _ _ (ix2 p e) 2 (by show 2 < 3; omega) S32x96 d rfl rfl 32 rfl
        (ix2 p ⟨e.val - 2 * 16, by omega⟩) (fun a ha => by fin_cases a <;> first | rfl | exact absurd rfl ha)
        (by show 32 + (e.val - 2 * 16) = e.val; omega)).trans (at2_ix2 d p ⟨e.val - 2 * 16, by omega⟩).symm

/-- A column of the table is the column of its head. -/
theorem tiled128_apply (x : Vec Ideal S32x128 .f32) (p : Fin 32) (l : Fin 128) :
    tiled128 x (ix2 p l) = x (ix2 p ⟨l.val % 128, Nat.mod_lt _ (by decide)⟩) := by
  have hl := l.isLt
  have hp := p.isLt
  unfold tiled128
  refine (shapeCast_apply _ _ (ix2 p l) (ix4 (0 : Fin 1) p (⟨l.val / 128, by omega⟩ : Fin 1) (⟨l.val % 128, by omega⟩ : Fin 128)) ?_).trans ?_
  · rw [Shape.rowMajor_val_four, Shape.rowMajor_val_two]
    show ((0 * 32 + p.val) * 1 + l.val / 128) * 128 + l.val % 128 = p.val * 128 + l.val
    omega
  refine (broadcastInDim_apply _ _ _ _ (ix4 (0 : Fin 1) p (0 : Fin 1) (⟨l.val % 128, by omega⟩ : Fin 128)) (fun a => ?_)).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show p.val * 128 + l.val % 128 = ((0 * 32 + p.val) * 1 + 0) * 128 + l.val % 128
  omega

/-- Constants along an array. -/
abbrev fill128 (w : BitVec 32) : Vec Ideal S32x16 .f32 := broadcastInDim S32x16 ![] bcast_S_S32x16 (constant (F := Ideal) S_ .f32 w)
abbrev rest128 (w : BitVec 32) : Vec Ideal S32x96 .f32 := broadcastInDim S32x96 ![] bcast_S_S32x96 (constant (F := Ideal) S_ .f32 w)

/-- The three tables as the call finds them. -/
theorem V_v24 (c : Dev nD) : (V m c main_v24 : Vec Ideal S32x128 .f32) = tiled128 (parts128 cos128 cos128 (rest128 0x3F800000#32)) := by
  show StableHlo.after hostOps0 _ (Proc.devRef .tc main_v24) = _
  after_results_simp
  rfl
theorem V_v27 (c : Dev nD) : (V m c main_v27 : Vec Ideal S32x128 .f32)
    = tiled128 (parts128 (Host.negf (F := Ideal) (φ := .f32) sin128) (fill128 0x00000000#32) (rest128 0x00000000#32)) := by
  show StableHlo.after hostOps0 _ (Proc.devRef .tc main_v27) = _
  after_results_simp
  rfl
theorem V_v30 (c : Dev nD) : (V m c main_v30 : Vec Ideal S32x128 .f32)
    = tiled128 (parts128 (fill128 0x00000000#32) sin128 (rest128 0x00000000#32)) := by
  show StableHlo.after hostOps0 _ (Proc.devRef .tc main_v30) = _
  after_results_simp
  rfl

/-- A part of a table that holds one number, or the negated sines. -/
theorem fill128_at (p k : Nat) (hp : p < 32) (hk : k < 16) : at2 (fill128 0x00000000#32) p k = 0 :=
  (at2_ix2 _ ⟨p, hp⟩ ⟨k, hk⟩).trans Ideal.ofBits_zero_f32
theorem rest128_at (p k : Nat) (hp : p < 32) (hk : k < 96) : at2 (rest128 0x00000000#32) p k = 0 :=
  (at2_ix2 _ ⟨p, hp⟩ ⟨k, hk⟩).trans Ideal.ofBits_zero_f32
theorem ones128_at (p k : Nat) (hp : p < 32) (hk : k < 96) : at2 (rest128 0x3F800000#32) p k = 1 :=
  (at2_ix2 _ ⟨p, hp⟩ ⟨k, hk⟩).trans Ideal.ofBits_one_f32
theorem neg128_at (p k : Nat) (hp : p < 32) (hk : k < 16) : at2 (Host.negf (F := Ideal) (φ := .f32) sin128) p k = -at2 sin128 p k :=
  (at2_ix2 _ ⟨p, hp⟩ ⟨k, hk⟩).trans (congrArg (fun x : EReal => -x) (at2_ix2 sin128 ⟨p, hp⟩ ⟨k, hk⟩).symm)

/-- Row `p` of the three holds the tables for heads of 128 columns. -/
theorem tables128 (c : Dev nD) (p : Nat) (hp : p < 32) :
    Tables 128 16 (at2 cos128 p) (at2 sin128 p) (at2 (V m c main_v24 : Vec Ideal S32x128 .f32) p)
      (at2 (V m c main_v27 : Vec Ideal S32x128 .f32) p) (at2 (V m c main_v30 : Vec Ideal S32x128 .f32) p) where
  cos l hl := by
    have hm : l % 128 < 128 := Nat.mod_lt _ (by decide)
    refine (at2_ix2 _ ⟨p, hp⟩ ⟨l, hl⟩).trans ?_
    rw [V_v24, tiled128_apply, parts128_apply]
    dsimp only
    split
    · rfl
    · split
      · rfl
      · exact ones128_at _ _ hp (by omega)
  left l hl := by
    have hm : l % 128 < 128 := Nat.mod_lt _ (by decide)
    refine (at2_ix2 _ ⟨p, hp⟩ ⟨l, hl⟩).trans ?_
    rw [V_v27, tiled128_apply, parts128_apply]
    dsimp only
    split
    · exact neg128_at _ _ hp (by omega)
    · split
      · exact fill128_at _ _ hp (by omega)
      · exact rest128_at _ _ hp (by omega)
  right l hl := by
    have hm : l % 128 < 128 := Nat.mod_lt _ (by decide)
    refine (at2_ix2 _ ⟨p, hp⟩ ⟨l, hl⟩).trans ?_
    rw [V_v30, tiled128_apply, parts128_apply]
    dsimp only
    split
    · exact fill128_at _ _ hp (by omega)
    · split
      · rfl
      · exact rest128_at _ _ hp (by omega)

/-- The tables' cosines and sines for heads of 64 columns, row by row: the reference's. -/
def angle64 : Vec Ideal S32x8 .f32 :=
  mulf (F := Ideal)
    (broadcastInDim S32x8 ![0, 1] bcast_S32x1_S32x8_0_1
      (broadcastInDim S32x1 ![0] bcast_S32_S32x1_0
        (sitofp (F := Ideal) .f32 (broadcastInDim S32 ![] bcast_S_S32 (constantI S_ 32 8192#32 : IVec S_ 32) : IVec S32 32))))
    (broadcastInDim S32x8 ![0, 1] bcast_S1x8_S32x8_0_1
      (broadcastInDim S1x8 ![1] bcast_S8_S1x8_1
        (Host.powf (F := Ideal) (broadcastInDim S8 ![] bcast_S_S8 (constant (F := Ideal) S_ .f32 0x48F42400#32))
          (mulf (F := Ideal) (Host.negf (F := Ideal) (sitofp (F := Ideal) .f32 (iotaInDim S8 32 0)))
            (broadcastInDim S8 ![] bcast_S_S8 (constant (F := Ideal) S_ .f32 0x3E000000#32))))))
def cos64 : Vec Ideal S32x8 .f32 := Host.cos (F := Ideal) (φ := .f32) angle64
def sin64 : Vec Ideal S32x8 .f32 := Host.sin (F := Ideal) (φ := .f32) angle64

/-- Every row's are the reference's one row of them. -/
theorem cos64_row (r k : Nat) (hr : r < 32) : at2 cos64 r k = at2 (Cert.RosRefIdeal.Read.val_main_v96 (F := Ideal)) 0 k := by
  by_cases hk : k < 8
  · exact (at2_ix2 cos64 ⟨r, hr⟩ ⟨k, hk⟩).trans (Eq.trans rfl (at2_ix2 (Cert.RosRefIdeal.Read.val_main_v96 (F := Ideal)) (0 : Fin 1) ⟨k, hk⟩).symm)
  · unfold at2
    rw [dif_neg (fun h => hk h.2), dif_neg (fun h => hk h.2)]
theorem sin64_row (r k : Nat) (hr : r < 32) : at2 sin64 r k = at2 (Cert.RosRefIdeal.Read.val_main_v98 (F := Ideal)) 0 k := by
  by_cases hk : k < 8
  · exact (at2_ix2 sin64 ⟨r, hr⟩ ⟨k, hk⟩).trans (Eq.trans rfl (at2_ix2 (Cert.RosRefIdeal.Read.val_main_v98 (F := Ideal)) (0 : Fin 1) ⟨k, hk⟩).symm)
  · unfold at2
    rw [dif_neg (fun h => hk h.2), dif_neg (fun h => hk h.2)]

/-- A table's heads, from its three parts. -/
def parts64 (a b : Vec Ideal S32x8 .f32) (d : Vec Ideal S32x48 .f32) : Vec Ideal S32x64 .f32 :=
  concatenate S32x64 1 [⟨S32x8, a⟩, ⟨S32x8, b⟩, ⟨S32x48, d⟩] concatenates_S32x8_S32x8_S32x48_S32x64_d1

/-- The table of 128 columns: the heads one beside another. -/
def tiled64 (x : Vec Ideal S32x64 .f32) : Vec Ideal S32x128 .f32 :=
  shapeCast S32x128 (broadcastInDim S1x32x2x64 ![0, 1, 2, 3] bcast_S1x32x1x64_S1x32x2x64_0_1_2_3
    (shapeCast S1x32x1x64 x shapeCasts_S32x64_S1x32x1x64)) shapeCasts_S1x32x2x64_S32x128

/-- A column of the table lies in one of the three parts. -/
theorem parts64_apply (a b : Vec Ideal S32x8 .f32) (d : Vec Ideal S32x48 .f32) (p : Fin 32) (e : Fin 64) :
    parts64 a b d (ix2 p e) = if e.val < 8 then at2 a p.val e.val else if e.val < 2 * 8 then at2 b p.val (e.val - 8)
      else at2 d p.val (e.val - 2 * 8) := by
  have he := e.isLt
  unfold parts64
  by_cases h1 : e.val < 8
  · rw [if_pos h1]
    exact (concatenate_apply_piece (t := S32x64) 1 _ _ (ix2 p e) 0 (by show 0 < 3; omega) S32x8 a rfl rfl 0 rfl
      (ix2 p ⟨e.val, h1⟩) (fun a ha => by fin_cases a <;> first | rfl | exact absurd rfl ha)
      (by show 0 + e.val = e.val; omega)).trans (at2_ix2 a p ⟨e.val, h1⟩).symm
  · rw [if_neg h1]
    by_cases h2 : e.val < 2 * 8
    · rw [if_pos h2]
      exact (concatenate_apply_piece (t := S32x64) 1 _ _ (ix2 p e) 1 (by show 1 < 3; omega) S32x8 b rfl rfl 8 rfl
        (ix2 p ⟨e.val - 8, by omega⟩) (fun a ha => by fin_cases a <;> first | rfl | exact absurd rfl ha)
        (by show 8 + (e.val - 8) = e.val; omega)).trans (at2_ix2 b p ⟨e.val - 8, by omega⟩).symm
    · rw [if_neg h2]
      exact (concatenate_apply_piece (t := S32x64) 1 _ _ (ix2 p e) 2 (by show 2 < 3; omega) S32x48 d rfl rfl 16 rfl
        (ix2 p ⟨e.val - 2 * 8, by omega⟩) (fun a ha => by fin_cases a <;> first | rfl | exact absurd rfl ha)
        (by show 16 + (e.val - 2 * 8) = e.val; omega)).trans (at2_ix2 d p ⟨e.val - 2 * 8, by omega⟩).symm

/-- A column of the table is the column of its head. -/
theorem tiled64_apply (x : Vec Ideal S32x64 .f32) (p : Fin 32) (l : Fin 128) :
    tiled64 x (ix2 p l) = x (ix2 p ⟨l.val % 64, Nat.mod_lt _ (by decide)⟩) := by
  have hl := l.isLt
  have hp := p.isLt
  unfold tiled64
  refine (shapeCast_apply _ _ (ix2 p l) (ix4 (0 : Fin 1) p (⟨l.val / 64, by omega⟩ : Fin 2) (⟨l.val % 64, by omega⟩ : Fin 64)) ?_).trans ?_
  · rw [Shape.rowMajor_val_four, Shape.rowMajor_val_two]
    show ((0 * 32 + p.val) * 2 + l.val / 64) * 64 + l.val % 64 = p.val * 128 + l.val
    omega
  refine (broadcastInDim_apply _ _ _ _ (ix4 (0 : Fin 1) p (0 : Fin 1) (⟨l.val % 64, by omega⟩ : Fin 64)) (fun a => ?_)).trans ?_
  · match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_two]
  show p.val * 64 + l.val % 64 = ((0 * 32 + p.val) * 1 + 0) * 64 + l.val % 64
  omega

/-- Constants along an array. -/
abbrev fill64 (w : BitVec 32) : Vec Ideal S32x8 .f32 := broadcastInDim S32x8 ![] bcast_S_S32x8 (constant (F := Ideal) S_ .f32 w)
abbrev rest64 (w : BitVec 32) : Vec Ideal S32x48 .f32 := broadcastInDim S32x48 ![] bcast_S_S32x48 (constant (F := Ideal) S_ .f32 w)

/-- The three tables as the call finds them. -/
theorem V_v54 (c : Dev nD) : (V m c main_v54 : Vec Ideal S32x128 .f32) = tiled64 (parts64 cos64 cos64 (rest64 0x3F800000#32)) := by
  show StableHlo.after hostOps0 _ (Proc.devRef .tc main_v54) = _
  after_results_simp
  rfl
theorem V_v57 (c : Dev nD) : (V m c main_v57 : Vec Ideal S32x128 .f32)
    = tiled64 (parts64 (Host.negf (F := Ideal) (φ := .f32) sin64) (fill64 0x00000000#32) (rest64 0x00000000#32)) := by
  show StableHlo.after hostOps0 _ (Proc.devRef .tc main_v57) = _
  after_results_simp
  rfl
theorem V_v60 (c : Dev nD) : (V m c main_v60 : Vec Ideal S32x128 .f32)
    = tiled64 (parts64 (fill64 0x00000000#32) sin64 (rest64 0x00000000#32)) := by
  show StableHlo.after hostOps0 _ (Proc.devRef .tc main_v60) = _
  after_results_simp
  rfl

/-- A part of a table that holds one number, or the negated sines. -/
theorem fill64_at (p k : Nat) (hp : p < 32) (hk : k < 8) : at2 (fill64 0x00000000#32) p k = 0 :=
  (at2_ix2 _ ⟨p, hp⟩ ⟨k, hk⟩).trans Ideal.ofBits_zero_f32
theorem rest64_at (p k : Nat) (hp : p < 32) (hk : k < 48) : at2 (rest64 0x00000000#32) p k = 0 :=
  (at2_ix2 _ ⟨p, hp⟩ ⟨k, hk⟩).trans Ideal.ofBits_zero_f32
theorem ones64_at (p k : Nat) (hp : p < 32) (hk : k < 48) : at2 (rest64 0x3F800000#32) p k = 1 :=
  (at2_ix2 _ ⟨p, hp⟩ ⟨k, hk⟩).trans Ideal.ofBits_one_f32
theorem neg64_at (p k : Nat) (hp : p < 32) (hk : k < 8) : at2 (Host.negf (F := Ideal) (φ := .f32) sin64) p k = -at2 sin64 p k :=
  (at2_ix2 _ ⟨p, hp⟩ ⟨k, hk⟩).trans (congrArg (fun x : EReal => -x) (at2_ix2 sin64 ⟨p, hp⟩ ⟨k, hk⟩).symm)

/-- Row `p` of the three holds the tables for heads of 64 columns. -/
theorem tables64 (c : Dev nD) (p : Nat) (hp : p < 32) :
    Tables 64 8 (at2 cos64 p) (at2 sin64 p) (at2 (V m c main_v54 : Vec Ideal S32x128 .f32) p)
      (at2 (V m c main_v57 : Vec Ideal S32x128 .f32) p) (at2 (V m c main_v60 : Vec Ideal S32x128 .f32) p) where
  cos l hl := by
    have hm : l % 64 < 64 := Nat.mod_lt _ (by decide)
    refine (at2_ix2 _ ⟨p, hp⟩ ⟨l, hl⟩).trans ?_
    rw [V_v54, tiled64_apply, parts64_apply]
    dsimp only
    split
    · rfl
    · split
      · rfl
      · exact ones64_at _ _ hp (by omega)
  left l hl := by
    have hm : l % 64 < 64 := Nat.mod_lt _ (by decide)
    refine (at2_ix2 _ ⟨p, hp⟩ ⟨l, hl⟩).trans ?_
    rw [V_v57, tiled64_apply, parts64_apply]
    dsimp only
    split
    · exact neg64_at _ _ hp (by omega)
    · split
      · exact fill64_at _ _ hp (by omega)
      · exact rest64_at _ _ hp (by omega)
  right l hl := by
    have hm : l % 64 < 64 := Nat.mod_lt _ (by decide)
    refine (at2_ix2 _ ⟨p, hp⟩ ⟨l, hl⟩).trans ?_
    rw [V_v60, tiled64_apply, parts64_apply]
    dsimp only
    split
    · exact fill64_at _ _ hp (by omega)
    · split
      · rfl
      · exact rest64_at _ _ hp (by omega)

end Cert.RosIdeal.Product

end
-- ==== Proof.Ros.lean ====
/-
  The rotation of the attention's and the indexer's columns, sample rows: what each block of each result is, and what each result's
  array ends as: the reference's.
-/
module

public import proofs.«01_k».proof.Proof.RosK
public import proofs.«01_k».proof.Proof.RosR
public import proofs.«01_k».proof.Proof.RosT

@[expose] public section

set_option maxRecDepth 16384

noncomputable section

namespace Cert.RosIdeal.Product

open Cert.RosIdeal Cert.RosIdeal.Gen Idealize.ShloMosaic Idealize.ShloMosaic.TcCoe Idealize.SL.Sem
open Idealize.ShloMosaic.ValueIdx Cert.Rot

variable (m : (ℓ : Loc nD τ sig) → Buf (Elt Ideal) ℓ)

/-- The attention's and the indexer's columns as launched. -/
abbrev att (c : Dev nD) : Vec Ideal S32x3072 .f32 := m ((c : Thread nD τ).loc main_arg0)
abbrev idx (c : Dev nD) : Vec Ideal S32x768 .f32 := m ((c : Thread nD τ).loc main_arg1)

/-- Where each window's block lies at grid point `t`. -/
theorem index_in : ∀ t : Fin grid0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0) := by decide +kernel
theorem index_out : ∀ t : Fin grid0.N,
    (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0) := by decide +kernel

/-- A row of the block of `att` at point `t` is a row of the whole. -/
theorem att_block (c : Dev nD) (t : Fin cfg0.N) (r : Nat) (hr : r < 32) :
    at2 (iblk m c 0 t : Vec Ideal S32x3072 .f32) r = at2 (att m c) (t.val * 32 + r) := by
  have hN : t.val < 1 := lt_of_lt_of_eq t.isLt N_0
  obtain ⟨⟨h0, h1⟩, -, -, -, -, -, -, -⟩ := index_in t
  funext j
  by_cases hj : j < 3072
  · refine (at2_ix2 (iblk m c 0 t : Vec Ideal S32x3072 .f32) ⟨r, hr⟩ ⟨j, hj⟩).trans
      (Eq.trans ?_ (at2_ix2 (att m c) ⟨t.val * 32 + r, by omega⟩ ⟨j, hj⟩).symm)
    unfold iblk
    rw [View.read_apply]
    show m ((c : Thread nD τ).loc main_arg0) _ = m ((c : Thread nD τ).loc main_arg0) _
    congr 1
    funext a
    apply Fin.ext
    match a with
    | ⟨0, _⟩ => show win0_0.index t 0 * 32 + 1 * r = t.val * 32 + r; rw [h0]; omega
    | ⟨1, _⟩ => show win0_0.index t 1 * 3072 + 1 * j = j; rw [h1]; omega
  · unfold at2
    rw [dif_neg (fun h => hj h.2), dif_neg (fun h => hj h.2)]

/-- A row of the block of `idx` at point `t` is a row of the whole. -/
theorem idx_block (c : Dev nD) (t : Fin cfg0.N) (r : Nat) (hr : r < 32) :
    at2 (iblk m c 1 t : Vec Ideal S32x768 .f32) r = at2 (idx m c) (t.val * 32 + r) := by
  have hN : t.val < 1 := lt_of_lt_of_eq t.isLt N_0
  obtain ⟨-, ⟨h0, h1⟩, -, -, -, -, -, -⟩ := index_in t
  funext j
  by_cases hj : j < 768
  · refine (at2_ix2 (iblk m c 1 t : Vec Ideal S32x768 .f32) ⟨r, hr⟩ ⟨j, hj⟩).trans
      (Eq.trans ?_ (at2_ix2 (idx m c) ⟨t.val * 32 + r, by omega⟩ ⟨j, hj⟩).symm)
    unfold iblk
    rw [View.read_apply]
    show m ((c : Thread nD τ).loc main_arg1) _ = m ((c : Thread nD τ).loc main_arg1) _
    congr 1
    funext a
    apply Fin.ext
    match a with
    | ⟨0, _⟩ => show win0_1.index t 0 * 32 + 1 * r = t.val * 32 + r; rw [h0]; omega
    | ⟨1, _⟩ => show win0_1.index t 1 * 768 + 1 * j = j; rw [h1]; omega
  · unfold at2
    rw [dif_neg (fun h => hj h.2), dif_neg (fun h => hj h.2)]

/-- A row of a table's block is a row of the table. -/
theorem tab2_block (c : Dev nD) (t : Fin cfg0.N) (r : Nat) (hr : r < 32) (l : Nat) (hl : l < 128) :
    at2 (iblk m c 2 t : Vec Ideal S32x128 .f32) r l = at2 (V m c main_v24 : Vec Ideal S32x128 .f32) (r) l := by
  obtain ⟨-, -, ⟨h0, h1⟩, -, -, -, -, -⟩ := index_in t
  refine (at2_ix2 (iblk m c 2 t : Vec Ideal S32x128 .f32) ⟨r, hr⟩ ⟨l, hl⟩).trans
    (Eq.trans ?_ (at2_ix2 (V m c main_v24 : Vec Ideal S32x128 .f32) ⟨r, by omega⟩ ⟨l, hl⟩).symm)
  unfold iblk
  rw [View.read_apply]
  show V m c main_v24 _ = V m c main_v24 _
  congr 1
  funext a
  apply Fin.ext
  match a with
  | ⟨0, _⟩ => show win0_2.index t 0 * 32 + 1 * r = r; rw [h0]; omega
  | ⟨1, _⟩ => show win0_2.index t 1 * 128 + 1 * l = l; rw [h1]; omega

theorem tab3_block (c : Dev nD) (t : Fin cfg0.N) (r : Nat) (hr : r < 32) (l : Nat) (hl : l < 128) :
    at2 (iblk m c 3 t : Vec Ideal S32x128 .f32) r l = at2 (V m c main_v27 : Vec Ideal S32x128 .f32) (r) l := by
  obtain ⟨-, -, -, ⟨h0, h1⟩, -, -, -, -⟩ := index_in t
  refine (at2_ix2 (iblk m c 3 t : Vec Ideal S32x128 .f32) ⟨r, hr⟩ ⟨l, hl⟩).trans
    (Eq.trans ?_ (at2_ix2 (V m c main_v27 : Vec Ideal S32x128 .f32) ⟨r, by omega⟩ ⟨l, hl⟩).symm)
  unfold iblk
  rw [View.read_apply]
  show V m c main_v27 _ = V m c main_v27 _
  congr 1
  funext a
  apply Fin.ext
  match a with
  | ⟨0, _⟩ => show win0_3.index t 0 * 32 + 1 * r = r; rw [h0]; omega
  | ⟨1, _⟩ => show win0_3.index t 1 * 128 + 1 * l = l; rw [h1]; omega

theorem tab4_block (c : Dev nD) (t : Fin cfg0.N) (r : Nat) (hr : r < 32) (l : Nat) (hl : l < 128) :
    at2 (iblk m c 4 t : Vec Ideal S32x128 .f32) r l = at2 (V m c main_v30 : Vec Ideal S32x128 .f32) (r) l := by
  obtain ⟨-, -, -, -, ⟨h0, h1⟩, -, -, -⟩ := index_in t
  refine (at2_ix2 (iblk m c 4 t : Vec Ideal S32x128 .f32) ⟨r, hr⟩ ⟨l, hl⟩).trans
    (Eq.trans ?_ (at2_ix2 (V m c main_v30 : Vec Ideal S32x128 .f32) ⟨r, by omega⟩ ⟨l, hl⟩).symm)
  unfold iblk
  rw [View.read_apply]
  show V m c main_v30 _ = V m c main_v30 _
  congr 1
  funext a
  apply Fin.ext
  match a with
  | ⟨0, _⟩ => show win0_4.index t 0 * 32 + 1 * r = r; rw [h0]; omega
  | ⟨1, _⟩ => show win0_4.index t 1 * 128 + 1 * l = l; rw [h1]; omega

theorem tab5_block (c : Dev nD) (t : Fin cfg0.N) (r : Nat) (hr : r < 32) (l : Nat) (hl : l < 128) :
    at2 (iblk m c 5 t : Vec Ideal S32x128 .f32) r l = at2 (V m c main_v54 : Vec Ideal S32x128 .f32) (r) l := by
  obtain ⟨-, -, -, -, -, ⟨h0, h1⟩, -, -⟩ := index_in t
  refine (at2_ix2 (iblk m c 5 t : Vec Ideal S32x128 .f32) ⟨r, hr⟩ ⟨l, hl⟩).trans
    (Eq.trans ?_ (at2_ix2 (V m c main_v54 : Vec Ideal S32x128 .f32) ⟨r, by omega⟩ ⟨l, hl⟩).symm)
  unfold iblk
  rw [View.read_apply]
  show V m c main_v54 _ = V m c main_v54 _
  congr 1
  funext a
  apply Fin.ext
  match a with
  | ⟨0, _⟩ => show win0_5.index t 0 * 32 + 1 * r = r; rw [h0]; omega
  | ⟨1, _⟩ => show win0_5.index t 1 * 128 + 1 * l = l; rw [h1]; omega

theorem tab6_block (c : Dev nD) (t : Fin cfg0.N) (r : Nat) (hr : r < 32) (l : Nat) (hl : l < 128) :
    at2 (iblk m c 6 t : Vec Ideal S32x128 .f32) r l = at2 (V m c main_v57 : Vec Ideal S32x128 .f32) (r) l := by
  obtain ⟨-, -, -, -, -, -, ⟨h0, h1⟩, -⟩ := index_in t
  refine (at2_ix2 (iblk m c 6 t : Vec Ideal S32x128 .f32) ⟨r, hr⟩ ⟨l, hl⟩).trans
    (Eq.trans ?_ (at2_ix2 (V m c main_v57 : Vec Ideal S32x128 .f32) ⟨r, by omega⟩ ⟨l, hl⟩).symm)
  unfold iblk
  rw [View.read_apply]
  show V m c main_v57 _ = V m c main_v57 _
  congr 1
  funext a
  apply Fin.ext
  match a with
  | ⟨0, _⟩ => show win0_6.index t 0 * 32 + 1 * r = r; rw [h0]; omega
  | ⟨1, _⟩ => show win0_6.index t 1 * 128 + 1 * l = l; rw [h1]; omega

theorem tab7_block (c : Dev nD) (t : Fin cfg0.N) (r : Nat) (hr : r < 32) (l : Nat) (hl : l < 128) :
    at2 (iblk m c 7 t : Vec Ideal S32x128 .f32) r l = at2 (V m c main_v60 : Vec Ideal S32x128 .f32) (r) l := by
  obtain ⟨-, -, -, -, -, -, -, ⟨h0, h1⟩⟩ := index_in t
  refine (at2_ix2 (iblk m c 7 t : Vec Ideal S32x128 .f32) ⟨r, hr⟩ ⟨l, hl⟩).trans
    (Eq.trans ?_ (at2_ix2 (V m c main_v60 : Vec Ideal S32x128 .f32) ⟨r, by omega⟩ ⟨l, hl⟩).symm)
  unfold iblk
  rw [View.read_apply]
  show V m c main_v60 _ = V m c main_v60 _
  congr 1
  funext a
  apply Fin.ext
  match a with
  | ⟨0, _⟩ => show win0_7.index t 0 * 32 + 1 * r = r; rw [h0]; omega
  | ⟨1, _⟩ => show win0_7.index t 1 * 128 + 1 * l = l; rw [h1]; omega

/-- The products of the blocks at point `t` are the rotation of the row. -/
theorem att_eq (c : Dev nD) (t : Fin cfg0.N) (r : Nat) (hr : r < 32) (j : Nat) :
    attE (iblk m c 0 t) (iblk m c 2 t) (iblk m c 3 t) (iblk m c 4 t) r j
      = rotated 128 16 (at2 (att m c) (t.val * 32 + r)) (at2 (Cert.RosRefIdeal.Read.val_main_v24 (F := Ideal)) ((t.val * 32 + r) % 1))
          (at2 (Cert.RosRefIdeal.Read.val_main_v26 (F := Ideal)) ((t.val * 32 + r) % 1)) j := by
  have hN : t.val < 1 := lt_of_lt_of_eq t.isLt N_0
  have T := tables128 m c (r) (by omega)
  unfold attE
  rw [turned_128 _ (at2 cos128 (r)) (at2 sin128 (r)) _ _ _
    ⟨fun l hl => (tab2_block m c t r hr l hl).trans (T.cos l hl), fun l hl => (tab3_block m c t r hr l hl).trans (T.left l hl),
      fun l hl => (tab4_block m c t r hr l hl).trans (T.right l hl)⟩, att_block m c t r hr]
  rw [show (t.val * 32 + r) % 1 = 0 by omega, show at2 cos128 r = _ from funext fun k => cos128_row r k hr,
    show at2 sin128 r = _ from funext fun k => sin128_row r k hr]

/-- The products of the blocks at point `t` are the rotation of the row. -/
theorem idx_eq (c : Dev nD) (t : Fin cfg0.N) (r : Nat) (hr : r < 32) (j : Nat) :
    idxE (iblk m c 1 t) (iblk m c 5 t) (iblk m c 6 t) (iblk m c 7 t) r j
      = rotated 64 8 (at2 (idx m c) (t.val * 32 + r)) (at2 (Cert.RosRefIdeal.Read.val_main_v96 (F := Ideal)) ((t.val * 32 + r) % 1))
          (at2 (Cert.RosRefIdeal.Read.val_main_v98 (F := Ideal)) ((t.val * 32 + r) % 1)) j := by
  have hN : t.val < 1 := lt_of_lt_of_eq t.isLt N_0
  have T := tables64 m c (r) (by omega)
  unfold idxE
  rw [turned_64 _ (at2 cos64 (r)) (at2 sin64 (r)) _ _ _
    ⟨fun l hl => (tab5_block m c t r hr l hl).trans (T.cos l hl), fun l hl => (tab6_block m c t r hr l hl).trans (T.left l hl),
      fun l hl => (tab7_block m c t r hr l hl).trans (T.right l hl)⟩, idx_block m c t r hr]
  rw [show (t.val * 32 + r) % 1 = 0 by omega, show at2 cos64 r = _ from funext fun k => cos64_row r k hr,
    show at2 sin64 r = _ from funext fun k => sin64_row r k hr]

/-- The array that result 0 is to hold; what a point writes back is its block of it; and the blocks cover it. -/
abbrev G8 (c : Dev nD) : Buf (Elt Ideal) ((c : Thread nD τ).loc main_v61_0) :=
  Cert.RosRefIdeal.Read.val_main_v163 (F := Ideal) (att m c)

theorem flushed8 (c : Dev nD) (t : Fin cfg0.N) :
    (dats m 0 c).flushed 8 t = ((cfg0.win 8).blk t).view.read (Elt Ideal) (G8 m c) := by
  have hN : t.val < 1 := lt_of_lt_of_eq t.isLt N_0
  rw [Value.flushed8]
  show out0_8 (iblk m c 0 t) (iblk m c 1 t) (iblk m c 2 t) (iblk m c 3 t) (iblk m c 4 t) (iblk m c 5 t) (iblk m c 6 t) (iblk m c 7 t) = _
  obtain ⟨⟨h0, h1⟩, -, -, -, -, -⟩ := index_out t
  funext y
  obtain ⟨r, q, rfl⟩ : ∃ (r : Fin 32) (q : Fin 2048), y = ix2 r q := ⟨y 0, y 1, by funext a; fin_cases a <;> rfl⟩
  have hr := r.isLt
  have hq := q.isLt
  rw [View.read_apply]
  have hemb : ((cfg0.win 8).blk t).view.emb (ix2 r q) = (ix2 ⟨t.val * 32 + r.val, by omega⟩ q : S32x2048.Idx) := by
    funext a
    apply Fin.ext
    match a with
    | ⟨0, _⟩ => show win0_8.index t 0 * 32 + 1 * r.val = t.val * 32 + r.val; rw [h0]; omega
    | ⟨1, _⟩ => show win0_8.index t 1 * 2048 + 1 * q.val = q.val; rw [h1]; omega
  refine Eq.trans ?_ (congrArg (G8 m c) hemb.symm)
  refine (block8 _ _ _ _ _ _ _ _ (ix2 r q)).trans ((att_eq m c t r.val r.isLt (0 + q.val)).trans ?_)
  exact (Cert.RosRefIdeal.Columns.q_apply (att m c) ⟨t.val * 32 + r.val, by omega⟩ q).symm

theorem final8 (c : Dev nD) : (dats m 0 c).arrAt 8 cfg0.N = G8 m c :=
  (dats m 0 c).arrAt_eq_of_cover 8 (G8 m c) (fun t _ => flushed8 m c t) fun i => by
    have h0 : (i 0 : Nat) < 32 := (i 0).isLt
    have h1 : (i 1 : Nat) < 2048 := (i 1).isLt
    have hN : cfg0.N = 1 := N_0
    have ht : (i 0 : Nat) / 32 < cfg0.N := by omega
    refine ⟨⟨(i 0 : Nat) / 32, ht⟩, flush0_8 _, ?_⟩
    obtain ⟨⟨g0, g1⟩, -, -, -, -, -⟩ := index_out ⟨(i 0 : Nat) / 32, ht⟩
    show i ∈ ((View.whole main_v61_0).slice (win0_8.rect ⟨(i 0 : Nat) / 32, ht⟩)).set
    rw [View.set_slice_whole, Rect.mem_set_unit]
    intro a
    match a with
    | ⟨0, _⟩ =>
      show win0_8.index _ 0 * 32 ≤ (i 0 : Nat) ∧ (i 0 : Nat) < win0_8.index _ 0 * 32 + 32
      rw [g0]; dsimp only; omega
    | ⟨1, _⟩ =>
      show win0_8.index _ 1 * 2048 ≤ (i 1 : Nat) ∧ (i 1 : Nat) < win0_8.index _ 1 * 2048 + 2048
      rw [g1]; omega

/-- The array that result 1 is to hold; what a point writes back is its block of it; and the blocks cover it. -/
abbrev G9 (c : Dev nD) : Buf (Elt Ideal) ((c : Thread nD τ).loc main_v61_1) :=
  Cert.RosRefIdeal.Read.val_main_v158 (F := Ideal) (att m c)

theorem flushed9 (c : Dev nD) (t : Fin cfg0.N) :
    (dats m 0 c).flushed 9 t = ((cfg0.win 9).blk t).view.read (Elt Ideal) (G9 m c) := by
  have hN : t.val < 1 := lt_of_lt_of_eq t.isLt N_0
  rw [Value.flushed9]
  show out0_9 (iblk m c 0 t) (iblk m c 1 t) (iblk m c 2 t) (iblk m c 3 t) (iblk m c 4 t) (iblk m c 5 t) (iblk m c 6 t) (iblk m c 7 t) = _
  obtain ⟨-, ⟨h0, h1⟩, -, -, -, -⟩ := index_out t
  funext y
  obtain ⟨r, q, rfl⟩ : ∃ (r : Fin 32) (q : Fin 512), y = ix2 r q := ⟨y 0, y 1, by funext a; fin_cases a <;> rfl⟩
  have hr := r.isLt
  have hq := q.isLt
  rw [View.read_apply]
  have hemb : ((cfg0.win 9).blk t).view.emb (ix2 r q) = (ix2 ⟨t.val * 32 + r.val, by omega⟩ q : S32x512.Idx) := by
    funext a
    apply Fin.ext
    match a with
    | ⟨0, _⟩ => show win0_9.index t 0 * 32 + 1 * r.val = t.val * 32 + r.val; rw [h0]; omega
    | ⟨1, _⟩ => show win0_9.index t 1 * 512 + 1 * q.val = q.val; rw [h1]; omega
  refine Eq.trans ?_ (congrArg (G9 m c) hemb.symm)
  refine (block9 _ _ _ _ _ _ _ _ (ix2 r q)).trans ((att_eq m c t r.val r.isLt (2048 + q.val)).trans ?_)
  exact (Cert.RosRefIdeal.Columns.k_apply (att m c) ⟨t.val * 32 + r.val, by omega⟩ q).symm

theorem final9 (c : Dev nD) : (dats m 0 c).arrAt 9 cfg0.N = G9 m c :=
  (dats m 0 c).arrAt_eq_of_cover 9 (G9 m c) (fun t _ => flushed9 m c t) fun i => by
    have h0 : (i 0 : Nat) < 32 := (i 0).isLt
    have h1 : (i 1 : Nat) < 512 := (i 1).isLt
    have hN : cfg0.N = 1 := N_0
    have ht : (i 0 : Nat) / 32 < cfg0.N := by omega
    refine ⟨⟨(i 0 : Nat) / 32, ht⟩, flush0_9 _, ?_⟩
    obtain ⟨-, ⟨g0, g1⟩, -, -, -, -⟩ := index_out ⟨(i 0 : Nat) / 32, ht⟩
    show i ∈ ((View.whole main_v61_1).slice (win0_9.rect ⟨(i 0 : Nat) / 32, ht⟩)).set
    rw [View.set_slice_whole, Rect.mem_set_unit]
    intro a
    match a with
    | ⟨0, _⟩ =>
      show win0_9.index _ 0 * 32 ≤ (i 0 : Nat) ∧ (i 0 : Nat) < win0_9.index _ 0 * 32 + 32
      rw [g0]; dsimp only; omega
    | ⟨1, _⟩ =>
      show win0_9.index _ 1 * 512 ≤ (i 1 : Nat) ∧ (i 1 : Nat) < win0_9.index _ 1 * 512 + 512
      rw [g1]; omega

/-- The array that result 2 is to hold; what a point writes back is its block of it; and the blocks cover it. -/
abbrev G10 (c : Dev nD) : Buf (Elt Ideal) ((c : Thread nD τ).loc main_v61_2) :=
  Cert.RosRefIdeal.Read.val_main_v159 (F := Ideal) (att m c)

theorem flushed10 (c : Dev nD) (t : Fin cfg0.N) :
    (dats m 0 c).flushed 10 t = ((cfg0.win 10).blk t).view.read (Elt Ideal) (G10 m c) := by
  have hN : t.val < 1 := lt_of_lt_of_eq t.isLt N_0
  rw [Value.flushed10]
  show out0_10 (iblk m c 0 t) (iblk m c 1 t) (iblk m c 2 t) (iblk m c 3 t) (iblk m c 4 t) (iblk m c 5 t) (iblk m c 6 t) (iblk m c 7 t) = _
  obtain ⟨-, -, ⟨h0, h1⟩, -, -, -⟩ := index_out t
  funext y
  obtain ⟨r, q, rfl⟩ : ∃ (r : Fin 32) (q : Fin 512), y = ix2 r q := ⟨y 0, y 1, by funext a; fin_cases a <;> rfl⟩
  have hr := r.isLt
  have hq := q.isLt
  rw [View.read_apply]
  have hemb : ((cfg0.win 10).blk t).view.emb (ix2 r q) = (ix2 ⟨t.val * 32 + r.val, by omega⟩ q : S32x512.Idx) := by
    funext a
    apply Fin.ext
    match a with
    | ⟨0, _⟩ => show win0_10.index t 0 * 32 + 1 * r.val = t.val * 32 + r.val; rw [h0]; omega
    | ⟨1, _⟩ => show win0_10.index t 1 * 512 + 1 * q.val = q.val; rw [h1]; omega
  refine Eq.trans ?_ (congrArg (G10 m c) hemb.symm)
  refine (block10 _ _ _ _ _ _ _ _ (ix2 r q)).trans ((congrFun (att_block m c t r.val r.isLt) (2560 + q.val)).trans ?_)
  exact (Cert.RosRefIdeal.Columns.av_apply (att m c) ⟨t.val * 32 + r.val, by omega⟩ q).symm

theorem final10 (c : Dev nD) : (dats m 0 c).arrAt 10 cfg0.N = G10 m c :=
  (dats m 0 c).arrAt_eq_of_cover 10 (G10 m c) (fun t _ => flushed10 m c t) fun i => by
    have h0 : (i 0 : Nat) < 32 := (i 0).isLt
    have h1 : (i 1 : Nat) < 512 := (i 1).isLt
    have hN : cfg0.N = 1 := N_0
    have ht : (i 0 : Nat) / 32 < cfg0.N := by omega
    refine ⟨⟨(i 0 : Nat) / 32, ht⟩, flush0_10 _, ?_⟩
    obtain ⟨-, -, ⟨g0, g1⟩, -, -, -⟩ := index_out ⟨(i 0 : Nat) / 32, ht⟩
    show i ∈ ((View.whole main_v61_2).slice (win0_10.rect ⟨(i 0 : Nat) / 32, ht⟩)).set
    rw [View.set_slice_whole, Rect.mem_set_unit]
    intro a
    match a with
    | ⟨0, _⟩ =>
      show win0_10.index _ 0 * 32 ≤ (i 0 : Nat) ∧ (i 0 : Nat) < win0_10.index _ 0 * 32 + 32
      rw [g0]; dsimp only; omega
    | ⟨1, _⟩ =>
      show win0_10.index _ 1 * 512 ≤ (i 1 : Nat) ∧ (i 1 : Nat) < win0_10.index _ 1 * 512 + 512
      rw [g1]; omega

/-- The array that result 3 is to hold; what a point writes back is its block of it; and the blocks cover it. -/
abbrev G11 (c : Dev nD) : Buf (Elt Ideal) ((c : Thread nD τ).loc main_v61_3) :=
  Cert.RosRefIdeal.Read.val_main_v160 (F := Ideal) (idx m c)

theorem flushed11 (c : Dev nD) (t : Fin cfg0.N) :
    (dats m 0 c).flushed 11 t = ((cfg0.win 11).blk t).view.read (Elt Ideal) (G11 m c) := by
  have hN : t.val < 1 := lt_of_lt_of_eq t.isLt N_0
  rw [Value.flushed11]
  show out0_11 (iblk m c 0 t) (iblk m c 1 t) (iblk m c 2 t) (iblk m c 3 t) (iblk m c 4 t) (iblk m c 5 t) (iblk m c 6 t) (iblk m c 7 t) = _
  obtain ⟨-, -, -, ⟨h0, h1⟩, -, -⟩ := index_out t
  funext y
  obtain ⟨r, q, rfl⟩ : ∃ (r : Fin 32) (q : Fin 512), y = ix2 r q := ⟨y 0, y 1, by funext a; fin_cases a <;> rfl⟩
  have hr := r.isLt
  have hq := q.isLt
  rw [View.read_apply]
  have hemb : ((cfg0.win 11).blk t).view.emb (ix2 r q) = (ix2 ⟨t.val * 32 + r.val, by omega⟩ q : S32x512.Idx) := by
    funext a
    apply Fin.ext
    match a with
    | ⟨0, _⟩ => show win0_11.index t 0 * 32 + 1 * r.val = t.val * 32 + r.val; rw [h0]; omega
    | ⟨1, _⟩ => show win0_11.index t 1 * 512 + 1 * q.val = q.val; rw [h1]; omega
  refine Eq.trans ?_ (congrArg (G11 m c) hemb.symm)
  refine (block11 _ _ _ _ _ _ _ _ (ix2 r q)).trans ((idx_eq m c t r.val r.isLt (0 + q.val)).trans ?_)
  exact (Cert.RosRefIdeal.Columns.iq_apply (idx m c) ⟨t.val * 32 + r.val, by omega⟩ q).symm

theorem final11 (c : Dev nD) : (dats m 0 c).arrAt 11 cfg0.N = G11 m c :=
  (dats m 0 c).arrAt_eq_of_cover 11 (G11 m c) (fun t _ => flushed11 m c t) fun i => by
    have h0 : (i 0 : Nat) < 32 := (i 0).isLt
    have h1 : (i 1 : Nat) < 512 := (i 1).isLt
    have hN : cfg0.N = 1 := N_0
    have ht : (i 0 : Nat) / 32 < cfg0.N := by omega
    refine ⟨⟨(i 0 : Nat) / 32, ht⟩, flush0_11 _, ?_⟩
    obtain ⟨-, -, -, ⟨g0, g1⟩, -, -⟩ := index_out ⟨(i 0 : Nat) / 32, ht⟩
    show i ∈ ((View.whole main_v61_3).slice (win0_11.rect ⟨(i 0 : Nat) / 32, ht⟩)).set
    rw [View.set_slice_whole, Rect.mem_set_unit]
    intro a
    match a with
    | ⟨0, _⟩ =>
      show win0_11.index _ 0 * 32 ≤ (i 0 : Nat) ∧ (i 0 : Nat) < win0_11.index _ 0 * 32 + 32
      rw [g0]; dsimp only; omega
    | ⟨1, _⟩ =>
      show win0_11.index _ 1 * 512 ≤ (i 1 : Nat) ∧ (i 1 : Nat) < win0_11.index _ 1 * 512 + 512
      rw [g1]; omega

/-- The array that result 4 is to hold; what a point writes back is its block of it; and the blocks cover it. -/
abbrev G12 (c : Dev nD) : Buf (Elt Ideal) ((c : Thread nD τ).loc main_v61_4) :=
  Cert.RosRefIdeal.Read.val_main_v161 (F := Ideal) (idx m c)

theorem flushed12 (c : Dev nD) (t : Fin cfg0.N) :
    (dats m 0 c).flushed 12 t = ((cfg0.win 12).blk t).view.read (Elt Ideal) (G12 m c) := by
  have hN : t.val < 1 := lt_of_lt_of_eq t.isLt N_0
  rw [Value.flushed12]
  show out0_12 (iblk m c 0 t) (iblk m c 1 t) (iblk m c 2 t) (iblk m c 3 t) (iblk m c 4 t) (iblk m c 5 t) (iblk m c 6 t) (iblk m c 7 t) = _
  obtain ⟨-, -, -, -, ⟨h0, h1⟩, -⟩ := index_out t
  funext y
  obtain ⟨r, q, rfl⟩ : ∃ (r : Fin 32) (q : Fin 64), y = ix2 r q := ⟨y 0, y 1, by funext a; fin_cases a <;> rfl⟩
  have hr := r.isLt
  have hq := q.isLt
  rw [View.read_apply]
  have hemb : ((cfg0.win 12).blk t).view.emb (ix2 r q) = (ix2 ⟨t.val * 32 + r.val, by omega⟩ q : S32x64.Idx) := by
    funext a
    apply Fin.ext
    match a with
    | ⟨0, _⟩ => show win0_12.index t 0 * 32 + 1 * r.val = t.val * 32 + r.val; rw [h0]; omega
    | ⟨1, _⟩ => show win0_12.index t 1 * 64 + 1 * q.val = q.val; rw [h1]; omega
  refine Eq.trans ?_ (congrArg (G12 m c) hemb.symm)
  refine (block12 _ _ _ _ _ _ _ _ (ix2 r q)).trans ((idx_eq m c t r.val r.isLt (512 + q.val)).trans ?_)
  exact (Cert.RosRefIdeal.Columns.ik_apply (idx m c) ⟨t.val * 32 + r.val, by omega⟩ q).symm

theorem final12 (c : Dev nD) : (dats m 0 c).arrAt 12 cfg0.N = G12 m c :=
  (dats m 0 c).arrAt_eq_of_cover 12 (G12 m c) (fun t _ => flushed12 m c t) fun i => by
    have h0 : (i 0 : Nat) < 32 := (i 0).isLt
    have h1 : (i 1 : Nat) < 64 := (i 1).isLt
    have hN : cfg0.N = 1 := N_0
    have ht : (i 0 : Nat) / 32 < cfg0.N := by omega
    refine ⟨⟨(i 0 : Nat) / 32, ht⟩, flush0_12 _, ?_⟩
    obtain ⟨-, -, -, -, ⟨g0, g1⟩, -⟩ := index_out ⟨(i 0 : Nat) / 32, ht⟩
    show i ∈ ((View.whole main_v61_4).slice (win0_12.rect ⟨(i 0 : Nat) / 32, ht⟩)).set
    rw [View.set_slice_whole, Rect.mem_set_unit]
    intro a
    match a with
    | ⟨0, _⟩ =>
      show win0_12.index _ 0 * 32 ≤ (i 0 : Nat) ∧ (i 0 : Nat) < win0_12.index _ 0 * 32 + 32
      rw [g0]; dsimp only; omega
    | ⟨1, _⟩ =>
      show win0_12.index _ 1 * 64 ≤ (i 1 : Nat) ∧ (i 1 : Nat) < win0_12.index _ 1 * 64 + 64
      rw [g1]; omega

/-- The array that result 5 is to hold; what a point writes back is its block of it; and the blocks cover it. -/
abbrev G13 (c : Dev nD) : Buf (Elt Ideal) ((c : Thread nD τ).loc main_v61_5) :=
  Cert.RosRefIdeal.Read.val_main_v162 (F := Ideal) (idx m c)

theorem flushed13 (c : Dev nD) (t : Fin cfg0.N) :
    (dats m 0 c).flushed 13 t = ((cfg0.win 13).blk t).view.read (Elt Ideal) (G13 m c) := by
  have hN : t.val < 1 := lt_of_lt_of_eq t.isLt N_0
  rw [Value.flushed13]
  show out0_13 (iblk m c 0 t) (iblk m c 1 t) (iblk m c 2 t) (iblk m c 3 t) (iblk m c 4 t) (iblk m c 5 t) (iblk m c 6 t) (iblk m c 7 t) = _
  obtain ⟨-, -, -, -, -, ⟨h0, h1⟩⟩ := index_out t
  funext y
  obtain ⟨r, q, rfl⟩ : ∃ (r : Fin 32) (q : Fin 128), y = ix2 r q := ⟨y 0, y 1, by funext a; fin_cases a <;> rfl⟩
  have hr := r.isLt
  have hq := q.isLt
  rw [View.read_apply]
  have hemb : ((cfg0.win 13).blk t).view.emb (ix2 r q) = (ix2 ⟨t.val * 32 + r.val, by omega⟩ q : S32x128.Idx) := by
    funext a
    apply Fin.ext
    match a with
    | ⟨0, _⟩ => show win0_13.index t 0 * 32 + 1 * r.val = t.val * 32 + r.val; rw [h0]; omega
    | ⟨1, _⟩ => show win0_13.index t 1 * 128 + 1 * q.val = q.val; rw [h1]; omega
  refine Eq.trans ?_ (congrArg (G13 m c) hemb.symm)
  refine (block13 _ _ _ _ _ _ _ _ (ix2 r q)).trans ((congrArg (fun x : EReal => x * Ideal.ofBits .f32 0x3EB504F3#32) (congrFun (idx_block m c t r.val r.isLt) (640 + q.val))).trans ?_)
  exact (Cert.RosRefIdeal.Columns.iw_apply (idx m c) ⟨t.val * 32 + r.val, by omega⟩ q).symm

theorem final13 (c : Dev nD) : (dats m 0 c).arrAt 13 cfg0.N = G13 m c :=
  (dats m 0 c).arrAt_eq_of_cover 13 (G13 m c) (fun t _ => flushed13 m c t) fun i => by
    have h0 : (i 0 : Nat) < 32 := (i 0).isLt
    have h1 : (i 1 : Nat) < 128 := (i 1).isLt
    have hN : cfg0.N = 1 := N_0
    have ht : (i 0 : Nat) / 32 < cfg0.N := by omega
    refine ⟨⟨(i 0 : Nat) / 32, ht⟩, flush0_13 _, ?_⟩
    obtain ⟨-, -, -, -, -, ⟨g0, g1⟩⟩ := index_out ⟨(i 0 : Nat) / 32, ht⟩
    show i ∈ ((View.whole main_v61_5).slice (win0_13.rect ⟨(i 0 : Nat) / 32, ht⟩)).set
    rw [View.set_slice_whole, Rect.mem_set_unit]
    intro a
    match a with
    | ⟨0, _⟩ =>
      show win0_13.index _ 0 * 32 ≤ (i 0 : Nat) ∧ (i 0 : Nat) < win0_13.index _ 0 * 32 + 32
      rw [g0]; dsimp only; omega
    | ⟨1, _⟩ =>
      show win0_13.index _ 1 * 128 ≤ (i 1 : Nat) ∧ (i 1 : Nat) < win0_13.index _ 1 * 128 + 128
      rw [g1]; omega

end Cert.RosIdeal.Product

end
-- ==== Proof.Spr.lean ====
/-
  The convolution of the sample rows: each channel's new value and its three buffered ones, weighted, with a bias, then `silu`; and
  the buffer moved on by one row. The kernel starts from the bias and the new value, the reference sums the four taps in order.
-/
module

public import proofs.«01_k».proof.Proof.Gen.SprIdeal.Frame
public import Idealize.ShloMosaic.Lib.Pipeline.Value
public import proofs.«01_k».proof.Proof.Gen.SprRefIdeal.Read
public import Idealize.ShloMosaic.Lib.IdealHost

@[expose] public section

set_option maxRecDepth 16384

noncomputable section

namespace Cert.SprIdeal.Product

open Cert.SprIdeal Cert.SprIdeal.Gen Idealize.ShloMosaic Idealize.ShloMosaic.TcCoe Idealize.SL.Sem
open Idealize.ShloMosaic.ValueIdx Idealize.ShloMosaic.Tactic

theorem hz : (![0, 0] : Fin 2 → Nat) = fun _ => 0 := funext fun a => by fin_cases a <;> rfl

/-- The four taps of one channel, with the bias. -/
def taps (b w0 w1 w2 w3 s0 s1 s2 x : EReal) : EReal := b + w3 * x + w0 * s0 + w1 * s1 + w2 * s2

/-- The same taps summed in the reference's order. -/
theorem taps_eq (b w0 w1 w2 w3 s0 s1 s2 x : EReal) :
    b + (0 + s0 * w0 + s1 * w1 + s2 * w2 + x * w3) = taps b w0 w1 w2 w3 s0 s1 s2 x := by
  unfold taps
  rw [zero_add, mul_comm s0, mul_comm s1, mul_comm s2, mul_comm x]
  generalize w0 * s0 = p
  generalize w1 * s1 = q
  generalize w2 * s2 = u
  generalize w3 * x = v
  ac_rfl

/-- A number times its logistic. -/
def silu (x : EReal) : EReal := x * Ideal.logistic x

section Reference

open Cert.SprRefIdeal.Read

variable (x : Vec Ideal S32x5120 .f32) (s : Vec Ideal S32x3x3072 .f32) (w : Vec Ideal S4x3072 .f32) (b : Vec Ideal S3072 .f32)

/-- The reference's convolution at row `r`, channel `j`. -/
def conv (r : Fin 32) (j : Fin 3072) : EReal :=
  taps (b (ix1 j)) (w (ix2 0 j)) (w (ix2 1 j)) (w (ix2 2 j)) (w (ix2 3 j)) (s (ix3 r 0 j)) (s (ix3 r 1 j)) (s (ix3 r 2 j))
    (x (ix2 r ⟨2048 + j.val, by omega⟩))

/-- The first three rows of the joined buffer are the old buffer. -/
theorem joined_old (r : Fin 32) (k : Fin 3) (j : Fin 3072) :
    val_main_v2 (F := Ideal) x s (ix3 r ⟨k.val, by omega⟩ j) = s (ix3 r k j) := by
  unfold val_main_v2
  exact concatenate_apply_piece (t := Cert.SprRefIdeal.S32x4x3072) 1 _ _ (ix3 r ⟨k.val, by omega⟩ j) 0 (by show 0 < 2; omega) Cert.SprRefIdeal.S32x3x3072 s rfl rfl
    0 rfl (ix3 r k j) (fun a ha => by fin_cases a <;> first | rfl | exact absurd rfl ha) (by show 0 + k.val = k.val; omega)

/-- Its last row is the new one. -/
theorem joined_new (r : Fin 32) (j : Fin 3072) :
    val_main_v2 (F := Ideal) x s (ix3 r 3 j) = x (ix2 r ⟨2048 + j.val, by omega⟩) := by
  unfold val_main_v2
  refine (concatenate_apply_piece (t := Cert.SprRefIdeal.S32x4x3072) 1 _ _ (ix3 r 3 j) 1 (by show 1 < 2; omega) Cert.SprRefIdeal.S32x1x3072
    (val_main_v1 (F := Ideal) x) rfl rfl 3 rfl (ix3 r 0 j) (fun a ha => by fin_cases a <;> first | rfl | exact absurd rfl ha)
    (by show 3 + 0 = 3; omega)).trans ?_
  rw [val_main_v1_apply, val_main_v0_apply]
  exact congrArg x (funext fun a => by fin_cases a <;> rfl)

/-- Tap 0: its weight and the row it weighs. -/
theorem weight0 (r : Fin 32) (j : Fin 3072) : val_main_v7 (F := Ideal) w (ix3 r 0 j) = w (ix2 0 j) := by
  have hj := j.isLt
  rw [val_main_v7_apply, val_main_v6_apply, val_main_v5_apply, val_main_v4_apply]
  refine congrArg w (funext fun a => Fin.ext ?_)
  match a with
  | ⟨0, _⟩ => rfl
  | ⟨1, _⟩ => show j.val % 3072 = j.val; omega
theorem row0 (r : Fin 32) (j : Fin 3072) : val_main_v3 (F := Ideal) x s (ix3 r 0 j) = s (ix3 r 0 j) := by
  rw [val_main_v3_apply]
  exact (congrArg (val_main_v2 (F := Ideal) x s) (funext fun a => by fin_cases a <;> rfl)).trans (joined_old x s r 0 j)

/-- Tap 1: its weight and the row it weighs. -/
theorem weight1 (r : Fin 32) (j : Fin 3072) : val_main_v15 (F := Ideal) w (ix3 r 0 j) = w (ix2 1 j) := by
  have hj := j.isLt
  rw [val_main_v15_apply, val_main_v14_apply, val_main_v13_apply, val_main_v12_apply]
  refine congrArg w (funext fun a => Fin.ext ?_)
  match a with
  | ⟨0, _⟩ => rfl
  | ⟨1, _⟩ => show j.val % 3072 = j.val; omega
theorem row1 (r : Fin 32) (j : Fin 3072) : val_main_v11 (F := Ideal) x s (ix3 r 0 j) = s (ix3 r 1 j) := by
  rw [val_main_v11_apply]
  exact (congrArg (val_main_v2 (F := Ideal) x s) (funext fun a => by fin_cases a <;> rfl)).trans (joined_old x s r 1 j)

/-- Tap 2: its weight and the row it weighs. -/
theorem weight2 (r : Fin 32) (j : Fin 3072) : val_main_v22 (F := Ideal) w (ix3 r 0 j) = w (ix2 2 j) := by
  have hj := j.isLt
  rw [val_main_v22_apply, val_main_v21_apply, val_main_v20_apply, val_main_v19_apply]
  refine congrArg w (funext fun a => Fin.ext ?_)
  match a with
  | ⟨0, _⟩ => rfl
  | ⟨1, _⟩ => show j.val % 3072 = j.val; omega
theorem row2 (r : Fin 32) (j : Fin 3072) : val_main_v18 (F := Ideal) x s (ix3 r 0 j) = s (ix3 r 2 j) := by
  rw [val_main_v18_apply]
  exact (congrArg (val_main_v2 (F := Ideal) x s) (funext fun a => by fin_cases a <;> rfl)).trans (joined_old x s r 2 j)

/-- Tap 3: its weight and the row it weighs. -/
theorem weight3 (r : Fin 32) (j : Fin 3072) : val_main_v29 (F := Ideal) w (ix3 r 0 j) = w (ix2 3 j) := by
  have hj := j.isLt
  rw [val_main_v29_apply, val_main_v28_apply, val_main_v27_apply, val_main_v26_apply]
  refine congrArg w (funext fun a => Fin.ext ?_)
  match a with
  | ⟨0, _⟩ => rfl
  | ⟨1, _⟩ => show j.val % 3072 = j.val; omega
theorem row3 (r : Fin 32) (j : Fin 3072) : val_main_v25 (F := Ideal) x s (ix3 r 0 j) = x (ix2 r ⟨2048 + j.val, by omega⟩) := by
  rw [val_main_v25_apply]
  exact (congrArg (val_main_v2 (F := Ideal) x s) (funext fun a => by fin_cases a <;> rfl)).trans (joined_new x s r j)

/-- The bias. -/
theorem bias (r : Fin 32) (j : Fin 3072) : val_main_v33 (F := Ideal) b (ix3 r 0 j) = b (ix1 j) := by
  rw [val_main_v33_apply, val_main_v32_apply]
  exact congrArg b (funext fun a => by fin_cases a; rfl)

/-- The reference's convolution is the four taps. -/
theorem conv_apply (r : Fin 32) (j : Fin 3072) : val_main_v34 (F := Ideal) x s w b (ix3 r 0 j) = conv x s w b r j := by
  refine Eq.trans ?_ (taps_eq _ _ _ _ _ _ _ _ _)
  rw [val_main_v34_apply, bias]
  refine congrArg (fun y : EReal => b (ix1 j) + y) ?_
  rw [val_main_v31_apply, val_main_v24_apply, val_main_v17_apply, val_main_v10_apply, val_main_v8_apply, val_main_v16_apply,
    val_main_v23_apply, val_main_v30_apply, weight0, weight1, weight2, weight3, row0, row1, row2, row3, val_main_v9_apply]
  rw [show val_main_cst (F := Ideal) (idx_main_v9 (ix3 r 0 j)) = (0 : EReal) from Ideal.ofBits_zero_f32]
  rfl

/-- The reference's activation. -/
theorem act_apply (r : Fin 32) (j : Fin 3072) : val_main_v37 (F := Ideal) x s w b (ix2 r j) = silu (conv x s w b r j) := by
  have hr := r.isLt
  have hj := j.isLt
  rw [val_main_v37_apply, show idx_main_v37 (ix2 r j) = ix3 r 0 j from funext fun a => Fin.ext (by
    match a with
    | ⟨0, _⟩ => show (r.val * 3072 + j.val) / 3072 = r.val; omega
    | ⟨1, _⟩ => rfl
    | ⟨2, _⟩ => show (r.val * 3072 + j.val) % 3072 = j.val; omega)]
  rw [val_main_v36_apply, val_main_call0_v5_apply, val_main_call0_v4_apply, val_main_call0_v3_apply, val_main_call0_v2_apply,
    val_main_call0_v1_apply, val_main_call0_v0_apply, val_main_call0_cst_apply, val_main_call0_cst_0_apply, conv_apply]
  show _ * Ideal.div (Ideal.ofBits .f32 0x3F800000#32) (Ideal.ofBits .f32 0x3F800000#32 + Ideal.exp (-_)) = _
  rw [Ideal.ofBits_one_f32]
  rfl

end Reference

section Kernel

variable (x0 : Vec Ideal S32x5120 .f32) (x1 : Vec Ideal S32x128 .f32) (x2 : Vec Ideal S3x32x3072 .f32) (x3 : Vec Ideal S4x3072 .f32)
  (x4 : Vec Ideal S1x3072 .f32) (x5 x6 : Vec Ideal S1x128 .f32) (x7 : Vec Ideal S128x2048 .bf16)

/-- A row spread over all rows. -/
theorem spread (v : Vec Ideal S1x3072 .f32) (r : Fin 32) (j : Fin 3072) :
    broadcastTo S32x3072 v broadcasts_S1x3072_S32x3072 (ix2 r j) = v (ix2 0 j) :=
  broadcastTo_apply v _ (ix2 r j) (ix2 0 j) fun a => by fin_cases a <;> rfl

/-- One row of the buffer as a matrix. -/
theorem plane (v : Vec Ideal S1x32x3072 .f32) (r : Fin 32) (j : Fin 3072) :
    shapeCast S32x3072 v shapeCasts_S1x32x3072_S32x3072 (ix2 r j) = v (ix3 0 r j) :=
  shapeCast_apply _ _ (ix2 r j) (ix3 0 r j) (by
    rw [Shape.rowMajor_val_three, Shape.rowMajor_val_two]
    show (0 * 32 + r.val) * 3072 + j.val = r.val * 3072 + j.val
    omega)

/-- A row of the weights, a row of the buffer and the new row, as they are loaded. -/
theorem ld_weight (k : Fin 4) (inb : ∀ a, (![k.val, 0] : Fin 2 → Nat) a + S1x3072.size a ≤ S4x3072.size a) (j : Fin 3072) :
    View.ld x3 (Rect.unit (s := S4x3072) ![k.val, 0] S1x3072.size inb) (ix2 0 j) = x3 (ix2 k j) := by
  refine congrArg x3 (funext fun a => Fin.ext ?_)
  match a with
  | ⟨0, _⟩ => show k.val + 1 * 0 = k.val; omega
  | ⟨1, _⟩ => show 0 + 1 * j.val = j.val; omega
theorem ld_buffer (k : Fin 3) (inb : ∀ a, (![k.val, 0, 0] : Fin 3 → Nat) a + S1x32x3072.size a ≤ S3x32x3072.size a) (r : Fin 32) (j : Fin 3072) :
    View.ld x2 (Rect.unit (s := S3x32x3072) ![k.val, 0, 0] S1x32x3072.size inb) (ix3 0 r j) = x2 (ix3 k r j) := by
  refine congrArg x2 (funext fun a => Fin.ext ?_)
  match a with
  | ⟨0, _⟩ => show k.val + 1 * 0 = k.val; omega
  | ⟨1, _⟩ => show 0 + 1 * r.val = r.val; omega
  | ⟨2, _⟩ => show 0 + 1 * j.val = j.val; omega
theorem ld_new (r : Fin 32) (j : Fin 3072) : View.ld x0 r0_0 (ix2 r j) = x0 (ix2 r ⟨2048 + j.val, by omega⟩) := by
  refine congrArg x0 (funext fun a => Fin.ext ?_)
  match a with
  | ⟨0, _⟩ => show 0 + 1 * r.val = r.val; omega
  | ⟨1, _⟩ => show 2048 + 1 * j.val = 2048 + j.val; omega

/-- The kernel's convolution is the four taps. -/
theorem taps_apply (r : Fin 32) (j : Fin 3072) : k0_pay18 (F := Ideal) x0 x1 x2 x3 x4 x5 x6 x7 (ix2 r j)
    = taps (x4 (ix2 0 j)) (x3 (ix2 0 j)) (x3 (ix2 1 j)) (x3 (ix2 2 j)) (x3 (ix2 3 j)) (x2 (ix3 0 r j)) (x2 (ix3 1 r j))
        (x2 (ix3 2 r j)) (x0 (ix2 r ⟨2048 + j.val, by omega⟩)) := by
  unfold k0_pay18 k0_pay5 taps
  refine congrArg₂ (· + ·) (congrArg₂ (· + ·) (congrArg₂ (· + ·) (congrArg₂ (· + ·) ?_ (congrArg₂ (· * ·) ?_ ?_))
    (congrArg₂ (· * ·) ?_ ?_)) (congrArg₂ (· * ·) ?_ ?_)) (congrArg₂ (· * ·) ?_ ?_)
  · refine (spread _ r j).trans ?_
    rw [shapeCast_self, View.ld_unit_zero (S := S1x3072) hz]
  · exact (spread _ r j).trans (ld_weight x3 3 _ j)
  · exact ld_new x0 r j
  · exact (spread _ r j).trans (ld_weight x3 0 _ j)
  · exact (plane _ r j).trans (ld_buffer x2 0 _ r j)
  · exact (spread _ r j).trans (ld_weight x3 1 _ j)
  · exact (plane _ r j).trans (ld_buffer x2 1 _ r j)
  · exact (spread _ r j).trans (ld_weight x3 2 _ j)
  · exact (plane _ r j).trans (ld_buffer x2 2 _ r j)

/-- The kernel's activation. -/
theorem silu_apply (r : Fin 32) (j : Fin 3072) : k0_pay9 (F := Ideal) (k0_pay18 (F := Ideal) x0 x1 x2 x3 x4 x5 x6 x7) (ix2 r j)
    = silu (taps (x4 (ix2 0 j)) (x3 (ix2 0 j)) (x3 (ix2 1 j)) (x3 (ix2 2 j)) (x3 (ix2 3 j)) (x2 (ix3 0 r j)) (x2 (ix3 1 r j))
        (x2 (ix3 2 r j)) (x0 (ix2 r ⟨2048 + j.val, by omega⟩))) :=
  congrArg silu (taps_apply x0 x1 x2 x3 x4 x5 x6 x7 r j)

/-- The moved buffer: rows one and two of the old one, and the new row. -/
def moved (i : S3x32x3072.Idx) : EReal :=
  if h : (i 0).val < 2 then x2 (ix3 ⟨(i 0).val + 1, by omega⟩ (i 1) (i 2))
  else x0 (ix2 (i 1) ⟨2048 + (i 2).val, by have h2 : (i 2).val < 3072 := (i 2).isLt; omega⟩)

/-- The new row stored as one row of the buffer. -/
theorem unplane (v : Vec Ideal S32x3072 .f32) (r : Fin 32) (j : Fin 3072) :
    shapeCast S1x32x3072 v shapeCasts_S32x3072_S1x32x3072 (ix3 0 r j) = v (ix2 r j) :=
  shapeCast_apply _ _ (ix3 0 r j) (ix2 r j) (by
    rw [Shape.rowMajor_val_three, Shape.rowMajor_val_two]
    show r.val * 3072 + j.val = (0 * 32 + r.val) * 3072 + j.val
    omega)

/-- What the call leaves in the buffer. -/
theorem block8 (y : S3x32x3072.Idx) : out0_8 (F := Ideal) x0 x1 x2 x3 x4 x5 x6 x7 y = moved x0 x2 y := by
  unfold out0_8
  refine View.canon_apply_of_pieces (Val := Elt Ideal) (S := S3x32x3072) (e := .f32) (moved x0 x2) _ ?_ y (cover0_8 _ _ _ y)
  intro pc hpc
  rcases List.mem_cons.mp hpc with rfl | hpc
  · intro i
    obtain ⟨z, r, j, rfl⟩ : ∃ (z : Fin 1) (r : Fin 32) (j : Fin 3072), i = ix3 z r j := ⟨i 0, i 1, i 2, by funext a; fin_cases a <;> rfl⟩
    obtain rfl : z = 0 := Subsingleton.elim _ _
    refine ((unplane _ r j).trans (ld_new x0 r j)).trans (Eq.symm ((dif_neg (by show ¬(2 + 1 * 0 < 2); omega)).trans ?_))
    refine congrArg x0 (funext fun a => Fin.ext ?_)
    match a with
    | ⟨0, _⟩ => show 0 + 1 * r.val = r.val; omega
    | ⟨1, _⟩ => show 2048 + (0 + 1 * j.val) = 2048 + j.val; omega
  rcases List.mem_cons.mp hpc with rfl | hpc
  · intro i
    obtain ⟨z, r, j, rfl⟩ : ∃ (z : Fin 1) (r : Fin 32) (j : Fin 3072), i = ix3 z r j := ⟨i 0, i 1, i 2, by funext a; fin_cases a <;> rfl⟩
    obtain rfl : z = 0 := Subsingleton.elim _ _
    refine ((unplane _ r j).trans ((plane _ r j).trans (ld_buffer x2 2 _ r j))).trans
      (Eq.symm ((dif_pos (by show 1 + 1 * 0 < 2; omega)).trans ?_))
    refine congrArg x2 (funext fun a => Fin.ext ?_)
    match a with
    | ⟨0, _⟩ => rfl
    | ⟨1, _⟩ => show 0 + 1 * r.val = r.val; omega
    | ⟨2, _⟩ => show 0 + 1 * j.val = j.val; omega
  rcases List.mem_cons.mp hpc with rfl | hpc
  · intro i
    obtain ⟨z, r, j, rfl⟩ : ∃ (z : Fin 1) (r : Fin 32) (j : Fin 3072), i = ix3 z r j := ⟨i 0, i 1, i 2, by funext a; fin_cases a <;> rfl⟩
    obtain rfl : z = 0 := Subsingleton.elim _ _
    refine ((unplane _ r j).trans ((plane _ r j).trans (ld_buffer x2 1 _ r j))).trans
      (Eq.symm ((dif_pos (by show 0 + 1 * 0 < 2; omega)).trans ?_))
    refine congrArg x2 (funext fun a => Fin.ext ?_)
    match a with
    | ⟨0, _⟩ => rfl
    | ⟨1, _⟩ => show 0 + 1 * r.val = r.val; omega
    | ⟨2, _⟩ => show 0 + 1 * j.val = j.val; omega
  nomatch hpc

/-- The activation's columns from 0. -/
theorem block11 (r : Fin 32) (q : Fin 2048) : out0_11 (F := Ideal) x0 x1 x2 x3 x4 x5 x6 x7 (ix2 r q)
    = k0_pay9 (F := Ideal) (k0_pay18 (F := Ideal) x0 x1 x2 x3 x4 x5 x6 x7) (ix2 r ⟨0 + q.val, by omega⟩) := by
  unfold out0_11 k0_pay20
  rw [View.canon_unit_zero (S := S32x2048) hz]
  unfold k0_pay10
  refine extractStridedSlice_apply _ _ _ (ix2 r q) (ix2 r ⟨0 + q.val, by omega⟩) fun a => ?_
  match a with
  | ⟨0, _⟩ => show r.val = 0 + r.val; omega
  | ⟨1, _⟩ => rfl

/-- The activation's columns from 2048. -/
theorem block12 (r : Fin 32) (q : Fin 512) : out0_12 (F := Ideal) x0 x1 x2 x3 x4 x5 x6 x7 (ix2 r q)
    = k0_pay9 (F := Ideal) (k0_pay18 (F := Ideal) x0 x1 x2 x3 x4 x5 x6 x7) (ix2 r ⟨2048 + q.val, by omega⟩) := by
  unfold out0_12 k0_pay19
  rw [View.canon_unit_zero (S := S32x512) hz]
  unfold k0_pay3
  refine extractStridedSlice_apply _ _ _ (ix2 r q) (ix2 r ⟨2048 + q.val, by omega⟩) fun a => ?_
  match a with
  | ⟨0, _⟩ => show r.val = 0 + r.val; omega
  | ⟨1, _⟩ => rfl

/-- The activation's columns from 2560. -/
theorem block13 (r : Fin 32) (q : Fin 512) : out0_13 (F := Ideal) x0 x1 x2 x3 x4 x5 x6 x7 (ix2 r q)
    = k0_pay9 (F := Ideal) (k0_pay18 (F := Ideal) x0 x1 x2 x3 x4 x5 x6 x7) (ix2 r ⟨2560 + q.val, by omega⟩) := by
  unfold out0_13 k0_pay19
  rw [View.canon_unit_zero (S := S32x512) hz]
  unfold k0_pay4
  refine extractStridedSlice_apply _ _ _ (ix2 r q) (ix2 r ⟨2560 + q.val, by omega⟩) fun a => ?_
  match a with
  | ⟨0, _⟩ => show r.val = 0 + r.val; omega
  | ⟨1, _⟩ => rfl

end Kernel

section Values

variable (m : (ℓ : Loc nD τ sig) → Buf (Elt Ideal) ℓ)

/-- The arguments that the results depend on, as launched. -/
abbrev newrow (c : Dev nD) : Vec Ideal S32x5120 .f32 := m ((c : Thread nD τ).loc main_arg0)
abbrev buffer (c : Dev nD) : Vec Ideal S32x3x3072 .f32 := m ((c : Thread nD τ).loc main_arg2)
abbrev weights (c : Dev nD) : Vec Ideal S4x3072 .f32 := m ((c : Thread nD τ).loc main_arg3)
abbrev biases (c : Dev nD) : Vec Ideal S3072 .f32 := m ((c : Thread nD τ).loc main_arg4)

/-- The buffer and the bias as the call finds them. -/
theorem V_buffer (c : Dev nD) : (V m c main_v16 : Vec Ideal S3x32x3072 .f32)
    = transpose S3x32x3072 [1, 0, 2] (buffer m c) transposes_S32x3x3072_S3x32x3072_1_0_2 := by
  show StableHlo.after (List.flatten [hostOps0, hostOps0_1, hostOps0_2]) _ (Proc.devRef .tc main_v16) = _
  simp only [hostOps0, hostOps0_1, hostOps0_2, List.flatten_cons, List.flatten_nil, List.append_nil, List.cons_append, List.nil_append]
  after_results_simp
theorem V_bias (c : Dev nD) : (V m c main_v9 : Vec Ideal S1x3072 .f32) = shapeCast S1x3072 (biases m c) shapeCasts_S3072_S1x3072 := by
  show StableHlo.after (List.flatten [hostOps0, hostOps0_1, hostOps0_2]) _ (Proc.devRef .tc main_v9) = _
  simp only [hostOps0, hostOps0_1, hostOps0_2, List.flatten_cons, List.flatten_nil, List.append_nil, List.cons_append, List.nil_append]
  after_results_simp
  rfl

/-- The four blocks the results are computed from, read at an index. -/
theorem blk0 (c : Dev nD) (t : Fin cfg0.N) (r : Fin 32) (j : Fin 5120) :
    (iblk m c 0 t : Vec Ideal S32x5120 .f32) (ix2 r j) = newrow m c (ix2 r j) := by
  unfold iblk
  rw [View.read_apply]
  show m (c.tc.loc main_arg0) _ = m (c.tc.loc main_arg0) _
  congr 1
  funext a
  apply Fin.ext
  match a with
  | ⟨0, _⟩ => show 0 * 32 + 1 * r.val = r.val; omega
  | ⟨1, _⟩ => show 0 * 5120 + 1 * j.val = j.val; omega
theorem blk3 (c : Dev nD) (t : Fin cfg0.N) (k : Fin 4) (j : Fin 3072) :
    (iblk m c 3 t : Vec Ideal S4x3072 .f32) (ix2 k j) = weights m c (ix2 k j) := by
  unfold iblk
  rw [View.read_apply]
  show m (c.tc.loc main_arg3) _ = m (c.tc.loc main_arg3) _
  congr 1
  funext a
  apply Fin.ext
  match a with
  | ⟨0, _⟩ => show 0 * 4 + 1 * k.val = k.val; omega
  | ⟨1, _⟩ => show 0 * 3072 + 1 * j.val = j.val; omega
theorem blk2 (c : Dev nD) (t : Fin cfg0.N) (k : Fin 3) (r : Fin 32) (j : Fin 3072) :
    (iblk m c 2 t : Vec Ideal S3x32x3072 .f32) (ix3 k r j) = buffer m c (ix3 r k j) := by
  unfold iblk
  rw [View.read_apply]
  show (V m c main_v16 : Vec Ideal S3x32x3072 .f32) _ = _
  rw [V_buffer]
  refine transpose_apply _ _ _ _ (ix3 r k j) fun a => ?_
  match a with
  | ⟨0, _⟩ => show k.val = 0 * 3 + 1 * k.val; omega
  | ⟨1, _⟩ => show r.val = 0 * 32 + 1 * r.val; omega
  | ⟨2, _⟩ => show j.val = 0 * 3072 + 1 * j.val; omega
theorem blk4 (c : Dev nD) (t : Fin cfg0.N) (j : Fin 3072) :
    (iblk m c 4 t : Vec Ideal S1x3072 .f32) (ix2 0 j) = biases m c (ix1 j) := by
  unfold iblk
  rw [View.read_apply]
  show (V m c main_v9 : Vec Ideal S1x3072 .f32) _ = _
  rw [V_bias]
  refine shapeCast_apply _ _ _ (ix1 j) ?_
  rw [Shape.rowMajor_val_two, Shape.rowMajor_val_one]
  show j.val = (0 * 1 + 1 * 0) * 3072 + (0 * 3072 + 1 * j.val)
  omega

/-- The activation computed from the blocks is the reference's. -/
theorem act_eq (c : Dev nD) (t : Fin cfg0.N) (r : Fin 32) (j : Fin 3072) :
    k0_pay9 (F := Ideal) (k0_pay18 (F := Ideal) (iblk m c 0 t) (iblk m c 1 t) (iblk m c 2 t) (iblk m c 3 t) (iblk m c 4 t)
        (iblk m c 5 t) (iblk m c 6 t) (iblk m c 7 t)) (ix2 r j)
      = Cert.SprRefIdeal.Read.val_main_v37 (F := Ideal) (newrow m c) (buffer m c) (weights m c) (biases m c) (ix2 r j) := by
  refine (silu_apply _ _ _ _ _ _ _ _ r j).trans (Eq.trans ?_ (act_apply _ _ _ _ r j).symm)
  unfold conv
  rw [blk4, blk3, blk3, blk3, blk3, blk2, blk2, blk2, blk0]

/-- The array that the moved buffer is to be; the call writes it, whole. -/
abbrev G8 (c : Dev nD) : Buf (Elt Ideal) ((c : Thread nD τ).loc main_v17_0) :=
  Cert.SprRefIdeal.Read.val_main_v41 (F := Ideal) (newrow m c) (buffer m c)

theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  show out0_8 (iblk m c 0 t) (iblk m c 1 t) (iblk m c 2 t) (iblk m c 3 t) (iblk m c 4 t) (iblk m c 5 t) (iblk m c 6 t) (iblk m c 7 t) = _
  funext y
  obtain ⟨k, r, j, rfl⟩ : ∃ (k : Fin 3) (r : Fin 32) (j : Fin 3072), y = ix3 k r j := ⟨y 0, y 1, y 2, by funext a; fin_cases a <;> rfl⟩
  rw [View.read_apply]
  have hemb : ((cfg0.win 8).blk t).view.emb (ix3 k r j) = (ix3 k r j : S3x32x3072.Idx) := by
    funext a
    apply Fin.ext
    match a with
    | ⟨0, _⟩ => show 0 * 3 + 1 * k.val = k.val; omega
    | ⟨1, _⟩ => show 0 * 32 + 1 * r.val = r.val; omega
    | ⟨2, _⟩ => show 0 * 3072 + 1 * j.val = j.val; omega
  refine Eq.trans ?_ (congrArg (G8 m c) hemb.symm)
  refine (block8 _ _ _ _ _ _ _ _ (ix3 k r j)).trans (Eq.symm ?_)
  show Cert.SprRefIdeal.Read.val_main_v41 (F := Ideal) (newrow m c) (buffer m c) (ix3 k r j) = _
  rw [Cert.SprRefIdeal.Read.val_main_v41_apply, Cert.SprRefIdeal.Read.val_main_v35_apply]
  have hk := k.isLt
  by_cases h : k.val < 2
  · refine Eq.trans ?_ (dif_pos (show ((ix3 k r j : S3x32x3072.Idx) 0).val < 2 from h)).symm
    refine Eq.trans ?_ (blk2 m c t ⟨k.val + 1, by omega⟩ r j).symm
    refine Eq.trans (congrArg (Cert.SprRefIdeal.Read.val_main_v2 (F := Ideal) (newrow m c) (buffer m c)) (funext fun a => Fin.ext ?_))
      (joined_old (newrow m c) (buffer m c) r ⟨k.val + 1, by omega⟩ j)
    match a with
    | ⟨0, _⟩ => rfl
    | ⟨1, _⟩ => show 1 + k.val = k.val + 1; omega
    | ⟨2, _⟩ => rfl
  · refine Eq.trans ?_ (dif_neg (show ¬((ix3 k r j : S3x32x3072.Idx) 0).val < 2 from h)).symm
    refine Eq.trans ?_ (blk0 m c t r ⟨2048 + j.val, by omega⟩).symm
    refine Eq.trans (congrArg (Cert.SprRefIdeal.Read.val_main_v2 (F := Ideal) (newrow m c) (buffer m c)) (funext fun a => Fin.ext ?_))
      (joined_new (newrow m c) (buffer m c) r j)
    match a with
    | ⟨0, _⟩ => rfl
    | ⟨1, _⟩ => show 1 + k.val = 3; omega
    | ⟨2, _⟩ => rfl

theorem final8 (c : Dev nD) : (dats m 0 c).arrAt 8 cfg0.N = G8 m c :=
  (dats m 0 c).arrAt_eq_of_cover 8 (G8 m c) (fun t _ => flushed8 m c t) fun i => by
    have h0 : (i 0 : Nat) < 3 := (i 0).isLt
    have h1 : (i 1 : Nat) < 32 := (i 1).isLt
    have h2 : (i 2 : Nat) < 3072 := (i 2).isLt
    have ht : 0 < cfg0.N := lt_of_lt_of_eq Nat.one_pos N_0.symm
    refine ⟨⟨0, ht⟩, flush0_8 _, ?_⟩
    show i ∈ ((View.whole main_v17_0).slice (win0_8.rect ⟨0, ht⟩)).set
    rw [View.set_slice_whole, Rect.mem_set_unit]
    intro a
    match a with
    | ⟨0, _⟩ => show 0 * 3 ≤ (i 0 : Nat) ∧ (i 0 : Nat) < 0 * 3 + 3; omega
    | ⟨1, _⟩ => show 0 * 32 ≤ (i 1 : Nat) ∧ (i 1 : Nat) < 0 * 32 + 32; omega
    | ⟨2, _⟩ => show 0 * 3072 ≤ (i 2 : Nat) ∧ (i 2 : Nat) < 0 * 3072 + 3072; omega

/-- The array that the activation's columns from 0 are to be; the call writes it, whole. -/
abbrev G11 (c : Dev nD) : Buf (Elt Ideal) ((c : Thread nD τ).loc main_v17_3) :=
  Cert.SprRefIdeal.Read.val_main_v38 (F := Ideal) (newrow m c) (buffer m c) (weights m c) (biases m c)

theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  show out0_11 (iblk m c 0 t) (iblk m c 1 t) (iblk m c 2 t) (iblk m c 3 t) (iblk m c 4 t) (iblk m c 5 t) (iblk m c 6 t) (iblk m c 7 t) = _
  funext y
  obtain ⟨r, q, rfl⟩ : ∃ (r : Fin 32) (q : Fin 2048), y = ix2 r q := ⟨y 0, y 1, by funext a; fin_cases a <;> rfl⟩
  rw [View.read_apply]
  have hemb : ((cfg0.win 11).blk t).view.emb (ix2 r q) = (ix2 r q : S32x2048.Idx) := by
    funext a
    apply Fin.ext
    match a with
    | ⟨0, _⟩ => show 0 * 32 + 1 * r.val = r.val; omega
    | ⟨1, _⟩ => show 0 * 2048 + 1 * q.val = q.val; omega
  refine Eq.trans ?_ (congrArg (G11 m c) hemb.symm)
  refine (block11 _ _ _ _ _ _ _ _ r q).trans ((act_eq m c t r _).trans (Eq.symm ?_))
  show Cert.SprRefIdeal.Read.val_main_v38 (F := Ideal) _ _ _ _ _ = _
  rw [Cert.SprRefIdeal.Read.val_main_v38_apply]
  refine congrArg (Cert.SprRefIdeal.Read.val_main_v37 (F := Ideal) _ _ _ _) (funext fun a => Fin.ext ?_)
  match a with
  | ⟨0, _⟩ => rfl
  | ⟨1, _⟩ => show q.val = 0 + q.val; omega

theorem final11 (c : Dev nD) : (dats m 0 c).arrAt 11 cfg0.N = G11 m c :=
  (dats m 0 c).arrAt_eq_of_cover 11 (G11 m c) (fun t _ => flushed11 m c t) fun i => by
    have h0 : (i 0 : Nat) < 32 := (i 0).isLt
    have h1 : (i 1 : Nat) < 2048 := (i 1).isLt
    have ht : 0 < cfg0.N := lt_of_lt_of_eq Nat.one_pos N_0.symm
    refine ⟨⟨0, ht⟩, flush0_11 _, ?_⟩
    show i ∈ ((View.whole main_v17_3).slice (win0_11.rect ⟨0, ht⟩)).set
    rw [View.set_slice_whole, Rect.mem_set_unit]
    intro a
    match a with
    | ⟨0, _⟩ => show 0 * 32 ≤ (i 0 : Nat) ∧ (i 0 : Nat) < 0 * 32 + 32; omega
    | ⟨1, _⟩ => show 0 * 2048 ≤ (i 1 : Nat) ∧ (i 1 : Nat) < 0 * 2048 + 2048; omega

/-- The array that the activation's columns from 2048 are to be; the call writes it, whole. -/
abbrev G12 (c : Dev nD) : Buf (Elt Ideal) ((c : Thread nD τ).loc main_v17_4) :=
  Cert.SprRefIdeal.Read.val_main_v39 (F := Ideal) (newrow m c) (buffer m c) (weights m c) (biases m c)

theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  show out0_12 (iblk m c 0 t) (iblk m c 1 t) (iblk m c 2 t) (iblk m c 3 t) (iblk m c 4 t) (iblk m c 5 t) (iblk m c 6 t) (iblk m c 7 t) = _
  funext y
  obtain ⟨r, q, rfl⟩ : ∃ (r : Fin 32) (q : Fin 512), y = ix2 r q := ⟨y 0, y 1, by funext a; fin_cases a <;> rfl⟩
  rw [View.read_apply]
  have hemb : ((cfg0.win 12).blk t).view.emb (ix2 r q) = (ix2 r q : S32x512.Idx) := by
    funext a
    apply Fin.ext
    match a with
    | ⟨0, _⟩ => show 0 * 32 + 1 * r.val = r.val; omega
    | ⟨1, _⟩ => show 0 * 512 + 1 * q.val = q.val; omega
  refine Eq.trans ?_ (congrArg (G12 m c) hemb.symm)
  refine (block12 _ _ _ _ _ _ _ _ r q).trans ((act_eq m c t r _).trans (Eq.symm ?_))
  show Cert.SprRefIdeal.Read.val_main_v39 (F := Ideal) _ _ _ _ _ = _
  rw [Cert.SprRefIdeal.Read.val_main_v39_apply]
  refine congrArg (Cert.SprRefIdeal.Read.val_main_v37 (F := Ideal) _ _ _ _) (funext fun a => Fin.ext ?_)
  match a with
  | ⟨0, _⟩ => rfl
  | ⟨1, _⟩ => rfl

theorem final12 (c : Dev nD) : (dats m 0 c).arrAt 12 cfg0.N = G12 m c :=
  (dats m 0 c).arrAt_eq_of_cover 12 (G12 m c) (fun t _ => flushed12 m c t) fun i => by
    have h0 : (i 0 : Nat) < 32 := (i 0).isLt
    have h1 : (i 1 : Nat) < 512 := (i 1).isLt
    have ht : 0 < cfg0.N := lt_of_lt_of_eq Nat.one_pos N_0.symm
    refine ⟨⟨0, ht⟩, flush0_12 _, ?_⟩
    show i ∈ ((View.whole main_v17_4).slice (win0_12.rect ⟨0, ht⟩)).set
    rw [View.set_slice_whole, Rect.mem_set_unit]
    intro a
    match a with
    | ⟨0, _⟩ => show 0 * 32 ≤ (i 0 : Nat) ∧ (i 0 : Nat) < 0 * 32 + 32; omega
    | ⟨1, _⟩ => show 0 * 512 ≤ (i 1 : Nat) ∧ (i 1 : Nat) < 0 * 512 + 512; omega

/-- The array that the activation's columns from 2560 are to be; the call writes it, whole. -/
abbrev G13 (c : Dev nD) : Buf (Elt Ideal) ((c : Thread nD τ).loc main_v17_5) :=
  Cert.SprRefIdeal.Read.val_main_v40 (F := Ideal) (newrow m c) (buffer m c) (weights m c) (biases m c)

theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  show out0_13 (iblk m c 0 t) (iblk m c 1 t) (iblk m c 2 t) (iblk m c 3 t) (iblk m c 4 t) (iblk m c 5 t) (iblk m c 6 t) (iblk m c 7 t) = _
  funext y
  obtain ⟨r, q, rfl⟩ : ∃ (r : Fin 32) (q : Fin 512), y = ix2 r q := ⟨y 0, y 1, by funext a; fin_cases a <;> rfl⟩
  rw [View.read_apply]
  have hemb : ((cfg0.win 13).blk t).view.emb (ix2 r q) = (ix2 r q : S32x512.Idx) := by
    funext a
    apply Fin.ext
    match a with
    | ⟨0, _⟩ => show 0 * 32 + 1 * r.val = r.val; omega
    | ⟨1, _⟩ => show 0 * 512 + 1 * q.val = q.val; omega
  refine Eq.trans ?_ (congrArg (G13 m c) hemb.symm)
  refine (block13 _ _ _ _ _ _ _ _ r q).trans ((act_eq m c t r _).trans (Eq.symm ?_))
  show Cert.SprRefIdeal.Read.val_main_v40 (F := Ideal) _ _ _ _ _ = _
  rw [Cert.SprRefIdeal.Read.val_main_v40_apply]
  refine congrArg (Cert.SprRefIdeal.Read.val_main_v37 (F := Ideal) _ _ _ _) (funext fun a => Fin.ext ?_)
  match a with
  | ⟨0, _⟩ => rfl
  | ⟨1, _⟩ => rfl

theorem final13 (c : Dev nD) : (dats m 0 c).arrAt 13 cfg0.N = G13 m c :=
  (dats m 0 c).arrAt_eq_of_cover 13 (G13 m c) (fun t _ => flushed13 m c t) fun i => by
    have h0 : (i 0 : Nat) < 32 := (i 0).isLt
    have h1 : (i 1 : Nat) < 512 := (i 1).isLt
    have ht : 0 < cfg0.N := lt_of_lt_of_eq Nat.one_pos N_0.symm
    refine ⟨⟨0, ht⟩, flush0_13 _, ?_⟩
    show i ∈ ((View.whole main_v17_5).slice (win0_13.rect ⟨0, ht⟩)).set
    rw [View.set_slice_whole, Rect.mem_set_unit]
    intro a
    match a with
    | ⟨0, _⟩ => show 0 * 32 ≤ (i 0 : Nat) ∧ (i 0 : Nat) < 0 * 32 + 32; omega
    | ⟨1, _⟩ => show 0 * 512 ≤ (i 1 : Nat) ∧ (i 1 : Nat) < 0 * 512 + 512; omega

/-- The call's run: the four results are these arrays, and the arguments stay. -/
theorem run (g : Dev nD → PrngReg) : θ_run (defs (F := Ideal)) (onTc (τ := τ) (main (F := Ideal))) ⟨m, fun _ => 0, g⟩ fun r => ∀ c : Dev nD,
      r.2.mem ((c : Thread nD τ).loc main_v17_0) = G8 m c
      ∧ r.2.mem ((c : Thread nD τ).loc main_v17_3) = G11 m c
      ∧ r.2.mem ((c : Thread nD τ).loc main_v17_4) = G12 m c
      ∧ r.2.mem ((c : Thread nD τ).loc main_v17_5) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 8).trans (final8 m c), ((h.1 c).1 11).trans (final11 m c),
    ((h.1 c).1 12).trans (final12 m c), ((h.1 c).1 13).trans (final13 m c), h.2 c⟩) (θ_run_and (run_main m g) (unchanged m g))

end Values

end Cert.SprIdeal.Product

end
-- ==== Proof.lean ====
/-
  The proof of `Cert.Claim`: each program's frame is its generated one, each reference is a straight line of host operations that
  declares no semaphore, and each value claim puts together what the kernel's array ends as (the module of the call) and what
  the reference's array is.
-/
module

public import proofs.«01_k».proof.Defs
public import proofs.«01_k».proof.Proof.Gen.Ret.Frame
public import proofs.«01_k».proof.Proof.Gen.RetIdeal.Frame
public import proofs.«01_k».proof.Proof.Gen.RetIdeal.Value
public import proofs.«01_k».proof.Proof.Gen.RetRefIdeal.Run
public import proofs.«01_k».proof.Proof.Gen.RetRefIdeal.Read
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.GluRefIdeal.Read
public import proofs.«01_k».proof.Proof.Gen.Dwn.Frame
public import proofs.«01_k».proof.Proof.Gen.DwnIdeal.Frame
public import proofs.«01_k».proof.Proof.Gen.DwnIdeal.Value
public import proofs.«01_k».proof.Proof.Gen.DwnRefIdeal.Run
public import proofs.«01_k».proof.Proof.Gen.DwnRefIdeal.Read
public import proofs.«01_k».proof.Proof.Gen.Ing.Frame
public import proofs.«01_k».proof.Proof.Gen.IngIdeal.Frame
public import proofs.«01_k».proof.Proof.Gen.IngIdeal.Value
public import proofs.«01_k».proof.Proof.Gen.IngRefIdeal.Run
public import proofs.«01_k».proof.Proof.Gen.IngRefIdeal.Read
public import proofs.«01_k».proof.Proof.Gen.Ins.Frame
public import proofs.«01_k».proof.Proof.Gen.InsIdeal.Frame
public import proofs.«01_k».proof.Proof.Gen.InsIdeal.Value
public import proofs.«01_k».proof.Proof.Gen.InsRefIdeal.Run
public import proofs.«01_k».proof.Proof.Gen.InsRefIdeal.Read
public import proofs.«01_k».proof.Proof.Gen.Ina.Frame
public import proofs.«01_k».proof.Proof.Gen.InaIdeal.Frame
public import proofs.«01_k».proof.Proof.Gen.InaIdeal.Value
public import proofs.«01_k».proof.Proof.Gen.InaRefIdeal.Run
public import proofs.«01_k».proof.Proof.Gen.InaRefIdeal.Read
public import proofs.«01_k».proof.Proof.Gen.Mrg.Frame
public import proofs.«01_k».proof.Proof.Gen.MrgIdeal.Frame
public import proofs.«01_k».proof.Proof.Gen.MrgIdeal.Value
public import proofs.«01_k».proof.Proof.Gen.MrgRefIdeal.Run
public import proofs.«01_k».proof.Proof.Gen.MrgRefIdeal.Read
public import proofs.«01_k».proof.Proof.Gen.Opr.Frame
public import proofs.«01_k».proof.Proof.Gen.OprIdeal.Frame
public import proofs.«01_k».proof.Proof.Gen.OprIdeal.Value
public import proofs.«01_k».proof.Proof.Gen.OprRefIdeal.Run
public import proofs.«01_k».proof.Proof.Gen.OprRefIdeal.Read
public import proofs.«01_k».proof.Proof.Gen.Nrm.Frame
public import proofs.«01_k».proof.Proof.Gen.NrmIdeal.Frame
public import proofs.«01_k».proof.Proof.Gen.NrmIdeal.Value
public import proofs.«01_k».proof.Proof.Gen.NrmRefIdeal.Run
public import proofs.«01_k».proof.Proof.Gen.NrmRefIdeal.Read
public import proofs.«01_k».proof.Proof.Gen.Fnp.Frame
public import proofs.«01_k».proof.Proof.Gen.FnpIdeal.Frame
public import proofs.«01_k».proof.Proof.Gen.FnpIdeal.Value
public import proofs.«01_k».proof.Proof.Gen.FnpRefIdeal.Run
public import proofs.«01_k».proof.Proof.Gen.FnpRefIdeal.Read
public import proofs.«01_k».proof.Proof.Gen.Fns.Frame
public import proofs.«01_k».proof.Proof.Gen.FnsIdeal.Frame
public import proofs.«01_k».proof.Proof.Gen.FnsIdeal.Value
public import proofs.«01_k».proof.Proof.Gen.FnsRefIdeal.Run
public import proofs.«01_k».proof.Proof.Gen.FnsRefIdeal.Read
public import proofs.«01_k».proof.Proof.Gen.Rop.Frame
public import proofs.«01_k».proof.Proof.Gen.RopIdeal.Frame
public import proofs.«01_k».proof.Proof.Gen.RopIdeal.Value
public import proofs.«01_k».proof.Proof.Gen.RopRefIdeal.Run
public import proofs.«01_k».proof.Proof.Gen.RopRefIdeal.Read
public import proofs.«01_k».proof.Proof.Gen.Ros.Frame
public import proofs.«01_k».proof.Proof.Gen.RosIdeal.Frame
public import proofs.«01_k».proof.Proof.Gen.RosIdeal.Value
public import proofs.«01_k».proof.Proof.Gen.RosRefIdeal.Run
public import proofs.«01_k».proof.Proof.Gen.RosRefIdeal.Read
public import proofs.«01_k».proof.Proof.Gen.Spr.Frame
public import proofs.«01_k».proof.Proof.Gen.SprIdeal.Frame
public import proofs.«01_k».proof.Proof.Gen.SprRefIdeal.Run
public import proofs.«01_k».proof.Proof.Gen.SprRefIdeal.Read
public import proofs.«01_k».proof.Proof.Glu
public import proofs.«01_k».proof.Proof.Dwn
public import proofs.«01_k».proof.Proof.Ing
public import proofs.«01_k».proof.Proof.Ins
public import proofs.«01_k».proof.Proof.Ina
public import proofs.«01_k».proof.Proof.Mrg
public import proofs.«01_k».proof.Proof.Opr
public import proofs.«01_k».proof.Proof.Nrm
public import proofs.«01_k».proof.Proof.Fnp
public import proofs.«01_k».proof.Proof.Fns
public import proofs.«01_k».proof.Proof.Rop
public import proofs.«01_k».proof.Proof.Ros
public import proofs.«01_k».proof.Proof.Spr

@[expose] public section

noncomputable section

namespace Cert.Proof

open Idealize.ShloMosaic Idealize.SL.Sem

/-- The reference of Ret runs to the end, keeps its arguments and leaves no semaphore counter. -/
theorem frame_RetRef : Cert.quiescent_RetRefIdeal (hRetRefIdeal := Cert.RetRefIdeal.Gen.facts) := fun m g _ =>
  (θ_run Cert.RetRefIdeal.defs _ _).mono (fun r h => ⟨fun c => (h c).2.2, sem_eq_zero_of_no_sems (by decide) r.2⟩)
    (Cert.RetRefIdeal.Value.run (F := Ideal) m g)

/-- The reference of Glu runs to the end, keeps its arguments and leaves no semaphore counter. -/
theorem frame_GluRef : Cert.quiescent_GluRefIdeal (hGluRefIdeal := Cert.GluRefIdeal.Gen.facts) := fun m g _ =>
  (θ_run Cert.GluRefIdeal.defs _ _).mono (fun r h => ⟨fun c => (h c).2, sem_eq_zero_of_no_sems (by decide) r.2⟩)
    (Cert.GluRefIdeal.Value.run (F := Ideal) m g)

/-- The reference of Dwn runs to the end, keeps its arguments and leaves no semaphore counter. -/
theorem frame_DwnRef : Cert.quiescent_DwnRefIdeal (hDwnRefIdeal := Cert.DwnRefIdeal.Gen.facts) := fun m g _ =>
  (θ_run Cert.DwnRefIdeal.defs _ _).mono (fun r h => ⟨fun c => (h c).2, sem_eq_zero_of_no_sems (by decide) r.2⟩)
    (Cert.DwnRefIdeal.Value.run (F := Ideal) m g)

/-- The reference of Ing runs to the end, keeps its arguments and leaves no semaphore counter. -/
theorem frame_IngRef : Cert.quiescent_IngRefIdeal (hIngRefIdeal := Cert.IngRefIdeal.Gen.facts) := fun m g _ =>
  (θ_run Cert.IngRefIdeal.defs _ _).mono (fun r h => ⟨fun c => (h c).2, sem_eq_zero_of_no_sems (by decide) r.2⟩)
    (Cert.IngRefIdeal.Value.run (F := Ideal) m g)

/-- The reference of Ins runs to the end, keeps its arguments and leaves no semaphore counter. -/
theorem frame_InsRef : Cert.quiescent_InsRefIdeal (hInsRefIdeal := Cert.InsRefIdeal.Gen.facts) := fun m g _ =>
  (θ_run Cert.InsRefIdeal.defs _ _).mono (fun r h => ⟨fun c => (h c).2, sem_eq_zero_of_no_sems (by decide) r.2⟩)
    (Cert.InsRefIdeal.Value.run (F := Ideal) m g)

/-- The reference of Ina runs to the end, keeps its arguments and leaves no semaphore counter. -/
theorem frame_InaRef : Cert.quiescent_InaRefIdeal (hInaRefIdeal := Cert.InaRefIdeal.Gen.facts) := fun m g _ =>
  (θ_run Cert.InaRefIdeal.defs _ _).mono (fun r h => ⟨fun c => (h c).2, sem_eq_zero_of_no_sems (by decide) r.2⟩)
    (Cert.InaRefIdeal.Value.run (F := Ideal) m g)

/-- The reference of Mrg runs to the end, keeps its arguments and leaves no semaphore counter. -/
theorem frame_MrgRef : Cert.quiescent_MrgRefIdeal (hMrgRefIdeal := Cert.MrgRefIdeal.Gen.facts) := fun m g _ =>
  (θ_run Cert.MrgRefIdeal.defs _ _).mono (fun r h => ⟨fun c => (h c).2, sem_eq_zero_of_no_sems (by decide) r.2⟩)
    (Cert.MrgRefIdeal.Value.run (F := Ideal) m g)

/-- The reference of Opr runs to the end, keeps its arguments and leaves no semaphore counter. -/
theorem frame_OprRef : Cert.quiescent_OprRefIdeal (hOprRefIdeal := Cert.OprRefIdeal.Gen.facts) := fun m g _ =>
  (θ_run Cert.OprRefIdeal.defs _ _).mono (fun r h => ⟨fun c => (h c).2, sem_eq_zero_of_no_sems (by decide) r.2⟩)
    (Cert.OprRefIdeal.Value.run (F := Ideal) m g)

/-- The reference of Nrm runs to the end, keeps its arguments and leaves no semaphore counter. -/
theorem frame_NrmRef : Cert.quiescent_NrmRefIdeal (hNrmRefIdeal := Cert.NrmRefIdeal.Gen.facts) := fun m g _ =>
  (θ_run Cert.NrmRefIdeal.defs _ _).mono (fun r h => ⟨fun c => (h c).2, sem_eq_zero_of_no_sems (by decide) r.2⟩)
    (Cert.NrmRefIdeal.Value.run (F := Ideal) m g)

/-- The reference of Fnp runs to the end, keeps its arguments and leaves no semaphore counter. -/
theorem frame_FnpRef : Cert.quiescent_FnpRefIdeal (hFnpRefIdeal := Cert.FnpRefIdeal.Gen.facts) := fun m g _ =>
  (θ_run Cert.FnpRefIdeal.defs _ _).mono (fun r h => ⟨fun c => (h c).2, sem_eq_zero_of_no_sems (by decide) r.2⟩)
    (Cert.FnpRefIdeal.Value.run (F := Ideal) m g)

/-- The reference of Fns runs to the end, keeps its arguments and leaves no semaphore counter. -/
theorem frame_FnsRef : Cert.quiescent_FnsRefIdeal (hFnsRefIdeal := Cert.FnsRefIdeal.Gen.facts) := fun m g _ =>
  (θ_run Cert.FnsRefIdeal.defs _ _).mono (fun r h => ⟨fun c => (h c).2, sem_eq_zero_of_no_sems (by decide) r.2⟩)
    (Cert.FnsRefIdeal.Value.run (F := Ideal) m g)

/-- The reference of Rop runs to the end, keeps its arguments and leaves no semaphore counter. -/
theorem frame_RopRef : Cert.quiescent_RopRefIdeal (hRopRefIdeal := Cert.RopRefIdeal.Gen.facts) := fun m g _ =>
  (θ_run Cert.RopRefIdeal.defs _ _).mono (fun r h => ⟨fun c => (h c).2.2.2.2.2.2.2.2.2.2, sem_eq_zero_of_no_sems (by decide) r.2⟩)
    (Cert.RopRefIdeal.Value.run (F := Ideal) m g)

/-- The reference of Ros runs to the end, keeps its arguments and leaves no semaphore counter. -/
theorem frame_RosRef : Cert.quiescent_RosRefIdeal (hRosRefIdeal := Cert.RosRefIdeal.Gen.facts) := fun m g _ =>
  (θ_run Cert.RosRefIdeal.defs _ _).mono (fun r h => ⟨fun c => (h c).2.2.2.2.2.2, sem_eq_zero_of_no_sems (by decide) r.2⟩)
    (Cert.RosRefIdeal.Value.run (F := Ideal) m g)

/-- The reference of Spr runs to the end, keeps its arguments and leaves no semaphore counter. -/
theorem frame_SprRef : Cert.quiescent_SprRefIdeal (hSprRefIdeal := Cert.SprRefIdeal.Gen.facts) := fun m g _ =>
  (θ_run Cert.SprRefIdeal.defs _ _).mono (fun r h => ⟨fun c => (h c).2.2.2.2, sem_eq_zero_of_no_sems (by decide) r.2⟩)
    (Cert.SprRefIdeal.Value.run (F := Ideal) m g)

/-- The value claim of Glu: the feed-forward's gate and up products with the activation. -/
theorem algebraic_Glu : Cert.algebraic_GluIdeal_GluRefIdeal (hGluIdeal := Cert.GluIdeal.Gen.facts)
    (hGluRefIdeal := Cert.GluRefIdeal.Gen.facts) := by
  intro m g m' g' _ hargs
  refine ⟨fun c => Cert.GluIdeal.Product.G m c, (θ_run Cert.GluIdeal.defs _ _).mono
    (fun r h c => ⟨(h c).1.trans (Cert.GluIdeal.Product.final m c), (h c).2⟩) (Cert.GluIdeal.Value.run_blocks m g), ?_⟩
  refine (θ_run (Cert.GluRefIdeal.defs (F := Ideal)) _ _).mono (fun r h c => ?_) (Cert.GluRefIdeal.Value.run m' g')
  obtain ⟨e0, e1, e2⟩ := hargs c
  refine ⟨(h c).1.trans ?_, (h c).2⟩
  rw [e0, e1, e2]
  exact Cert.GluRefIdeal.Read.val_main_v5_eq _ _ _

/-- The value claim of Dwn: the feed-forward's down product with the gated residual. -/
theorem algebraic_Dwn : Cert.algebraic_DwnIdeal_DwnRefIdeal (hDwnIdeal := Cert.DwnIdeal.Gen.facts)
    (hDwnRefIdeal := Cert.DwnRefIdeal.Gen.facts) := by
  intro m g m' g' _ hargs
  refine ⟨fun c => Cert.DwnIdeal.Product.G m c, (θ_run Cert.DwnIdeal.defs _ _).mono
    (fun r h c => ⟨(h c).1.trans (Cert.DwnIdeal.Product.final m c), (h c).2⟩) (Cert.DwnIdeal.Value.run_blocks m g), ?_⟩
  refine (θ_run (Cert.DwnRefIdeal.defs (F := Ideal)) _ _).mono (fun r h c => ?_) (Cert.DwnRefIdeal.Value.run m' g')
  obtain ⟨e0, e1, e2, e3⟩ := hargs c
  refine ⟨(h c).1.trans ?_, (h c).2⟩
  rw [e0, e1, e2, e3]
  exact Cert.DwnRefIdeal.Read.val_main_v26_eq _ _ _ _

/-- The value claim of Ing: the input projection to 6144 columns. -/
theorem algebraic_Ing : Cert.algebraic_IngIdeal_IngRefIdeal (hIngIdeal := Cert.IngIdeal.Gen.facts)
    (hIngRefIdeal := Cert.IngRefIdeal.Gen.facts) := by
  intro m g m' g' _ hargs
  refine ⟨fun c => Cert.IngIdeal.Product.G m c, (θ_run Cert.IngIdeal.defs _ _).mono
    (fun r h c => ⟨(h c).1.trans (Cert.IngIdeal.Product.final m c), (h c).2⟩) (Cert.IngIdeal.Value.run_blocks m g), ?_⟩
  refine (θ_run (Cert.IngRefIdeal.defs (F := Ideal)) _ _).mono (fun r h c => ?_) (Cert.IngRefIdeal.Value.run m' g')
  obtain ⟨e0, e1⟩ := hargs c
  refine ⟨(h c).1.trans ?_, (h c).2⟩
  rw [e0, e1]
  exact Cert.IngRefIdeal.Read.val_main_v1_eq _ _

/-- The value claim of Ins: the input projection to 5120 columns. -/
theorem algebraic_Ins : Cert.algebraic_InsIdeal_InsRefIdeal (hInsIdeal := Cert.InsIdeal.Gen.facts)
    (hInsRefIdeal := Cert.InsRefIdeal.Gen.facts) := by
  intro m g m' g' _ hargs
  refine ⟨fun c => Cert.InsIdeal.Product.G m c, (θ_run Cert.InsIdeal.defs _ _).mono
    (fun r h c => ⟨(h c).1.trans (Cert.InsIdeal.Product.final m c), (h c).2⟩) (Cert.InsIdeal.Value.run_blocks m g), ?_⟩
  refine (θ_run (Cert.InsRefIdeal.defs (F := Ideal)) _ _).mono (fun r h c => ?_) (Cert.InsRefIdeal.Value.run m' g')
  obtain ⟨e0, e1⟩ := hargs c
  refine ⟨(h c).1.trans ?_, (h c).2⟩
  rw [e0, e1]
  exact Cert.InsRefIdeal.Read.val_main_v1_eq _ _

/-- The value claim of Ina: the input projection to 3072 columns. -/
theorem algebraic_Ina : Cert.algebraic_InaIdeal_InaRefIdeal (hInaIdeal := Cert.InaIdeal.Gen.facts)
    (hInaRefIdeal := Cert.InaRefIdeal.Gen.facts) := by
  intro m g m' g' _ hargs
  refine ⟨fun c => Cert.InaIdeal.Product.G m c, (θ_run Cert.InaIdeal.defs _ _).mono
    (fun r h c => ⟨(h c).1.trans (Cert.InaIdeal.Product.final m c), (h c).2⟩) (Cert.InaIdeal.Value.run_blocks m g), ?_⟩
  refine (θ_run (Cert.InaRefIdeal.defs (F := Ideal)) _ _).mono (fun r h c => ?_) (Cert.InaRefIdeal.Value.run m' g')
  obtain ⟨e0, e1⟩ := hargs c
  refine ⟨(h c).1.trans ?_, (h c).2⟩
  rw [e0, e1]
  exact Cert.InaRefIdeal.Read.val_main_v1_eq _ _

/-- The value claim of Mrg: the merge of the branches. -/
theorem algebraic_Mrg : Cert.algebraic_MrgIdeal_MrgRefIdeal (hMrgIdeal := Cert.MrgIdeal.Gen.facts)
    (hMrgRefIdeal := Cert.MrgRefIdeal.Gen.facts) := by
  intro m g m' g' _ hargs
  refine ⟨fun c => Cert.MrgIdeal.Product.G m c, (θ_run Cert.MrgIdeal.defs _ _).mono
    (fun r h c => ⟨(h c).1.trans (Cert.MrgIdeal.Product.final m c), (h c).2⟩) (Cert.MrgIdeal.Value.run_blocks m g), ?_⟩
  refine (θ_run (Cert.MrgRefIdeal.defs (F := Ideal)) _ _).mono (fun r h c => ?_) (Cert.MrgRefIdeal.Value.run m' g')
  obtain ⟨e0, e1, e2, e3, e4⟩ := hargs c
  refine ⟨(h c).1.trans ?_, (h c).2⟩
  rw [e0, e1, e2, e3, e4]
  exact Cert.MrgRefIdeal.Read.val_main_v18_eq _ _ _ _ _

/-- The value claim of Opr: the output projection with the gated residual. -/
theorem algebraic_Opr : Cert.algebraic_OprIdeal_OprRefIdeal (hOprIdeal := Cert.OprIdeal.Gen.facts)
    (hOprRefIdeal := Cert.OprRefIdeal.Gen.facts) := by
  intro m g m' g' _ hargs
  refine ⟨fun c => Cert.OprIdeal.Product.G m c, (θ_run Cert.OprIdeal.defs _ _).mono
    (fun r h c => ⟨(h c).1.trans (Cert.OprIdeal.Product.final m c), (h c).2⟩) (Cert.OprIdeal.Value.run_blocks m g), ?_⟩
  refine (θ_run (Cert.OprRefIdeal.defs (F := Ideal)) _ _).mono (fun r h c => ?_) (Cert.OprRefIdeal.Value.run m' g')
  obtain ⟨e0, e1, e2, e3⟩ := hargs c
  refine ⟨(h c).1.trans ?_, (h c).2⟩
  rw [e0, e1, e2, e3]
  exact Cert.OprRefIdeal.Read.val_main_v24_eq _ _ _ _

/-- The value claim of Nrm: the normalisation and modulation. -/
theorem algebraic_Nrm : Cert.algebraic_NrmIdeal_NrmRefIdeal (hNrmIdeal := Cert.NrmIdeal.Gen.facts)
    (hNrmRefIdeal := Cert.NrmRefIdeal.Gen.facts) := by
  intro m g m' g' _ hargs
  refine ⟨fun c => Cert.NrmIdeal.Product.G m c, (θ_run Cert.NrmIdeal.defs _ _).mono
    (fun r h c => ⟨(h c).1.trans (Cert.NrmIdeal.Product.final m c), (h c).2⟩) (Cert.NrmIdeal.Value.run_blocks m g), ?_⟩
  refine (θ_run (Cert.NrmRefIdeal.defs (F := Ideal)) _ _).mono (fun r h c => ?_) (Cert.NrmRefIdeal.Value.run m' g')
  obtain ⟨e0, e1, e2⟩ := hargs c
  refine ⟨(h c).1.trans ?_, (h c).2⟩
  rw [e0, e1, e2]
  exact Cert.NrmRefIdeal.Read.val_main_v38_eq _ _ _

/-- The value claim of Fnp: the last norm of the prompt rows. -/
theorem algebraic_Fnp : Cert.algebraic_FnpIdeal_FnpRefIdeal (hFnpIdeal := Cert.FnpIdeal.Gen.facts)
    (hFnpRefIdeal := Cert.FnpRefIdeal.Gen.facts) := by
  intro m g m' g' _ hargs
  refine ⟨fun c => Cert.FnpIdeal.Product.G m c, (θ_run Cert.FnpIdeal.defs _ _).mono
    (fun r h c => ⟨(h c).1.trans (Cert.FnpIdeal.Product.final m c), (h c).2⟩) (Cert.FnpIdeal.Value.run_blocks m g), ?_⟩
  refine (θ_run (Cert.FnpRefIdeal.defs (F := Ideal)) _ _).mono (fun r h c => ?_) (Cert.FnpRefIdeal.Value.run m' g')
  obtain ⟨e0, e1⟩ := hargs c
  refine ⟨(h c).1.trans ?_, (h c).2⟩
  rw [e0, e1]
  exact Cert.FnpRefIdeal.Read.val_main_v13_eq _ _

/-- The value claim of Fns: the last norm of the sample rows. -/
theorem algebraic_Fns : Cert.algebraic_FnsIdeal_FnsRefIdeal (hFnsIdeal := Cert.FnsIdeal.Gen.facts)
    (hFnsRefIdeal := Cert.FnsRefIdeal.Gen.facts) := by
  intro m g m' g' _ hargs
  refine ⟨fun c => Cert.FnsIdeal.Product.G m c, (θ_run Cert.FnsIdeal.defs _ _).mono
    (fun r h c => ⟨(h c).1.trans (Cert.FnsIdeal.Product.final m c), (h c).2⟩) (Cert.FnsIdeal.Value.run_blocks m g), ?_⟩
  refine (θ_run (Cert.FnsRefIdeal.defs (F := Ideal)) _ _).mono (fun r h c => ?_) (Cert.FnsRefIdeal.Value.run m' g')
  obtain ⟨e0, e1⟩ := hargs c
  refine ⟨(h c).1.trans ?_, (h c).2⟩
  rw [e0, e1]
  exact Cert.FnsRefIdeal.Read.val_main_v13_eq _ _

/-- The value claim of Rop: the rotary encoding of the prompt rows, all ten results. -/
theorem algebraic_Rop : Cert.algebraic_RopIdeal_RopRefIdeal (hRopIdeal := Cert.RopIdeal.Gen.facts)
    (hRopRefIdeal := Cert.RopRefIdeal.Gen.facts) := by
  intro m g m' g' _ hargs
  refine ⟨fun c => Cert.RopIdeal.Product.G8 m c, fun c => Cert.RopIdeal.Product.G9 m c, fun c => Cert.RopIdeal.Product.G10 m c, fun c => Cert.RopIdeal.Product.G11 m c, fun c => Cert.RopIdeal.Product.G12 m c, fun c => Cert.RopIdeal.Product.G13 m c, fun c => Cert.RopIdeal.Product.G14 m c, fun c => Cert.RopIdeal.Product.G15 m c, fun c => Cert.RopIdeal.Product.G16 m c, fun c => Cert.RopIdeal.Product.G17 m c,
    (θ_run Cert.RopIdeal.defs _ _).mono (fun r h c => ⟨(h c).1.trans (Cert.RopIdeal.Product.final8 m c), (h c).2.1.trans (Cert.RopIdeal.Product.final9 m c), (h c).2.2.1.trans (Cert.RopIdeal.Product.final10 m c), (h c).2.2.2.1.trans (Cert.RopIdeal.Product.final11 m c), (h c).2.2.2.2.1.trans (Cert.RopIdeal.Product.final12 m c), (h c).2.2.2.2.2.1.trans (Cert.RopIdeal.Product.final13 m c), (h c).2.2.2.2.2.2.1.trans (Cert.RopIdeal.Product.final14 m c), (h c).2.2.2.2.2.2.2.1.trans (Cert.RopIdeal.Product.final15 m c), (h c).2.2.2.2.2.2.2.2.1.trans (Cert.RopIdeal.Product.final16 m c), (h c).2.2.2.2.2.2.2.2.2.1.trans (Cert.RopIdeal.Product.final17 m c), (h c).2.2.2.2.2.2.2.2.2.2⟩)
    (Cert.RopIdeal.Value.run_blocks m g), ?_⟩
  refine (θ_run (Cert.RopRefIdeal.defs (F := Ideal)) _ _).mono (fun r h c => ?_) (Cert.RopRefIdeal.Value.run m' g')
  obtain ⟨e0, e1⟩ := hargs c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
  · exact (Cert.RopRefIdeal.Read.val_main_v165_eq m' c).trans (congrArg (Cert.RopRefIdeal.Read.val_main_v165 (F := Ideal)) e0)
  · exact (Cert.RopRefIdeal.Read.val_main_v160_eq m' c).trans (congrArg (Cert.RopRefIdeal.Read.val_main_v160 (F := Ideal)) e0)
  · rw [e0]
    exact Cert.RopRefIdeal.Read.val_main_v161_eq _
  · exact (Cert.RopRefIdeal.Read.val_main_v162_eq m' c).trans (congrArg (Cert.RopRefIdeal.Read.val_main_v162 (F := Ideal)) e1)
  · exact (Cert.RopRefIdeal.Read.val_main_v163_eq m' c).trans (congrArg (Cert.RopRefIdeal.Read.val_main_v163 (F := Ideal)) e1)
  · rw [e1]
    exact Cert.RopRefIdeal.Read.val_main_v164_eq _
  · exact (Cert.RopRefIdeal.Read.val_main_v166_eq m' c).trans (congrArg (Cert.RopRefIdeal.Read.val_main_v166 (F := Ideal)) e0)
  · rw [e0]
    exact Cert.RopRefIdeal.Read.val_main_v167_eq _
  · exact (Cert.RopRefIdeal.Read.val_main_v168_eq m' c).trans (congrArg (Cert.RopRefIdeal.Read.val_main_v168 (F := Ideal)) e1)
  · exact (Cert.RopRefIdeal.Read.val_main_v169_eq m' c).trans (congrArg (Cert.RopRefIdeal.Read.val_main_v169 (F := Ideal)) e1)

/-- The value claim of Ros: the rotary encoding of the sample rows, all six results. -/
theorem algebraic_Ros : Cert.algebraic_RosIdeal_RosRefIdeal (hRosIdeal := Cert.RosIdeal.Gen.facts)
    (hRosRefIdeal := Cert.RosRefIdeal.Gen.facts) := by
  intro m g m' g' _ hargs
  refine ⟨fun c => Cert.RosIdeal.Product.G8 m c, fun c => Cert.RosIdeal.Product.G9 m c, fun c => Cert.RosIdeal.Product.G10 m c, fun c => Cert.RosIdeal.Product.G11 m c, fun c => Cert.RosIdeal.Product.G12 m c, fun c => Cert.RosIdeal.Product.G13 m c,
    (θ_run Cert.RosIdeal.defs _ _).mono (fun r h c => ⟨(h c).1.trans (Cert.RosIdeal.Product.final8 m c), (h c).2.1.trans (Cert.RosIdeal.Product.final9 m c), (h c).2.2.1.trans (Cert.RosIdeal.Product.final10 m c), (h c).2.2.2.1.trans (Cert.RosIdeal.Product.final11 m c), (h c).2.2.2.2.1.trans (Cert.RosIdeal.Product.final12 m c), (h c).2.2.2.2.2.1.trans (Cert.RosIdeal.Product.final13 m c), (h c).2.2.2.2.2.2.2.2.2.2⟩)
    (Cert.RosIdeal.Value.run_blocks m g), ?_⟩
  refine (θ_run (Cert.RosRefIdeal.defs (F := Ideal)) _ _).mono (fun r h c => ?_) (Cert.RosRefIdeal.Value.run m' g')
  obtain ⟨e0, e1⟩ := hargs c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · exact (Cert.RosRefIdeal.Read.val_main_v163_eq m' c).trans (congrArg (Cert.RosRefIdeal.Read.val_main_v163 (F := Ideal)) e0)
  · exact (Cert.RosRefIdeal.Read.val_main_v158_eq m' c).trans (congrArg (Cert.RosRefIdeal.Read.val_main_v158 (F := Ideal)) e0)
  · rw [e0]
    exact Cert.RosRefIdeal.Read.val_main_v159_eq _
  · exact (Cert.RosRefIdeal.Read.val_main_v160_eq m' c).trans (congrArg (Cert.RosRefIdeal.Read.val_main_v160 (F := Ideal)) e1)
  · exact (Cert.RosRefIdeal.Read.val_main_v161_eq m' c).trans (congrArg (Cert.RosRefIdeal.Read.val_main_v161 (F := Ideal)) e1)
  · rw [e1]
    exact Cert.RosRefIdeal.Read.val_main_v162_eq _

/-- The value claim of Spr: the convolution of the sample rows, its moved buffer and its activation. -/
theorem algebraic_Spr : Cert.algebraic_SprIdeal_SprRefIdeal (hSprIdeal := Cert.SprIdeal.Gen.facts)
    (hSprRefIdeal := Cert.SprRefIdeal.Gen.facts) := by
  intro m g m' g' _ hargs
  refine ⟨fun c => Cert.SprIdeal.Product.G8 m c, fun c => Cert.SprIdeal.Product.G11 m c, fun c => Cert.SprIdeal.Product.G12 m c,
    fun c => Cert.SprIdeal.Product.G13 m c, Cert.SprIdeal.Product.run m g, ?_⟩
  refine (θ_run (Cert.SprRefIdeal.defs (F := Ideal)) _ _).mono (fun r h c => ?_) (Cert.SprRefIdeal.Value.run m' g')
  obtain ⟨e0, e1, e2, e3, e4, e5, e6⟩ := hargs c
  refine ⟨(h c).1.trans ?_, (h c).2.1.trans ?_, (h c).2.2.1.trans ?_, (h c).2.2.2.1.trans ?_, (h c).2.2.2.2⟩
  · rw [e0, e2]
    exact Cert.SprRefIdeal.Read.val_main_v41_eq _ _
  · rw [Cert.SprRefIdeal.Read.val_main_v38_eq, e0, e2, e3, e4]
  · rw [Cert.SprRefIdeal.Read.val_main_v39_eq, e0, e2, e3, e4]
  · rw [Cert.SprRefIdeal.Read.val_main_v40_eq, e0, e2, e3, e4]

theorem claim : Cert.Claim :=
  ⟨Cert.Ret.Gen.facts,
    Cert.RetIdeal.Gen.facts,
    Cert.RetRefIdeal.Gen.facts,
    Cert.Glu.Gen.facts,
    Cert.GluIdeal.Gen.facts,
    Cert.GluRefIdeal.Gen.facts,
    Cert.Dwn.Gen.facts,
    Cert.DwnIdeal.Gen.facts,
    Cert.DwnRefIdeal.Gen.facts,
    Cert.Ing.Gen.facts,
    Cert.IngIdeal.Gen.facts,
    Cert.IngRefIdeal.Gen.facts,
    Cert.Ins.Gen.facts,
    Cert.InsIdeal.Gen.facts,
    Cert.InsRefIdeal.Gen.facts,
    Cert.Ina.Gen.facts,
    Cert.InaIdeal.Gen.facts,
    Cert.InaRefIdeal.Gen.facts,
    Cert.Mrg.Gen.facts,
    Cert.MrgIdeal.Gen.facts,
    Cert.MrgRefIdeal.Gen.facts,
    Cert.Opr.Gen.facts,
    Cert.OprIdeal.Gen.facts,
    Cert.OprRefIdeal.Gen.facts,
    Cert.Nrm.Gen.facts,
    Cert.NrmIdeal.Gen.facts,
    Cert.NrmRefIdeal.Gen.facts,
    Cert.Fnp.Gen.facts,
    Cert.FnpIdeal.Gen.facts,
    Cert.FnpRefIdeal.Gen.facts,
    Cert.Fns.Gen.facts,
    Cert.FnsIdeal.Gen.facts,
    Cert.FnsRefIdeal.Gen.facts,
    Cert.Rop.Gen.facts,
    Cert.RopIdeal.Gen.facts,
    Cert.RopRefIdeal.Gen.facts,
    Cert.Ros.Gen.facts,
    Cert.RosIdeal.Gen.facts,
    Cert.RosRefIdeal.Gen.facts,
    Cert.Spr.Gen.facts,
    Cert.SprIdeal.Gen.facts,
    Cert.SprRefIdeal.Gen.facts,
    fun m g _ => Cert.Ret.Gen.frame m g,
    fun m g _ => Cert.RetIdeal.Gen.frame m g,
    frame_RetRef,
    fun m g _ => Cert.Glu.Gen.frame m g,
    fun m g _ => Cert.GluIdeal.Gen.frame m g,
    frame_GluRef,
    fun m g _ => Cert.Dwn.Gen.frame m g,
    fun m g _ => Cert.DwnIdeal.Gen.frame m g,
    frame_DwnRef,
    fun m g _ => Cert.Ing.Gen.frame m g,
    fun m g _ => Cert.IngIdeal.Gen.frame m g,
    frame_IngRef,
    fun m g _ => Cert.Ins.Gen.frame m g,
    fun m g _ => Cert.InsIdeal.Gen.frame m g,
    frame_InsRef,
    fun m g _ => Cert.Ina.Gen.frame m g,
    fun m g _ => Cert.InaIdeal.Gen.frame m g,
    frame_InaRef,
    fun m g _ => Cert.Mrg.Gen.frame m g,
    fun m g _ => Cert.MrgIdeal.Gen.frame m g,
    frame_MrgRef,
    fun m g _ => Cert.Opr.Gen.frame m g,
    fun m g _ => Cert.OprIdeal.Gen.frame m g,
    frame_OprRef,
    fun m g _ => Cert.Nrm.Gen.frame m g,
    fun m g _ => Cert.NrmIdeal.Gen.frame m g,
    frame_NrmRef,
    fun m g _ => Cert.Fnp.Gen.frame m g,
    fun m g _ => Cert.FnpIdeal.Gen.frame m g,
    frame_FnpRef,
    fun m g _ => Cert.Fns.Gen.frame m g,
    fun m g _ => Cert.FnsIdeal.Gen.frame m g,
    frame_FnsRef,
    fun m g _ => Cert.Rop.Gen.frame m g,
    fun m g _ => Cert.RopIdeal.Gen.frame m g,
    frame_RopRef,
    fun m g _ => Cert.Ros.Gen.frame m g,
    fun m g _ => Cert.RosIdeal.Gen.frame m g,
    frame_RosRef,
    fun m g _ => Cert.Spr.Gen.frame m g,
    fun m g _ => Cert.SprIdeal.Gen.frame m g,
    frame_SprRef,
    trivial,
    trivial,
    algebraic_Glu,
    trivial,
    algebraic_Dwn,
    trivial,
    algebraic_Ing,
    trivial,
    algebraic_Ins,
    trivial,
    algebraic_Ina,
    trivial,
    algebraic_Mrg,
    trivial,
    algebraic_Opr,
    trivial,
    algebraic_Nrm,
    trivial,
    algebraic_Fnp,
    trivial,
    algebraic_Fns,
    trivial,
    algebraic_Rop,
    trivial,
    algebraic_Ros,
    trivial,
    algebraic_Spr⟩

end Cert.Proof

end
